-- ==== Defs.lean ====
def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Decode (m : (ℓ : Loc Cert.Decode.nD Cert.Decode.τ Cert.Decode.sig) → Buf (Elt Bits) ℓ) : Prop :=
  True

def Pre_DecodeIdeal (m : (ℓ : Loc Cert.DecodeIdeal.nD Cert.DecodeIdeal.τ Cert.DecodeIdeal.sig) → Buf (Elt Ideal) ℓ) : Prop :=
  True

def Pre_Reference (m : (ℓ : Loc Cert.Reference.nD Cert.Reference.τ Cert.Reference.sig) → Buf (Elt Bits) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Decode [hDecode : Cert.Decode.Facts] : Prop :=
  ∀ (m : (ℓ : Loc Cert.Decode.nD Cert.Decode.τ Cert.Decode.sig) → Buf (Elt Bits) ℓ) (g : Dev Cert.Decode.nD → PrngReg), Pre_Decode m →
    θ_run (Cert.Decode.defs (F := Bits)) (onTc (τ := Cert.Decode.τ) (Cert.Decode.main (F := Bits))) ⟨m, fun _ => 0, g⟩ (fun r => (∀ c : Dev Cert.Decode.nD,
      r.2.mem ((c.tc : Thread Cert.Decode.nD Cert.Decode.τ).loc Cert.Decode.main_arg0) = m ((c.tc : Thread Cert.Decode.nD Cert.Decode.τ).loc Cert.Decode.main_arg0)
      ∧ r.2.mem ((c.tc : Thread Cert.Decode.nD Cert.Decode.τ).loc Cert.Decode.main_arg1) = m ((c.tc : Thread Cert.Decode.nD Cert.Decode.τ).loc Cert.Decode.main_arg1)
      ∧ r.2.mem ((c.tc : Thread Cert.Decode.nD Cert.Decode.τ).loc Cert.Decode.main_arg2) = m ((c.tc : Thread Cert.Decode.nD Cert.Decode.τ).loc Cert.Decode.main_arg2)
      ∧ r.2.mem ((c.tc : Thread Cert.Decode.nD Cert.Decode.τ).loc Cert.Decode.main_arg3) = m ((c.tc : Thread Cert.Decode.nD Cert.Decode.τ).loc Cert.Decode.main_arg3))
      ∧ r.2.sem = fun _ => 0)

def quiescent_DecodeIdeal [hDecodeIdeal : Cert.DecodeIdeal.Facts] : Prop :=
  ∀ (m : (ℓ : Loc Cert.DecodeIdeal.nD Cert.DecodeIdeal.τ Cert.DecodeIdeal.sig) → Buf (Elt Ideal) ℓ) (g : Dev Cert.DecodeIdeal.nD → PrngReg), Pre_DecodeIdeal m →
    θ_run (Cert.DecodeIdeal.defs (F := Ideal)) (onTc (τ := Cert.DecodeIdeal.τ) (Cert.DecodeIdeal.main (F := Ideal))) ⟨m, fun _ => 0, g⟩ (fun r => (∀ c : Dev Cert.DecodeIdeal.nD,
      r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
      ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
      ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
      ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def preserves_Decode_DecodeIdeal : Prop :=
  IdealRules.named_const.Statement Cert.DecodeIdeal.κ "mask" .f32 0xCCBEBC20#32 ⊥

def preserves_Reference_ReferenceIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernelIdeal : Cert.KernelIdeal.Facts) (hReferenceIdeal : Cert.ReferenceIdeal.Facts) (hDecode : Cert.Decode.Facts) (hDecodeIdeal : Cert.DecodeIdeal.Facts) (hReference : Cert.Reference.Facts) (hPre_scores_finite : Cert.Pre_scores_finite.Facts),
    quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Decode (hDecode := hDecode)
    ∧ quiescent_DecodeIdeal (hDecodeIdeal := hDecodeIdeal)
    ∧ quiescent_Reference (hReference := hReference)
    ∧ preserves_Decode_DecodeIdeal
    ∧ preserves_Reference_ReferenceIdeal
    ∧ algebraic_KernelIdeal_ReferenceIdeal_pre_scores_finite (hKernelIdeal := hKernelIdeal) (hReferenceIdeal := hReferenceIdeal) (hPre_scores_finite := hPre_scores_finite)
-- ==== Pre_scores_finite.lean ====
abbrev S1024x200x3 : Shape := ⟨3, ![1024, 200, 3]⟩
abbrev S_ : Shape := ⟨0, ![]⟩
abbrev S10 : Shape := ⟨1, ![10]⟩
abbrev S1 : Shape := ⟨1, ![1]⟩
abbrev S1024x200x1 : Shape := ⟨3, ![1024, 200, 1]⟩
abbrev S1024x200 : Shape := ⟨2, ![1024, 200]⟩
abbrev S1024x200x7 : Shape := ⟨3, ![1024, 200, 7]⟩
abbrev S1024x200x10 : Shape := ⟨3, ![1024, 200, 10]⟩

class Facts : Prop where
  slices_S1024x200x3_S1024x200x1_0_0_0 : S1024x200x3.Slices ![0, 0, 0] S1024x200x1
  shapeCasts_S1024x200x1_S1024x200 : S1024x200x1.ShapeCasts S1024x200
  bcast_S_S1 : S_.BroadcastsInDim S1 (![] : Fin 0 → Fin S1.rank)
  slices_S1024x200x3_S1024x200x1_0_0_1 : S1024x200x3.Slices ![0, 0, 1] S1024x200x1
  slices_S1024x200x3_S1024x200x1_0_0_2 : S1024x200x3.Slices ![0, 0, 2] S1024x200x1
  bcast_S_S1024x200 : S_.BroadcastsInDim S1024x200 (![] : Fin 0 → Fin S1024x200.rank)
  bcast_S1024x200_S1024x200x1_0_1 : S1024x200.BroadcastsInDim S1024x200x1 (![0, 1] : Fin 2 → Fin S1024x200x1.rank)
  concatenates_S1024x200x1_S1024x200x1_S1024x200x1_S1024x200x1_S1024x200x1_S1024x200x1_S1024x200x1_S1024x200x7_d2 : Shape.Concatenates [S1024x200x1, S1024x200x1, S1024x200x1, S1024x200x1, S1024x200x1, S1024x200x1, S1024x200x1] S1024x200x7 2
  bcast_S_S1024x200x3 : S_.BroadcastsInDim S1024x200x3 (![] : Fin 0 → Fin S1024x200x3.rank)
  concatenates_S1024x200x7_S1024x200x3_S1024x200x10_d2 : Shape.Concatenates [S1024x200x7, S1024x200x3] S1024x200x10 2
  shapeCasts_S1_S_ : S1.ShapeCasts S_
  reducesTo_S1024x200_S_d0_1 : S1024x200.ReducesTo [0, 1] S_
  h_S_ : 0 < S_.numel
  scatter_S1024x200x3_S1_S1024x200_01_2_2_0_wf : ScatterDims.WF S1024x200x3 S1 S1024x200 [0, 1] [2] [2] 0
  dot_S1024x200x10_S10_S1024x200_2_0_01_n_n_n_wf : DotDims.WF S1024x200x10 S10 S1024x200 [2] [0] [0, 1] [] [] []

variable [Facts]

def scatter_S1024x200x3_S1_S1024x200_01_2_2_0 : ScatterDims S1024x200x3 S1 S1024x200 where
  updateWindowDims := [0, 1]
  insertedWindowDims := [2]
  scatterDimsToOperandDims := [2]
  indexVectorDim := 0
  wf := scatter_S1024x200x3_S1_S1024x200_01_2_2_0_wf
def dot_S1024x200x10_S10_S1024x200_2_0_01_n_n_n : DotDims S1024x200x10 S10 S1024x200 where
  lhsContracting := [2]
  rhsContracting := [0]
  lhsNonContracting := [0, 1]
  rhsNonContracting := []
  lhsBatch := []
  rhsBatch := []
  wf := dot_S1024x200x10_S10_S1024x200_2_0_01_n_n_n_wf
def fn_part2 {F : FTy → Type} [FloatOps F] (main_v38 : FVec F S1024x200 .f32) (main_v40 : FVec F S1024x200 .f32) : IVec S_ 1 :=
  let main_v41 : FVec F S1024x200 .f32 := addf main_v38 main_v40
  let main_cst_5 : FVec F S_ .f32 := constant S_ .f32 0xFF800000#32
  let main_v42 : FVec F S1024x200 .f32 := broadcastInDim S1024x200 ![] bcast_S_S1024x200 main_cst_5
  let main_v43 : IVec S1024x200 1 := cmpf .ogt main_v41 main_v42
  let main_cst_6 : FVec F S_ .f32 := constant S_ .f32 0x7F800000#32
  let main_v44 : FVec F S1024x200 .f32 := broadcastInDim S1024x200 ![] bcast_S_S1024x200 main_cst_6
  let main_v45 : IVec S1024x200 1 := cmpf .olt main_v41 main_v44
  let main_v46 : IVec S1024x200 1 := andi main_v43 main_v45
  let main_c_7 : IVec S_ 1 := constantI S_ 1 1#1
  let main_v47 : IVec S_ 1 := (fun x v => Host.reduce IntOp.andi x v reducesTo_S1024x200_S_d0_1 h_S_) main_v46 main_c_7
  main_v47

def fn_part1 {F : FTy → Type} [FloatOps F] (main_arg3 : FVec F S10 .f32) (main_arg4 : FVec F S1 .f32) (main_v3 : FVec F S1024x200x3 .f32) (main_v7 : FVec F S1024x200 .f32) (main_v9 : FVec F S1024x200 .f32) (main_v10 : FVec F S1024x200 .f32) (main_v11 : FVec F S1024x200 .f32) (main_v14 : FVec F S1024x200 .f32) (main_v17 : FVec F S1024x200 .f32) (main_v18 : FVec F S1024x200 .f32) (main_v19 : FVec F S1024x200 .f32) : IVec S_ 1 :=
  let main_v20 : FVec F S1024x200 .f32 := Host.divf main_v18 main_v19
  let main_cst_2 : FVec F S_ .f32 := constant S_ .f32 0x3F317218#32
  let main_v21 : FVec F S1024x200 .f32 := broadcastInDim S1024x200 ![] bcast_S_S1024x200 main_cst_2
  let main_v22 : FVec F S1024x200 .f32 := Host.divf main_v7 main_v21
  let main_v23 : FVec F S1024x200 .f32 := Host.log main_v22
  let main_cst_3 : FVec F S_ .f32 := constant S_ .f32 0x3F317218#32
  let main_v24 : FVec F S1024x200 .f32 := broadcastInDim S1024x200 ![] bcast_S_S1024x200 main_cst_3
  let main_v25 : FVec F S1024x200 .f32 := Host.divf main_v9 main_v24
  let main_v26 : FVec F S1024x200 .f32 := Host.log main_v25
  let main_v27 : FVec F S1024x200x1 .f32 := broadcastInDim S1024x200x1 ![0, 1] bcast_S1024x200_S1024x200x1_0_1 main_v10
  let main_v28 : FVec F S1024x200x1 .f32 := broadcastInDim S1024x200x1 ![0, 1] bcast_S1024x200_S1024x200x1_0_1 main_v11
  let main_v29 : FVec F S1024x200x1 .f32 := broadcastInDim S1024x200x1 ![0, 1] bcast_S1024x200_S1024x200x1_0_1 main_v14
  let main_v30 : FVec F S1024x200x1 .f32 := broadcastInDim S1024x200x1 ![0, 1] bcast_S1024x200_S1024x200x1_0_1 main_v17
  let main_v31 : FVec F S1024x200x1 .f32 := broadcastInDim S1024x200x1 ![0, 1] bcast_S1024x200_S1024x200x1_0_1 main_v20
  let main_v32 : FVec F S1024x200x1 .f32 := broadcastInDim S1024x200x1 ![0, 1] bcast_S1024x200_S1024x200x1_0_1 main_v23
  let main_v33 : FVec F S1024x200x1 .f32 := broadcastInDim S1024x200x1 ![0, 1] bcast_S1024x200_S1024x200x1_0_1 main_v26
  let main_v34 : FVec F S1024x200x7 .f32 := concatenate S1024x200x7 2 [⟨S1024x200x1, main_v27⟩, ⟨S1024x200x1, main_v28⟩, ⟨S1024x200x1, main_v29⟩, ⟨S1024x200x1, main_v30⟩, ⟨S1024x200x1, main_v31⟩, ⟨S1024x200x1, main_v32⟩, ⟨S1024x200x1, main_v33⟩] concatenates_S1024x200x1_S1024x200x1_S1024x200x1_S1024x200x1_S1024x200x1_S1024x200x1_S1024x200x1_S1024x200x7_d2
  let main_cst_4 : FVec F S_ .f32 := constant S_ .f32 0x447A0000#32
  let main_v35 : FVec F S1024x200x3 .f32 := broadcastInDim S1024x200x3 ![] bcast_S_S1024x200x3 main_cst_4
  let main_v36 : FVec F S1024x200x3 .f32 := Host.divf main_v3 main_v35
  let main_v37 : FVec F S1024x200x10 .f32 := (fun a b => concatenate S1024x200x10 2 [⟨S1024x200x7, a⟩, ⟨S1024x200x3, b⟩] concatenates_S1024x200x7_S1024x200x3_S1024x200x10_d2) main_v34 main_v36
  let main_v38 : FVec F S1024x200 .f32 := (fun l r => Host.dotGeneral dot_S1024x200x10_S10_S1024x200_2_0_01_n_n_n none l r) main_v37 main_arg3
  let main_v39 : FVec F S_ .f32 := shapeCast S_ main_arg4 shapeCasts_S1_S_
  let main_v40 : FVec F S1024x200 .f32 := broadcastInDim S1024x200 ![] bcast_S_S1024x200 main_v39
  fn_part2 (F := F) main_v38 main_v40

def fn {F : FTy → Type} [FloatOps F] (main_arg0 : FVec F S1024x200x3 .f32) (main_arg1 : IVec S_ 32) (main_arg2 : IVec S_ 32) (main_arg3 : FVec F S10 .f32) (main_arg4 : FVec F S1 .f32) : IVec S_ 1 :=
  let main_v0 : FVec F S1024x200x1 .f32 := (extractStridedSlice S1024x200x1 ![0, 0, 0] · slices_S1024x200x3_S1024x200x1_0_0_0) main_arg0
  let main_v1 : FVec F S1024x200 .f32 := shapeCast S1024x200 main_v0 shapeCasts_S1024x200x1_S1024x200
  let main_c : IVec S_ 32 := constantI S_ 32 2#32
  let main_v2 : IVec S1 32 := broadcastInDim S1 ![] bcast_S_S1 main_c
  let main_v3 : FVec F S1024x200x3 .f32 := (fun x i u => Host.scatter scatter_S1024x200x3_S1_S1024x200_01_2_2_0 (fun _ b => b) x i u) main_arg0 main_v2 main_v1
  let main_v4 : FVec F S1024x200x1 .f32 := (extractStridedSlice S1024x200x1 ![0, 0, 0] · slices_S1024x200x3_S1024x200x1_0_0_0) main_v3
  let main_v5 : FVec F S1024x200 .f32 := shapeCast S1024x200 main_v4 shapeCasts_S1024x200x1_S1024x200
  let main_v6 : FVec F S1024x200x1 .f32 := (extractStridedSlice S1024x200x1 ![0, 0, 1] · slices_S1024x200x3_S1024x200x1_0_0_1) main_v3
  let main_v7 : FVec F S1024x200 .f32 := shapeCast S1024x200 main_v6 shapeCasts_S1024x200x1_S1024x200
  let main_v8 : FVec F S1024x200x1 .f32 := (extractStridedSlice S1024x200x1 ![0, 0, 2] · slices_S1024x200x3_S1024x200x1_0_0_2) main_v3
  let main_v9 : FVec F S1024x200 .f32 := shapeCast S1024x200 main_v8 shapeCasts_S1024x200x1_S1024x200
  let main_v10 : FVec F S1024x200 .f32 := Host.divf main_v7 main_v5
  let main_v11 : FVec F S1024x200 .f32 := Host.divf main_v9 main_v5
  let main_v12 : FVec F S1024x200 .f32 := subf main_v5 main_v7
  let main_cst : FVec F S_ .f32 := constant S_ .f32 0x447A0000#32
  let main_v13 : FVec F S1024x200 .f32 := broadcastInDim S1024x200 ![] bcast_S_S1024x200 main_cst
  let main_v14 : FVec F S1024x200 .f32 := Host.divf main_v12 main_v13
  let main_v15 : FVec F S1024x200 .f32 := subf main_v5 main_v9
  let main_cst_0 : FVec F S_ .f32 := constant S_ .f32 0x447A0000#32
  let main_v16 : FVec F S1024x200 .f32 := broadcastInDim S1024x200 ![] bcast_S_S1024x200 main_cst_0
  let main_v17 : FVec F S1024x200 .f32 := Host.divf main_v15 main_v16
  let main_v18 : FVec F S1024x200 .f32 := Host.log main_v5
  let main_cst_1 : FVec F S_ .f32 := constant S_ .f32 0x3F317218#32
  let main_v19 : FVec F S1024x200 .f32 := broadcastInDim S1024x200 ![] bcast_S_S1024x200 main_cst_1
  fn_part1 (F := F) main_arg3 main_arg4 main_v3 main_v7 main_v9 main_v10 main_v11 main_v14 main_v17 main_v18 main_v19
-- ==== KernelIdeal.lean ====
abbrev S1024x200x3 : Shape := ⟨3, ![1024, 200, 3]⟩
abbrev S_ : Shape := ⟨0, ![]⟩
abbrev S10 : Shape := ⟨1, ![10]⟩
abbrev S1 : Shape := ⟨1, ![1]⟩
abbrev S1024x200x1 : Shape := ⟨3, ![1024, 200, 1]⟩
abbrev S1024x200 : Shape := ⟨2, ![1024, 200]⟩
abbrev S1024x256 : Shape := ⟨2, ![1024, 256]⟩
abbrev S256x256 : Shape := ⟨2, ![256, 256]⟩
abbrev S256 : Shape := ⟨1, ![256]⟩
abbrev S256x1 : Shape := ⟨2, ![256, 1]⟩
abbrev S32x256 : Shape := ⟨2, ![32, 256]⟩
abbrev S16 : Shape := ⟨1, ![16]⟩
abbrev S1x16 : Shape := ⟨2, ![1, 16]⟩

abbrev nBuf : Table → Nat
  | .hbm => 24
  | .local .tc .vmem => 10
  | .local .tc .smem => 2
  | .local .scVector .vmem => 5
  | _ => 0

abbrev bufTy : (tb : Table) → Fin (nBuf tb) → BufTy
  | .hbm, ⟨0, _⟩ => ⟨S1024x200x3, .f32⟩
  | .hbm, ⟨1, _⟩ => ⟨S_, .i32⟩
  | .hbm, ⟨2, _⟩ => ⟨S_, .i32⟩
  | .hbm, ⟨3, _⟩ => ⟨S10, .f32⟩
  | .hbm, ⟨4, _⟩ => ⟨S1, .f32⟩
  | .hbm, ⟨5, _⟩ => ⟨S1024x200x1, .f32⟩
  | .hbm, ⟨6, _⟩ => ⟨S1024x200, .f32⟩
  | .hbm, ⟨7, _⟩ => ⟨S1024x200x1, .f32⟩
  | .hbm, ⟨8, _⟩ => ⟨S1024x200, .f32⟩
  | .hbm, ⟨9, _⟩ => ⟨S10, .bf16⟩
  | .hbm, ⟨10, _⟩ => ⟨S10, .f32⟩
  | .hbm, ⟨11, _⟩ => ⟨S_, .f32⟩
  | .hbm, ⟨12, _⟩ => ⟨S_, .f32⟩
  | .hbm, ⟨13, _⟩ => ⟨S1024x256, .f32⟩
  | .hbm, ⟨14, _⟩ => ⟨S_, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x256, .i32⟩
  | .hbm, ⟨19, _⟩ => ⟨S1024x256, .i32⟩
  | .hbm, ⟨20, _⟩ => ⟨S1024x256, .f32⟩
  | .hbm, ⟨21, _⟩ => ⟨S1024x256, .i32⟩
  | .hbm, ⟨22, _⟩ => ⟨S1024x200, .f32⟩
  | .hbm, ⟨23, _⟩ => ⟨S1024x200, .i32⟩
  | .local .tc .vmem, ⟨0, _⟩ => ⟨S256x256, .f32⟩
  | .local .tc .vmem, ⟨1, _⟩ => ⟨S256x256, .f32⟩
  | .local .tc .vmem, ⟨2, _⟩ => ⟨S256x256, .f32⟩
  | .local .tc .vmem, ⟨3, _⟩ => ⟨S256x256, .f32⟩
  | .local .tc .vmem, ⟨4, _⟩ => ⟨S256x256, .f32⟩
  | .local .tc .vmem, ⟨5, _⟩ => ⟨S256x256, .f32⟩
  | .local .tc .vmem, ⟨6, _⟩ => ⟨S256x256, .i32⟩
  | .local .tc .vmem, ⟨7, _⟩ => ⟨S256x256, .i32⟩
  | .local .tc .vmem, ⟨8, _⟩ => ⟨S256x256, .i32⟩
  | .local .tc .vmem, ⟨9, _⟩ => ⟨S256x256, .i32⟩
  | .local .tc .smem, ⟨0, _⟩ => ⟨S10, .f32⟩
  | .local .tc .smem, ⟨1, _⟩ => ⟨S1, .f32⟩
  | .local .scVector .vmem, ⟨0, _⟩ => ⟨S32x256, .f32⟩
  | .local .scVector .vmem, ⟨1, _⟩ => ⟨S32x256, .i32⟩
  | .local .scVector .vmem, ⟨2, _⟩ => ⟨S32x256, .i32⟩
  | .local .scVector .vmem, ⟨3, _⟩ => ⟨S32x256, .f32⟩
  | .local .scVector .vmem, ⟨4, _⟩ => ⟨S32x256, .i32⟩
  | _, _ => ⟨S1024x200x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_call0_v0 : Ref sig .tc := ⟨.hbm, 12, rfl⟩
abbrev main_v6 : Ref sig .tc := ⟨.hbm, 13, rfl⟩
abbrev main_cst_0 : Ref sig .tc := ⟨.hbm, 14, rfl⟩
abbrev main_call1_v0 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v9_0 : Ref sig .tc := ⟨.hbm, 20, rfl⟩
abbrev main_v9_1 : Ref sig .tc := ⟨.hbm, 21, rfl⟩
abbrev main_v10 : Ref sig .tc := ⟨.hbm, 22, rfl⟩
abbrev main_v11 : Ref sig .tc := ⟨.hbm, 23, rfl⟩
abbrev main_v8_0_scv : Ref sig .scVector := ⟨.hbm, 17, rfl⟩
abbrev main_v8_1_scv : Ref sig .scVector := ⟨.hbm, 18, rfl⟩
abbrev main_v8_2_scv : Ref sig .scVector := ⟨.hbm, 19, rfl⟩
abbrev main_v9_0_scv : Ref sig .scVector := ⟨.hbm, 20, rfl⟩
abbrev main_v9_1_scv : Ref sig .scVector := ⟨.hbm, 21, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg0_0 : Ref sig .tc := ⟨.smem, 0, rfl⟩
abbrev cc0_stg1_0 : Ref sig .tc := ⟨.smem, 1, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F] [Named F]

def κ : String → Option EReal := fun
  | "mask" => some ⊥
  | _ => none

abbrev grid0 : Pipeline.Grid := ⟨1, ![4], ![false]⟩

@[reducible] def k0_t1_loop : Scf.Loop 32 :=
  let c0_i32 : BitVec 32 := 0#32
  let c4_i32 : BitVec 32 := 4#32
  let v96 : BitVec 32 := Scalar.addi c0_i32 c4_i32
  let c1_i32 : BitVec 32 := 1#32
  ⟨c0_i32, v96, c1_i32⟩
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S10 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_3_r0 : BitVec 32 := 0#32
  ![v2.toNat, 0]
@[reducible] def k1_t1_loop : Scf.Loop 32 :=
  let c0_i32_0 : BitVec 32 := 0#32
  let c32_i32_1 : BitVec 32 := 32#32
  let v3 : BitVec 32 := Scalar.addi c0_i32_0 c32_i32_1
  let c1_i32 : BitVec 32 := 1#32
  ⟨c0_i32_0, v3, c1_i32⟩
def k1_off2 (k1_t1 : Fin k1_t1_loop.trips) : Fin 2 → Nat :=
  let c0_i32_0 : BitVec 32 := 0#32
  let c1_i32 : BitVec 32 := 1#32
  let arg12 : BitVec 32 := Scf.iv c0_i32_0 c1_i32 k1_t1
  let v5 : Index := Scalar.indexCast arg12
  let c0 : Index := 0#32
  ![v5.toNat, 0]
def k1_off3 (k1_t1 : Fin k1_t1_loop.trips) : Fin 2 → Nat :=
  let c0_i32_0 : BitVec 32 := 0#32
  let c1_i32 : BitVec 32 := 1#32
  let arg12 : BitVec 32 := Scf.iv c0_i32_0 c1_i32 k1_t1
  let v9 : Index := Scalar.indexCast arg12
  let c0_4 : Index := 0#32
  ![v9.toNat, 0]

def k1_chk1 (v4 : IVec S16 32) (v6 : IVec S16 32) : Prop :=
  (∀ a x, ((![v4, v6] : Fin 2 → IVec S16 32) a x).toNat < S32x256.size a) ∧
  (∀ a x, ((![v4, v6] : Fin 2 → IVec S16 32) a x).toNat < S32x256.size a)
theorem k1_idx1_inb : ∀ (v4 : IVec S16 32) (v6 : IVec S16 32) (k1_hw1 : k1_chk1 v4 v6), ∀ a x, ((![v4, v6] : Fin 2 → IVec S16 32) a x).toNat < S32x256.size a := fun v4 v6 k1_hw1 => k1_hw1.1
theorem k1_idx2_inb : ∀ (v4 : IVec S16 32) (v6 : IVec S16 32) (k1_hw1 : k1_chk1 v4 v6), ∀ a x, ((![v4, v6] : Fin 2 → IVec S16 32) a x).toNat < S32x256.size a := fun v4 v6 k1_hw1 => k1_hw1.2
def k1_off4 (k1_t1 : Fin k1_t1_loop.trips) : Fin 2 → Nat :=
  let c0_i32_0 : BitVec 32 := 0#32
  let c1_i32 : BitVec 32 := 1#32
  let arg12 : BitVec 32 := Scf.iv c0_i32_0 c1_i32 k1_t1
  let v11 : Index := Scalar.indexCast arg12
  let c16 : Index := 16#32
  ![v11.toNat, 16]
def k1_off5 (k1_t1 : Fin k1_t1_loop.trips) : Fin 2 → Nat :=
  let c0_i32_0 : BitVec 32 := 0#32
  let c1_i32 : BitVec 32 := 1#32
  let arg12 : BitVec 32 := Scf.iv c0_i32_0 c1_i32 k1_t1
  let v15 : Index := Scalar.indexCast arg12
  let c16_6 : Index := 16#32
  ![v15.toNat, 16]

def k1_chk2 (v4 : IVec S16 32) (v12 : IVec S16 32) : Prop :=
  (∀ a x, ((![v4, v12] : Fin 2 → IVec S16 32) a x).toNat < S32x256.size a) ∧
  (∀ a x, ((![v4, v12] : Fin 2 → IVec S16 32) a x).toNat < S32x256.size a)
theorem k1_idx3_inb : ∀ (v4 : IVec S16 32) (v12 : IVec S16 32) (k1_hw2 : k1_chk2 v4 v12), ∀ a x, ((![v4, v12] : Fin 2 → IVec S16 32) a x).toNat < S32x256.size a := fun v4 v12 k1_hw2 => k1_hw2.1
theorem k1_idx4_inb : ∀ (v4 : IVec S16 32) (v12 : IVec S16 32) (k1_hw2 : k1_chk2 v4 v12), ∀ a x, ((![v4, v12] : Fin 2 → IVec S16 32) a x).toNat < S32x256.size a := fun v4 v12 k1_hw2 => k1_hw2.2
def k1_off6 (k1_t1 : Fin k1_t1_loop.trips) : Fin 2 → Nat :=
  let c0_i32_0 : BitVec 32 := 0#32
  let c1_i32 : BitVec 32 := 1#32
  let arg12 : BitVec 32 := Scf.iv c0_i32_0 c1_i32 k1_t1
  let v17 : Index := Scalar.indexCast arg12
  let c32 : Index := 32#32
  ![v17.toNat, 32]
def k1_off7 (k1_t1 : Fin k1_t1_loop.trips) : Fin 2 → Nat :=
  let c0_i32_0 : BitVec 32 := 0#32
  let c1_i32 : BitVec 32 := 1#32
  let arg12 : BitVec 32 := Scf.iv c0_i32_0 c1_i32 k1_t1
  let v21 : Index := Scalar.indexCast arg12
  let c32_8 : Index := 32#32
  ![v21.toNat, 32]

def k1_chk3 (v4 : IVec S16 32) (v18 : IVec S16 32) : Prop :=
  (∀ a x, ((![v4, v18] : Fin 2 → IVec S16 32) a x).toNat < S32x256.size a) ∧
  (∀ a x, ((![v4, v18] : Fin 2 → IVec S16 32) a x).toNat < S32x256.size a)
theorem k1_idx5_inb : ∀ (v4 : IVec S16 32) (v18 : IVec S16 32) (k1_hw3 : k1_chk3 v4 v18), ∀ a x, ((![v4, v18] : Fin 2 → IVec S16 32) a x).toNat < S32x256.size a := fun v4 v18 k1_hw3 => k1_hw3.1
theorem k1_idx6_inb : ∀ (v4 : IVec S16 32) (v18 : IVec S16 32) (k1_hw3 : k1_chk3 v4 v18), ∀ a x, ((![v4, v18] : Fin 2 → IVec S16 32) a x).toNat < S32x256.size a := fun v4 v18 k1_hw3 => k1_hw3.2
def k1_off8 (k1_t1 : Fin k1_t1_loop.trips) : Fin 2 → Nat :=
  let c0_i32_0 : BitVec 32 := 0#32
  let c1_i32 : BitVec 32 := 1#32
  let arg12 : BitVec 32 := Scf.iv c0_i32_0 c1_i32 k1_t1
  let v23 : Index := Scalar.indexCast arg12
  let c48 : Index := 48#32
  ![v23.toNat, 48]
def k1_off9 (k1_t1 : Fin k1_t1_loop.trips) : Fin 2 → Nat :=
  let c0_i32_0 : BitVec 32 := 0#32
  let c1_i32 : BitVec 32 := 1#32
  let arg12 : BitVec 32 := Scf.iv c0_i32_0 c1_i32 k1_t1
  let v27 : Index := Scalar.indexCast arg12
  let c48_10 : Index := 48#32
  ![v27.toNat, 48]

def k1_chk4 (v4 : IVec S16 32) (v24 : IVec S16 32) : Prop :=
  (∀ a x, ((![v4, v24] : Fin 2 → IVec S16 32) a x).toNat < S32x256.size a) ∧
  (∀ a x, ((![v4, v24] : Fin 2 → IVec S16 32) a x).toNat < S32x256.size a)
theorem k1_idx7_inb : ∀ (v4 : IVec S16 32) (v24 : IVec S16 32) (k1_hw4 : k1_chk4 v4 v24), ∀ a x, ((![v4, v24] : Fin 2 → IVec S16 32) a x).toNat < S32x256.size a := fun v4 v24 k1_hw4 => k1_hw4.1
theorem k1_idx8_inb : ∀ (v4 : IVec S16 32) (v24 : IVec S16 32) (k1_hw4 : k1_chk4 v4 v24), ∀ a x, ((![v4, v24] : Fin 2 → IVec S16 32) a x).toNat < S32x256.size a := fun v4 v24 k1_hw4 => k1_hw4.2
def k1_off10 (k1_t1 : Fin k1_t1_loop.trips) : Fin 2 → Nat :=
  let c0_i32_0 : BitVec 32 := 0#32
  let c1_i32 : BitVec 32 := 1#32
  let arg12 : BitVec 32 := Scf.iv c0_i32_0 c1_i32 k1_t1
  let v29 : Index := Scalar.indexCast arg12
  let c64 : Index := 64#32
  ![v29.toNat, 64]
def k1_off11 (k1_t1 : Fin k1_t1_loop.trips) : Fin 2 → Nat :=
  let c0_i32_0 : BitVec 32 := 0#32
  let c1_i32 : BitVec 32 := 1#32
  let arg12 : BitVec 32 := Scf.iv c0_i32_0 c1_i32 k1_t1
  let v33 : Index := Scalar.indexCast arg12
  let c64_12 : Index := 64#32
  ![v33.toNat, 64]

def k1_chk5 (v4 : IVec S16 32) (v30 : IVec S16 32) : Prop :=
  (∀ a x, ((![v4, v30] : Fin 2 → IVec S16 32) a x).toNat < S32x256.size a) ∧
  (∀ a x, ((![v4, v30] : Fin 2 → IVec S16 32) a x).toNat < S32x256.size a)
theorem k1_idx9_inb : ∀ (v4 : IVec S16 32) (v30 : IVec S16 32) (k1_hw5 : k1_chk5 v4 v30), ∀ a x, ((![v4, v30] : Fin 2 → IVec S16 32) a x).toNat < S32x256.size a := fun v4 v30 k1_hw5 => k1_hw5.1
theorem k1_idx10_inb : ∀ (v4 : IVec S16 32) (v30 : IVec S16 32) (k1_hw5 : k1_chk5 v4 v30), ∀ a x, ((![v4, v30] : Fin 2 → IVec S16 32) a x).toNat < S32x256.size a := fun v4 v30 k1_hw5 => k1_hw5.2
def k1_off12 (k1_t1 : Fin k1_t1_loop.trips) : Fin 2 → Nat :=
  let c0_i32_0 : BitVec 32 := 0#32
  let c1_i32 : BitVec 32 := 1#32
  let arg12 : BitVec 32 := Scf.iv c0_i32_0 c1_i32 k1_t1
  let v35 : Index := Scalar.indexCast arg12
  let c80 : Index := 80#32
  ![v35.toNat, 80]
def k1_off13 (k1_t1 : Fin k1_t1_loop.trips) : Fin 2 → Nat :=
  let c0_i32_0 : BitVec 32 := 0#32
  let c1_i32 : BitVec 32 := 1#32
  let arg12 : BitVec 32 := Scf.iv c0_i32_0 c1_i32 k1_t1
  let v39 : Index := Scalar.indexCast arg12
  let c80_14 : Index := 80#32
  ![v39.toNat, 80]

def k1_chk6 (v4 : IVec S16 32) (v36 : IVec S16 32) : Prop :=
  (∀ a x, ((![v4, v36] : Fin 2 → IVec S16 32) a x).toNat < S32x256.size a) ∧
  (∀ a x, ((![v4, v36] : Fin 2 → IVec S16 32) a x).toNat < S32x256.size a)
theorem k1_idx11_inb : ∀ (v4 : IVec S16 32) (v36 : IVec S16 32) (k1_hw6 : k1_chk6 v4 v36), ∀ a x, ((![v4, v36] : Fin 2 → IVec S16 32) a x).toNat < S32x256.size a := fun v4 v36 k1_hw6 => k1_hw6.1
theorem k1_idx12_inb : ∀ (v4 : IVec S16 32) (v36 : IVec S16 32) (k1_hw6 : k1_chk6 v4 v36), ∀ a x, ((![v4, v36] : Fin 2 → IVec S16 32) a x).toNat < S32x256.size a := fun v4 v36 k1_hw6 => k1_hw6.2
def k1_off14 (k1_t1 : Fin k1_t1_loop.trips) : Fin 2 → Nat :=
  let c0_i32_0 : BitVec 32 := 0#32
  let c1_i32 : BitVec 32 := 1#32
  let arg12 : BitVec 32 := Scf.iv c0_i32_0 c1_i32 k1_t1
  let v41 : Index := Scalar.indexCast arg12
  let c96 : Index := 96#32
  ![v41.toNat, 96]
def k1_off15 (k1_t1 : Fin k1_t1_loop.trips) : Fin 2 → Nat :=
  let c0_i32_0 : BitVec 32 := 0#32
  let c1_i32 : BitVec 32 := 1#32
  let arg12 : BitVec 32 := Scf.iv c0_i32_0 c1_i32 k1_t1
  let v45 : Index := Scalar.indexCast arg12
  let c96_16 : Index := 96#32
  ![v45.toNat, 96]

def k1_chk7 (v4 : IVec S16 32) (v42 : IVec S16 32) : Prop :=
  (∀ a x, ((![v4, v42] : Fin 2 → IVec S16 32) a x).toNat < S32x256.size a) ∧
  (∀ a x, ((![v4, v42] : Fin 2 → IVec S16 32) a x).toNat < S32x256.size a)
theorem k1_idx13_inb : ∀ (v4 : IVec S16 32) (v42 : IVec S16 32) (k1_hw7 : k1_chk7 v4 v42), ∀ a x, ((![v4, v42] : Fin 2 → IVec S16 32) a x).toNat < S32x256.size a := fun v4 v42 k1_hw7 => k1_hw7.1
theorem k1_idx14_inb : ∀ (v4 : IVec S16 32) (v42 : IVec S16 32) (k1_hw7 : k1_chk7 v4 v42), ∀ a x, ((![v4, v42] : Fin 2 → IVec S16 32) a x).toNat < S32x256.size a := fun v4 v42 k1_hw7 => k1_hw7.2
def k1_off16 (k1_t1 : Fin k1_t1_loop.trips) : Fin 2 → Nat :=
  let c0_i32_0 : BitVec 32 := 0#32
  let c1_i32 : BitVec 32 := 1#32
  let arg12 : BitVec 32 := Scf.iv c0_i32_0 c1_i32 k1_t1
  let v47 : Index := Scalar.indexCast arg12
  let c112 : Index := 112#32
  ![v47.toNat, 112]
def k1_off17 (k1_t1 : Fin k1_t1_loop.trips) : Fin 2 → Nat :=
  let c0_i32_0 : BitVec 32 := 0#32
  let c1_i32 : BitVec 32 := 1#32
  let arg12 : BitVec 32 := Scf.iv c0_i32_0 c1_i32 k1_t1
  let v51 : Index := Scalar.indexCast arg12
  let c112_18 : Index := 112#32
  ![v51.toNat, 112]

def k1_chk8 (v4 : IVec S16 32) (v48 : IVec S16 32) : Prop :=
  (∀ a x, ((![v4, v48] : Fin 2 → IVec S16 32) a x).toNat < S32x256.size a) ∧
  (∀ a x, ((![v4, v48] : Fin 2 → IVec S16 32) a x).toNat < S32x256.size a)
theorem k1_idx15_inb : ∀ (v4 : IVec S16 32) (v48 : IVec S16 32) (k1_hw8 : k1_chk8 v4 v48), ∀ a x, ((![v4, v48] : Fin 2 → IVec S16 32) a x).toNat < S32x256.size a := fun v4 v48 k1_hw8 => k1_hw8.1
theorem k1_idx16_inb : ∀ (v4 : IVec S16 32) (v48 : IVec S16 32) (k1_hw8 : k1_chk8 v4 v48), ∀ a x, ((![v4, v48] : Fin 2 → IVec S16 32) a x).toNat < S32x256.size a := fun v4 v48 k1_hw8 => k1_hw8.2
def k1_off18 (k1_t1 : Fin k1_t1_loop.trips) : Fin 2 → Nat :=
  let c0_i32_0 : BitVec 32 := 0#32
  let c1_i32 : BitVec 32 := 1#32
  let arg12 : BitVec 32 := Scf.iv c0_i32_0 c1_i32 k1_t1
  let v53 : Index := Scalar.indexCast arg12
  let c128 : Index := 128#32
  ![v53.toNat, 128]
def k1_off19 (k1_t1 : Fin k1_t1_loop.trips) : Fin 2 → Nat :=
  let c0_i32_0 : BitVec 32 := 0#32
  let c1_i32 : BitVec 32 := 1#32
  let arg12 : BitVec 32 := Scf.iv c0_i32_0 c1_i32 k1_t1
  let v57 : Index := Scalar.indexCast arg12
  let c128_20 : Index := 128#32
  ![v57.toNat, 128]

def k1_chk9 (v4 : IVec S16 32) (v54 : IVec S16 32) : Prop :=
  (∀ a x, ((![v4, v54] : Fin 2 → IVec S16 32) a x).toNat < S32x256.size a) ∧
  (∀ a x, ((![v4, v54] : Fin 2 → IVec S16 32) a x).toNat < S32x256.size a)
theorem k1_idx17_inb : ∀ (v4 : IVec S16 32) (v54 : IVec S16 32) (k1_hw9 : k1_chk9 v4 v54), ∀ a x, ((![v4, v54] : Fin 2 → IVec S16 32) a x).toNat < S32x256.size a := fun v4 v54 k1_hw9 => k1_hw9.1
theorem k1_idx18_inb : ∀ (v4 : IVec S16 32) (v54 : IVec S16 32) (k1_hw9 : k1_chk9 v4 v54), ∀ a x, ((![v4, v54] : Fin 2 → IVec S16 32) a x).toNat < S32x256.size a := fun v4 v54 k1_hw9 => k1_hw9.2
def k1_off20 (k1_t1 : Fin k1_t1_loop.trips) : Fin 2 → Nat :=
  let c0_i32_0 : BitVec 32 := 0#32
  let c1_i32 : BitVec 32 := 1#32
  let arg12 : BitVec 32 := Scf.iv c0_i32_0 c1_i32 k1_t1
  let v59 : Index := Scalar.indexCast arg12
  let c144 : Index := 144#32
  ![v59.toNat, 144]
def k1_off21 (k1_t1 : Fin k1_t1_loop.trips) : Fin 2 → Nat :=
  let c0_i32_0 : BitVec 32 := 0#32
  let c1_i32 : BitVec 32 := 1#32
  let arg12 : BitVec 32 := Scf.iv c0_i32_0 c1_i32 k1_t1
  let v63 : Index := Scalar.indexCast arg12
  let c144_22 : Index := 144#32
  ![v63.toNat, 144]

def k1_chk10 (v4 : IVec S16 32) (v60 : IVec S16 32) : Prop :=
  (∀ a x, ((![v4, v60] : Fin 2 → IVec S16 32) a x).toNat < S32x256.size a) ∧
  (∀ a x, ((![v4, v60] : Fin 2 → IVec S16 32) a x).toNat < S32x256.size a)
theorem k1_idx19_inb : ∀ (v4 : IVec S16 32) (v60 : IVec S16 32) (k1_hw10 : k1_chk10 v4 v60), ∀ a x, ((![v4, v60] : Fin 2 → IVec S16 32) a x).toNat < S32x256.size a := fun v4 v60 k1_hw10 => k1_hw10.1
theorem k1_idx20_inb : ∀ (v4 : IVec S16 32) (v60 : IVec S16 32) (k1_hw10 : k1_chk10 v4 v60), ∀ a x, ((![v4, v60] : Fin 2 → IVec S16 32) a x).toNat < S32x256.size a := fun v4 v60 k1_hw10 => k1_hw10.2
def k1_off22 (k1_t1 : Fin k1_t1_loop.trips) : Fin 2 → Nat :=
  let c0_i32_0 : BitVec 32 := 0#32
  let c1_i32 : BitVec 32 := 1#32
  let arg12 : BitVec 32 := Scf.iv c0_i32_0 c1_i32 k1_t1
  let v65 : Index := Scalar.indexCast arg12
  let c160 : Index := 160#32
  ![v65.toNat, 160]
def k1_off23 (k1_t1 : Fin k1_t1_loop.trips) : Fin 2 → Nat :=
  let c0_i32_0 : BitVec 32 := 0#32
  let c1_i32 : BitVec 32 := 1#32
  let arg12 : BitVec 32 := Scf.iv c0_i32_0 c1_i32 k1_t1
  let v69 : Index := Scalar.indexCast arg12
  let c160_24 : Index := 160#32
  ![v69.toNat, 160]

def k1_chk11 (v4 : IVec S16 32) (v66 : IVec S16 32) : Prop :=
  (∀ a x, ((![v4, v66] : Fin 2 → IVec S16 32) a x).toNat < S32x256.size a) ∧
  (∀ a x, ((![v4, v66] : Fin 2 → IVec S16 32) a x).toNat < S32x256.size a)
theorem k1_idx21_inb : ∀ (v4 : IVec S16 32) (v66 : IVec S16 32) (k1_hw11 : k1_chk11 v4 v66), ∀ a x, ((![v4, v66] : Fin 2 → IVec S16 32) a x).toNat < S32x256.size a := fun v4 v66 k1_hw11 => k1_hw11.1
theorem k1_idx22_inb : ∀ (v4 : IVec S16 32) (v66 : IVec S16 32) (k1_hw11 : k1_chk11 v4 v66), ∀ a x, ((![v4, v66] : Fin 2 → IVec S16 32) a x).toNat < S32x256.size a := fun v4 v66 k1_hw11 => k1_hw11.2
def k1_off24 (k1_t1 : Fin k1_t1_loop.trips) : Fin 2 → Nat :=
  let c0_i32_0 : BitVec 32 := 0#32
  let c1_i32 : BitVec 32 := 1#32
  let arg12 : BitVec 32 := Scf.iv c0_i32_0 c1_i32 k1_t1
  let v71 : Index := Scalar.indexCast arg12
  let c176 : Index := 176#32
  ![v71.toNat, 176]
def k1_off25 (k1_t1 : Fin k1_t1_loop.trips) : Fin 2 → Nat :=
  let c0_i32_0 : BitVec 32 := 0#32
  let c1_i32 : BitVec 32 := 1#32
  let arg12 : BitVec 32 := Scf.iv c0_i32_0 c1_i32 k1_t1
  let v75 : Index := Scalar.indexCast arg12
  let c176_26 : Index := 176#32
  ![v75.toNat, 176]

def k1_chk12 (v4 : IVec S16 32) (v72 : IVec S16 32) : Prop :=
  (∀ a x, ((![v4, v72] : Fin 2 → IVec S16 32) a x).toNat < S32x256.size a) ∧
  (∀ a x, ((![v4, v72] : Fin 2 → IVec S16 32) a x).toNat < S32x256.size a)
theorem k1_idx23_inb : ∀ (v4 : IVec S16 32) (v72 : IVec S16 32) (k1_hw12 : k1_chk12 v4 v72), ∀ a x, ((![v4, v72] : Fin 2 → IVec S16 32) a x).toNat < S32x256.size a := fun v4 v72 k1_hw12 => k1_hw12.1
theorem k1_idx24_inb : ∀ (v4 : IVec S16 32) (v72 : IVec S16 32) (k1_hw12 : k1_chk12 v4 v72), ∀ a x, ((![v4, v72] : Fin 2 → IVec S16 32) a x).toNat < S32x256.size a := fun v4 v72 k1_hw12 => k1_hw12.2
def k1_off26 (k1_t1 : Fin k1_t1_loop.trips) : Fin 2 → Nat :=
  let c0_i32_0 : BitVec 32 := 0#32
  let c1_i32 : BitVec 32 := 1#32
  let arg12 : BitVec 32 := Scf.iv c0_i32_0 c1_i32 k1_t1
  let v77 : Index := Scalar.indexCast arg12
  let c192 : Index := 192#32
  ![v77.toNat, 192]
def k1_off27 (k1_t1 : Fin k1_t1_loop.trips) : Fin 2 → Nat :=
  let c0_i32_0 : BitVec 32 := 0#32
  let c1_i32 : BitVec 32 := 1#32
  let arg12 : BitVec 32 := Scf.iv c0_i32_0 c1_i32 k1_t1
  let v81 : Index := Scalar.indexCast arg12
  let c192_28 : Index := 192#32
  ![v81.toNat, 192]

def k1_chk13 (v4 : IVec S16 32) (v78 : IVec S16 32) : Prop :=
  (∀ a x, ((![v4, v78] : Fin 2 → IVec S16 32) a x).toNat < S32x256.size a) ∧
  (∀ a x, ((![v4, v78] : Fin 2 → IVec S16 32) a x).toNat < S32x256.size a)
theorem k1_idx25_inb : ∀ (v4 : IVec S16 32) (v78 : IVec S16 32) (k1_hw13 : k1_chk13 v4 v78), ∀ a x, ((![v4, v78] : Fin 2 → IVec S16 32) a x).toNat < S32x256.size a := fun v4 v78 k1_hw13 => k1_hw13.1
theorem k1_idx26_inb : ∀ (v4 : IVec S16 32) (v78 : IVec S16 32) (k1_hw13 : k1_chk13 v4 v78), ∀ a x, ((![v4, v78] : Fin 2 → IVec S16 32) a x).toNat < S32x256.size a := fun v4 v78 k1_hw13 => k1_hw13.2
def k1_off28 (k1_t1 : Fin k1_t1_loop.trips) : Fin 2 → Nat :=
  let c0_i32_0 : BitVec 32 := 0#32
  let c1_i32 : BitVec 32 := 1#32
  let arg12 : BitVec 32 := Scf.iv c0_i32_0 c1_i32 k1_t1
  let v83 : Index := Scalar.indexCast arg12
  let c208 : Index := 208#32
  ![v83.toNat, 208]
def k1_off29 (k1_t1 : Fin k1_t1_loop.trips) : Fin 2 → Nat :=
  let c0_i32_0 : BitVec 32 := 0#32
  let c1_i32 : BitVec 32 := 1#32
  let arg12 : BitVec 32 := Scf.iv c0_i32_0 c1_i32 k1_t1
  let v87 : Index := Scalar.indexCast arg12
  let c208_30 : Index := 208#32
  ![v87.toNat, 208]

def k1_chk14 (v4 : IVec S16 32) (v84 : IVec S16 32) : Prop :=
  (∀ a x, ((![v4, v84] : Fin 2 → IVec S16 32) a x).toNat < S32x256.size a) ∧
  (∀ a x, ((![v4, v84] : Fin 2 → IVec S16 32) a x).toNat < S32x256.size a)
theorem k1_idx27_inb : ∀ (v4 : IVec S16 32) (v84 : IVec S16 32) (k1_hw14 : k1_chk14 v4 v84), ∀ a x, ((![v4, v84] : Fin 2 → IVec S16 32) a x).toNat < S32x256.size a := fun v4 v84 k1_hw14 => k1_hw14.1
theorem k1_idx28_inb : ∀ (v4 : IVec S16 32) (v84 : IVec S16 32) (k1_hw14 : k1_chk14 v4 v84), ∀ a x, ((![v4, v84] : Fin 2 → IVec S16 32) a x).toNat < S32x256.size a := fun v4 v84 k1_hw14 => k1_hw14.2
def k1_off30 (k1_t1 : Fin k1_t1_loop.trips) : Fin 2 → Nat :=
  let c0_i32_0 : BitVec 32 := 0#32
  let c1_i32 : BitVec 32 := 1#32
  let arg12 : BitVec 32 := Scf.iv c0_i32_0 c1_i32 k1_t1
  let v89 : Index := Scalar.indexCast arg12
  let c224 : Index := 224#32
  ![v89.toNat, 224]
def k1_off31 (k1_t1 : Fin k1_t1_loop.trips) : Fin 2 → Nat :=
  let c0_i32_0 : BitVec 32 := 0#32
  let c1_i32 : BitVec 32 := 1#32
  let arg12 : BitVec 32 := Scf.iv c0_i32_0 c1_i32 k1_t1
  let v93 : Index := Scalar.indexCast arg12
  let c224_32 : Index := 224#32
  ![v93.toNat, 224]

def k1_chk15 (v4 : IVec S16 32) (v90 : IVec S16 32) : Prop :=
  (∀ a x, ((![v4, v90] : Fin 2 → IVec S16 32) a x).toNat < S32x256.size a) ∧
  (∀ a x, ((![v4, v90] : Fin 2 → IVec S16 32) a x).toNat < S32x256.size a)
theorem k1_idx29_inb : ∀ (v4 : IVec S16 32) (v90 : IVec S16 32) (k1_hw15 : k1_chk15 v4 v90), ∀ a x, ((![v4, v90] : Fin 2 → IVec S16 32) a x).toNat < S32x256.size a := fun v4 v90 k1_hw15 => k1_hw15.1
theorem k1_idx30_inb : ∀ (v4 : IVec S16 32) (v90 : IVec S16 32) (k1_hw15 : k1_chk15 v4 v90), ∀ a x, ((![v4, v90] : Fin 2 → IVec S16 32) a x).toNat < S32x256.size a := fun v4 v90 k1_hw15 => k1_hw15.2
def k1_off32 (k1_t1 : Fin k1_t1_loop.trips) : Fin 2 → Nat :=
  let c0_i32_0 : BitVec 32 := 0#32
  let c1_i32 : BitVec 32 := 1#32
  let arg12 : BitVec 32 := Scf.iv c0_i32_0 c1_i32 k1_t1
  let v95 : Index := Scalar.indexCast arg12
  let c240 : Index := 240#32
  ![v95.toNat, 240]
def k1_off33 (k1_t1 : Fin k1_t1_loop.trips) : Fin 2 → Nat :=
  let c0_i32_0 : BitVec 32 := 0#32
  let c1_i32 : BitVec 32 := 1#32
  let arg12 : BitVec 32 := Scf.iv c0_i32_0 c1_i32 k1_t1
  let v99 : Index := Scalar.indexCast arg12
  let c240_34 : Index := 240#32
  ![v99.toNat, 240]

def k1_chk16 (v4 : IVec S16 32) (v96 : IVec S16 32) : Prop :=
  (∀ a x, ((![v4, v96] : Fin 2 → IVec S16 32) a x).toNat < S32x256.size a) ∧
  (∀ a x, ((![v4, v96] : Fin 2 → IVec S16 32) a x).toNat < S32x256.size a)
theorem k1_idx31_inb : ∀ (v4 : IVec S16 32) (v96 : IVec S16 32) (k1_hw16 : k1_chk16 v4 v96), ∀ a x, ((![v4, v96] : Fin 2 → IVec S16 32) a x).toNat < S32x256.size a := fun v4 v96 k1_hw16 => k1_hw16.1
theorem k1_idx32_inb : ∀ (v4 : IVec S16 32) (v96 : IVec S16 32) (k1_hw16 : k1_chk16 v4 v96), ∀ a x, ((![v4, v96] : Fin 2 → IVec S16 32) a x).toNat < S32x256.size a := fun v4 v96 k1_hw16 => k1_hw16.2
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Decode.lean ====
abbrev S10 : Shape := ⟨1, ![10]⟩
abbrev S1 : Shape := ⟨1, ![1]⟩
abbrev S1024x256 : Shape := ⟨2, ![1024, 256]⟩
abbrev S256x256 : Shape := ⟨2, ![256, 256]⟩
abbrev S256 : Shape := ⟨1, ![256]⟩
abbrev S256x1 : Shape := ⟨2, ![256, 1]⟩

abbrev nBuf : Space → Nat
  | .hbm => 7
  | .vmem => 10
  | .smem => 2
  | _ => 0

abbrev bufTy : (tb : Table) → Fin (tcTables nBuf tb) → BufTy
  | .hbm, ⟨0, _⟩ => ⟨S10, .f32⟩
  | .hbm, ⟨1, _⟩ => ⟨S1, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .i32⟩
  | .hbm, ⟨6, _⟩ => ⟨S1024x256, .i32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .i32⟩
  | .local _ .vmem, ⟨7, _⟩ => ⟨S256x256, .i32⟩
  | .local _ .vmem, ⟨8, _⟩ => ⟨S256x256, .i32⟩
  | .local _ .vmem, ⟨9, _⟩ => ⟨S256x256, .i32⟩
  | .local _ .smem, ⟨0, _⟩ => ⟨S10, .f32⟩
  | .local _ .smem, ⟨1, _⟩ => ⟨S1, .f32⟩
  | _, _ => ⟨S10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c4_i32 : BitVec 32 := 4#32
  let v94 : BitVec 32 := Scalar.addi c0_i32 c4_i32
  let c1_i32 : BitVec 32 := 1#32
  ⟨c0_i32, v94, c1_i32⟩
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S10 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DecodeIdeal.lean ====
variable {F : FTy → Type} [FloatOps F] [Named F]
def κ : String → Option EReal := fun
  | "mask" => some ⊥
  | _ => none
-- ==== Reference.lean ====
abbrev S1024x200x3 : Shape := ⟨3, ![1024, 200, 3]⟩
abbrev S_ : Shape := ⟨0, ![]⟩
abbrev S10 : Shape := ⟨1, ![10]⟩
abbrev S1 : Shape := ⟨1, ![1]⟩
abbrev S1024x200x1 : Shape := ⟨3, ![1024, 200, 1]⟩
abbrev S1024x200 : Shape := ⟨2, ![1024, 200]⟩
abbrev S1024x200x7 : Shape := ⟨3, ![1024, 200, 7]⟩
abbrev S1024x200x10 : Shape := ⟨3, ![1024, 200, 10]⟩
abbrev S1024 : Shape := ⟨1, ![1024]⟩
abbrev S200x1024 : Shape := ⟨2, ![200, 1024]⟩
abbrev S1024x1 : Shape := ⟨2, ![1024, 1]⟩
abbrev S1024x1x1 : Shape := ⟨3, ![1024, 1, 1]⟩
abbrev S1x1x1 : Shape := ⟨3, ![1, 1, 1]⟩
abbrev S1024x2 : Shape := ⟨2, ![1024, 2]⟩
abbrev S1x1024 : Shape := ⟨2, ![1, 1024]⟩

abbrev nBuf : Space → Nat
  | .hbm => 148
  | .vmem => 0
  | .smem => 0
  | _ => 0

abbrev hbmTy0_0 (i : Nat) : BufTy := match i % 128 with
  | 0 => ⟨S1024x200x3, .f32⟩
  | 1 => ⟨S_, .i32⟩
  | 2 => ⟨S_, .i32⟩
  | 3 => ⟨S10, .f32⟩
  | 4 => ⟨S1, .f32⟩
  | 5 => ⟨S1024x200x1, .f32⟩
  | 6 => ⟨S1024x200, .f32⟩
  | 7 => ⟨S_, .i32⟩
  | 8 => ⟨S1, .i32⟩
  | 9 => ⟨S1024x200x3, .f32⟩
  | 10 => ⟨S1024x200x1, .f32⟩
  | 11 => ⟨S1024x200, .f32⟩
  | 12 => ⟨S1024x200x1, .f32⟩
  | 13 => ⟨S1024x200, .f32⟩
  | 14 => ⟨S1024x200x1, .f32⟩
  | 15 => ⟨S1024x200, .f32⟩
  | 16 => ⟨S1024x200, .f32⟩
  | 17 => ⟨S1024x200, .f32⟩
  | 18 => ⟨S1024x200, .f32⟩
  | 19 => ⟨S_, .f32⟩
  | 20 => ⟨S1024x200, .f32⟩
  | 21 => ⟨S1024x200, .f32⟩
  | 22 => ⟨S1024x200, .f32⟩
  | 23 => ⟨S_, .f32⟩
  | 24 => ⟨S1024x200, .f32⟩
  | 25 => ⟨S1024x200, .f32⟩
  | 26 => ⟨S1024x200, .f32⟩
  | 27 => ⟨S_, .f32⟩
  | 28 => ⟨S1024x200, .f32⟩
  | 29 => ⟨S1024x200, .f32⟩
  | 30 => ⟨S_, .f32⟩
  | 31 => ⟨S1024x200, .f32⟩
  | 32 => ⟨S1024x200, .f32⟩
  | 33 => ⟨S1024x200, .f32⟩
  | 34 => ⟨S_, .f32⟩
  | 35 => ⟨S1024x200, .f32⟩
  | 36 => ⟨S1024x200, .f32⟩
  | 37 => ⟨S1024x200, .f32⟩
  | 38 => ⟨S1024x200x1, .f32⟩
  | 39 => ⟨S1024x200x1, .f32⟩
  | 40 => ⟨S1024x200x1, .f32⟩
  | 41 => ⟨S1024x200x1, .f32⟩
  | 42 => ⟨S1024x200x1, .f32⟩
  | 43 => ⟨S1024x200x1, .f32⟩
  | 44 => ⟨S1024x200x1, .f32⟩
  | 45 => ⟨S1024x200x7, .f32⟩
  | 46 => ⟨S_, .f32⟩
  | 47 => ⟨S1024x200x3, .f32⟩
  | 48 => ⟨S1024x200x3, .f32⟩
  | 49 => ⟨S1024x200x10, .f32⟩
  | 50 => ⟨S1024x200, .f32⟩
  | 51 => ⟨S_, .f32⟩
  | 52 => ⟨S1024x200, .f32⟩
  | 53 => ⟨S1024x200, .f32⟩
  | 54 => ⟨S1024, .i32⟩
  | 55 => ⟨S_, .i1⟩
  | 56 => ⟨S1024x200, .i1⟩
  | 57 => ⟨S_, .f32⟩
  | 58 => ⟨S200x1024, .f32⟩
  | 59 => ⟨S_, .i32⟩
  | 60 => ⟨S200x1024, .i32⟩
  | 61 => ⟨S_, .i32⟩
  | 62 => ⟨S1024x200, .f32⟩
  | 63 => ⟨S1024, .i32⟩
  | 64 => ⟨S_, .i32⟩
  | 65 => ⟨S1024x200, .i1⟩
  | 66 => ⟨S200x1024, .f32⟩
  | 67 => ⟨S200x1024, .i32⟩
  | 68 => ⟨S_, .i32⟩
  | 69 => ⟨S_, .i1⟩
  | 70 => ⟨S_, .f32⟩
  | 71 => ⟨S_, .f32⟩
  | 72 => ⟨S1024x200, .f32⟩
  | 73 => ⟨S1024x200, .f32⟩
  | 74 => ⟨S_, .f32⟩
  | 75 => ⟨S1024, .f32⟩
  | 76 => ⟨S_, .f32⟩
  | 77 => ⟨S1024, .f32⟩
  | 78 => ⟨S1024, .f32⟩
  | 79 => ⟨S1024x1, .f32⟩
  | 80 => ⟨S1024x200, .f32⟩
  | 81 => ⟨S1024x200, .f32⟩
  | 82 => ⟨S1024x200, .f32⟩
  | 83 => ⟨S_, .f32⟩
  | 84 => ⟨S1024, .f32⟩
  | 85 => ⟨S1024x1, .f32⟩
  | 86 => ⟨S1024x200, .f32⟩
  | 87 => ⟨S1024x200, .f32⟩
  | 88 => ⟨S1024x200, .i32⟩
  | 89 => ⟨S_, .f32⟩
  | 90 => ⟨S_, .i32⟩
  | 91 => ⟨S1024, .f32⟩
  | 92 => ⟨S1024, .i32⟩
  | 93 => ⟨S1024x1, .i32⟩
  | 94 => ⟨S_, .i32⟩
  | 95 => ⟨S1024x1, .i32⟩
  | 96 => ⟨S1024x1, .i1⟩
  | 97 => ⟨S_, .i32⟩
  | 98 => ⟨S1024x1, .i32⟩
  | 99 => ⟨S1024x1, .i32⟩
  | 100 => ⟨S1024x1, .i32⟩
  | 101 => ⟨S1024x1x1, .i32⟩
  | 102 => ⟨S1, .i32⟩
  | 103 => ⟨S_, .i32⟩
  | 104 => ⟨S1024x1x1, .i32⟩
  | 105 => ⟨S1024x1x1, .i1⟩
  | 106 => ⟨S1x1x1, .i32⟩
  | 107 => ⟨S1024x1x1, .i32⟩
  | 108 => ⟨S1024x1x1, .i1⟩
  | 109 => ⟨S1024x1x1, .i1⟩
  | 110 => ⟨S_, .i1⟩
  | 111 => ⟨S1024x1, .i1⟩
  | 112 => ⟨S1024x1, .f32⟩
  | 113 => ⟨S_, .f32⟩
  | 114 => ⟨S1024x1, .f32⟩
  | 115 => ⟨S1024x1, .f32⟩
  | 116 => ⟨S1024, .f32⟩
  | 117 => ⟨S1024, .f32⟩
  | 118 => ⟨S_, .i32⟩
  | 119 => ⟨S1024, .i32⟩
  | 120 => ⟨S1024, .i1⟩
  | 121 => ⟨S_, .i32⟩
  | 122 => ⟨S1024, .i32⟩
  | 123 => ⟨S1024, .i32⟩
  | 124 => ⟨S1024, .i32⟩
  | 125 => ⟨S_, .i32⟩
  | 126 => ⟨S1024, .i32⟩
  | 127 => ⟨S1024, .i1⟩
  | _ => ⟨S1024x200x3, .f32⟩

abbrev hbmTy0_1 (i : Nat) : BufTy := match i % 128 with
  | 0 => ⟨S_, .i32⟩
  | 1 => ⟨S1024, .i32⟩
  | 2 => ⟨S1024, .i32⟩
  | 3 => ⟨S1024, .i32⟩
  | 4 => ⟨S1024x1, .i32⟩
  | 5 => ⟨S1024x1, .i32⟩
  | 6 => ⟨S1024x2, .i32⟩
  | 7 => ⟨S_, .i1⟩
  | 8 => ⟨S1024, .i1⟩
  | 9 => ⟨S1024x200, .i1⟩
  | 10 => ⟨S1x1024, .f32⟩
  | 11 => ⟨S_, .i32⟩
  | 12 => ⟨S200x1024, .f32⟩
  | 13 => ⟨S1x1024, .i32⟩
  | 14 => ⟨S_, .i32⟩
  | 15 => ⟨S200x1024, .i32⟩
  | 16 => ⟨S_, .i32⟩
  | 17 => ⟨S_, .i32⟩
  | 18 => ⟨S1024x200, .f32⟩
  | 19 => ⟨S1024x200, .i32⟩
  | _ => ⟨S1024x200x3, .f32⟩

abbrev hbmTy (i : Nat) : BufTy := match i / 128 with
  | 0 => hbmTy0_0 i
  | 1 => hbmTy0_1 i
  | _ => ⟨S1024x200x3, .f32⟩

abbrev bufTy : (tb : Table) → Fin (tcTables nBuf tb) → BufTy
  | .hbm, ⟨i, _⟩ => hbmTy i
  | _, _ => ⟨S1024x200x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_5 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_c_7 : Ref sig .tc := ⟨.hbm, 59, rfl⟩
abbrev main_v45 : Ref sig .tc := ⟨.hbm, 60, rfl⟩
abbrev main_c_8 : Ref sig .tc := ⟨.hbm, 61, rfl⟩
abbrev main_v46_0 : Ref sig .tc := ⟨.hbm, 62, rfl⟩
abbrev main_v46_1 : Ref sig .tc := ⟨.hbm, 63, rfl⟩
abbrev main_v46_2 : Ref sig .tc := ⟨.hbm, 64, rfl⟩
abbrev main_v46_3 : Ref sig .tc := ⟨.hbm, 65, rfl⟩
abbrev main_v46_4 : Ref sig .tc := ⟨.hbm, 66, rfl⟩
abbrev main_v46_5 : Ref sig .tc := ⟨.hbm, 67, rfl⟩
abbrev main_while0c_c_14 : Ref sig .tc := ⟨.hbm, 68, rfl⟩
abbrev main_while0c_v49 : Ref sig .tc := ⟨.hbm, 69, rfl⟩
abbrev main_while0b_cst_14 : Ref sig .tc := ⟨.hbm, 70, rfl⟩
abbrev main_while0b_call0_v0 : Ref sig .tc := ⟨.hbm, 71, rfl⟩
abbrev main_while0b_call0_v1 : Ref sig .tc := ⟨.hbm, 72, rfl⟩
abbrev main_while0b_v49 : Ref sig .tc := ⟨.hbm, 73, rfl⟩
abbrev main_while0b_cst_15 : Ref sig .tc := ⟨.hbm, 74, rfl⟩
abbrev main_while0b_v50 : Ref sig .tc := ⟨.hbm, 75, rfl⟩
abbrev main_while0b_cst_16 : Ref sig .tc := ⟨.hbm, 76, rfl⟩
abbrev main_while0b_v51 : Ref sig .tc := ⟨.hbm, 77, rfl⟩
abbrev main_while0b_v52 : Ref sig .tc := ⟨.hbm, 78, rfl⟩
abbrev main_while0b_v53 : Ref sig .tc := ⟨.hbm, 79, rfl⟩
abbrev main_while0b_v54 : Ref sig .tc := ⟨.hbm, 80, rfl⟩
abbrev main_while0b_v55 : Ref sig .tc := ⟨.hbm, 81, rfl⟩
abbrev main_while0b_v56 : Ref sig .tc := ⟨.hbm, 82, rfl⟩
abbrev main_while0b_cst_17 : Ref sig .tc := ⟨.hbm, 83, rfl⟩
abbrev main_while0b_v57 : Ref sig .tc := ⟨.hbm, 84, rfl⟩
abbrev main_while0b_v58 : Ref sig .tc := ⟨.hbm, 85, rfl⟩
abbrev main_while0b_v59 : Ref sig .tc := ⟨.hbm, 86, rfl⟩
abbrev main_while0b_v60 : Ref sig .tc := ⟨.hbm, 87, rfl⟩
abbrev main_while0b_call1_v0 : Ref sig .tc := ⟨.hbm, 88, rfl⟩
abbrev main_while0b_call1_cst : Ref sig .tc := ⟨.hbm, 89, rfl⟩
abbrev main_while0b_call1_c : Ref sig .tc := ⟨.hbm, 90, rfl⟩
abbrev main_while0b_call1_v1_0 : Ref sig .tc := ⟨.hbm, 91, rfl⟩
abbrev main_while0b_v61 : Ref sig .tc := ⟨.hbm, 92, rfl⟩
abbrev main_while0b_v62 : Ref sig .tc := ⟨.hbm, 93, rfl⟩
abbrev main_while0b_call2_c : Ref sig .tc := ⟨.hbm, 94, rfl⟩
abbrev main_while0b_call2_v0 : Ref sig .tc := ⟨.hbm, 95, rfl⟩
abbrev main_while0b_call2_v1 : Ref sig .tc := ⟨.hbm, 96, rfl⟩
abbrev main_while0b_call2_c_0 : Ref sig .tc := ⟨.hbm, 97, rfl⟩
abbrev main_while0b_call2_v2 : Ref sig .tc := ⟨.hbm, 98, rfl⟩
abbrev main_while0b_call2_v3 : Ref sig .tc := ⟨.hbm, 99, rfl⟩
abbrev main_while0b_call2_v4 : Ref sig .tc := ⟨.hbm, 100, rfl⟩
abbrev main_while0b_call2_v5 : Ref sig .tc := ⟨.hbm, 101, rfl⟩
abbrev main_while0b_call2_c_1 : Ref sig .tc := ⟨.hbm, 102, rfl⟩
abbrev main_while0b_call2_c_2 : Ref sig .tc := ⟨.hbm, 103, rfl⟩
abbrev main_while0b_call2_v6 : Ref sig .tc := ⟨.hbm, 104, rfl⟩
abbrev main_while0b_call2_v7 : Ref sig .tc := ⟨.hbm, 105, rfl⟩
abbrev main_while0b_call2_v8 : Ref sig .tc := ⟨.hbm, 106, rfl⟩
abbrev main_while0b_call2_v9 : Ref sig .tc := ⟨.hbm, 107, rfl⟩
abbrev main_while0b_call2_v10 : Ref sig .tc := ⟨.hbm, 108, rfl⟩
abbrev main_while0b_call2_v11 : Ref sig .tc := ⟨.hbm, 109, rfl⟩
abbrev main_while0b_call2_c_3 : Ref sig .tc := ⟨.hbm, 110, rfl⟩
abbrev main_while0b_call2_v12 : Ref sig .tc := ⟨.hbm, 111, rfl⟩
abbrev main_while0b_call2_v13 : Ref sig .tc := ⟨.hbm, 112, rfl⟩
abbrev main_while0b_call2_cst : Ref sig .tc := ⟨.hbm, 113, rfl⟩
abbrev main_while0b_call2_v14 : Ref sig .tc := ⟨.hbm, 114, rfl⟩
abbrev main_while0b_v63 : Ref sig .tc := ⟨.hbm, 115, rfl⟩
abbrev main_while0b_v64 : Ref sig .tc := ⟨.hbm, 116, rfl⟩
abbrev main_while0b_v65 : Ref sig .tc := ⟨.hbm, 117, rfl⟩
abbrev main_while0b_c_18 : Ref sig .tc := ⟨.hbm, 118, rfl⟩
abbrev main_while0b_v66 : Ref sig .tc := ⟨.hbm, 119, rfl⟩
abbrev main_while0b_v67 : Ref sig .tc := ⟨.hbm, 120, rfl⟩
abbrev main_while0b_c_19 : Ref sig .tc := ⟨.hbm, 121, rfl⟩
abbrev main_while0b_v68 : Ref sig .tc := ⟨.hbm, 122, rfl⟩
abbrev main_while0b_v69 : Ref sig .tc := ⟨.hbm, 123, rfl⟩
abbrev main_while0b_v70 : Ref sig .tc := ⟨.hbm, 124, rfl⟩
abbrev main_while0b_c_20 : Ref sig .tc := ⟨.hbm, 125, rfl⟩
abbrev main_while0b_v71 : Ref sig .tc := ⟨.hbm, 126, rfl⟩
abbrev main_while0b_v72 : Ref sig .tc := ⟨.hbm, 127, rfl⟩
abbrev main_while0b_c_21 : Ref sig .tc := ⟨.hbm, 128, rfl⟩
abbrev main_while0b_v73 : Ref sig .tc := ⟨.hbm, 129, rfl⟩
abbrev main_while0b_v74 : Ref sig .tc := ⟨.hbm, 130, rfl⟩
abbrev main_while0b_v75 : Ref sig .tc := ⟨.hbm, 131, rfl⟩
abbrev main_while0b_v76 : Ref sig .tc := ⟨.hbm, 132, rfl⟩
abbrev main_while0b_v77 : Ref sig .tc := ⟨.hbm, 133, rfl⟩
abbrev main_while0b_v78 : Ref sig .tc := ⟨.hbm, 134, rfl⟩
abbrev main_while0b_c_22 : Ref sig .tc := ⟨.hbm, 135, rfl⟩
abbrev main_while0b_v79 : Ref sig .tc := ⟨.hbm, 136, rfl⟩
abbrev main_while0b_v80 : Ref sig .tc := ⟨.hbm, 137, rfl⟩
abbrev main_while0b_call3_v0 : Ref sig .tc := ⟨.hbm, 138, rfl⟩
abbrev main_while0b_call3_c : Ref sig .tc := ⟨.hbm, 139, rfl⟩
abbrev main_while0b_v81 : Ref sig .tc := ⟨.hbm, 140, rfl⟩
abbrev main_while0b_call4_v0 : Ref sig .tc := ⟨.hbm, 141, rfl⟩
abbrev main_while0b_call4_c : Ref sig .tc := ⟨.hbm, 142, rfl⟩
abbrev main_while0b_v82 : Ref sig .tc := ⟨.hbm, 143, rfl⟩
abbrev main_while0b_c_23 : Ref sig .tc := ⟨.hbm, 144, rfl⟩
abbrev main_while0b_v83 : Ref sig .tc := ⟨.hbm, 145, rfl⟩
abbrev main_v47 : Ref sig .tc := ⟨.hbm, 146, rfl⟩
abbrev main_v48 : Ref sig .tc := ⟨.hbm, 147, rfl⟩

abbrev nD : Nat := 1
abbrev τ : Topo := Topo.v7x

variable {F : FTy → Type} [FloatOps F]

abbrev main_while0_count : Scf.Loop 32 := ⟨0#32, 200#32, 1#32⟩
-- ==== Proof.DecodeIdealRun.lean ====
/-
  THE TENSORCORE CALL ALONE WITH ITS CONSTANT NAMED, as Proof/DecodeRun.lean has it with the constant printed.
-/
module

public import proofs.«01_k».proof.Proof.Gen.DecodeIdeal
public import proofs.«01_k».proof.Proof.Gen.DecodeIdeal.Skeleton
public import proofs.«01_k».proof.Proof.Gen.DecodeIdeal.Loops
public import proofs.«01_k».proof.Proof.Gen.DecodeIdeal.Points
public import proofs.«01_k».proof.Proof.Gen.DecodeIdeal.Frame
public import Idealize.ShloMosaic.Lib.Pointwise.Index
public import Idealize.ShloMosaic.Lib.VecWindow
public import Idealize.ShloMosaic.Lib.Tactic

@[expose] public section

noncomputable section

namespace Cert.Proof.DecodeIdeal

open Cert.DecodeIdeal Cert.DecodeIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

abbrev 𝒱₀ : Variants := Variants.none

/-! ### The body -/

/-- The rows of `s` turned by `d` lanes. -/
abbrev turned (s : FVec F S256x256 .f32) (d : BitVec 32) : FVec F S256x256 .f32 :=
  dynamicRotate 1 d none s rotates_S256x256_d1

/-- Where the turned lane comes before the lane under it. -/
abbrev beats (lane : IVec S256x256 32) (s : FVec F S256x256 .f32) (d : BitVec 32) : IVec S256x256 1 :=
  ori (cmpf .ogt (turned s d) s) (andi (cmpf .oeq (turned s d) s) (cmpi .sge lane (broadcast S256x256 d)))

/-- One step: the count and the sum, from those of the steps before. -/
def turn (lane : IVec S256x256 32) (s : FVec F S256x256 .f32) (d : BitVec 32)
    (a : IVec S256x256 32 × FVec F S256x256 .f32) : IVec S256x256 32 × FVec F S256x256 .f32 :=
  (addi a.1 (extui 32 (beats lane s d) natLt_1_32),
   addf a.2 (select (beats lane s d) (broadcast S256x256 (Scalar.ofBits .f32 0x00000000#32)) (exp (subf (turned s d) s))))

/-- By how many lanes step `u` of the trip whose counter is `k` turns. -/
abbrev turnBy (k : BitVec 32) (u : ℕ) : BitVec 32 := Scalar.addi (Scalar.muli k 64#32) (BitVec.ofNat 32 u)

/-- The first `n` steps of a trip. -/
def turns (lane : IVec S256x256 32) (s : FVec F S256x256 .f32) (k : BitVec 32)
    (a : IVec S256x256 32 × FVec F S256x256 .f32) : ℕ → IVec S256x256 32 × FVec F S256x256 .f32
  | 0 => a
  | n + 1 => turn lane s (turnBy k n) (turns lane s k a n)

set_option maxRecDepth 65536 in
set_option maxHeartbeats 4000000 in
/-- A trip of the printed loop is its 64 steps. -/
theorem trip_eq (i : grid0.Coords) (arg1 : Memref sig .tc .smem S10 .f32) (harg1 : arg1.IsWhole)
    (arg2 : Memref sig .tc .smem S1 .f32) (harg2 : arg2.IsWhole) (arg3 : Memref sig .tc .vmem S256x256 .f32) (harg3 : arg3.IsWhole)
    (arg4 : Memref sig .tc .vmem S256x256 .f32) (harg4 : arg4.IsWhole) (arg5 : Memref sig .tc .vmem S256x256 .f32) (harg5 : arg5.IsWhole)
    (arg6 : Memref sig .tc .vmem S256x256 .i32) (harg6 : arg6.IsWhole) (arg7 : Memref sig .tc .vmem S256x256 .i32) (harg7 : arg7.IsWhole)
    (v87 : IVec S256x256 32) (v91 : FVec F S256x256 .f32) (k : Fin k0_t1_loop.trips)
    (a : IVec S256x256 32 × FVec F S256x256 .f32) :
    Gen.k0_t1_body i arg1 harg1 arg2 harg2 arg3 harg3 arg4 harg4 arg5 harg5 arg6 harg6 arg7 harg7 v87 v91 k a
      = pure (turns v87 v91 (Scf.iv 0#32 1#32 k) a 64) := by
  rfl

/-- The count and the sum after `n` trips. -/
def trips (lane : IVec S256x256 32) (s : FVec F S256x256 .f32) : ℕ → IVec S256x256 32 × FVec F S256x256 .f32
  | 0 => (k0_pay195, k0_pay196)
  | n + 1 => turns lane s (Scf.iv 0#32 1#32 n) (trips lane s n) 64

/-- The lane numbers. -/
abbrev lanes : IVec S256x256 32 := iota .tc S256x256 32 [1] iota_S256x256_d1_w32

/-- Word `j` of the weights. -/
abbrev wAt (w : Vec F S10 .f32) (j : Fin 10) : Elt F .f32 := w (ix1 j)

/-- The scores of a block, from the two blocks of columns, the ten weights and the bias. -/
def scoresRaw (t c : Vec F S256x256 .f32) (w0 w1 w2 w3 w4 w5 w6 w7 w8 w9 b : Elt F .f32) : FVec F S256x256 .f32 :=
  k0_pay194 (k0_pay183 t) (k0_pay184 c) (k0_pay185 t) (k0_pay186 t) (k0_pay187 c) (k0_pay188 t) (k0_pay189 t c w0) (k0_pay190 t w1)
    (k0_pay191 t c w2) (k0_pay192 t) w3 w4 w5 w6 w7 w8 w9 b

/-- The scores of a block: from the weights, the bias and the two blocks of columns. -/
def scoresOf (w : Vec F S10 .f32) (b : Vec F S1 .f32) (t c : Vec F S256x256 .f32) : FVec F S256x256 .f32 :=
  scoresRaw t c (wAt w 0) (wAt w 1) (wAt w 2) (wAt w 3) (wAt w 4) (wAt w 5) (wAt w 6) (wAt w 7) (wAt w 8) (wAt w 9) (b (ix1 0))

/-- A scalar load of a row of words reads the word at its offset. -/
theorem word {n : ℕ} (v : View sig .tc .smem ⟨1, ![n]⟩ .f32) (f : v.ty.Contents (Elt F)) (j : Fin n) (o : Fin 1 → ℕ)
    (inb : ∀ a, o a + S1.size a ≤ (⟨1, ![n]⟩ : Shape).size a) (x : (Rect.unit (s := ⟨1, ![n]⟩) o S1.size inb).shape.Idx) (ho : o 0 = j.val) :
    v.readAt (Elt F) (Rect.unit (s := ⟨1, ![n]⟩) o S1.size inb).toLoadRect f x = v.read (Elt F) f (ix1 j) := by
  refine congrArg (v.read (Elt F) f) (funext fun a => Fin.ext ?_)
  match a with
  | ⟨0, _⟩ =>
    show o 0 + 1 * (x 0).val = j.val
    have : (x 0).val < 1 := (x 0).isLt
    omega

/-- The three blocks stored. -/
def lpOf (s : FVec F S256x256 .f32) : FVec F S256x256 .f32 := k0_pay203 k0_pay193 s (trips lanes s 4).2
def rkOf (s : FVec F S256x256 .f32) : IVec S256x256 32 := (trips lanes s 4).1
def avOf (s : FVec F S256x256 .f32) : IVec S256x256 32 := k0_pay204 lanes k0_pay193 s

section Loop
variable (c : Dev nD) (i : grid0.Coords) (arg1 : Memref sig .tc .smem S10 .f32) (harg1 : arg1.IsWhole)
    (arg2 : Memref sig .tc .smem S1 .f32) (harg2 : arg2.IsWhole) (arg3 : Memref sig .tc .vmem S256x256 .f32) (harg3 : arg3.IsWhole)
    (arg4 : Memref sig .tc .vmem S256x256 .f32) (harg4 : arg4.IsWhole) (arg5 : Memref sig .tc .vmem S256x256 .f32) (harg5 : arg5.IsWhole)
    (arg6 : Memref sig .tc .vmem S256x256 .i32) (harg6 : arg6.IsWhole) (arg7 : Memref sig .tc .vmem S256x256 .i32) (harg7 : arg7.IsWhole)

set_option warn.classDefReducibility false in
/-- The loop's invariant: the carried pair is what the trips so far make it. -/
@[sl_loop] def loopInv (v87 : IVec S256x256 32) (v91 : FVec F S256x256 .f32) (E : Set ℕ) :
    LoopInvTy_k0_t1 (F := F) Unit ℕ (UR sig nD τ) ℕ 𝒱₀ c none E i arg1 harg1 arg2 harg2 arg3 harg3 arg4 harg4 arg5 harg5 arg6 harg6 arg7 harg7 v87 v91
      (k0_pay195, k0_pay196) where
  inv k acc := iprop(⌜acc = trips v87 v91 k⌝)
  step k acc := by
    rw [trip_eq]
    iintro %h
    subst h
    sl_step
    ipureintro
    rfl

theorem body_wp (x1 : Vec F S10 .f32) (x2 : Vec F S1 .f32) (x3 x4 : Vec F S256x256 .f32) (E : Set ℕ) (Q : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ y, owns (c : Thread nD τ) arg5 fullShare y) ∗ (∃ y, owns (c : Thread nD τ) arg6 fullShare y) ∗ (∃ y, owns (c : Thread nD τ) arg7 fullShare y)
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (lpOf (scoresOf x1 x2 x3 x4)) ∗ owns (c : Thread nD τ) arg6 fullShare (rkOf (scoresOf x1 x2 x3 x4))
            ∗ owns (c : Thread nD τ) arg7 fullShare (avOf (scoresOf x1 x2 x3 x4))) -∗ Q ⟨⟩))
      ⊢ wp frame (wpE (defs₀ (F := F)) 𝒱₀ (c : Thread nD τ) none) E
          (cc0__decode_kernel i arg1 harg1 arg2 harg2 arg3 harg3 arg4 harg4 arg5 harg5 arg6 harg6 arg7 harg7) Q := by
  unfold owns
  iintro ⟨⟨%f1, %h1, H1⟩, ⟨%f2, %h2, H2⟩, ⟨%f3, %h3, H3⟩, ⟨%f4, %h4, H4⟩, ⟨%y5, %f5, -, H5⟩, ⟨%y6, %f6, -, H6⟩, ⟨%y7, %f7, -, H7⟩, Hk⟩
  sl_exec!
  sl_step
  iapply Hk
  isplitl [H1]; · iexists f1; isplitr; · ipureintro; exact h1
                  iexact H1
  isplitl [H2]; · iexists f2; isplitr; · ipureintro; exact h2
                  iexact H2
  isplitl [H3]; · iexists f3; isplitr; · ipureintro; exact h3
                  iexact H3
  isplitl [H4]; · iexists f4; isplitr; · ipureintro; exact h4
                  iexact H4
  have hs : body_wp.sl.v91 c arg1 arg2 arg3 arg4 f1 f2 f3 f4 = scoresOf x1 x2 x3 x4 := by
    subst h1 h2 h3 h4
    refine (show _ = scoresRaw (arg3.view.readAt (Elt F) (Rect.unit (s := S256x256) ![0, 0] S256x256.size inb_S256x256_S256x256_0_0).toLoadRect f3)
      (arg4.view.readAt (Elt F) (Rect.unit (s := S256x256) ![0, 0] S256x256.size inb_S256x256_S256x256_0_0).toLoadRect f4)
      (arg1.view.readAt (Elt F) (Rect.unit (s := S10) ![0] S1.size inb_S10_S1_0).toLoadRect f1 (Shape.Idx.first (by show 0 < S1.numel; rw [numel1_S1]; exact Nat.one_pos)))
      (arg1.view.readAt (Elt F) (Rect.unit (s := S10) ![1] S1.size inb_S10_S1_1).toLoadRect f1 (Shape.Idx.first (by show 0 < S1.numel; rw [numel1_S1]; exact Nat.one_pos)))
      (arg1.view.readAt (Elt F) (Rect.unit (s := S10) ![2] S1.size inb_S10_S1_2).toLoadRect f1 (Shape.Idx.first (by show 0 < S1.numel; rw [numel1_S1]; exact Nat.one_pos)))
      (arg1.view.readAt (Elt F) (Rect.unit (s := S10) ![3] S1.size inb_S10_S1_3).toLoadRect f1 (Shape.Idx.first (by show 0 < S1.numel; rw [numel1_S1]; exact Nat.one_pos)))
      (arg1.view.readAt (Elt F) (Rect.unit (s := S10) ![4] S1.size inb_S10_S1_4).toLoadRect f1 (Shape.Idx.first (by show 0 < S1.numel; rw [numel1_S1]; exact Nat.one_pos)))
      (arg1.view.readAt (Elt F) (Rect.unit (s := S10) ![5] S1.size inb_S10_S1_5).toLoadRect f1 (Shape.Idx.first (by show 0 < S1.numel; rw [numel1_S1]; exact Nat.one_pos)))
      (arg1.view.readAt (Elt F) (Rect.unit (s := S10) ![6] S1.size inb_S10_S1_6).toLoadRect f1 (Shape.Idx.first (by show 0 < S1.numel; rw [numel1_S1]; exact Nat.one_pos)))
      (arg1.view.readAt (Elt F) (Rect.unit (s := S10) ![7] S1.size inb_S10_S1_7).toLoadRect f1 (Shape.Idx.first (by show 0 < S1.numel; rw [numel1_S1]; exact Nat.one_pos)))
      (arg1.view.readAt (Elt F) (Rect.unit (s := S10) ![8] S1.size inb_S10_S1_8).toLoadRect f1 (Shape.Idx.first (by show 0 < S1.numel; rw [numel1_S1]; exact Nat.one_pos)))
      (arg1.view.readAt (Elt F) (Rect.unit (s := S10) ![9] S1.size inb_S10_S1_9).toLoadRect f1 (Shape.Idx.first (by show 0 < S1.numel; rw [numel1_S1]; exact Nat.one_pos)))
      (arg2.view.readAt (Elt F) (Rect.unit (s := S1) ![0] S1.size inb_S1_S1_0).toLoadRect f2 (Shape.Idx.first (by show 0 < S1.numel; rw [numel1_S1]; exact Nat.one_pos))) from rfl).trans ?_
    rw [View.readAt_full, View.readAt_full, word arg1.view f1 0 ![0] _ _ rfl, word arg1.view f1 1 ![1] _ _ rfl, word arg1.view f1 2 ![2] _ _ rfl, word arg1.view f1 3 ![3] _ _ rfl, word arg1.view f1 4 ![4] _ _ rfl, word arg1.view f1 5 ![5] _ _ rfl, word arg1.view f1 6 ![6] _ _ rfl, word arg1.view f1 7 ![7] _ _ rfl, word arg1.view f1 8 ![8] _ _ rfl, word arg1.view f1 9 ![9] _ _ rfl, word arg2.view f2 0 ![0] _ _ rfl]
    rfl
  isplitl [H5]
  · iexists _; isplitr; swap; · iexact H5
    ipureintro
    unfold body_wp.sl.H5_1
    rw [View.read_writes_full, hs]
    rfl
  isplitl [H6]
  · iexists _; isplitr; swap; · iexact H6
    ipureintro
    unfold body_wp.sl.H6_1
    rw [View.read_writes_full, hs]
    rfl
  iexists _; isplitr; swap; · iexact H7
  ipureintro
  unfold body_wp.sl.H7_1
  rw [View.read_writes_full]
  refine (show body_wp.sl.r_11 c arg1 arg2 arg3 arg4 f1 f2 f3 f4 = avOf (body_wp.sl.v91 c arg1 arg2 arg3 arg4 f1 f2 f3 f4) from rfl).trans ?_
  rw [hs]

end Loop

/-! ### The pipeline -/

variable (m : (ℓ : Loc nD τ sig) → Buf (Elt F) ℓ) (ρ : Dev nD → PrngReg)

/-- The scores of a point's block. -/
abbrev scoresAt (c : Dev nD) (t : Fin cfg0.N) : FVec F S256x256 .f32 :=
  scoresOf (iblk m c 0 t) (iblk m c 1 t) (iblk m c 2 t) (iblk m c 3 t)

/-- The proof data: the arrays as launched; after the body the inputs' buffers as fetched, the results' at the body's three
    blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => lpOf (scoresAt m c t)
    | ⟨5, _⟩ => rkOf (scoresAt m c t)
    | ⟨6, _⟩ => avOf (scoresAt m c t)
  Φ _ := Pipeline.ΦA spec0 c
  q _ := fullShare
  owed _ := 0

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) : (dats m 0 c).before 1 t d = iblk m c 1 t :=
  before0_1_of m (dats m 0 c) rfl (fun _ => rfl) t d
theorem before_2 (c : Dev nD) (t : Fin cfg0.N) (d) : (dats m 0 c).before 2 t d = iblk m c 2 t :=
  before0_2_of m (dats m 0 c) rfl (fun _ => rfl) t d
theorem before_3 (c : Dev nD) (t : Fin cfg0.N) (d) : (dats m 0 c).before 3 t d = iblk m c 3 t :=
  before0_3_of m (dats m 0 c) rfl (fun _ => rfl) t d

/-- The pipeline's body obligation at every point. -/
theorem body_obligation (c : Dev nD) : BodyObligation (dats (F := F) m 0 c) (defs₀ (F := F)) 𝒱₀ () Set.univ := fun t => by
  rw [bigSep_W0, bigSep_W0]
  rw [show (dats m 0 c).Φ t.succ = (dats m 0 c).Φ t.castSucc from rfl,
    show (dats m 0 c).owesAt () t.succ = (dats m 0 c).owesAt () t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  rw [before_0, before_1, before_2, before_3]
  iapply (body_wp (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6))
    (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

set_option backward.isDefEq.respectTransparency.types false in
/-- The call runs to its end from any arguments, its arrays at the pipeline's contents and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The run, with the arguments unchanged. -/
theorem frame_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) fun _ _ => rfl) (run_main (F := F) m ρ)

end Cert.Proof.DecodeIdeal

end
-- ==== Proof.Scatter.lean ====
/-
  THE SCATTER, as mathematics: what a chunk of sixteen scattered stores leaves in a 32-row buffer, and what all the
  chunks of all the rows leave. `rk` gives each lane of a row its rank; in one row the ranks are distinct and below 256
  (`Perm`), so no two stores of a row meet, and a row's stores fill the row.
-/
module

public import proofs.«01_k».proof.Proof.Gen.KernelIdeal.Skeleton
public import Idealize.ShloMosaic.Lib.Pointwise.Index
public import Idealize.ShloMosaic.Lib.Pipeline.Value

@[expose] public section

noncomputable section

namespace Cert.Proof.Scatter

open Idealize.ShloMosaic
open Cert.KernelIdeal Cert.KernelIdeal.Gen

variable {α : Type}

/-- Each row's ranks are below 256 and distinct. -/
def Perm {n : ℕ} (rk : (⟨2, ![n, 256]⟩ : Shape).Idx → BitVec 32) : Prop :=
  ∀ r : Fin n, (∀ i : Fin 256, (rk (ix2 r i)).toNat < 256) ∧ ∀ i i' : Fin 256, rk (ix2 r i) = rk (ix2 r i') → i = i'

/-- `f` holds, at each lane's rank, that lane's value of `x`. -/
def Placed {n : ℕ} (x : (⟨2, ![n, 256]⟩ : Shape).Idx → α) (rk : (⟨2, ![n, 256]⟩ : Shape).Idx → BitVec 32)
    (f : (⟨2, ![n, 256]⟩ : Shape).Idx → α) : Prop :=
  ∀ (r : Fin n) (i : Fin 256) (h : (rk (ix2 r i)).toNat < 256), f (ix2 r ⟨(rk (ix2 r i)).toNat, h⟩) = x (ix2 r i)

/-- In a row of distinct ranks each of the 256 positions is some lane's rank. -/
theorem Perm.hit {n : ℕ} {rk : (⟨2, ![n, 256]⟩ : Shape).Idx → BitVec 32} (hp : Perm rk) (r : Fin n) (p : Fin 256) :
    ∃ i : Fin 256, (rk (ix2 r i)).toNat = p.val := by
  have hinj : Function.Injective (fun i : Fin 256 => (⟨(rk (ix2 r i)).toNat, (hp r).1 i⟩ : Fin 256)) := by
    intro i i' h
    exact (hp r).2 i i' (BitVec.eq_of_toNat_eq (Fin.mk.inj h))
  obtain ⟨i, hi⟩ := (Finite.injective_iff_surjective.mp hinj) p
  exact ⟨i, congrArg Fin.val hi⟩

open Classical in
/-- The values moved to their ranks. -/
def place {n : ℕ} (x : (⟨2, ![n, 256]⟩ : Shape).Idx → α) (rk : (⟨2, ![n, 256]⟩ : Shape).Idx → BitVec 32) :
    (⟨2, ![n, 256]⟩ : Shape).Idx → α :=
  fun j => if h : ∃ i : Fin 256, (rk (ix2 (j 0) i)).toNat = (j 1).val then x (ix2 (j 0) h.choose) else x j

theorem place_placed {n : ℕ} (x : (⟨2, ![n, 256]⟩ : Shape).Idx → α) {rk : (⟨2, ![n, 256]⟩ : Shape).Idx → BitVec 32} (hp : Perm rk) :
    Placed x rk (place x rk) := by
  intro r i h
  have hex : ∃ i' : Fin 256, (rk (ix2 r i')).toNat = (rk (ix2 r i)).toNat := ⟨i, rfl⟩
  have e : place x rk (ix2 r ⟨(rk (ix2 r i)).toNat, h⟩) = x (ix2 r hex.choose) := by
    unfold place
    exact dif_pos (c := ∃ i' : Fin 256, (rk (ix2 r i')).toNat = (rk (ix2 r i)).toNat) hex
  rw [e, (hp r).2 _ _ (BitVec.eq_of_toNat_eq hex.choose_spec)]

/-- Two buffers that hold each lane's value at its rank are equal. -/
theorem Placed.ext {n n' : ℕ} {x : (⟨2, ![n, 256]⟩ : Shape).Idx → α} {rk : (⟨2, ![n, 256]⟩ : Shape).Idx → BitVec 32}
    {f g : (⟨2, ![n, 256]⟩ : Shape).Idx → α} (hp : Perm rk) (hf : Placed x rk f) (hg : Placed x rk g) : f = g := by
  have key : ∀ (r : Fin n) (p : Fin 256), f (ix2 r p) = g (ix2 r p) := by
    intro r p
    obtain ⟨i, hi⟩ := hp.hit r p
    obtain rfl : p = ⟨(rk (ix2 r i)).toNat, (hp r).1 i⟩ := Fin.ext hi.symm
    exact (hf r i _).trans (hg r i _).symm
  funext j
  exact (congrArg f (eq_ix2 j)).trans ((key (j 0) (j 1)).trans (congrArg g (eq_ix2 j)).symm)

/-! ## One chunk -/

/-- One lane's store. -/
def put1 {s : Shape} (ix : Fin 16 → s.Idx) (v : Fin 16 → α) (g : s.Idx → α) (k : Fin 16) : s.Idx → α :=
  fun j => if (∀ a, (j a).val = (ix k a).val) then v k else g j

theorem foldl_put1_miss {s : Shape} (ix : Fin 16 → s.Idx) (v : Fin 16 → α) (p : s.Idx) :
    ∀ (L : List (Fin 16)) (g : s.Idx → α), (∀ k ∈ L, ix k ≠ p) → L.foldl (put1 ix v) g p = g p
  | [], _, _ => rfl
  | k :: L, g, h => by
    rw [List.foldl_cons, foldl_put1_miss ix v p L _ fun k' hk' => h k' (List.mem_cons_of_mem _ hk')]
    have hk := h k List.mem_cons_self
    exact if_neg fun e => hk (funext fun a => Fin.ext (e a).symm)

theorem foldl_put1_hit {s : Shape} (ix : Fin 16 → s.Idx) (v : Fin 16 → α) (hinj : Function.Injective ix) (k0 : Fin 16) :
    ∀ (L : List (Fin 16)) (g : s.Idx → α), L.Nodup → k0 ∈ L → L.foldl (put1 ix v) g (ix k0) = v k0
  | [], _, _, h => absurd h List.not_mem_nil
  | k :: L, g, hn, h => by
    rw [List.foldl_cons]
    rcases List.mem_cons.mp h with rfl | h'
    · rw [foldl_put1_miss ix v _ L _ fun k' hk' e => (List.nodup_cons.mp hn).1 (by rw [← hinj e]; exact hk')]
      exact if_pos fun _ => rfl
    · exact foldl_put1_hit ix v hinj k0 L _ (List.nodup_cons.mp hn).2 h'

/-- The scattered store of sixteen lanes, every lane's bit set and nothing added, is the lanes' stores in turn. -/
theorem storeIdx_eq_foldl {F : FTy → Type} [FloatOps F] {s : Shape} {e : EltTy} (f : Vec F s e) (idxs : Fin s.rank → IVec S16 32) (v : Vec F S16 e)
    (h : ∀ a x, (idxs a x).toNat < s.size a) :
    storeIdx f idxs v (fun _ => 1#1) false h
      = (List.finRange 16).foldl (put1 (fun k => idxAt idxs h (Shape.ofLane (d := ![16]) k)) (fun k => v (Shape.ofLane (d := ![16]) k))) f := by
  unfold storeIdx
  show List.foldl _ f (List.finRange 16) = _
  congr 1
  funext g k j
  simp [put1]

/-- What the first `c` chunks of row `t` and all chunks of the rows before leave in place. -/
def Upto (x : S32x256.Idx → α) (rk : S32x256.Idx → BitVec 32) (t c : ℕ) (f : S32x256.Idx → α) : Prop :=
  ∀ (r : Fin 32) (i : Fin 256) (h : (rk (ix2 r i)).toNat < 256), (r.val < t ∨ (r.val = t ∧ i.val < 16 * c)) →
    f (ix2 r ⟨(rk (ix2 r i)).toNat, h⟩) = x (ix2 r i)

theorem Upto.zero (x : S32x256.Idx → α) (rk : S32x256.Idx → BitVec 32) (f : S32x256.Idx → α) : Upto x rk 0 0 f :=
  fun r i _ hh => by omega

theorem Upto.row {x : S32x256.Idx → α} {rk : S32x256.Idx → BitVec 32} {t : ℕ} {f : S32x256.Idx → α} (h : Upto x rk t 16 f) :
    Upto x rk (t + 1) 0 f :=
  fun r i hr hh => h r i hr (by have := i.isLt; omega)

theorem Upto.placed {x : S32x256.Idx → α} {rk : S32x256.Idx → BitVec 32} {f : S32x256.Idx → α} (h : Upto x rk 32 0 f) : Placed x rk f :=
  fun r i hr => h r i hr (.inl r.isLt)

/-- One more chunk of row `t`: sixteen stores at the ranks of lanes `16 c` to `16 c + 15`. -/
theorem Upto.chunk {x : S32x256.Idx → α} {rk : S32x256.Idx → BitVec 32} (hp : Perm rk) {t : Fin 32} {c : Fin 16} {f : S32x256.Idx → α}
    (h : Upto x rk t.val c.val f) (ix : Fin 16 → S32x256.Idx) (v : Fin 16 → α)
    (hix : ∀ k : Fin 16, ix k = ix2 t ⟨(rk (ix2 t ⟨16 * c.val + k.val, by omega⟩)).toNat, (hp t).1 _⟩)
    (hv : ∀ k : Fin 16, v k = x (ix2 t ⟨16 * c.val + k.val, by omega⟩)) :
    Upto x rk t.val (c.val + 1) ((List.finRange 16).foldl (put1 ix v) f) := by
  intro r i hr hh
  have hinj : Function.Injective ix := by
    intro k k' e
    rw [hix, hix, ix2_inj] at e
    have := (hp t).2 _ _ (BitVec.eq_of_toNat_eq (Fin.mk.inj e.2))
    have := congrArg Fin.val this
    exact Fin.ext (by simpa using this)
  by_cases hk : r.val = t.val ∧ 16 * c.val ≤ i.val
  · obtain ⟨hrt, hge⟩ := hk
    obtain rfl : r = t := Fin.ext hrt
    have hlt : i.val < 16 * (c.val + 1) := by omega
    have hi : i = ⟨16 * c.val + (i.val - 16 * c.val), by omega⟩ := Fin.ext (by simp only; omega)
    have e1 : ix ⟨i.val - 16 * c.val, by omega⟩ = ix2 r ⟨(rk (ix2 r i)).toNat, hr⟩ := by
      rw [hix, ix2_inj]; refine ⟨rfl, Fin.ext ?_⟩
      show (rk (ix2 r ⟨16 * c.val + (i.val - 16 * c.val), _⟩)).toNat = (rk (ix2 r i)).toNat
      rw [← hi]
    rw [← e1, foldl_put1_hit ix v hinj _ _ _ (List.nodup_finRange 16) (List.mem_finRange _), hv]
    show x (ix2 r ⟨16 * c.val + (i.val - 16 * c.val), _⟩) = x (ix2 r i)
    rw [← hi]
  · rw [foldl_put1_miss]
    · exact h r i hr (by omega)
    · intro k _ e
      rw [hix, ix2_inj] at e
      obtain ⟨e0, e1⟩ := e
      obtain rfl := e0
      have := congrArg Fin.val ((hp t).2 _ _ (BitVec.eq_of_toNat_eq (Fin.mk.inj e1)))
      simp only at this
      omega

/-- A load of sixteen lanes of one row, read as a vector of sixteen. -/
theorem shapeCast_row {β : Type} (w : S1x16.Idx → β) (h : S1x16.ShapeCasts S16) (k : Fin 16) :
    shapeCast S16 w h (Shape.ofLane (d := ![16]) k) = w (ix2 (0 : Fin 1) k) := by
  refine shapeCast_apply w h _ _ ?_
  rw [Shape.rowMajor_val_one, Shape.rowMajor_val_two]
  simp [Shape.ofLane]

end Cert.Proof.Scatter

end
-- ==== Proof.Setup.lean ====
/-
  THE PROGRAM AS THE LAUNCH THEOREM SEES IT: its table, its handshake facts, the resource algebra (the handshakes'
  rounds, the pipeline's rounds, the copies' counters), its buffers as locations, and what the SparseCore call's
  handshakes carry. The call takes the three arrays the TensorCore kernel left — the values `LP`, `RK`, `AV` — and hands
  back, beside them, `LP` and `AV` moved along each row to the ranks `RK`.
-/
module

public import proofs.«01_k».proof.Proof.Scatter
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Scatter

variable {F : FTy → Type}

/-! ## The program -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipeline's rounds. -/
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The buffers of the SparseCore call -/

/-- The log-probabilities, the ranks and the item numbers the TensorCore kernel leaves; the two results of the call. -/
abbrev lLoc (d : Dev nD) : Loc nD τ sig := (SparseCore.T d).loc main_v8_0
abbrev rLoc (d : Dev nD) : Loc nD τ sig := (SparseCore.T d).loc main_v8_1
abbrev aLoc (d : Dev nD) : Loc nD τ sig := (SparseCore.T d).loc main_v8_2
abbrev xLoc (d : Dev nD) : Loc nD τ sig := (SparseCore.T d).loc main_v9_0
abbrev yLoc (d : Dev nD) : Loc nD τ sig := (SparseCore.T d).loc main_v9_1

abbrev lV : Memref sig .scVector .hbm S1024x256 .f32 := Memref.whole main_v8_0_scv
abbrev rV : Memref sig .scVector .hbm S1024x256 .i32 := Memref.whole main_v8_1_scv
abbrev aV : Memref sig .scVector .hbm S1024x256 .i32 := Memref.whole main_v8_2_scv
abbrev xV : Memref sig .scVector .hbm S1024x256 .f32 := Memref.whole main_v9_0_scv
abbrev yV : Memref sig .scVector .hbm S1024x256 .i32 := Memref.whole main_v9_1_scv
/-- A task's scratches: its rows of the three arrays, and its rows of the two results. -/
abbrev sL : Memref sig .scVector .vmem S32x256 .f32 := Memref.whole cc1_scratch0
abbrev sR : Memref sig .scVector .vmem S32x256 .i32 := Memref.whole cc1_scratch1
abbrev sA : Memref sig .scVector .vmem S32x256 .i32 := Memref.whole cc1_scratch2
abbrev sX : Memref sig .scVector .vmem S32x256 .f32 := Memref.whole cc1_scratch3
abbrev sY : Memref sig .scVector .vmem S32x256 .i32 := Memref.whole cc1_scratch4

theorem bdiv : 32 ∣ S1024x256.size 0 := ⟨32, rfl⟩
/-- Block `w` of 32 rows. -/
abbrev blk (w : Fin 32) : Rect S1024x256 := Rect.part (s := S1024x256) (a₀ := 0) bdiv w
abbrev blkSet (w : Fin 32) : Finset S1024x256.Idx := (blk w).set

/-- The task on subcore `i` of SparseCore `c` works on block `2 i + c`. -/
def wid (c : Fin 2) (i : Fin 16) : Fin 32 := ⟨i.val * 2 + c.val, by omega⟩

/-! ## What the handshakes carry -/

variable (LP : (d : Dev nD) → Buf (Elt F) (lLoc d)) (RK : (d : Dev nD) → Buf (Elt F) (rLoc d)) (AV : (d : Dev nD) → Buf (Elt F) (aLoc d))
variable (X0 : (d : Dev nD) → Buf (Elt F) (xLoc d)) (Y0 : (d : Dev nD) → Buf (Elt F) (yLoc d))

/-- The two results: the log-probabilities and the item numbers at their ranks. -/
abbrev OX (d : Dev nD) : Buf (Elt F) (xLoc d) := place (n := 1024) (LP d) (RK d)
abbrev OY (d : Dev nD) : Buf (Elt F) (yLoc d) := place (n := 1024) (AV d) (RK d)

/-- Block `w` of the five arrays. -/
abbrev Blk (d : Dev nD) (w : Fin 32) (fx : Buf (Elt F) (xLoc d)) (fy : Buf (Elt F) (yLoc d)) : sProp 𝕄 :=
  iprop((lLoc d ↦[blkSet w]{fullShare} LP d) ∗ (rLoc d ↦[blkSet w]{fullShare} RK d) ∗ (aLoc d ↦[blkSet w]{fullShare} AV d)
    ∗ (xLoc d ↦[blkSet w]{fullShare} fx) ∗ (yLoc d ↦[blkSet w]{fullShare} fy))

/-- A task's block before it, and after it. -/
abbrev goP (d : Dev nD) (c : Fin 2) (i : Fin 16) : sProp 𝕄 := Blk LP RK AV d (wid c i) (X0 d) (Y0 d)
abbrev tdP (d : Dev nD) (c : Fin 2) (i : Fin 16) : sProp 𝕄 := Blk LP RK AV d (wid c i) (OX LP RK d) (OY RK AV d)

/-- The call hands each SparseCore its sixteen blocks, each task its own, and takes them back with the results' rows
    at the placed values. -/
def P : (K (F := F)).Pay (nD := nD) (Val := Elt F) (Name := ℕ) (U := UU) where
  st := fun q d c => match q with | 0 => bigSep Finset.univ fun i : Fin ((K (F := F)).nSub 0) => goP LP RK AV X0 Y0 d (Fin.cast nCore_zero c) (Fin.cast nSub_zero i)
  dn := fun q d c => match q with | 0 => bigSep Finset.univ fun i : Fin ((K (F := F)).nSub 0) => tdP LP RK AV d (Fin.cast nCore_zero c) (Fin.cast nSub_zero i)
  go := fun q d c i => match q with | 0 => goP LP RK AV X0 Y0 d (Fin.cast nCore_zero c) (Fin.cast nSub_zero i)
  td := fun q d c i => match q with | 0 => tdP LP RK AV d (Fin.cast nCore_zero c) (Fin.cast nSub_zero i)
  x := fun _ _ => iprop(emp)

instance P_storable : (P (F := F) LP RK AV X0 Y0).IsStorable where
  st q d c := match q with
    | 0 => (inferInstance : BI.Storable (upEmb : UEmb _ 𝕄)
      (bigSep Finset.univ fun i : Fin ((K (F := F)).nSub 0) => goP LP RK AV X0 Y0 d (Fin.cast nCore_zero c) (Fin.cast nSub_zero i)))
  dn q d c := match q with
    | 0 => (inferInstance : BI.Storable (upEmb : UEmb _ 𝕄)
      (bigSep Finset.univ fun i : Fin ((K (F := F)).nSub 0) => tdP LP RK AV d (Fin.cast nCore_zero c) (Fin.cast nSub_zero i)))
  go q d c i := match q with
    | 0 => (inferInstance : BI.Storable (upEmb : UEmb _ 𝕄) (goP LP RK AV X0 Y0 d (Fin.cast nCore_zero c) (Fin.cast nSub_zero i)))
  td q d c i := match q with
    | 0 => (inferInstance : BI.Storable (upEmb : UEmb _ 𝕄) (tdP LP RK AV d (Fin.cast nCore_zero c) (Fin.cast nSub_zero i)))

/-- The call's payload is its tasks' payloads already: it splits and joins as it stands. -/
theorem vecSplit : (K (F := F)).VecSplit' (P LP RK AV X0 Y0) 0 := by
  intro d c
  show (bigSep Finset.univ fun i : Fin ((K (F := F)).nSub 0) => goP LP RK AV X0 Y0 d (Fin.cast nCore_zero c) (Fin.cast nSub_zero i))
    ⊢ |={Set.univ}=> iprop((bigSep Finset.univ fun i : Fin ((K (F := F)).nSub 0) => goP LP RK AV X0 Y0 d (Fin.cast nCore_zero c) (Fin.cast nSub_zero i))
      ∗ ((bigSep Finset.univ fun i : Fin ((K (F := F)).nSub 0) => tdP LP RK AV d (Fin.cast nCore_zero c) (Fin.cast nSub_zero i))
        -∗ (bigSep Finset.univ fun i : Fin ((K (F := F)).nSub 0) => tdP LP RK AV d (Fin.cast nCore_zero c) (Fin.cast nSub_zero i))))
  iintro H; imodintro
  isplitl [H]; · iexact H
  iintro H; iexact H

/-! ## Whole arrays are their blocks -/

/-- The pairs (SparseCore, subcore) are the 32 blocks. -/
def widEquiv : Fin 2 × Fin 16 ≃ Fin 32 where
  toFun p := wid p.1 p.2
  invFun w := (⟨w.val % 2, by omega⟩, ⟨w.val / 2, by omega⟩)
  left_inv p := by
    obtain ⟨c, i⟩ := p
    refine Prod.ext (Fin.ext ?_) (Fin.ext ?_) <;> simp only [wid] <;> omega
  right_inv w := by refine Fin.ext ?_; simp only [wid]; omega

theorem blk_disjoint : ∀ i ∈ (Finset.univ : Finset (Fin 32)), ∀ j ∈ (Finset.univ : Finset (Fin 32)), i ≠ j → Disjoint (blkSet i) (blkSet j) :=
  fun _ _ _ _ h => Rect.part_disjoint bdiv h
theorem blk_cover : (Finset.univ : Finset (Fin 32)).biUnion blkSet = Finset.univ := Rect.biUnion_part bdiv

theorem pts_blocks_l (d : Dev nD) (f : Buf (Elt F) (lLoc d)) :
    (lLoc d ↦{fullShare} f : sProp 𝕄) = bigSep Finset.univ fun w : Fin 32 => lLoc d ↦[blkSet w]{fullShare} f := by
  rw [← pointsTo_biUnion Finset.univ (ℓ := lLoc d) blkSet blk_disjoint, blk_cover]; try rfl
theorem pts_blocks_r (d : Dev nD) (f : Buf (Elt F) (rLoc d)) :
    (rLoc d ↦{fullShare} f : sProp 𝕄) = bigSep Finset.univ fun w : Fin 32 => rLoc d ↦[blkSet w]{fullShare} f := by
  rw [← pointsTo_biUnion Finset.univ (ℓ := rLoc d) blkSet blk_disjoint, blk_cover]; try rfl
theorem pts_blocks_a (d : Dev nD) (f : Buf (Elt F) (aLoc d)) :
    (aLoc d ↦{fullShare} f : sProp 𝕄) = bigSep Finset.univ fun w : Fin 32 => aLoc d ↦[blkSet w]{fullShare} f := by
  rw [← pointsTo_biUnion Finset.univ (ℓ := aLoc d) blkSet blk_disjoint, blk_cover]; try rfl
theorem pts_blocks_x (d : Dev nD) (f : Buf (Elt F) (xLoc d)) :
    (xLoc d ↦{fullShare} f : sProp 𝕄) = bigSep Finset.univ fun w : Fin 32 => xLoc d ↦[blkSet w]{fullShare} f := by
  rw [← pointsTo_biUnion Finset.univ (ℓ := xLoc d) blkSet blk_disjoint, blk_cover]; try rfl
theorem pts_blocks_y (d : Dev nD) (f : Buf (Elt F) (yLoc d)) :
    (yLoc d ↦{fullShare} f : sProp 𝕄) = bigSep Finset.univ fun w : Fin 32 => yLoc d ↦[blkSet w]{fullShare} f := by
  rw [← pointsTo_biUnion Finset.univ (ℓ := yLoc d) blkSet blk_disjoint, blk_cover]; try rfl

/-- The five arrays whole are their 32 blocks, two SparseCores' sixteen each. -/
theorem whole_eq (d : Dev nD) (fx : Buf (Elt F) (xLoc d)) (fy : Buf (Elt F) (yLoc d)) :
    (bigSep Finset.univ fun c : Fin ((K (F := F)).nCore 0) => bigSep Finset.univ fun i : Fin ((K (F := F)).nSub 0) =>
        Blk LP RK AV d (wid (Fin.cast nCore_zero c) (Fin.cast nSub_zero i)) fx fy)
      = iprop((lLoc d ↦{fullShare} LP d) ∗ (rLoc d ↦{fullShare} RK d) ∗ (aLoc d ↦{fullShare} AV d)
          ∗ (xLoc d ↦{fullShare} fx) ∗ (yLoc d ↦{fullShare} fy)) := by
  have e1 : (bigSep Finset.univ fun c : Fin 2 => bigSep Finset.univ fun i : Fin 16 => Blk LP RK AV d (wid c i) fx fy)
      = bigSep Finset.univ fun w : Fin 32 => Blk LP RK AV d w fx fy := by
    rw [bigSep_univ_equiv widEquiv (fun w : Fin 32 => Blk LP RK AV d w fx fy), bigSep_univ_prod]
    rfl
  refine Eq.trans (show _ = _ from rfl) (e1.trans ?_)
  rw [bigSep_sep', bigSep_sep', bigSep_sep', bigSep_sep', pts_blocks_l, pts_blocks_r, pts_blocks_a, pts_blocks_x, pts_blocks_y]

end Cert.Proof.KernelIdeal

end
-- ==== Proof.Trip.lean ====
/- One trip of the TensorCore kernel's counted loop, read as 64 equal steps: step `d` turns every row by `d` lanes,
   asks which turned lanes come before the lane under them, counts those that do and adds up the exponentials of
   the others. -/
module

public import proofs.«01_k».proof.Proof.Gen.KernelIdeal.Skeleton

@[expose] public section

noncomputable section

namespace Cert.Proof.KernelIdeal

open Idealize.ShloMosaic Idealize.ShloMosaic.TcCoe Idealize.SL Idealize.SL.Sem
open Cert.KernelIdeal Cert.KernelIdeal.Gen

variable {F : FTy → Type} [FloatOps F] [Named F]

/-- The rows of `s` turned by `d` lanes. -/
abbrev turned (s : FVec F S256x256 .f32) (d : BitVec 32) : FVec F S256x256 .f32 :=
  dynamicRotate 1 d none s rotates_S256x256_d1

/-- Where the turned lane comes before the lane under it. -/
abbrev beats (lane : IVec S256x256 32) (s : FVec F S256x256 .f32) (d : BitVec 32) : IVec S256x256 1 :=
  ori (cmpf .ogt (turned s d) s) (andi (cmpf .oeq (turned s d) s) (cmpi .sge lane (broadcast S256x256 d)))

/-- One step: the count and the sum, from those of the steps before. -/
def turn (lane : IVec S256x256 32) (s : FVec F S256x256 .f32) (d : BitVec 32)
    (a : IVec S256x256 32 × FVec F S256x256 .f32) : IVec S256x256 32 × FVec F S256x256 .f32 :=
  (addi a.1 (extui 32 (beats lane s d) natLt_1_32),
   addf a.2 (select (beats lane s d) (broadcast S256x256 (Scalar.ofBits .f32 0x00000000#32)) (exp (subf (turned s d) s))))

/-- By how many lanes step `u` of the trip whose counter is `k` turns. -/
abbrev turnBy (k : BitVec 32) (u : ℕ) : BitVec 32 := Scalar.addi (Scalar.muli k 64#32) (BitVec.ofNat 32 u)

/-- The first `n` steps of a trip. -/
def turns (lane : IVec S256x256 32) (s : FVec F S256x256 .f32) (k : BitVec 32)
    (a : IVec S256x256 32 × FVec F S256x256 .f32) : ℕ → IVec S256x256 32 × FVec F S256x256 .f32
  | 0 => a
  | n + 1 => turn lane s (turnBy k n) (turns lane s k a n)

set_option maxRecDepth 65536 in
set_option maxHeartbeats 4000000 in
/-- A trip of the printed loop is its 64 steps. -/
theorem trip_eq (i : grid0.Coords) (arg1 : Memref sig .tc .smem S10 .f32) (harg1 : arg1.IsWhole)
    (arg2 : Memref sig .tc .smem S1 .f32) (harg2 : arg2.IsWhole) (arg3 : Memref sig .tc .vmem S256x256 .f32) (harg3 : arg3.IsWhole)
    (arg4 : Memref sig .tc .vmem S256x256 .f32) (harg4 : arg4.IsWhole) (arg5 : Memref sig .tc .vmem S256x256 .f32) (harg5 : arg5.IsWhole)
    (arg6 : Memref sig .tc .vmem S256x256 .i32) (harg6 : arg6.IsWhole) (arg7 : Memref sig .tc .vmem S256x256 .i32) (harg7 : arg7.IsWhole)
    (v89 : IVec S256x256 32) (v91 : IVec S256x256 1) (v93 : FVec F S256x256 .f32) (k : Fin k0_t1_loop.trips)
    (a : IVec S256x256 32 × FVec F S256x256 .f32) :
    Gen.k0_t1_body i arg1 harg1 arg2 harg2 arg3 harg3 arg4 harg4 arg5 harg5 arg6 harg6 arg7 harg7 v89 v91 v93 k a
      = pure (turns v89 v93 (Scf.iv 0#32 1#32 k) a 64) := by
  rfl

end Cert.Proof.KernelIdeal

end
-- ==== Proof.Body.lean ====
/-
  THE TENSORCORE KERNEL'S BODY, run once over its seven staging buffers: the scores of its block from the two blocks of
  columns, the weights and the bias; the loop's count and sum; the three blocks it stores.
-/
module

public import proofs.«01_k».proof.Proof.Setup
public import proofs.«01_k».proof.Proof.Trip
public import proofs.«01_k».proof.Proof.Gen.KernelIdeal.Loops
public import proofs.«01_k».proof.Proof.Gen.KernelIdeal.Points
public import Idealize.ShloMosaic.Lib.VecWindow

@[expose] public section

noncomputable section

namespace Cert.Proof.KernelIdeal

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- The count and the sum after `n` trips. -/
def trips (lane : IVec S256x256 32) (s : FVec F S256x256 .f32) : ℕ → IVec S256x256 32 × FVec F S256x256 .f32
  | 0 => (k0_pay197, k0_pay198)
  | n + 1 => turns lane s (Scf.iv 0#32 1#32 n) (trips lane s n) 64

/-- The lane numbers. -/
abbrev lanes : IVec S256x256 32 := iota .tc S256x256 32 [1] iota_S256x256_d1_w32

/-- Word `j` of the weights. -/
abbrev wAt (w : Vec F S10 .f32) (j : Fin 10) : Elt F .f32 := w (ix1 j)

/-- The scores of a block, from the two blocks of columns, the ten weights and the bias. -/
def scoresRaw (t c : Vec F S256x256 .f32) (w0 w1 w2 w3 w4 w5 w6 w7 w8 w9 b : Elt F .f32) : FVec F S256x256 .f32 :=
  k0_pay196 (k0_pay185 t) (k0_pay186 c) (k0_pay187 t) (k0_pay188 t) (k0_pay189 c) (k0_pay190 t) (k0_pay191 t c w0) (k0_pay192 t w1)
    (k0_pay193 t c w2) (k0_pay194 t) w3 w4 w5 w6 w7 w8 w9 b

/-- The scores of a block: from the weights, the bias and the two blocks of columns. -/
def scoresOf (w : Vec F S10 .f32) (b : Vec F S1 .f32) (t c : Vec F S256x256 .f32) : FVec F S256x256 .f32 :=
  scoresRaw t c (wAt w 0) (wAt w 1) (wAt w 2) (wAt w 3) (wAt w 4) (wAt w 5) (wAt w 6) (wAt w 7) (wAt w 8) (wAt w 9) (b (ix1 0))

/-- A scalar load of a row of words reads the word at its offset. -/
theorem word {n : ℕ} (v : View sig .tc .smem ⟨1, ![n]⟩ .f32) (f : v.ty.Contents (Elt F)) (j : Fin n) (o : Fin 1 → ℕ)
    (inb : ∀ a, o a + S1.size a ≤ (⟨1, ![n]⟩ : Shape).size a) (x : (Rect.unit (s := ⟨1, ![n]⟩) o S1.size inb).shape.Idx) (ho : o 0 = j.val) :
    v.readAt (Elt F) (Rect.unit (s := ⟨1, ![n]⟩) o S1.size inb).toLoadRect f x = v.read (Elt F) f (ix1 j) := by
  refine congrArg (v.read (Elt F) f) (funext fun a => Fin.ext ?_)
  match a with
  | ⟨0, _⟩ =>
    show o 0 + 1 * (x 0).val = j.val
    have : (x 0).val < 1 := (x 0).isLt
    omega

/-- The three blocks stored. -/
def lpOf (s : FVec F S256x256 .f32) : FVec F S256x256 .f32 := k0_pay205 k0_pay195 s (trips lanes s 4).2
def rkOf (s : FVec F S256x256 .f32) : IVec S256x256 32 := (trips lanes s 4).1
def avOf (s : FVec F S256x256 .f32) : IVec S256x256 32 := k0_pay206 lanes k0_pay195 s

section Loop
variable (c : Dev nD) (i : grid0.Coords) (arg1 : Memref sig .tc .smem S10 .f32) (harg1 : arg1.IsWhole)
    (arg2 : Memref sig .tc .smem S1 .f32) (harg2 : arg2.IsWhole) (arg3 : Memref sig .tc .vmem S256x256 .f32) (harg3 : arg3.IsWhole)
    (arg4 : Memref sig .tc .vmem S256x256 .f32) (harg4 : arg4.IsWhole) (arg5 : Memref sig .tc .vmem S256x256 .f32) (harg5 : arg5.IsWhole)
    (arg6 : Memref sig .tc .vmem S256x256 .i32) (harg6 : arg6.IsWhole) (arg7 : Memref sig .tc .vmem S256x256 .i32) (harg7 : arg7.IsWhole)

set_option warn.classDefReducibility false in
/-- The loop's invariant: the carried pair is what the trips so far make it. -/
@[sl_loop] def loopInv (v89 : IVec S256x256 32) (v91 : IVec S256x256 1) (v93 : FVec F S256x256 .f32) (E : Set ℕ) :
    LoopInvTy_k0_t1 (F := F) (HIx 1) ℕ UU ℕ 𝒱₀ c none E i arg1 harg1 arg2 harg2 arg3 harg3 arg4 harg4 arg5 harg5 arg6 harg6 arg7 harg7 v89 v91 v93
      (k0_pay197, k0_pay198) where
  inv k acc := iprop(⌜acc = trips v89 v93 k⌝)
  step k acc := by
    rw [trip_eq]
    iintro %h
    subst h
    sl_step
    ipureintro
    rfl

theorem body_wp (x1 : Vec F S10 .f32) (x2 : Vec F S1 .f32) (x3 x4 : Vec F S256x256 .f32) (E : Set ℕ) (Q : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ y, owns (c : Thread nD τ) arg5 fullShare y) ∗ (∃ y, owns (c : Thread nD τ) arg6 fullShare y) ∗ (∃ y, owns (c : Thread nD τ) arg7 fullShare y)
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (lpOf (scoresOf x1 x2 x3 x4)) ∗ owns (c : Thread nD τ) arg6 fullShare (rkOf (scoresOf x1 x2 x3 x4))
            ∗ owns (c : Thread nD τ) arg7 fullShare (avOf (scoresOf x1 x2 x3 x4))) -∗ Q ⟨⟩))
      ⊢ wp frame (wpE (defs₀ (F := F)) 𝒱₀ (c : Thread nD τ) none) E
          (cc0__decode_kernel i arg1 harg1 arg2 harg2 arg3 harg3 arg4 harg4 arg5 harg5 arg6 harg6 arg7 harg7) Q := by
  unfold owns
  iintro ⟨⟨%f1, %h1, H1⟩, ⟨%f2, %h2, H2⟩, ⟨%f3, %h3, H3⟩, ⟨%f4, %h4, H4⟩, ⟨%y5, %f5, -, H5⟩, ⟨%y6, %f6, -, H6⟩, ⟨%y7, %f7, -, H7⟩, Hk⟩
  sl_exec!
  sl_step
  iapply Hk
  isplitl [H1]; · iexists f1; isplitr; · ipureintro; exact h1
                  iexact H1
  isplitl [H2]; · iexists f2; isplitr; · ipureintro; exact h2
                  iexact H2
  isplitl [H3]; · iexists f3; isplitr; · ipureintro; exact h3
                  iexact H3
  isplitl [H4]; · iexists f4; isplitr; · ipureintro; exact h4
                  iexact H4
  have hs : body_wp.sl.v93 c arg1 arg2 arg3 arg4 f1 f2 f3 f4 = scoresOf x1 x2 x3 x4 := by
    subst h1 h2 h3 h4
    refine (show _ = scoresRaw (arg3.view.readAt (Elt F) (Rect.unit (s := S256x256) ![0, 0] S256x256.size inb_S256x256_S256x256_0_0).toLoadRect f3)
      (arg4.view.readAt (Elt F) (Rect.unit (s := S256x256) ![0, 0] S256x256.size inb_S256x256_S256x256_0_0).toLoadRect f4)
      (arg1.view.readAt (Elt F) (Rect.unit (s := S10) ![0] S1.size inb_S10_S1_0).toLoadRect f1 (Shape.Idx.first (by show 0 < S1.numel; rw [numel1_S1]; exact Nat.one_pos)))
      (arg1.view.readAt (Elt F) (Rect.unit (s := S10) ![1] S1.size inb_S10_S1_1).toLoadRect f1 (Shape.Idx.first (by show 0 < S1.numel; rw [numel1_S1]; exact Nat.one_pos)))
      (arg1.view.readAt (Elt F) (Rect.unit (s := S10) ![2] S1.size inb_S10_S1_2).toLoadRect f1 (Shape.Idx.first (by show 0 < S1.numel; rw [numel1_S1]; exact Nat.one_pos)))
      (arg1.view.readAt (Elt F) (Rect.unit (s := S10) ![3] S1.size inb_S10_S1_3).toLoadRect f1 (Shape.Idx.first (by show 0 < S1.numel; rw [numel1_S1]; exact Nat.one_pos)))
      (arg1.view.readAt (Elt F) (Rect.unit (s := S10) ![4] S1.size inb_S10_S1_4).toLoadRect f1 (Shape.Idx.first (by show 0 < S1.numel; rw [numel1_S1]; exact Nat.one_pos)))
      (arg1.view.readAt (Elt F) (Rect.unit (s := S10) ![5] S1.size inb_S10_S1_5).toLoadRect f1 (Shape.Idx.first (by show 0 < S1.numel; rw [numel1_S1]; exact Nat.one_pos)))
      (arg1.view.readAt (Elt F) (Rect.unit (s := S10) ![6] S1.size inb_S10_S1_6).toLoadRect f1 (Shape.Idx.first (by show 0 < S1.numel; rw [numel1_S1]; exact Nat.one_pos)))
      (arg1.view.readAt (Elt F) (Rect.unit (s := S10) ![7] S1.size inb_S10_S1_7).toLoadRect f1 (Shape.Idx.first (by show 0 < S1.numel; rw [numel1_S1]; exact Nat.one_pos)))
      (arg1.view.readAt (Elt F) (Rect.unit (s := S10) ![8] S1.size inb_S10_S1_8).toLoadRect f1 (Shape.Idx.first (by show 0 < S1.numel; rw [numel1_S1]; exact Nat.one_pos)))
      (arg1.view.readAt (Elt F) (Rect.unit (s := S10) ![9] S1.size inb_S10_S1_9).toLoadRect f1 (Shape.Idx.first (by show 0 < S1.numel; rw [numel1_S1]; exact Nat.one_pos)))
      (arg2.view.readAt (Elt F) (Rect.unit (s := S1) ![0] S1.size inb_S1_S1_0).toLoadRect f2 (Shape.Idx.first (by show 0 < S1.numel; rw [numel1_S1]; exact Nat.one_pos))) from rfl).trans ?_
    rw [View.readAt_full, View.readAt_full, word arg1.view f1 0 ![0] _ _ rfl, word arg1.view f1 1 ![1] _ _ rfl, word arg1.view f1 2 ![2] _ _ rfl, word arg1.view f1 3 ![3] _ _ rfl, word arg1.view f1 4 ![4] _ _ rfl, word arg1.view f1 5 ![5] _ _ rfl, word arg1.view f1 6 ![6] _ _ rfl, word arg1.view f1 7 ![7] _ _ rfl, word arg1.view f1 8 ![8] _ _ rfl, word arg1.view f1 9 ![9] _ _ rfl, word arg2.view f2 0 ![0] _ _ rfl]
    rfl
  isplitl [H5]
  · iexists _; isplitr; swap; · iexact H5
    ipureintro
    unfold body_wp.sl.H5_1
    rw [View.read_writes_full, hs]
    rfl
  isplitl [H6]
  · iexists _; isplitr; swap; · iexact H6
    ipureintro
    unfold body_wp.sl.H6_1
    rw [View.read_writes_full, hs]
    rfl
  iexists _; isplitr; swap; · iexact H7
  ipureintro
  unfold body_wp.sl.H7_1
  rw [View.read_writes_full]
  refine (show body_wp.sl.r_11 c arg1 arg2 arg3 arg4 f1 f2 f3 f4 = avOf (body_wp.sl.v93 c arg1 arg2 arg3 arg4 f1 f2 f3 f4) from rfl).trans ?_
  rw [hs]

end Loop

end Cert.Proof.KernelIdeal

end
-- ==== Proof.Order.lean ====
/-
  THE ORDER in which a greedy pass takes the items of a row: higher scores first, ties by index. `rank v i` is how many
  items are taken before item `i`; the ranks number the items. Lanes that hold `⊥` after the row's items change neither.
-/
module

public import Idealize.ShloMosaic.PureOps.Ideal
public import Idealize.ShloMosaic.PureOps.Ideal.Laws

@[expose] public section

noncomputable section

namespace Cert.Proof.Order

open Idealize.ShloMosaic

variable {n : ℕ} (v : Fin n → EReal)

/-- Item `j` is taken before item `i`. -/
def Before (j i : Fin n) : Prop := v i < v j ∨ (v j = v i ∧ j < i)

/-- Item `j` is taken before item `i`, or is item `i`. -/
def Upto (j i : Fin n) : Prop := v i < v j ∨ (v j = v i ∧ j ≤ i)

instance (j i : Fin n) : Decidable (Before v j i) := by unfold Before; infer_instance
instance (j i : Fin n) : Decidable (Upto v j i) := by unfold Upto; infer_instance

/-- How many items are taken before item `i`. -/
def rank (i : Fin n) : ℕ := (Finset.univ.filter fun j => Before v j i).card

/-- The exponentials of the items taken after item `i`, relative to it. -/
def tail (i : Fin n) : EReal := ∑ j, if Upto v j i then 0 else Ideal.exp (v j - v i)

variable {v}

theorem before_irrefl (i : Fin n) : ¬ Before v i i := by simp [Before]

theorem before_trans {a b c : Fin n} (h : Before v a b) (h' : Before v b c) : Before v a c := by
  rcases h with h | ⟨h, k⟩ <;> rcases h' with h' | ⟨h', k'⟩
  · exact .inl (h'.trans h)
  · exact .inl (h' ▸ h)
  · exact .inl (h ▸ h')
  · exact .inr ⟨h.trans h', k.trans k'⟩

theorem before_total (a b : Fin n) : Before v a b ∨ a = b ∨ Before v b a := by
  rcases lt_trichotomy (v a) (v b) with h | h | h
  · exact .inr (.inr (.inl h))
  · rcases lt_trichotomy a b with k | k | k
    · exact .inl (.inr ⟨h, k⟩)
    · exact .inr (.inl k)
    · exact .inr (.inr (.inr ⟨h.symm, k⟩))
  · exact .inl (.inl h)

theorem upto_iff (j i : Fin n) : Upto v j i ↔ Before v j i ∨ j = i := by
  constructor
  · rintro (h | ⟨h, k⟩)
    · exact .inl (.inl h)
    · rcases lt_or_eq_of_le k with k | k
      · exact .inl (.inr ⟨h, k⟩)
      · exact .inr k
  · rintro ((h | ⟨h, k⟩) | rfl)
    · exact .inl h
    · exact .inr ⟨h, k.le⟩
    · exact .inr ⟨rfl, le_rfl⟩

theorem rank_lt_rank {a b : Fin n} (h : Before v a b) : rank v a < rank v b := by
  refine Finset.card_lt_card ((Finset.ssubset_iff_of_subset ?_).2 ⟨a, ?_, ?_⟩)
  · exact fun c hc => by
      simp only [Finset.mem_filter, Finset.mem_univ, true_and] at hc ⊢
      exact before_trans hc h
  · simpa using h
  · simpa using before_irrefl a

theorem before_iff (a b : Fin n) : Before v a b ↔ rank v a < rank v b := by
  refine ⟨rank_lt_rank, fun h => ?_⟩
  rcases before_total (v := v) a b with k | rfl | k
  · exact k
  · exact absurd h (lt_irrefl _)
  · exact absurd h (rank_lt_rank k).asymm

theorem upto_iff_rank (a b : Fin n) : Upto v a b ↔ rank v a ≤ rank v b := by
  rw [upto_iff]
  rcases before_total (v := v) a b with k | rfl | k
  · exact ⟨fun _ => (rank_lt_rank k).le, fun _ => .inl k⟩
  · simp
  · refine ⟨fun h => ?_, fun h => absurd h (not_le.2 (rank_lt_rank k))⟩
    rcases h with h | rfl
    · exact (rank_lt_rank h).le
    · exact le_rfl

theorem rank_injective : Function.Injective (rank v) := fun a b h => by
  rcases before_total (v := v) a b with k | k | k
  · exact absurd h (rank_lt_rank k).ne
  · exact k
  · exact absurd h (rank_lt_rank k).ne'

theorem rank_lt (i : Fin n) : rank v i < n := by
  have h : (Finset.univ.filter fun j => Before v j i).card < (Finset.univ : Finset (Fin n)).card :=
    Finset.card_lt_card ((Finset.ssubset_iff_of_subset (Finset.filter_subset _ _)).2 ⟨i, Finset.mem_univ _, by simpa using before_irrefl i⟩)
  simpa [rank] using h

theorem exists_rank (t : Fin n) : ∃ i, rank v i = t.val := by
  have hi : Function.Injective (fun i : Fin n => (⟨rank v i, rank_lt i⟩ : Fin n)) := fun a b h => rank_injective (Fin.mk.inj_iff.1 h)
  obtain ⟨i, h⟩ := Finite.surjective_of_injective hi t
  exact ⟨i, congrArg Fin.val h⟩

theorem card_upto (i : Fin n) : (Finset.univ.filter fun j => Upto v j i).card = rank v i + 1 := by
  have h : (Finset.univ.filter fun j => Upto v j i) = insert i (Finset.univ.filter fun j => Before v j i) := by
    ext j; simp only [Finset.mem_filter, Finset.mem_univ, true_and, Finset.mem_insert, upto_iff]; tauto
  rw [h, Finset.card_insert_of_notMem (by simpa using before_irrefl i), rank]

/-! ### A row followed by lanes that hold `⊥` -/

section Padded
variable {m : ℕ} (hm : n ≤ m) (w : Fin m → EReal) (hw : ∀ i : Fin n, w (i.castLE hm) = v i) (hb : ∀ j : Fin m, n ≤ j.val → w j = ⊥)
  (hf : ∀ i, ⊥ < v i)
include hw hb hf

theorem before_castLE (j i : Fin n) : Before w (j.castLE hm) (i.castLE hm) ↔ Before v j i := by
  unfold Before; rw [hw, hw]; rfl

theorem upto_castLE (j i : Fin n) : Upto w (j.castLE hm) (i.castLE hm) ↔ Upto v j i := by
  unfold Upto; rw [hw, hw]; rfl

theorem rank_castLE (i : Fin n) : rank w (i.castLE hm) = rank v i := by
  unfold rank
  refine (Finset.card_bij (fun j _ => j.castLE hm) ?_ ?_ ?_).symm
  · intro j hj
    simp only [Finset.mem_filter, Finset.mem_univ, true_and] at hj ⊢
    exact (before_castLE hm w hw hb hf j i).2 hj
  · intro a _ b _ h; exact Fin.castLE_injective hm h
  · intro j hj
    simp only [Finset.mem_filter, Finset.mem_univ, true_and] at hj
    have hjn : j.val < n := by
      by_contra hc
      have hj' := hb j (not_lt.1 hc)
      rcases hj with h | ⟨h, k⟩
      · rw [hj', hw] at h; exact absurd h not_lt_bot
      · rw [hj', hw] at h; exact absurd (hf i) (h ▸ lt_irrefl _)
    refine ⟨⟨j.val, hjn⟩, ?_, rfl⟩
    simp only [Finset.mem_filter, Finset.mem_univ, true_and]
    exact (before_castLE hm w hw hb hf _ i).1 hj

theorem tail_castLE (i : Fin n) : tail w (i.castLE hm) = tail v i := by
  unfold tail
  symm
  refine Finset.sum_of_injOn (fun j => j.castLE hm) (fun a _ b _ h => Fin.castLE_injective hm h) (fun j _ => Finset.mem_univ _) ?_ ?_
  · intro j _ hj
    have hjn : n ≤ j.val := by
      by_contra hc
      exact hj ⟨⟨j.val, not_le.1 hc⟩, by simp, rfl⟩
    rw [hb j hjn, EReal.bot_sub]
    split_ifs <;> rfl
  · intro j _
    rw [hw, hw]
    exact if_congr (upto_castLE hm w hw hb hf j i).symm rfl rfl

end Padded

end Cert.Proof.Order

end
-- ==== Proof.KernelRow.lean ====
/-
  THE DECODE KERNEL'S LOOP over the extended reals: at each lane of a row, the count and the sum over the 256 turns are
  the lane's rank in its row and the exponentials of the lanes after it.
-/
module

public import proofs.«01_k».proof.Proof.Body
public import proofs.«01_k».proof.Proof.Order

@[expose] public section

noncomputable section

namespace Cert.Proof.KernelIdeal

open Idealize.ShloMosaic Idealize.ShloMosaic.TcCoe
open Cert.KernelIdeal Cert.KernelIdeal.Gen
open Cert.Proof.Order (Upto rank tail)

/-- A row of a block. -/
def blockRow (s : FVec Ideal S256x256 .f32) (r : Fin 256) : Fin 256 → EReal := fun i => s (ix2 r i)

/-- The lane that turning by `d` brings to lane `i`. -/
def src (i : Fin 256) (d : ℕ) : Fin 256 := ⟨(i.val + 256 - d % 256) % 256, Nat.mod_lt _ (by omega)⟩

theorem toNat_ofNat_lt (d : ℕ) (h : d < 256) : (BitVec.ofNat 32 d).toNat = d := by
  rw [BitVec.toNat_ofNat]; omega

theorem turned_apply (s : FVec Ideal S256x256 .f32) (d : ℕ) (hd : d < 256) (r i : Fin 256) :
    turned s (BitVec.ofNat 32 d) (ix2 r i) = blockRow s r (src i d) := by
  unfold turned dynamicRotate blockRow
  refine congrArg s (funext fun b => ?_)
  match b with
  | ⟨0, _⟩ => rfl
  | ⟨1, _⟩ =>
    refine Fin.ext ?_
    show (i.val + 256 - ((BitVec.ofNat 32 d).toNat + 0) % 256) % 256 = (i.val + 256 - d % 256) % 256
    rw [toNat_ofNat_lt d hd]
    rfl

theorem lanes_apply (r i : Fin 256) : lanes (ix2 r i) = BitVec.ofNat 32 i.val :=
  iota_single_apply .tc S256x256 32 1 _ (ix2 r i)

theorem sge_lane (i : Fin 256) (d : ℕ) (hd : d < 256) :
    IntOp.cmpi .sge (BitVec.ofNat 32 i.val) (BitVec.ofNat 32 d) = BitVec.ofBool (decide (d ≤ i.val)) := by
  have hi := i.isLt
  have e : ∀ k : ℕ, k < 256 → (BitVec.ofNat 32 k).toInt = (k : ℤ) := fun k hk => by
    rw [BitVec.toInt_eq_toNat_cond, toNat_ofNat_lt k hk, if_pos (by omega)]
  unfold IntOp.cmpi
  simp only [BitVec.sle, e _ hi, e _ hd, Nat.cast_le]

theorem beats_apply (s : FVec Ideal S256x256 .f32) (d : ℕ) (hd : d < 256) (r i : Fin 256) :
    beats lanes s (BitVec.ofNat 32 d) (ix2 r i) = BitVec.ofBool (decide (Upto (blockRow s r) (src i d) i)) := by
  have h1 : beats lanes s (BitVec.ofNat 32 d) (ix2 r i)
      = IntOp.ori (Ideal.cmp .ogt (turned s (BitVec.ofNat 32 d) (ix2 r i)) (blockRow s r i))
        (IntOp.andi (Ideal.cmp .oeq (turned s (BitVec.ofNat 32 d) (ix2 r i)) (blockRow s r i))
          (IntOp.cmpi .sge (lanes (ix2 r i)) (BitVec.ofNat 32 d))) := rfl
  rw [h1, turned_apply s d hd, lanes_apply, sge_lane i d hd]
  have h2 : (d ≤ i.val) ↔ src i d ≤ i := by
    have hi := i.isLt
    rw [Fin.le_def]
    show d ≤ i.val ↔ (i.val + 256 - d % 256) % 256 ≤ i.val
    omega
  unfold Ideal.cmp Upto IntOp.ori IntOp.andi
  by_cases a : blockRow s r i < blockRow s r (src i d) <;> by_cases b : blockRow s r (src i d) = blockRow s r i <;> by_cases c : d ≤ i.val <;>
    simp [a, b, c, ← h2]

/-- The first `N` turns. -/
def upTo (s : FVec Ideal S256x256 .f32) : ℕ → IVec S256x256 32 × FVec Ideal S256x256 .f32
  | 0 => (k0_pay197, k0_pay198)
  | d + 1 => turn lanes s (BitVec.ofNat 32 d) (upTo s d)

theorem turns_upTo (s : FVec Ideal S256x256 .f32) (n : ℕ) : ∀ u, turns lanes s (Scf.iv 0#32 1#32 n) (upTo s (64 * n)) u = upTo s (64 * n + u)
  | 0 => rfl
  | u + 1 => by
    show turn lanes s _ (turns lanes s _ _ u) = turn lanes s _ (upTo s (64 * n + u))
    rw [turns_upTo s n u]
    congr 1
    show (0#32 + BitVec.ofNat 32 n * 1#32) * 64#32 + BitVec.ofNat 32 u = BitVec.ofNat 32 (64 * n + u)
    rw [BitVec.ofNat_add, BitVec.ofNat_mul, BitVec.zero_add, BitVec.mul_one, BitVec.mul_comm]

theorem trips_upTo (s : FVec Ideal S256x256 .f32) : ∀ n, trips lanes s n = upTo s (64 * n)
  | 0 => rfl
  | n + 1 => by
    show turns lanes s _ (trips lanes s n) 64 = _
    rw [trips_upTo s n, turns_upTo s n 64]
    rfl

theorem upTo_apply (s : FVec Ideal S256x256 .f32) (r i : Fin 256) : ∀ N, N ≤ 256 →
    (upTo s N).1 (ix2 r i) = 4294967295#32 + BitVec.ofNat 32 (∑ d ∈ Finset.range N, if Upto (blockRow s r) (src i d) i then 1 else 0)
    ∧ (upTo s N).2 (ix2 r i) = ∑ d ∈ Finset.range N, if Upto (blockRow s r) (src i d) i then 0 else Ideal.exp (blockRow s r (src i d) - blockRow s r i)
  | 0, _ => by
    constructor
    · rfl
    · exact Ideal.ofBits_zero_f32
  | N + 1, h => by
    obtain ⟨i1, i2⟩ := upTo_apply s r i N (by omega)
    have hb := beats_apply s N (by omega) r i
    constructor
    · have h1 : (upTo s (N + 1)).1 (ix2 r i) = (upTo s N).1 (ix2 r i) + (beats lanes s (BitVec.ofNat 32 N) (ix2 r i)).setWidth 32 := rfl
      rw [h1, i1, hb, Finset.sum_range_succ, BitVec.ofNat_add, BitVec.add_assoc]
      congr 2
      by_cases a : Upto (blockRow s r) (src i N) i <;> simp [a]
    · have h1 : (upTo s (N + 1)).2 (ix2 r i) = (upTo s N).2 (ix2 r i)
          + Scalar.select (beats lanes s (BitVec.ofNat 32 N) (ix2 r i)) (Ideal.ofBits .f32 0x00000000#32)
            (Ideal.exp (turned s (BitVec.ofNat 32 N) (ix2 r i) - blockRow s r i)) := rfl
      rw [h1, i2, hb, Finset.sum_range_succ, turned_apply s N (by omega), Ideal.ofBits_zero_f32]
      congr 1
      by_cases a : Upto (blockRow s r) (src i N) i <;> simp [a, Scalar.select]

/-- Over the 256 turns every lane comes to lane `i` once. -/
theorem sum_src {β : Type} [AddCommMonoid β] (i : Fin 256) (f : Fin 256 → β) : ∑ d ∈ Finset.range 256, f (src i d) = ∑ j, f j := by
  have hi := i.isLt
  refine Finset.sum_bij (fun d _ => src i d) (fun _ _ => Finset.mem_univ _) ?_ ?_ (fun _ _ => rfl)
  · intro a ha b hb h
    have h' : (i.val + 256 - a % 256) % 256 = (i.val + 256 - b % 256) % 256 := congrArg Fin.val h
    simp only [Finset.mem_range] at ha hb
    omega
  · intro j _
    have hj := j.isLt
    refine ⟨(i.val + 256 - j.val) % 256, Finset.mem_range.2 (Nat.mod_lt _ (by omega)), Fin.ext ?_⟩
    show (i.val + 256 - (i.val + 256 - j.val) % 256 % 256) % 256 = j.val
    omega

/-- The count of a lane is its rank. -/
theorem rkOf_apply (s : FVec Ideal S256x256 .f32) (r i : Fin 256) : rkOf s (ix2 r i) = BitVec.ofNat 32 (rank (blockRow s r) i) := by
  unfold rkOf
  rw [trips_upTo, (upTo_apply s r i 256 le_rfl).1, sum_src i (fun j => if Upto (blockRow s r) j i then 1 else 0), ← Finset.card_filter, Order.card_upto]
  have h := Order.rank_lt (v := blockRow s r) i
  apply BitVec.eq_of_toNat_eq
  simp only [BitVec.toNat_add, BitVec.toNat_ofNat]
  omega

theorem sum_apply (s : FVec Ideal S256x256 .f32) (r i : Fin 256) : (trips lanes s 4).2 (ix2 r i) = tail (blockRow s r) i := by
  rw [trips_upTo, (upTo_apply s r i 256 le_rfl).2]
  exact sum_src i (fun j => if Upto (blockRow s r) j i then 0 else Ideal.exp (blockRow s r j - blockRow s r i))

/-- No score lies below the mask. -/
theorem below_mask (s : FVec Ideal S256x256 .f32) (x : S256x256.Idx) : k0_pay204 (F := Ideal) s x = 0#1 := by
  have h : k0_pay204 (F := Ideal) s x = Ideal.cmp .olt (s x) (Named.named κ "mask" 0xCCBEBC20#32 : Ideal .f32) := rfl
  have hm : (Named.named κ "mask" 0xCCBEBC20#32 : Ideal .f32) = (⊥ : EReal) := rfl
  rw [h, hm]
  unfold Ideal.cmp
  simp

/-- Where the bit is clear a selection is its second vector. -/
theorem select_clear {s : Shape} {α : Type} (c : IVec s 1) (a b : s.Idx → α) (x : s.Idx) (h : c x = 0#1) : select c a b x = b x := by
  show Scalar.select (c x) (a x) (b x) = b x
  rw [h]
  rfl

theorem lpOf_apply (s : FVec Ideal S256x256 .f32) (r i : Fin 256) :
    lpOf s (ix2 r i) = 0 - Ideal.log (1 + tail (blockRow s r) i) := by
  unfold lpOf k0_pay205
  refine (select_clear (k0_pay204 (F := Ideal) s) _ _ _ (below_mask s _)).trans ?_
  show Ideal.ofBits .f32 0x00000000#32 - Ideal.log (Ideal.ofBits .f32 0x3F800000#32 + (trips lanes s 4).2 (ix2 r i)) = _
  rw [sum_apply, Ideal.ofBits_zero_f32]
  have h1 : Ideal.ofBits .f32 0x3F800000#32 = 1 := by
    simp [Ideal.ofBits, Ideal.ieee]
    rw [← EReal.coe_mul]
    norm_num
  rw [h1]

theorem avOf_apply (s : FVec Ideal S256x256 .f32) (r i : Fin 256) : avOf (F := Ideal) s (ix2 r i) = BitVec.ofNat 32 i.val := by
  unfold avOf k0_pay206
  exact (select_clear (k0_pay204 (F := Ideal) s) _ _ _ (below_mask s _)).trans (lanes_apply r i)

end Cert.Proof.KernelIdeal

end
-- ==== Proof.Score.lean ====
/-
  WHAT BOTH PROGRAMS COMPUTE: an item's score from its two columns, the weights and the bias; and, of a row's scores, the
  greedy pass — at position `rank v i` the log-probability of item `i` among the items not yet taken, and `i` itself.
-/
module

public import proofs.«01_k».proof.Proof.Order
public import Idealize.ShloMosaic.Lib.Pointwise.Index

@[expose] public section

noncomputable section

namespace Cert.Proof.Score

open Idealize.ShloMosaic
open Cert.Proof.Order

/-- The two constants of the features, as extended reals. -/
def log2 : EReal := Ideal.ofBits .f32 0x3F317218#32
def thousand : EReal := Ideal.ofBits .f32 0x447A0000#32

/-- The ten features of an item from its two columns. -/
def feat (t c : EReal) : Fin 10 → EReal :=
  ![Ideal.div c t, Ideal.div t t, Ideal.div (t - c) thousand, Ideal.div (t - t) thousand, Ideal.div (Ideal.log t) log2,
    Ideal.log (Ideal.div c log2), Ideal.log (Ideal.div t log2), Ideal.div t thousand, Ideal.div c thousand, Ideal.div t thousand]

/-- The score of an item. -/
def score (t c : EReal) (w : Fin 10 → EReal) (b : EReal) : EReal := (∑ k, feat t c k * w k) + b

/-- The scores of the 1024 rows of 200 items, from the three arguments that bear on them. -/
def rowScores (x : (⟨3, ![1024, 200, 3]⟩ : Shape).Idx → EReal) (w : (⟨1, ![10]⟩ : Shape).Idx → EReal) (b : (⟨1, ![1]⟩ : Shape).Idx → EReal)
    (r : Fin 1024) (i : Fin 200) : EReal :=
  score (x (ix3 r i 0)) (x (ix3 r i 1)) (fun k => w (ix1 k)) (b (ix1 0))

/-- The log-probability of item `i` among the items not taken before it. -/
def logp {n : ℕ} (v : Fin n → EReal) (i : Fin n) : EReal := 0 - Ideal.log (1 + tail v i)

/-- The two results of the greedy pass over rows of scores. -/
def Decoded (v : Fin 1024 → Fin 200 → EReal) (lp : (⟨2, ![1024, 200]⟩ : Shape).Idx → EReal) (act : (⟨2, ![1024, 200]⟩ : Shape).Idx → BitVec 32) : Prop :=
  ∀ (r : Fin 1024) (i : Fin 200), lp (ix2 r ⟨rank (v r) i, rank_lt i⟩) = logp (v r) i ∧ act (ix2 r ⟨rank (v r) i, rank_lt i⟩) = BitVec.ofNat 32 i.val

/-- They are determined by the scores. -/
theorem Decoded.unique {v : Fin 1024 → Fin 200 → EReal} {lp lp' : (⟨2, ![1024, 200]⟩ : Shape).Idx → EReal}
    {act act' : (⟨2, ![1024, 200]⟩ : Shape).Idx → BitVec 32} (h : Decoded v lp act) (h' : Decoded v lp' act') : lp = lp' ∧ act = act' := by
  have key : ∀ (r : Fin 1024) (t : Fin 200), lp (ix2 r t) = lp' (ix2 r t) ∧ act (ix2 r t) = act' (ix2 r t) := by
    intro r t
    obtain ⟨i, hi⟩ := exists_rank (v := v r) t
    obtain rfl : t = ⟨rank (v r) i, rank_lt i⟩ := Fin.ext hi.symm
    exact ⟨(h r i).1.trans (h' r i).1.symm, (h r i).2.trans (h' r i).2.symm⟩
  constructor
  · funext j
    exact (congrArg lp (eq_ix2 j)).trans ((key (j 0) (j 1)).1.trans (congrArg lp' (eq_ix2 j)).symm)
  · funext j
    exact (congrArg act (eq_ix2 j)).trans ((key (j 0) (j 1)).2.trans (congrArg act' (eq_ix2 j)).symm)

end Cert.Proof.Score

end
-- ==== Proof.Region.lean ====
/-
  THE TENSORCORE KERNEL AS THE PROGRAM CALLS IT: its pipeline's proof data at the contents its arrays hold when it is
  entered, the body's obligation at each of the four points, and the region as a step of @main, entered while the core
  still owes the SparseCores their start signals.
-/
module

public import proofs.«01_k».proof.Proof.Body
public import proofs.«01_k».proof.Proof.Gen.KernelIdeal.Launch
public import Idealize.ShloMosaic.Lib.Pipeline.RegionsLoop
public import Idealize.ShloMosaic.Lib.Pipeline.FrameBody

@[expose] public section

noncomputable section

namespace Cert.Proof.KernelIdeal

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MT nD τ sig (HIx 1) (Elt F) ℕ UU ℕ

variable (W : (c : Dev nD) → (b : Ref sig .tc) → Buf (Elt F) ((c : Thread nD τ).loc b))

/-- The four input blocks at a point, read off their arrays. -/
abbrev in0 (c : Dev nD) (t : Fin cfg0.N) : Vec F S10 .f32 := ((cfg0.win 0).blk t).view.read (Elt F) (W c main_v5)
abbrev in1 (c : Dev nD) (t : Fin cfg0.N) : Vec F S1 .f32 := ((cfg0.win 1).blk t).view.read (Elt F) (W c main_arg4)
abbrev in2 (c : Dev nD) (t : Fin cfg0.N) : Vec F S256x256 .f32 := ((cfg0.win 2).blk t).view.read (Elt F) (W c main_v6)
abbrev in3 (c : Dev nD) (t : Fin cfg0.N) : Vec F S256x256 .f32 := ((cfg0.win 3).blk t).view.read (Elt F) (W c main_v7)
/-- The scores of a point's block. -/
abbrev scoresAt (c : Dev nD) (t : Fin cfg0.N) : FVec F S256x256 .f32 := scoresOf (in0 W c t) (in1 W c t) (in2 W c t) (in3 W c t)

/-- The (cell, index) pairs of level zero: all the core has waited on before the SparseCore call. -/
def low (c : Dev nD) : Set (SemLoc sig × HIx 1) := {p | (K (F := F)).lev ((SparseCore.T c : Thread nD τ), p.1) p.2 ≤ 0}

/-- The scoped buffers the pipeline does not stage (there are none). -/
abbrev Rest (c : Dev nD) : sProp 𝕄 := Pipeline.scopedRest (Ix := HIx 1) (Name := ℕ) (U := UU) (Lvl := ℕ) (Val := Elt F) spec0 c

/-- The proof data: the arrays at `W`; after the body the inputs' buffers as fetched, the results' at the body's three
    blocks; the start signals owed throughout. -/
def dat (c : Dev nD) : Dat τ (Elt F) (HIx 1) ℕ UU ℕ cfg0 c where
  A w := W c (Pipeline.arrRef spec0 w)
  after w t := match w with
    | ⟨0, _⟩ => in0 W c t
    | ⟨1, _⟩ => in1 W c t
    | ⟨2, _⟩ => in2 W c t
    | ⟨3, _⟩ => in3 W c t
    | ⟨4, _⟩ => lpOf (scoresAt W c t)
    | ⟨5, _⟩ => rkOf (scoresAt W c t)
    | ⟨6, _⟩ => avOf (scoresAt W c t)
  Φ _ := Rest (F := F) c
  q _ := fullShare
  owed _ := (K (F := F)).Otc c 0
  recorded _ := low (F := F) c

/-- What each input's buffer holds when the body runs: its block. -/
theorem before_0 (c : Dev nD) (t : Fin cfg0.N) (d) : (dat W c).before 0 t d = in0 W c t :=
  ((dat W c).before_in_eq_fetched 0 rfl (fun _ => rfl) (fun _ _ _ => rfl) (fun t => by rfl) t d).trans (by rfl)
theorem before_1 (c : Dev nD) (t : Fin cfg0.N) (d) : (dat W c).before 1 t d = in1 W c t :=
  ((dat W c).before_in_eq_fetched 1 rfl (fun _ => rfl) (fun _ _ _ => rfl) (fun t => by rfl) t d).trans (by rfl)
theorem before_2 (c : Dev nD) (t : Fin cfg0.N) (d) : (dat W c).before 2 t d = in2 W c t :=
  ((dat W c).before_in_eq_fetched 2 rfl (fun _ => rfl) (fun _ _ _ => rfl) (fun t => by rfl) t d).trans (by rfl)
theorem before_3 (c : Dev nD) (t : Fin cfg0.N) (d) : (dat W c).before 3 t d = in3 W c t :=
  ((dat W c).before_in_eq_fetched 3 rfl (fun _ => rfl) (fun _ _ _ => rfl) (fun t => by rfl) t d).trans (by rfl)

/-- The pipeline's body obligation at every point. -/
theorem body_obligation (c : Dev nD) : BodyObligation (dat W c) (defs₀ (F := F)) 𝒱₀ none Set.univ := fun t => by
  rw [bigSep_W0, bigSep_W0]
  rw [show (dat W c).Φ t.castSucc = Rest c from rfl, show (dat W c).Φ t.succ = Rest c from rfl,
    show (dat W c).owesAt none t.succ = (dat W c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  rw [before_0, before_1, before_2, before_3]
  iapply (body_wp (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6))
    (in0 W c t) (in1 W c t) (in2 W c t) (in3 W c t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat W c

theorem Otc_none (c : Dev nD) (g : GSem nD τ sig) : (K (F := F)).Otc (N := 1) c 0 g none = 0 := by
  unfold SparseCore.Cfg.Otc
  simp [Finset.sum_apply, tallyAt_apply]

/-- The three results' arrays after the region. -/
abbrev LPv (c : Dev nD) : Buf (Elt F) (lLoc c) := (dat W c).arrAt 4 cfg0.N
abbrev RKv (c : Dev nD) : Buf (Elt F) (rLoc c) := (dat W c).arrAt 5 cfg0.N
abbrev AVv (c : Dev nD) : Buf (Elt F) (aLoc c) := (dat W c).arrAt 6 cfg0.N

variable (Wp : (c : Dev nD) → (b : Ref sig .tc) → Buf (Elt F) ((c : Thread nD τ).loc b))

set_option maxHeartbeats 2000000 in
set_option backward.isDefEq.respectTransparency.types false in
/-- After the region: the arrays at their last contents and the other buffers are the unscoped buffers at `Wp`. -/
theorem join (h4 : ∀ c, Wp c main_v8_0 = LPv W c) (h5 : ∀ c, Wp c main_v8_1 = RKv W c) (h6 : ∀ c, Wp c main_v8_2 = AVv W c)
    (hne : ∀ c (b : Ref sig .tc), b ≠ main_v8_0 → b ≠ main_v8_1 → b ≠ main_v8_2 → Wp c b = W c b) (c : Dev nD) :
    iprop((pdats W adm 0 c).arrays ((pdats W adm 0 c).arrAt · cfg0.N) ∗ Pipeline.unscopedRest (Ix := HIx 1) (Name := ℕ) (U := UU) (Lvl := ℕ) spec0 c (W c))
      ⊢ (unscopedBufs c (Wp c) : sProp 𝕄) := by
  refine Pipeline.unscopedBufs_of_arrays (p := 0) (pcfgs (F := F)) adm (Ix := HIx 1) (Name := ℕ) (U := UU) (Lvl := ℕ) (launch0).win (launch0).arr_whole c
      (pdats W adm) ((pdats W adm 0 c).share_full fun _ => rfl) (W c) (Wp c) ((pdats W adm 0 c).arrAt · cfg0.N) ?_ ?_
  · intro w
    match w with
    | 0 => exact ((dat W c).arrAt_in 0 rfl _).trans (hne c main_v5 (by decide) (by decide) (by decide)).symm
    | 1 => exact ((dat W c).arrAt_in 1 rfl _).trans (hne c main_arg4 (by decide) (by decide) (by decide)).symm
    | 2 => exact ((dat W c).arrAt_in 2 rfl _).trans (hne c main_v6 (by decide) (by decide) (by decide)).symm
    | 3 => exact ((dat W c).arrAt_in 3 rfl _).trans (hne c main_v7 (by decide) (by decide) (by decide)).symm
    | 4 => exact (h4 c).symm
    | 5 => exact (h5 c).symm
    | 6 => exact (h6 c).symm
  · exact fun b hb => hne c b (fun h => hb (h ▸ Finset.mem_image.mpr ⟨4, Finset.mem_univ _, rfl⟩))
        (fun h => hb (h ▸ Finset.mem_image.mpr ⟨5, Finset.mem_univ _, rfl⟩)) (fun h => hb (h ▸ Finset.mem_image.mpr ⟨6, Finset.mem_univ _, rfl⟩))

/-- The core's debts and the bound on its waits before the SparseCore call. -/
abbrev owing (c : Dev nD) : sProp 𝕄 :=
  iprop(∃ w, ⌜(K (F := F)).WBelow (SparseCore.T c : Thread nD τ) w 0⌝ ∗ owes (SparseCore.T c : Thread nD τ) ((K (F := F)).Otc c 0) w)

set_option maxHeartbeats 2000000 in
set_option backward.isDefEq.respectTransparency.types false in
/-- The region: from the unscoped buffers at `W` to the unscoped buffers at `Wp`. -/
def reg (h4 : ∀ c, Wp c main_v8_0 = LPv W c) (h5 : ∀ c, Wp c main_v8_1 = RKv W c) (h6 : ∀ c, Wp c main_v8_2 = AVv W c)
    (hne : ∀ c (b : Ref sig .tc), b ≠ main_v8_0 → b ≠ main_v8_1 → b ≠ main_v8_2 → Wp c b = W c b) :
    Pipeline.RegionSeg (pcfgs (F := F)) adm (pdats W adm) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation W c).loose
  hwaits c := Pipeline.cellsWaits_intro _ _ _ 0 c fun w s t =>
    (K (F := F)).mayWait_none _ (Otc_none c)
  pre c := iprop(unscopedBufs c (W c) ∗ owing c)
  post c := iprop(unscopedBufs c (Wp c) ∗ owing c)
  X _ := BI.emp
  Y _ := BI.emp
  Z c := Pipeline.unscopedRest (Ix := HIx 1) (Name := ℕ) (U := UU) (Lvl := ℕ) spec0 c (W c)
  hentry c := by
    rw [Pipeline.ownSems0_none]
    have hsplit := Pipeline.arrays_of_unscopedBufs (p := 0) (pcfgs (F := F)) adm (pdats W adm) (launch0).win (launch0).arr_whole c
      ((pdats W adm 0 c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%w, %hw, HO⟩; iexists w; isplitr; · ipureintro; exact fun p hp => Or.inl (hw p hp)
      iexact HO
    isplitr; · iempintro
    iexact Hrest
  hin c := by
    rw [show (pdats W adm 0 c).Φ 0 = Rest c from rfl]
    iintro ⟨-, -, Hr⟩; iexact Hr
  hout c := by
    rw [Pipeline.ownSems0_none, show (pdats W adm 0 c).Φ (Fin.last _) = Rest c from rfl]
    iintro Hr
    isplitr; · iempintro
    isplitr; · iempintro
    iexact Hr
  hexit c := by
    have hjoin := join W adm Wp h4 h5 h6 hne c
    iintro ⟨Ha, HO, -, Hrest⟩
    imodintro
    isplitl [Ha Hrest]
    · iapply hjoin; isplitl [Ha] <;> iassumption
    unfold Pipeline.Dat.owesAt Pipeline.owesWithin
    icases HO with ⟨%w, %hw, HO⟩; iexists w; isplitr
    · ipureintro
      intro p hp
      rcases hw hp with h | ⟨v, s, h⟩
      · exact h
      · rw [h]; exact le_refl _
    iexact HO

end Cert.Proof.KernelIdeal

end
-- ==== Proof.KernelValue.lean ====
/-
  WHAT THE DECODE KERNEL LEAVES, over the extended reals: the score of an item from its two columns, the weights and the
  bias; at every lane of the three arrays the kernel fills, the item's log-probability, its rank in its row and its index.
-/
module

public import proofs.«01_k».proof.Proof.KernelRow
public import proofs.«01_k».proof.Proof.Score
public import proofs.«01_k».proof.Proof.Region
public import Idealize.ShloMosaic.Lib.Pipeline.ValueKit

@[expose] public section

noncomputable section

namespace Cert.Proof.KernelIdeal

open Idealize.ShloMosaic Idealize.ShloMosaic.TcCoe Idealize.ShloMosaic.Tactic
open Cert.KernelIdeal Cert.KernelIdeal.Gen
open Cert.Proof.Order (Upto rank tail)
open Cert.Proof.Score (log2 thousand feat score)

theorem valid_apply (r i : Fin 256) : k0_pay195 (ix2 r i) = BitVec.ofBool (decide (i.val < 200)) := by
  have h : k0_pay195 (ix2 r i) = IntOp.cmpi .slt (lanes (ix2 r i)) 200#32 := rfl
  have hi := i.isLt
  rw [h, lanes_apply]
  unfold IntOp.cmpi
  have e : (BitVec.ofNat 32 i.val).toInt = (i.val : ℤ) := by
    rw [BitVec.toInt_eq_toNat_cond, toNat_ofNat_lt _ hi, if_pos (by omega)]
  have e' : (200#32 : BitVec 32).toInt = 200 := by decide
  simp only [BitVec.slt, e, e']
  norm_cast

theorem scoresOf_apply (w : Vec Ideal S10 .f32) (b : Vec Ideal S1 .f32) (t c : Vec Ideal S256x256 .f32) (r i : Fin 256) :
    scoresOf w b t c (ix2 r i)
      = if i.val < 200 then score (t (ix2 r i)) (c (ix2 r i)) (fun k => w (ix1 k)) (b (ix1 0)) else ⊥ := by
  unfold scoresOf scoresRaw k0_pay196 k0_pay185 k0_pay186 k0_pay187 k0_pay188 k0_pay189 k0_pay190 k0_pay191 k0_pay192 k0_pay193 k0_pay194
    k0_pay183 k0_pay184
  simp only [shapeCast_self]
  have hs : ∀ (x y : FVec Ideal S256x256 .f32), select k0_pay195 x y (ix2 r i) = if i.val < 200 then x (ix2 r i) else y (ix2 r i) := by
    intro x y
    show Scalar.select (k0_pay195 (ix2 r i)) _ _ = _
    rw [valid_apply]
    by_cases h : i.val < 200 <;> simp [h, Scalar.select]
  rw [hs]
  refine if_congr Iff.rfl ?_ ?_
  · unfold score
    simp only [Fin.sum_univ_succ, Fin.sum_univ_zero, add_zero]
    show ((((Ideal.div (c (ix2 r i)) (t (ix2 r i)) * w (ix1 0) + Ideal.div (t (ix2 r i)) (t (ix2 r i)) * w (ix1 1))
        + (Ideal.div (t (ix2 r i) - c (ix2 r i)) thousand * w (ix1 2) + Ideal.div (t (ix2 r i) - t (ix2 r i)) thousand * w (ix1 3)))
        + ((Ideal.div (Ideal.log (t (ix2 r i))) log2 * w (ix1 4) + Ideal.log (Ideal.div (c (ix2 r i)) log2) * w (ix1 5))
        + (Ideal.log (Ideal.div (t (ix2 r i)) log2) * w (ix1 6) + Ideal.div (t (ix2 r i)) thousand * w (ix1 7))))
        + (Ideal.div (c (ix2 r i)) thousand * w (ix1 8) + Ideal.div (t (ix2 r i)) thousand * w (ix1 9))) + b (ix1 0) = _
    congr 1
    simp only [add_assoc]
    rfl
  · show Ideal.ofBits .f32 0xFF800000#32 = ⊥
    simp [Ideal.ofBits, Ideal.ieee]

variable (W : (c : Dev nD) → (b : Ref sig .tc) → Buf (Elt Ideal) ((c : Thread nD τ).loc b))

/-- The scores of the 1024 rows of 256 lanes: `⊥` from lane 200 on. -/
def scores (c : Dev nD) (r : Fin 1024) (i : Fin 256) : EReal :=
  if i.val < 200 then score ((W c main_v6 : FVec Ideal S1024x256 .f32) (ix2 r i)) ((W c main_v7 : FVec Ideal S1024x256 .f32) (ix2 r i))
    (fun k => (W c main_v5 : FVec Ideal S10 .f32) (ix1 k)) ((W c main_arg4 : FVec Ideal S1 .f32) (ix1 0)) else ⊥

/-- The row of the whole array that row `y` of the block at point `t` is. -/
def at_ (t : Fin cfg0.N) (y : Fin 256) : Fin 1024 := ⟨256 * t.val + y.val, by have := t.isLt; have h : cfg0.N = 4 := by decide
                                                                              omega⟩

/-! ### Where the windows' blocks lie in their arrays -/

theorem index_2 : ∀ t : Fin cfg0.N, win0_2.index t 0 = t.val := by decide +kernel
theorem index_2' : ∀ t : Fin cfg0.N, win0_2.index t 1 = 0 := by decide +kernel
theorem emb_2 (t : Fin cfg0.N) (y : S256x256.Idx) : (win0_2.blk t).view.emb y = ix2 (at_ t (y 0)) (y 1) := by
  refine funext fun a => Fin.ext ?_
  match a with
  | ⟨0, _⟩ =>
    show ((win0_2.blk t).view.emb y 0).val = 256 * t.val + (y 0).val
    blk_simp
    rw [index_2 t, Nat.mul_comm]
  | ⟨1, _⟩ =>
    show ((win0_2.blk t).view.emb y 1).val = (y 1).val
    blk_simp
    rw [index_2' t, Nat.zero_mul, Nat.zero_add]

theorem index_3 : ∀ t : Fin cfg0.N, win0_3.index t 0 = t.val := by decide +kernel
theorem index_3' : ∀ t : Fin cfg0.N, win0_3.index t 1 = 0 := by decide +kernel
theorem emb_3 (t : Fin cfg0.N) (y : S256x256.Idx) : (win0_3.blk t).view.emb y = ix2 (at_ t (y 0)) (y 1) := by
  refine funext fun a => Fin.ext ?_
  match a with
  | ⟨0, _⟩ =>
    show ((win0_3.blk t).view.emb y 0).val = 256 * t.val + (y 0).val
    blk_simp
    rw [index_3 t, Nat.mul_comm]
  | ⟨1, _⟩ =>
    show ((win0_3.blk t).view.emb y 1).val = (y 1).val
    blk_simp
    rw [index_3' t, Nat.zero_mul, Nat.zero_add]

theorem index_4 : ∀ t : Fin cfg0.N, win0_4.index t 0 = t.val := by decide +kernel
theorem index_4' : ∀ t : Fin cfg0.N, win0_4.index t 1 = 0 := by decide +kernel
theorem emb_4 (t : Fin cfg0.N) (y : S256x256.Idx) : (win0_4.blk t).view.emb y = ix2 (at_ t (y 0)) (y 1) := by
  refine funext fun a => Fin.ext ?_
  match a with
  | ⟨0, _⟩ =>
    show ((win0_4.blk t).view.emb y 0).val = 256 * t.val + (y 0).val
    blk_simp
    rw [index_4 t, Nat.mul_comm]
  | ⟨1, _⟩ =>
    show ((win0_4.blk t).view.emb y 1).val = (y 1).val
    blk_simp
    rw [index_4' t, Nat.zero_mul, Nat.zero_add]

theorem index_5 : ∀ t : Fin cfg0.N, win0_5.index t 0 = t.val := by decide +kernel
theorem index_5' : ∀ t : Fin cfg0.N, win0_5.index t 1 = 0 := by decide +kernel
theorem emb_5 (t : Fin cfg0.N) (y : S256x256.Idx) : (win0_5.blk t).view.emb y = ix2 (at_ t (y 0)) (y 1) := by
  refine funext fun a => Fin.ext ?_
  match a with
  | ⟨0, _⟩ =>
    show ((win0_5.blk t).view.emb y 0).val = 256 * t.val + (y 0).val
    blk_simp
    rw [index_5 t, Nat.mul_comm]
  | ⟨1, _⟩ =>
    show ((win0_5.blk t).view.emb y 1).val = (y 1).val
    blk_simp
    rw [index_5' t, Nat.zero_mul, Nat.zero_add]

theorem index_6 : ∀ t : Fin cfg0.N, win0_6.index t 0 = t.val := by decide +kernel
theorem index_6' : ∀ t : Fin cfg0.N, win0_6.index t 1 = 0 := by decide +kernel
theorem emb_6 (t : Fin cfg0.N) (y : S256x256.Idx) : (win0_6.blk t).view.emb y = ix2 (at_ t (y 0)) (y 1) := by
  refine funext fun a => Fin.ext ?_
  match a with
  | ⟨0, _⟩ =>
    show ((win0_6.blk t).view.emb y 0).val = 256 * t.val + (y 0).val
    blk_simp
    rw [index_6 t, Nat.mul_comm]
  | ⟨1, _⟩ =>
    show ((win0_6.blk t).view.emb y 1).val = (y 1).val
    blk_simp
    rw [index_6' t, Nat.zero_mul, Nat.zero_add]

theorem index_0 : ∀ t : Fin cfg0.N, win0_0.index t 0 = 0 := by decide +kernel
theorem emb_0 (t : Fin cfg0.N) (y : S10.Idx) : (win0_0.blk t).view.emb y = y := by
  refine funext fun a => Fin.ext ?_
  match a with
  | ⟨0, _⟩ =>
    show ((win0_0.blk t).view.emb y 0).val = (y 0).val
    blk_simp
    rw [index_0 t, Nat.zero_mul, Nat.zero_add]

theorem emb_1 (t : Fin cfg0.N) (y : S1.Idx) : (win0_1.blk t).view.emb y = y := by
  refine funext fun a => Fin.ext ?_
  match a with
  | ⟨0, _⟩ =>
    exact (Nat.lt_one_iff.1 ((win0_1.blk t).view.emb y 0).isLt).trans (Nat.lt_one_iff.1 (y 0).isLt).symm

theorem in0_apply (c : Dev nD) (t : Fin cfg0.N) (y : S10.Idx) : in0 W c t y = (W c main_v5 : FVec Ideal S10 .f32) y := by
  unfold in0
  blk_simp
  rw [emb_0]

theorem in1_apply (c : Dev nD) (t : Fin cfg0.N) (y : S1.Idx) : in1 W c t y = (W c main_arg4 : FVec Ideal S1 .f32) y := by
  unfold in1
  blk_simp
  rw [emb_1]

theorem in2_apply (c : Dev nD) (t : Fin cfg0.N) (r i : Fin 256) : in2 W c t (ix2 r i) = (W c main_v6 : FVec Ideal S1024x256 .f32) (ix2 (at_ t r) i) := by
  unfold in2
  blk_simp
  rw [emb_2]
  rfl

theorem in3_apply (c : Dev nD) (t : Fin cfg0.N) (r i : Fin 256) : in3 W c t (ix2 r i) = (W c main_v7 : FVec Ideal S1024x256 .f32) (ix2 (at_ t r) i) := by
  unfold in3
  blk_simp
  rw [emb_3]
  rfl

theorem scoresAt_row (c : Dev nD) (t : Fin cfg0.N) (y : Fin 256) : blockRow (scoresAt W c t) y = scores W c (at_ t y) := by
  funext i
  unfold blockRow scores scoresAt
  rw [scoresOf_apply, in1_apply, in2_apply, in3_apply]
  simp only [in0_apply]

/-! ### The three arrays -/

theorem lp_at' (c : Dev nD) (t : Fin cfg0.N) (r i : Fin 256) :
    lpOf (scoresAt W c t) (ix2 r i) = 0 - Ideal.log (1 + tail (scores W c (at_ t r)) i) := by
  rw [← scoresAt_row]
  exact lpOf_apply (scoresAt W c t) r i

theorem lp_at (c : Dev nD) (t : Fin cfg0.N) (y : S256x256.Idx) :
    lpOf (scoresAt W c t) y = 0 - Ideal.log (1 + tail (scores W c (at_ t (y 0))) (y 1)) :=
  (congrArg _ (eq_ix2 y)).trans (lp_at' W c t (y 0) (y 1))

theorem rk_at' (c : Dev nD) (t : Fin cfg0.N) (r i : Fin 256) :
    rkOf (scoresAt W c t) (ix2 r i) = BitVec.ofNat 32 (rank (scores W c (at_ t r)) i) := by
  rw [← scoresAt_row]
  exact rkOf_apply (scoresAt W c t) r i

theorem rk_at (c : Dev nD) (t : Fin cfg0.N) (y : S256x256.Idx) :
    rkOf (scoresAt W c t) y = BitVec.ofNat 32 (rank (scores W c (at_ t (y 0))) (y 1)) :=
  (congrArg _ (eq_ix2 y)).trans (rk_at' W c t (y 0) (y 1))

theorem av_at (c : Dev nD) (t : Fin cfg0.N) (y : S256x256.Idx) : avOf (F := Ideal) (scoresAt W c t) y = BitVec.ofNat 32 (y 1).val :=
  (congrArg _ (eq_ix2 y)).trans (avOf_apply (scoresAt W c t) (y 0) (y 1))

theorem LPv_eq (c : Dev nD) : LPv W c = fun x : S1024x256.Idx => 0 - Ideal.log (1 + tail (scores W c (x 0)) (x 1)) := by
  refine (dat W c).arrAt_eq_of_covers 4 _ (by decide +kernel) fun t hf y => ?_
  exact (lp_at W c t y).trans (congrArg (fun x : S1024x256.Idx => 0 - Ideal.log (1 + tail (scores W c (x 0)) (x 1))) (emb_4 t y)).symm

theorem RKv_eq (c : Dev nD) : RKv W c = fun x : S1024x256.Idx => BitVec.ofNat 32 (rank (scores W c (x 0)) (x 1)) := by
  refine (dat W c).arrAt_eq_of_covers 5 _ (by decide +kernel) fun t hf y => ?_
  exact (rk_at W c t y).trans (congrArg (fun x : S1024x256.Idx => BitVec.ofNat 32 (rank (scores W c (x 0)) (x 1))) (emb_5 t y)).symm

theorem AVv_eq (c : Dev nD) : AVv W c = fun x : S1024x256.Idx => BitVec.ofNat 32 (x 1).val := by
  refine (dat W c).arrAt_eq_of_covers 6 _ (by decide +kernel) fun t hf y => ?_
  exact (av_at W c t y).trans (congrArg (fun x : S1024x256.Idx => BitVec.ofNat 32 (x 1).val) (emb_6 t y)).symm

theorem RKv_toNat (c : Dev nD) (r : Fin 1024) (i : Fin 256) : ((RKv W c : S1024x256.Idx → BitVec 32) (ix2 r i)).toNat = rank (scores W c r) i := by
  rw [RKv_eq]
  exact toNat_ofNat_lt _ (Order.rank_lt i)

/-- In each row the ranks are distinct. -/
theorem perm (c : Dev nD) : Scatter.Perm (n := 1024) (RKv W c) := by
  refine fun r => ⟨fun i => ?_, fun i i' h => ?_⟩
  · exact (RKv_toNat W c r i).trans_lt (Order.rank_lt i)
  · exact Order.rank_injective ((RKv_toNat W c r i).symm.trans ((congrArg BitVec.toNat h).trans (RKv_toNat W c r i')))

end Cert.Proof.KernelIdeal

end
-- ==== Proof.Chunk.lean ====
/-
  ONE ROW OF A TASK: the printed body of the task's loop is sixteen equal chunks — sixteen ranks loaded and checked,
  the same sixteen log-probabilities loaded and scattered, the same sixteen item numbers loaded and scattered — and one
  chunk takes both result scratches from the first `c` chunks of the row in place to the first `c + 1`.
-/
module

public import proofs.«01_k».proof.Proof.Setup

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Scatter

variable {F : FTy → Type} [FloatOps F] [Named F]

local notation "𝕄" => MT nD τ sig (HIx 1) (Elt F) ℕ UU ℕ

/-- One chunk of row `t`: at `off1` the ranks and the log-probabilities, at `off2` the item numbers. -/
def chunk (i : grid1.Coords) (off1 off2 : Fin 2 → ℕ) (h1 : ∀ a, off1 a + S1x16.size a ≤ S32x256.size a) (h2 : ∀ a, off2 a + S1x16.size a ≤ S32x256.size a)
    (t : Fin k1_t1_loop.trips) : Prog (TpuEff nD τ sig (Elt F) Λ₀ (.scVector ((i 0).castLE hcore1) ((i 1).castLE hsub1))) PUnit := do
  let ld : Vec F S1x16 .i32 ← Prog.lift (.load sR (Rect.unit (s := S32x256) off1 S1x16.size h1).toLoadRect (View.loadsAt_vmem h_S1x16))
  have hw : k1_chk1 (broadcast S16 (Scf.iv 0#32 1#32 t)) (shapeCast S16 ld shapeCasts_S1x16_S16) :=
    (← Prog.lift (TpuEff.assume (k1_chk1 (broadcast S16 (Scf.iv 0#32 1#32 t)) (shapeCast S16 ld shapeCasts_S1x16_S16)) (k1_chk1.dec _ _))).down
  let ll : Vec F S1x16 .f32 ← Prog.lift (.load sL (Rect.unit (s := S32x256) off1 S1x16.size h1).toLoadRect (View.loadsAt_vmem h_S1x16))
  SparseCore.vectorStoreIdx sX ![broadcast S16 (Scf.iv 0#32 1#32 t), shapeCast S16 ld shapeCasts_S1x16_S16] (shapeCast S16 ll shapeCasts_S1x16_S16) (fun _ => 1#1) false
    (k1_idx1_inb _ _ hw) (View.stores_vmem_bits_univ h_S32x256 rfl)
  let la : Vec F S1x16 .i32 ← Prog.lift (.load sA (Rect.unit (s := S32x256) off2 S1x16.size h2).toLoadRect (View.loadsAt_vmem h_S1x16))
  SparseCore.vectorStoreIdx sY ![broadcast S16 (Scf.iv 0#32 1#32 t), shapeCast S16 ld shapeCasts_S1x16_S16] (shapeCast S16 la shapeCasts_S1x16_S16) (fun _ => 1#1) false
    (k1_idx2_inb _ _ hw) (View.stores_vmem_bits_univ h_S32x256 rfl)

/-- Row `t` of the printed loop, over the task's scratches. -/
abbrev rowG (i : grid1.Coords) (t : Fin k1_t1_loop.trips) : Prog (TpuEff nD τ sig (Elt F) Λ₀ (.scVector ((i 0).castLE hcore1) ((i 1).castLE hsub1))) Unit :=
  k1_t1_body i lV (Memref.isWhole_whole _) rV (Memref.isWhole_whole _) aV (Memref.isWhole_whole _) xV (Memref.isWhole_whole _) yV (Memref.isWhole_whole _)
    sL (Memref.isWhole_whole _) sR (Memref.isWhole_whole _) sA (Memref.isWhole_whole _) sX (Memref.isWhole_whole _) sY (Memref.isWhole_whole _)
    cc1_scoped0 cc1_scoped1 cc1_scoped2 cc1_scoped3 cc1_scoped4 t ()

set_option maxRecDepth 65536 in
set_option maxHeartbeats 4000000 in
/-- It is its sixteen chunks in turn. -/
theorem rowG_eq (i : grid1.Coords) (t : Fin k1_t1_loop.trips) :
    rowG (F := F) i t = (do
      chunk i (k1_off2 t) (k1_off3 t) (k1_off2_inb t) (k1_off3_inb t) t
      chunk i (k1_off4 t) (k1_off5 t) (k1_off4_inb t) (k1_off5_inb t) t
      chunk i (k1_off6 t) (k1_off7 t) (k1_off6_inb t) (k1_off7_inb t) t
      chunk i (k1_off8 t) (k1_off9 t) (k1_off8_inb t) (k1_off9_inb t) t
      chunk i (k1_off10 t) (k1_off11 t) (k1_off10_inb t) (k1_off11_inb t) t
      chunk i (k1_off12 t) (k1_off13 t) (k1_off12_inb t) (k1_off13_inb t) t
      chunk i (k1_off14 t) (k1_off15 t) (k1_off14_inb t) (k1_off15_inb t) t
      chunk i (k1_off16 t) (k1_off17 t) (k1_off16_inb t) (k1_off17_inb t) t
      chunk i (k1_off18 t) (k1_off19 t) (k1_off18_inb t) (k1_off19_inb t) t
      chunk i (k1_off20 t) (k1_off21 t) (k1_off20_inb t) (k1_off21_inb t) t
      chunk i (k1_off22 t) (k1_off23 t) (k1_off22_inb t) (k1_off23_inb t) t
      chunk i (k1_off24 t) (k1_off25 t) (k1_off24_inb t) (k1_off25_inb t) t
      chunk i (k1_off26 t) (k1_off27 t) (k1_off26_inb t) (k1_off27_inb t) t
      chunk i (k1_off28 t) (k1_off29 t) (k1_off28_inb t) (k1_off29_inb t) t
      chunk i (k1_off30 t) (k1_off31 t) (k1_off30_inb t) (k1_off31_inb t) t
      chunk i (k1_off32 t) (k1_off33 t) (k1_off32_inb t) (k1_off33_inb t) t
      pure ⟨⟩) := by
  unfold rowG k1_t1_body
  simp only [k1_part1_eq_skeleton, k1_part2_eq_skeleton, k1_part3_eq_skeleton, k1_part4_eq_skeleton]
  unfold k1_part1_skel k1_part2_skel k1_part3_skel k1_part4_skel
  rfl

end Cert.Proof.KernelIdeal

end
-- ==== Proof.Row.lean ====
/-
  ONE ROW OF A TASK, run: a chunk takes both result scratches one chunk further, sixteen chunks take them one row
  further, and the loop's 32 rows leave every lane's values at the lane's rank.
-/
module

public import proofs.«01_k».proof.Proof.Chunk

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Scatter

variable {F : FTy → Type} [FloatOps F] [Named F]

local notation "𝕄" => MT nD τ sig (HIx 1) (Elt F) ℕ UU ℕ

theorem trips_eq : k1_t1_loop.trips = 32 := rfl

theorem off2_eq : ∀ t : Fin k1_t1_loop.trips, k1_off2 t = ![t.val, 16 * 0] := by decide +kernel
theorem off3_eq : ∀ t : Fin k1_t1_loop.trips, k1_off3 t = ![t.val, 16 * 0] := by decide +kernel
theorem off4_eq : ∀ t : Fin k1_t1_loop.trips, k1_off4 t = ![t.val, 16 * 1] := by decide +kernel
theorem off5_eq : ∀ t : Fin k1_t1_loop.trips, k1_off5 t = ![t.val, 16 * 1] := by decide +kernel
theorem off6_eq : ∀ t : Fin k1_t1_loop.trips, k1_off6 t = ![t.val, 16 * 2] := by decide +kernel
theorem off7_eq : ∀ t : Fin k1_t1_loop.trips, k1_off7 t = ![t.val, 16 * 2] := by decide +kernel
theorem off8_eq : ∀ t : Fin k1_t1_loop.trips, k1_off8 t = ![t.val, 16 * 3] := by decide +kernel
theorem off9_eq : ∀ t : Fin k1_t1_loop.trips, k1_off9 t = ![t.val, 16 * 3] := by decide +kernel
theorem off10_eq : ∀ t : Fin k1_t1_loop.trips, k1_off10 t = ![t.val, 16 * 4] := by decide +kernel
theorem off11_eq : ∀ t : Fin k1_t1_loop.trips, k1_off11 t = ![t.val, 16 * 4] := by decide +kernel
theorem off12_eq : ∀ t : Fin k1_t1_loop.trips, k1_off12 t = ![t.val, 16 * 5] := by decide +kernel
theorem off13_eq : ∀ t : Fin k1_t1_loop.trips, k1_off13 t = ![t.val, 16 * 5] := by decide +kernel
theorem off14_eq : ∀ t : Fin k1_t1_loop.trips, k1_off14 t = ![t.val, 16 * 6] := by decide +kernel
theorem off15_eq : ∀ t : Fin k1_t1_loop.trips, k1_off15 t = ![t.val, 16 * 6] := by decide +kernel
theorem off16_eq : ∀ t : Fin k1_t1_loop.trips, k1_off16 t = ![t.val, 16 * 7] := by decide +kernel
theorem off17_eq : ∀ t : Fin k1_t1_loop.trips, k1_off17 t = ![t.val, 16 * 7] := by decide +kernel
theorem off18_eq : ∀ t : Fin k1_t1_loop.trips, k1_off18 t = ![t.val, 16 * 8] := by decide +kernel
theorem off19_eq : ∀ t : Fin k1_t1_loop.trips, k1_off19 t = ![t.val, 16 * 8] := by decide +kernel
theorem off20_eq : ∀ t : Fin k1_t1_loop.trips, k1_off20 t = ![t.val, 16 * 9] := by decide +kernel
theorem off21_eq : ∀ t : Fin k1_t1_loop.trips, k1_off21 t = ![t.val, 16 * 9] := by decide +kernel
theorem off22_eq : ∀ t : Fin k1_t1_loop.trips, k1_off22 t = ![t.val, 16 * 10] := by decide +kernel
theorem off23_eq : ∀ t : Fin k1_t1_loop.trips, k1_off23 t = ![t.val, 16 * 10] := by decide +kernel
theorem off24_eq : ∀ t : Fin k1_t1_loop.trips, k1_off24 t = ![t.val, 16 * 11] := by decide +kernel
theorem off25_eq : ∀ t : Fin k1_t1_loop.trips, k1_off25 t = ![t.val, 16 * 11] := by decide +kernel
theorem off26_eq : ∀ t : Fin k1_t1_loop.trips, k1_off26 t = ![t.val, 16 * 12] := by decide +kernel
theorem off27_eq : ∀ t : Fin k1_t1_loop.trips, k1_off27 t = ![t.val, 16 * 12] := by decide +kernel
theorem off28_eq : ∀ t : Fin k1_t1_loop.trips, k1_off28 t = ![t.val, 16 * 13] := by decide +kernel
theorem off29_eq : ∀ t : Fin k1_t1_loop.trips, k1_off29 t = ![t.val, 16 * 13] := by decide +kernel
theorem off30_eq : ∀ t : Fin k1_t1_loop.trips, k1_off30 t = ![t.val, 16 * 14] := by decide +kernel
theorem off31_eq : ∀ t : Fin k1_t1_loop.trips, k1_off31 t = ![t.val, 16 * 14] := by decide +kernel
theorem off32_eq : ∀ t : Fin k1_t1_loop.trips, k1_off32 t = ![t.val, 16 * 15] := by decide +kernel
theorem off33_eq : ∀ t : Fin k1_t1_loop.trips, k1_off33 t = ![t.val, 16 * 15] := by decide +kernel

/-- The row number, as the loop counts it. -/
theorem iv_toNat : ∀ t : Fin k1_t1_loop.trips, (Scf.iv 0#32 1#32 t.val : BitVec 32).toNat = t.val := by decide +kernel

section Row

variable (d : Dev nD) (L : grid1.Coords)

abbrev cV (L : grid1.Coords) : Fin τ.nSC := (L 0).castLE hcore1
abbrev jV (L : grid1.Coords) : Fin τ.nSub := (L 1).castLE hsub1

omit [FloatOps F] [Named F] in
theorem pts_sL (f : Buf (Elt F) ((V d (cV L) (jV L)).loc cc1_scratch0)) :
    ((sL).view.loc (V d (cV L) (jV L)) ↦{fullShare} f : sProp 𝕄) = (V d (cV L) (jV L)).loc cc1_scratch0 ↦{fullShare} f := rfl
omit [FloatOps F] [Named F] in
theorem pts_sR (f : Buf (Elt F) ((V d (cV L) (jV L)).loc cc1_scratch1)) :
    ((sR).view.loc (V d (cV L) (jV L)) ↦{fullShare} f : sProp 𝕄) = (V d (cV L) (jV L)).loc cc1_scratch1 ↦{fullShare} f := rfl
omit [FloatOps F] [Named F] in
theorem pts_sA (f : Buf (Elt F) ((V d (cV L) (jV L)).loc cc1_scratch2)) :
    ((sA).view.loc (V d (cV L) (jV L)) ↦{fullShare} f : sProp 𝕄) = (V d (cV L) (jV L)).loc cc1_scratch2 ↦{fullShare} f := rfl
omit [FloatOps F] [Named F] in
theorem pts_sX (f : Buf (Elt F) ((V d (cV L) (jV L)).loc cc1_scratch3)) :
    ((sX).view.loc (V d (cV L) (jV L)) ↦{fullShare} f : sProp 𝕄) = (V d (cV L) (jV L)).loc cc1_scratch3 ↦{fullShare} f := rfl
omit [FloatOps F] [Named F] in
theorem pts_sY (f : Buf (Elt F) ((V d (cV L) (jV L)).loc cc1_scratch4)) :
    ((sY).view.loc (V d (cV L) (jV L)) ↦{fullShare} f : sProp 𝕄) = (V d (cV L) (jV L)).loc cc1_scratch4 ↦{fullShare} f := rfl
omit [FloatOps F] [Named F] in
theorem pts_sX_whole (f : Buf (Elt F) ((V d (cV L) (jV L)).loc cc1_scratch3)) :
    (((sX).access (.whole S32x256)).loc (V d (cV L) (jV L)) ↦[((sX).access (.whole S32x256)).set]{fullShare} f : sProp 𝕄)
      = (V d (cV L) (jV L)).loc cc1_scratch3 ↦{fullShare} f := by
  rw [show ((sX).access (.whole S32x256)).set = Finset.univ from Memref.set_access_whole (cc1_scratch3 : Ref sig .scVector)]
omit [FloatOps F] [Named F] in
theorem pts_sY_whole (f : Buf (Elt F) ((V d (cV L) (jV L)).loc cc1_scratch4)) :
    (((sY).access (.whole S32x256)).loc (V d (cV L) (jV L)) ↦[((sY).access (.whole S32x256)).set]{fullShare} f : sProp 𝕄)
      = (V d (cV L) (jV L)).loc cc1_scratch4 ↦{fullShare} f := by
  rw [show ((sY).access (.whole S32x256)).set = Finset.univ from Memref.set_access_whole (cc1_scratch4 : Ref sig .scVector)]

variable (lp : S32x256.Idx → F .f32) (rk av : S32x256.Idx → BitVec 32)

/-- The task's scratches after the first `c` chunks of row `t`. -/
def res (t c : ℕ) : sProp 𝕄 :=
  iprop(((V d (cV L) (jV L)).loc cc1_scratch0 ↦{fullShare} (lp : Buf (Elt F) ((V d (cV L) (jV L)).loc cc1_scratch0)))
    ∗ ((V d (cV L) (jV L)).loc cc1_scratch1 ↦{fullShare} (rk : Buf (Elt F) ((V d (cV L) (jV L)).loc cc1_scratch1)))
    ∗ ((V d (cV L) (jV L)).loc cc1_scratch2 ↦{fullShare} (av : Buf (Elt F) ((V d (cV L) (jV L)).loc cc1_scratch2)))
    ∗ (∃ fx : Buf (Elt F) ((V d (cV L) (jV L)).loc cc1_scratch3), ⌜Upto lp rk t c fx⌝ ∗ (V d (cV L) (jV L)).loc cc1_scratch3 ↦{fullShare} fx)
    ∗ (∃ fy : Buf (Elt F) ((V d (cV L) (jV L)).loc cc1_scratch4), ⌜Upto av rk t c fy⌝ ∗ (V d (cV L) (jV L)).loc cc1_scratch4 ↦{fullShare} fy))

theorem res_split (t c : ℕ) : res (F := F) d L lp rk av t c
    = iprop(((V d (cV L) (jV L)).loc cc1_scratch0 ↦{fullShare} (lp : Buf (Elt F) ((V d (cV L) (jV L)).loc cc1_scratch0)))
    ∗ ((V d (cV L) (jV L)).loc cc1_scratch1 ↦{fullShare} (rk : Buf (Elt F) ((V d (cV L) (jV L)).loc cc1_scratch1)))
    ∗ ((V d (cV L) (jV L)).loc cc1_scratch2 ↦{fullShare} (av : Buf (Elt F) ((V d (cV L) (jV L)).loc cc1_scratch2)))
    ∗ (∃ fx : Buf (Elt F) ((V d (cV L) (jV L)).loc cc1_scratch3), ⌜Upto lp rk t c fx⌝ ∗ (V d (cV L) (jV L)).loc cc1_scratch3 ↦{fullShare} fx)
    ∗ (∃ fy : Buf (Elt F) ((V d (cV L) (jV L)).loc cc1_scratch4), ⌜Upto av rk t c fy⌝ ∗ (V d (cV L) (jV L)).loc cc1_scratch4 ↦{fullShare} fy)) := rfl

theorem res_row (t : ℕ) : res (F := F) d L lp rk av t 16 ⊢ res d L lp rk av (t + 1) 0 := by
  unfold res
  iintro ⟨H1, H2, H3, ⟨%fx, %hx, H4⟩, ⟨%fy, %hy, H5⟩⟩
  isplitl [H1]; · iexact H1
  isplitl [H2]; · iexact H2
  isplitl [H3]; · iexact H3
  isplitl [H4]
  · iexists fx; isplitr; · ipureintro; exact hx.row
    iexact H4
  · iexists fy; isplitr; · ipureintro; exact hy.row
    iexact H5

/-- A chunk's load: lane `k` is the buffer's element at row `t`, lane `16 c + k`. -/
theorem ld_apply {e : EltTy} (sM : Memref sig .scVector .vmem S32x256 e) (f : sM.view.ty.Contents (Elt F)) (t : Fin 32) (c : Fin 16)
    (h : ∀ a, (![t.val, 16 * c.val] : Fin 2 → ℕ) a + S1x16.size a ≤ S32x256.size a) (k : Fin 16) :
    shapeCast S16 (sM.view.readAt (Elt F) (Rect.unit (s := S32x256) ![t.val, 16 * c.val] S1x16.size h).toLoadRect f) shapeCasts_S1x16_S16
        (Shape.ofLane (d := ![16]) k)
      = sM.view.read (Elt F) f (ix2 t (⟨16 * c.val + k.val, by omega⟩ : Fin 256)) := by
  rw [shapeCast_row]
  show sM.view.read (Elt F) f _ = _
  congr 1; funext a; apply Fin.ext
  match a with
  | 0 => simp [Rect.unit, Rect.toLoadRect, ix2]
  | 1 => simp [Rect.unit, Rect.toLoadRect, ix2]

omit [Named F] in
/-- What a chunk's scattered store leaves in `cc1_scratch3`: sixteen stores in turn. -/
theorem wr_X (f : Vec F S32x256 .f32) (idxs : Fin S32x256.rank → IVec S16 32) (v : Vec F S16 .f32) (h : ∀ a x, (idxs a x).toNat < S32x256.size a) :
    ((sX).access (.whole S32x256)).write (Elt F) f (storeIdx (((sX).access (.whole S32x256)).read (Elt F) f) idxs v (fun _ => 1#1) false h) Finset.univ
      = (List.finRange 16).foldl (put1 (fun k => idxAt idxs h (Shape.ofLane (d := ![16]) k)) (fun k => v (Shape.ofLane (d := ![16]) k))) f := by
  refine (Memref.write_access_whole_univ (Elt F) cc1_scratch3 f _).trans ?_
  rw [show ((sX).access (.whole S32x256)).read (Elt F) f = f from Memref.read_access_whole (Elt F) cc1_scratch3 f]
  exact storeIdx_eq_foldl f idxs v h

omit [Named F] in
/-- What a chunk's scattered store leaves in `cc1_scratch4`: sixteen stores in turn. -/
theorem wr_Y (f : Vec F S32x256 .i32) (idxs : Fin S32x256.rank → IVec S16 32) (v : Vec F S16 .i32) (h : ∀ a x, (idxs a x).toNat < S32x256.size a) :
    ((sY).access (.whole S32x256)).write (Elt F) f (storeIdx (((sY).access (.whole S32x256)).read (Elt F) f) idxs v (fun _ => 1#1) false h) Finset.univ
      = (List.finRange 16).foldl (put1 (fun k => idxAt idxs h (Shape.ofLane (d := ![16]) k)) (fun k => v (Shape.ofLane (d := ![16]) k))) f := by
  refine (Memref.write_access_whole_univ (Elt F) cc1_scratch4 f _).trans ?_
  rw [show ((sY).access (.whole S32x256)).read (Elt F) f = f from Memref.read_access_whole (Elt F) cc1_scratch4 f]
  exact storeIdx_eq_foldl f idxs v h

set_option maxHeartbeats 1000000 in
/-- One more chunk: the ranks are in range, so the check passes, and both scattered stores put sixteen lanes at their ranks. -/
theorem chunk_wp (hp : Perm (n := 32) rk) (t : Fin k1_t1_loop.trips) (c : ℕ) (hc : c < 16) (off1 off2 : Fin 2 → ℕ)
    (e1 : off1 = ![t.val, 16 * c]) (e2 : off2 = ![t.val, 16 * c])
    (h1 : ∀ a, off1 a + S1x16.size a ≤ S32x256.size a) (h2 : ∀ a, off2 a + S1x16.size a ≤ S32x256.size a) :
    res d L lp rk av t.val c
      ⊢ wp frame (wpE (defs₀ (F := F)) 𝒱₀ (V d (cV L) (jV L)) none) Set.univ (chunk L off1 off2 h1 h2 t)
          fun _ => res d L lp rk av t.val (c + 1) := by
  subst e1 e2
  unfold res chunk
  simp only [Prog.bind_lift]
  iintro ⟨Hl, Hr, Ha, ⟨%fx, %hx, Hx⟩, ⟨%fy, %hy, Hy⟩⟩
  ihave Hr' := (Entails.of_eq (pts_sR (F := F) d L _).symm) $$ Hr
  iapply (wp_load 𝒱₀ (V d (cV L) (jV L)) none Set.univ (m := sR) (S := Finset.univ) (Finset.subset_univ _)) $$ Hr'; iintro Hr'
  ihave Hr := (Entails.of_eq (pts_sR (F := F) d L _)) $$ Hr'
  have hld : ∀ k : Fin 16, shapeCast S16 ((sR).view.readAt (Elt F) (Rect.unit (s := S32x256) ![t.val, 16 * c] S1x16.size h1).toLoadRect rk) shapeCasts_S1x16_S16
      (Shape.ofLane (d := ![16]) k) = rk (ix2 (t : Fin 32) (⟨16 * c + k.val, by omega⟩ : Fin 256)) := fun k =>
    (ld_apply sR rk t ⟨c, hc⟩ h1 k).trans (congrFun (View.read_whole _ _) _)
  have hchk : k1_chk1 (broadcast S16 (Scf.iv 0#32 1#32 t)) (shapeCast S16 ((sR).view.readAt (Elt F) (Rect.unit (s := S32x256) ![t.val, 16 * c] S1x16.size h1).toLoadRect rk) shapeCasts_S1x16_S16) := by
    have hh : ∀ (a : Fin 2) (x : S16.Idx), ((![broadcast S16 (Scf.iv 0#32 1#32 t), shapeCast S16 ((sR).view.readAt (Elt F) (Rect.unit (s := S32x256) ![t.val, 16 * c] S1x16.size h1).toLoadRect rk) shapeCasts_S1x16_S16] : Fin 2 → IVec S16 32) a x).toNat < S32x256.size a := by
      intro a x
      match a with
      | 0 => exact (iv_toNat t).trans_lt t.isLt
      | 1 =>
        have hx : x = Shape.ofLane (d := ![16]) (x 0) := by funext b; match b with | 0 => rfl
        have := (hp t).1 (⟨16 * c + (x 0).val, by have := (x 0).isLt; simp at this; omega⟩ : Fin 256)
        rw [← hld (x 0), ← hx] at this
        exact this
    exact ⟨hh, hh⟩
  have hix : ∀ k : Fin 16, idxAt ![broadcast S16 (Scf.iv 0#32 1#32 t), shapeCast S16 ((sR).view.readAt (Elt F) (Rect.unit (s := S32x256) ![t.val, 16 * c] S1x16.size h1).toLoadRect rk) shapeCasts_S1x16_S16]
      hchk.1 (Shape.ofLane (d := ![16]) k) = ix2 (t : Fin 32) ⟨(rk (ix2 (t : Fin 32) (⟨16 * c + k.val, by omega⟩ : Fin 256))).toNat, (hp t).1 _⟩ := by
    intro k
    funext a; apply Fin.ext
    match a with
    | 0 => exact iv_toNat t
    | 1 => have e := congrArg BitVec.toNat (hld k); exact e
  rw [wp_assume_of _ _ _ _ hchk]
  ihave Hl' := (Entails.of_eq (pts_sL (F := F) d L _).symm) $$ Hl
  iapply (wp_load 𝒱₀ (V d (cV L) (jV L)) none Set.univ (m := sL) (S := Finset.univ) (Finset.subset_univ _)) $$ Hl'; iintro Hl'
  ihave Hl := (Entails.of_eq (pts_sL (F := F) d L _)) $$ Hl'
  ihave Hx' := (Entails.of_eq (pts_sX_whole (F := F) d L _).symm) $$ Hx
  iapply (SparseCore.wp_vectorStoreIdx 𝒱₀ (V d (cV L) (jV L)) none Set.univ (base := sX)) $$ Hx'; iintro Hx'
  ihave Hx := (Entails.of_eq (pts_sX_whole (F := F) d L _)) $$ Hx'
  ihave Ha' := (Entails.of_eq (pts_sA (F := F) d L _).symm) $$ Ha
  iapply (wp_load 𝒱₀ (V d (cV L) (jV L)) none Set.univ (m := sA) (S := Finset.univ) (Finset.subset_univ _)) $$ Ha'; iintro Ha'
  ihave Ha := (Entails.of_eq (pts_sA (F := F) d L _)) $$ Ha'
  ihave Hy' := (Entails.of_eq (pts_sY_whole (F := F) d L _).symm) $$ Hy
  iapply (SparseCore.wp_vectorStoreIdx 𝒱₀ (V d (cV L) (jV L)) none Set.univ (base := sY)) $$ Hy'; iintro Hy'
  ihave Hy := (Entails.of_eq (pts_sY_whole (F := F) d L _)) $$ Hy'
  sl_step
  isplitl [Hl]; · iexact Hl
  isplitl [Hr]; · iexact Hr
  isplitl [Ha]; · iexact Ha
  isplitl [Hx]
  · iexists _; isplitr
    swap; · iexact Hx
    ipureintro
    rw [wr_X]
    exact hx.chunk (t := (t : Fin 32)) (c := ⟨c, hc⟩) hp _ _ hix fun k => (ld_apply sL lp t ⟨c, hc⟩ h1 k).trans (congrFun (View.read_whole _ _) _)
  · iexists _; isplitr
    swap; · iexact Hy
    ipureintro
    rw [wr_Y]
    exact hy.chunk (t := (t : Fin 32)) (c := ⟨c, hc⟩) hp _ _ hix fun k => (ld_apply sA av t ⟨c, hc⟩ h2 k).trans (congrFun (View.read_whole _ _) _)

set_option maxRecDepth 8192 in
/-- A row of the loop. -/
theorem row_wp (hp : Perm (n := 32) rk) (t : Fin k1_t1_loop.trips) :
    res d L lp rk av t.val 0
      ⊢ wp frame (wpE (defs₀ (F := F)) 𝒱₀ (V d (cV L) (jV L)) none) Set.univ (rowG L t)
          fun _ => res d L lp rk av (t.val + 1) 0 := by
  rw [rowG_eq]
  rw [wp_bind]
  refine (chunk_wp d L lp rk av hp t 0 (by decide) _ _ (off2_eq t) (off3_eq t) _ _).trans (wp_mono frame _ _ fun _ => ?_)
  rw [wp_bind]
  refine (chunk_wp d L lp rk av hp t 1 (by decide) _ _ (off4_eq t) (off5_eq t) _ _).trans (wp_mono frame _ _ fun _ => ?_)
  rw [wp_bind]
  refine (chunk_wp d L lp rk av hp t 2 (by decide) _ _ (off6_eq t) (off7_eq t) _ _).trans (wp_mono frame _ _ fun _ => ?_)
  rw [wp_bind]
  refine (chunk_wp d L lp rk av hp t 3 (by decide) _ _ (off8_eq t) (off9_eq t) _ _).trans (wp_mono frame _ _ fun _ => ?_)
  rw [wp_bind]
  refine (chunk_wp d L lp rk av hp t 4 (by decide) _ _ (off10_eq t) (off11_eq t) _ _).trans (wp_mono frame _ _ fun _ => ?_)
  rw [wp_bind]
  refine (chunk_wp d L lp rk av hp t 5 (by decide) _ _ (off12_eq t) (off13_eq t) _ _).trans (wp_mono frame _ _ fun _ => ?_)
  rw [wp_bind]
  refine (chunk_wp d L lp rk av hp t 6 (by decide) _ _ (off14_eq t) (off15_eq t) _ _).trans (wp_mono frame _ _ fun _ => ?_)
  rw [wp_bind]
  refine (chunk_wp d L lp rk av hp t 7 (by decide) _ _ (off16_eq t) (off17_eq t) _ _).trans (wp_mono frame _ _ fun _ => ?_)
  rw [wp_bind]
  refine (chunk_wp d L lp rk av hp t 8 (by decide) _ _ (off18_eq t) (off19_eq t) _ _).trans (wp_mono frame _ _ fun _ => ?_)
  rw [wp_bind]
  refine (chunk_wp d L lp rk av hp t 9 (by decide) _ _ (off20_eq t) (off21_eq t) _ _).trans (wp_mono frame _ _ fun _ => ?_)
  rw [wp_bind]
  refine (chunk_wp d L lp rk av hp t 10 (by decide) _ _ (off22_eq t) (off23_eq t) _ _).trans (wp_mono frame _ _ fun _ => ?_)
  rw [wp_bind]
  refine (chunk_wp d L lp rk av hp t 11 (by decide) _ _ (off24_eq t) (off25_eq t) _ _).trans (wp_mono frame _ _ fun _ => ?_)
  rw [wp_bind]
  refine (chunk_wp d L lp rk av hp t 12 (by decide) _ _ (off26_eq t) (off27_eq t) _ _).trans (wp_mono frame _ _ fun _ => ?_)
  rw [wp_bind]
  refine (chunk_wp d L lp rk av hp t 13 (by decide) _ _ (off28_eq t) (off29_eq t) _ _).trans (wp_mono frame _ _ fun _ => ?_)
  rw [wp_bind]
  refine (chunk_wp d L lp rk av hp t 14 (by decide) _ _ (off30_eq t) (off31_eq t) _ _).trans (wp_mono frame _ _ fun _ => ?_)
  rw [wp_bind]
  refine (chunk_wp d L lp rk av hp t 15 (by decide) _ _ (off32_eq t) (off33_eq t) _ _).trans (wp_mono frame _ _ fun _ => ?_)
  refine (res_row d L lp rk av t.val).trans ?_
  rw [wp_pure]; exact fupd_intro

end Row

end Cert.Proof.KernelIdeal

end
-- ==== Proof.Tile.lean ====
/-
  THE TASK, run at a symbolic (SparseCore, tile) pair: three copies in, the 32 rows, two copies out. Out come the task's
  blocks of the two results, at the placed values.
-/
module

public import proofs.«01_k».proof.Proof.Row

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg
open Cert.Proof.Scatter

variable {F : FTy → Type} [FloatOps F] [Named F]

local notation "𝕄" => MT nD τ sig (HIx 1) (Elt F) ℕ UU ℕ

def coordsV (c : Fin (grid1.bound 0)) (s : Fin (grid1.bound 1)) : grid1.Coords :=
  fun | 0 => c | 1 => s | ⟨_ + 2, h⟩ => absurd h (Nat.not_lt.2 (Nat.le_add_left _ _))

theorem off1_eq (L : grid1.Coords) : k1_off1 L = ![((L 1).val * 2 + (L 0).val) * 32, 0] := by
  rw [k1_off1_eq]; funext a
  match a with
  | 0 => show 64 * (L 1).val + 32 * (L 0).val = ((L 1).val * 2 + (L 0).val) * 32; omega
  | 1 => rfl

section Tile

variable (d : Dev nD) (L : grid1.Coords)

theorem bound1_zero : grid1.bound 0 = 2 := rfl
theorem bound1_one : grid1.bound 1 = 16 := rfl
abbrev cL (L : grid1.Coords) : Fin 2 := Fin.cast bound1_zero (L 0)
abbrev jL (L : grid1.Coords) : Fin 16 := Fin.cast bound1_one (L 1)
abbrev wL (L : grid1.Coords) : Fin 32 := wid (cL L) (jL L)

/-- The task's block, as its slices address it. -/
abbrev rowK (L : grid1.Coords) : Rect S1024x256 := Rect.unit (s := S1024x256) (k1_off1 L) S32x256.size (k1_off1_inb L)
abbrev lK (L : grid1.Coords) : Memref sig .scVector .hbm S32x256 .f32 := (lV).slice (rowK L) (fun _ => rfl)
abbrev rK (L : grid1.Coords) : Memref sig .scVector .hbm S32x256 .i32 := (rV).slice (rowK L) (fun _ => rfl)
abbrev aK (L : grid1.Coords) : Memref sig .scVector .hbm S32x256 .i32 := (aV).slice (rowK L) (fun _ => rfl)
abbrev xK (L : grid1.Coords) : Memref sig .scVector .hbm S32x256 .f32 := (xV).slice (rowK L) (fun _ => rfl)
abbrev yK (L : grid1.Coords) : Memref sig .scVector .hbm S32x256 .i32 := (yV).slice (rowK L) (fun _ => rfl)

theorem rowK_eq : rowK L = blk (wL L) := by
  unfold rowK blk Rect.part Rect.block
  congr 1 <;> funext a
  · rw [off1_eq]
    match a with
    | 0 => simp [Shape.partIx, Shape.partSize, wid]
    | 1 => simp [Shape.partIx, Shape.partSize]
  · match a with
    | 0 => simp [Shape.partSize]
    | 1 => simp [Shape.partSize]

/-- Row `r` of the block is row `32 w + r` of the array. -/
def rowOf (r : Fin 32) : Fin 1024 := ⟨(wL L).val * 32 + r.val, by have := (wL L).isLt; omega⟩

theorem rowK_emb (r : Fin 32) (i : Fin 256) : (rowK L).emb (ix2 r i) = ix2 (rowOf L r) i := by
  funext a; apply Fin.ext
  match a with
  | 0 =>
    show k1_off1 L 0 + 1 * r.val = (wL L).val * 32 + r.val
    rw [off1_eq]; simp [wid]
  | 1 =>
    show k1_off1 L 1 + 1 * i.val = i.val
    rw [off1_eq]; simp

theorem set_lK : (lK L).view.set = blkSet (wL L) := by
  show ((View.whole (main_v8_0_scv : Ref sig .scVector)).slice (rowK L)).set = _
  rw [View.set_slice, rowK_eq]; exact Finset.map_refl
theorem set_rK : (rK L).view.set = blkSet (wL L) := by
  show ((View.whole (main_v8_1_scv : Ref sig .scVector)).slice (rowK L)).set = _
  rw [View.set_slice, rowK_eq]; exact Finset.map_refl
theorem set_aK : (aK L).view.set = blkSet (wL L) := by
  show ((View.whole (main_v8_2_scv : Ref sig .scVector)).slice (rowK L)).set = _
  rw [View.set_slice, rowK_eq]; exact Finset.map_refl
theorem set_xK : (xK L).view.set = blkSet (wL L) := by
  show ((View.whole (main_v9_0_scv : Ref sig .scVector)).slice (rowK L)).set = _
  rw [View.set_slice, rowK_eq]; exact Finset.map_refl
theorem set_yK : (yK L).view.set = blkSet (wL L) := by
  show ((View.whole (main_v9_1_scv : Ref sig .scVector)).slice (rowK L)).set = _
  rw [View.set_slice, rowK_eq]; exact Finset.map_refl

omit [FloatOps F] [Named F] in
theorem pts_lK (f : Buf (Elt F) (lLoc d)) :
    ((lK L).view.loc (V d (cV L) (jV L)) ↦[(lK L).view.set]{fullShare} f : sProp 𝕄) = lLoc d ↦[blkSet (wL L)]{fullShare} f := by rw [set_lK]
omit [FloatOps F] [Named F] in
theorem pts_rK (f : Buf (Elt F) (rLoc d)) :
    ((rK L).view.loc (V d (cV L) (jV L)) ↦[(rK L).view.set]{fullShare} f : sProp 𝕄) = rLoc d ↦[blkSet (wL L)]{fullShare} f := by rw [set_rK]
omit [FloatOps F] [Named F] in
theorem pts_aK (f : Buf (Elt F) (aLoc d)) :
    ((aK L).view.loc (V d (cV L) (jV L)) ↦[(aK L).view.set]{fullShare} f : sProp 𝕄) = aLoc d ↦[blkSet (wL L)]{fullShare} f := by rw [set_aK]
omit [FloatOps F] [Named F] in
theorem pts_xK (f : Buf (Elt F) (xLoc d)) :
    ((xK L).view.loc (V d (cV L) (jV L)) ↦[(xK L).view.set]{fullShare} f : sProp 𝕄) = xLoc d ↦[blkSet (wL L)]{fullShare} f := by rw [set_xK]
omit [FloatOps F] [Named F] in
theorem pts_yK (f : Buf (Elt F) (yLoc d)) :
    ((yK L).view.loc (V d (cV L) (jV L)) ↦[(yK L).view.set]{fullShare} f : sProp 𝕄) = yLoc d ↦[blkSet (wL L)]{fullShare} f := by rw [set_yK]

/-! ## The task's own cells and buffers -/

abbrev c0 (d : Dev nD) (c : Fin τ.nSC) (i : Fin τ.nSub) : GSem nD τ sig := (V d c i, .dma cc1_scoped0.sem)
abbrev c1 (d : Dev nD) (c : Fin τ.nSC) (i : Fin τ.nSub) : GSem nD τ sig := (V d c i, .dma cc1_scoped1.sem)
abbrev c2 (d : Dev nD) (c : Fin τ.nSC) (i : Fin τ.nSub) : GSem nD τ sig := (V d c i, .dma cc1_scoped2.sem)
abbrev c3 (d : Dev nD) (c : Fin τ.nSC) (i : Fin τ.nSub) : GSem nD τ sig := (V d c i, .dma cc1_scoped3.sem)
abbrev c4 (d : Dev nD) (c : Fin τ.nSC) (i : Fin τ.nSub) : GSem nD τ sig := (V d c i, .dma cc1_scoped4.sem)

omit [FloatOps F] [Named F] in
/-- Five cells out of the subcore's own. -/
theorem ownSems0_V : ∃ R : sProp 𝕄,
    (ownSems0 (V d (cV L) (jV L)) : sProp 𝕄)
      = iprop(semVal (c0 d (cV L) (jV L)) 0 ∗ semVal (c1 d (cV L) (jV L)) 0 ∗ semVal (c2 d (cV L) (jV L)) 0
          ∗ semVal (c3 d (cV L) (jV L)) 0 ∗ semVal (c4 d (cV L) (jV L)) 0 ∗ R) := by
  have hm : ∀ (s : SemLoc sig), s.isScoped .scVector = true → ((V d (cV L) (jV L), s) : GSem nD τ sig) ∈ ownCells (V d (cV L) (jV L)) :=
    fun s h => mem_ownCells.mpr ⟨rfl, h⟩
  have hne : ∀ (s s' : SemLoc sig), s ≠ s' → ((V d (cV L) (jV L), s) : GSem nD τ sig) ≠ (V d (cV L) (jV L), s') := fun s s' h e => h (Prod.ext_iff.mp e).2
  unfold SparseCore.Cfg.ownSems0
  apply Exists.intro
  rw [SparseCore.bigSep_erase' (hm (.dma cc1_scoped0.sem) (by decide)),
    SparseCore.bigSep_erase' (Finset.mem_erase.mpr ⟨hne _ _ (by decide), hm (.dma cc1_scoped1.sem) (by decide)⟩),
    SparseCore.bigSep_erase' (Finset.mem_erase.mpr ⟨hne _ _ (by decide), Finset.mem_erase.mpr ⟨hne _ _ (by decide), hm (.dma cc1_scoped2.sem) (by decide)⟩⟩),
    SparseCore.bigSep_erase' (Finset.mem_erase.mpr ⟨hne _ _ (by decide), Finset.mem_erase.mpr ⟨hne _ _ (by decide), Finset.mem_erase.mpr ⟨hne _ _ (by decide), hm (.dma cc1_scoped3.sem) (by decide)⟩⟩⟩),
    SparseCore.bigSep_erase' (Finset.mem_erase.mpr ⟨hne _ _ (by decide), Finset.mem_erase.mpr ⟨hne _ _ (by decide), Finset.mem_erase.mpr ⟨hne _ _ (by decide), Finset.mem_erase.mpr ⟨hne _ _ (by decide), hm (.dma cc1_scoped4.sem) (by decide)⟩⟩⟩⟩)]

omit [FloatOps F] [Named F] in
/-- The five scratches out of the subcore's own buffers. -/
theorem ownBufs_V : ∃ R : sProp 𝕄,
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ (∃ f, (V d (cV L) (jV L)).loc cc1_scratch4 ↦{fullShare} f) ∗ R) := by
  have hm : ∀ r : Ref sig .scVector, ((Proc.scVector (cV L) (jV L)).devRef r).owner = .proc (Proc.scVector (cV L) (jV L)) → (Proc.scVector (cV L) (jV L)).devRef r ∈ ownRefs (τ := τ) (sig := sig) (.scVector (cV L) (jV L)) :=
    fun r h => SparseCore.Cfg.mem_ownRefs_of_owner (p := Proc.scVector (cV L) (jV L)) h
  have hne : ∀ (r r' : Ref sig .scVector), r ≠ r' → (Proc.scVector (cV L) (jV L)).devRef r ≠ (Proc.scVector (cV L) (jV L)).devRef r' := fun r r' h e => h (Proc.devRef_injective _ e)
  unfold SparseCore.Cfg.ownBufs
  apply Exists.intro
  refine (SparseCore.bigSep_erase' (hm cc1_scratch0 rfl)).trans ?_
  rw [SparseCore.bigSep_erase' (Finset.mem_erase.mpr ⟨hne _ _ (by decide), hm cc1_scratch1 rfl⟩),
    SparseCore.bigSep_erase' (Finset.mem_erase.mpr ⟨hne _ _ (by decide), Finset.mem_erase.mpr ⟨hne _ _ (by decide), hm cc1_scratch2 rfl⟩⟩),
    SparseCore.bigSep_erase' (Finset.mem_erase.mpr ⟨hne _ _ (by decide), Finset.mem_erase.mpr ⟨hne _ _ (by decide), Finset.mem_erase.mpr ⟨hne _ _ (by decide), hm cc1_scratch3 rfl⟩⟩⟩),
    SparseCore.bigSep_erase' (Finset.mem_erase.mpr ⟨hne _ _ (by decide), Finset.mem_erase.mpr ⟨hne _ _ (by decide), Finset.mem_erase.mpr ⟨hne _ _ (by decide), Finset.mem_erase.mpr ⟨hne _ _ (by decide), hm cc1_scratch4 rfl⟩⟩⟩⟩)]

variable (LP : (d : Dev nD) → Buf (Elt F) (lLoc d)) (RK : (d : Dev nD) → Buf (Elt F) (rLoc d)) (AV : (d : Dev nD) → Buf (Elt F) (aLoc d))
variable (X0 : (d : Dev nD) → Buf (Elt F) (xLoc d)) (Y0 : (d : Dev nD) → Buf (Elt F) (yLoc d))

/-- The task's rows of the three arrays, as its copies land them. -/
abbrev lpT : S32x256.Idx → F .f32 := fun j => LP d ((rowK L).emb j)
abbrev rkT : S32x256.Idx → BitVec 32 := fun j => RK d ((rowK L).emb j)
abbrev avT : S32x256.Idx → BitVec 32 := fun j => AV d ((rowK L).emb j)

omit [FloatOps F] [Named F] in
theorem rkT_perm (hp : Perm (n := 1024) (RK d)) : Perm (n := 32) (rkT d L RK) := by
  intro r
  simp only [rkT, rowK_emb]
  exact hp (rowOf L r)

omit [FloatOps F] [Named F] in
/-- What a task's placed rows are: the whole array's placed rows at its block. -/
theorem placed_block {α : Type} (x : S1024x256.Idx → α) (hp : Perm (n := 1024) (RK d)) (f : S32x256.Idx → α)
    (hf : Placed (n := 32) (fun j => x ((rowK L).emb j)) (rkT d L RK) f) (j : S32x256.Idx) :
    f j = place (n := 1024) x (RK d) ((rowK L).emb j) := by
  have hg : Placed (n := 32) (fun j => x ((rowK L).emb j)) (rkT d L RK) (fun j => place (n := 1024) x (RK d) ((rowK L).emb j)) := by
    intro r i h
    have := place_placed x hp (rowOf L r) i ((hp (rowOf L r)).1 i)
    simp only [rkT, rowK_emb] at h ⊢
    exact this
  exact congrFun (Placed.ext (n := 32) (n' := 32) (rkT_perm d L RK hp) hf hg) j

/-- What a task's copy out leaves on its block of a result: the scratch's elements. -/
theorem out_apply {e : EltTy} (v : View sig .scVector .hbm S32x256 e) (f : v.ty.Contents (Elt F)) (w : S32x256.Idx → Elt F e) (j : S32x256.Idx) :
    v.writes (Elt F) f [⟨Rect.whole S32x256, w⟩] (v.emb j) = cast (congrArg (Elt F) v.elt_eq.symm) (w j) := by
  have h := View.read_writes_cons_emb (v := v) (Val := Elt F) f (Rect.whole S32x256) w [] j
  rw [Rect.emb_whole_apply, View.read_apply] at h
  rw [← h, cast_cast, cast_eq]

set_option maxHeartbeats 4000000 in
/-- The task on vector subcore `(L 0, L 1)` of device `d`. -/
theorem tile_body (hF : (K (F := F)).Facts) (hp : Perm (n := 1024) (RK d)) (O : CellTallies nD τ sig (HIx 1)) (W : Waits sig (HIx 1)) (hO : ∀ g, O g none = 0) :
    iprop(levAts (K (F := F)).L (K (F := F)).lev ∗ emp
        ∗ goP LP RK AV X0 Y0 d (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__scatter_body L lV (Memref.isWhole_whole _) rV (Memref.isWhole_whole _) aV (Memref.isWhole_whole _) xV (Memref.isWhole_whole _) yV (Memref.isWhole_whole _)
            sL (Memref.isWhole_whole _) sR (Memref.isWhole_whole _) sA (Memref.isWhole_whole _) sX (Memref.isWhole_whole _) sY (Memref.isWhole_whole _)
            cc1_scoped0 cc1_scoped1 cc1_scoped2 cc1_scoped3 cc1_scoped4)
          fun _ => iprop(tdP LP RK AV d (cL L) (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  obtain ⟨RS, hRS⟩ := ownSems0_V (F := F) d L
  obtain ⟨RB, hRB⟩ := ownBufs_V (F := F) d L
  simp only [cc1__scatter_body_eq_skeleton]; unfold cc1__scatter_body_skel
  simp only [k1_part5_eq_skeleton]; unfold k1_part5_skel
  rw [(K (F := F)).scopedBufs_V hF d (cV L) (jV L), SparseCore.Cfg.scopedSems0_V (Val := Elt F) d (cV L) (jV L), hRS, hRB]
  iintro ⟨#Hlv, -, ⟨Hl, Hr, Ha, Hx, Hy⟩, ⟨⟨%f0, H0⟩, ⟨%f1, H1⟩, ⟨%f2, H2⟩, ⟨%f3, H3⟩, ⟨%f4, H4⟩, Hbufs⟩, ⟨Hs0, Hs1, Hs2, Hs3, Hs4, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hl' := (Entails.of_eq (pts_lK (F := F) d L _).symm) $$ Hl
  ihave Hr' := (Entails.of_eq (pts_rK (F := F) d L _).symm) $$ Hr
  ihave Ha' := (Entails.of_eq (pts_aK (F := F) d L _).symm) $$ Ha
  ihave Hx' := (Entails.of_eq (pts_xK (F := F) d L _).symm) $$ Hx
  ihave Hy' := (Entails.of_eq (pts_yK (F := F) d L _).symm) $$ Hy
  ihave H0' := (Entails.of_eq (pts_sL (F := F) d L _).symm) $$ H0
  ihave H1' := (Entails.of_eq (pts_sR (F := F) d L _).symm) $$ H1
  ihave H2' := (Entails.of_eq (pts_sA (F := F) d L _).symm) $$ H2
  sl_exec
  have e0 : View.write (Elt F) (sL).view f0 (tile_body.sl.dma0 d L LP) Finset.univ = lpT d L LP := View.write_whole_univ ..
  have e1 : View.write (Elt F) (sR).view f1 (tile_body.sl.dma0_1 d L RK) Finset.univ = rkT d L RK := View.write_whole_univ ..
  have e2 : View.write (Elt F) (sA).view f2 (tile_body.sl.dma0_2 d L AV) Finset.univ = avT d L AV := View.write_whole_univ ..
  rw [e0, e1, e2]
  ihave Hres := (show _ ⊢ res d L (lpT d L LP) (rkT d L RK) (avT d L AV) 0 0 from .rfl) $$ [H0' H1' H2' H3 H4]
  · unfold res
    isplitl [H0']; · iexact H0'
    isplitl [H1']; · iexact H1'
    isplitl [H2']; · iexact H2'
    isplitl [H3]
    · iexists f3; isplitr; · ipureintro; exact Upto.zero _ _ _
      iexact H3
    · iexists f4; isplitr; · ipureintro; exact Upto.zero _ _ _
      iexact H4
  rw [Prog.bind_assoc]
  iapply (Scf.wp_for_bind frame (wpE (defs₀ (F := F)) 𝒱₀ (V d (cV L) (jV L)) none) Set.univ _ _ _ _ _ _
    (fun k _ => res d L (lpT d L LP) (rkT d L RK) (avT d L AV) k 0)
    (fun k acc => row_wp d L (lpT d L LP) (rkT d L RK) (avT d L AV) (rkT_perm d L RK hp) k)) $$ Hres
  iintro %acc Hres
  ihave Hres := (Entails.of_eq (res_split d L (lpT d L LP) (rkT d L RK) (avT d L AV) (Scf.trips k1_t1_loop.lb k1_t1_loop.ub k1_t1_loop.st) 0)) $$ Hres
  icases Hres with ⟨H0, H1, H2, ⟨%fx, %hx, H3⟩, ⟨%fy, %hy, H4⟩⟩
  ihave H3' := (Entails.of_eq (pts_sX (F := F) d L _).symm) $$ H3
  ihave H4' := (Entails.of_eq (pts_sY (F := F) d L _).symm) $$ H4
  sl_exec
  sl_step
  have hx' : ∀ i ∈ (xK L).view.set, (xK L).view.writes (Elt F) (X0 d) [⟨Rect.whole S32x256, tile_body.sl.dma0_3 d L fx⟩] i = OX LP RK d i := by
    intro i hi
    obtain ⟨j, -, rfl⟩ := Finset.mem_map.mp hi
    refine (out_apply (xK L).view (X0 d) _ j).trans ?_
    exact placed_block d L RK (LP d) hp fx hx.placed j
  have hy' : ∀ i ∈ (yK L).view.set, (yK L).view.writes (Elt F) (Y0 d) [⟨Rect.whole S32x256, tile_body.sl.dma0_4 d L fy⟩] i = OY RK AV d i := by
    intro i hi
    obtain ⟨j, -, rfl⟩ := Finset.mem_map.mp hi
    refine (out_apply (yK L).view (Y0 d) _ j).trans ?_
    exact placed_block d L RK (AV d) hp fy hy.placed j
  ihave Hx' := (Entails.of_eq (pointsTo_congr (ℓ := xLoc d) (q := fullShare) hx')) $$ Hx'
  ihave Hy' := (Entails.of_eq (pointsTo_congr (ℓ := yLoc d) (q := fullShare) hy')) $$ Hy'
  isplitl [Hl' Hr' Ha' Hx' Hy']
  · isplitl [Hl']; · iapply (Entails.of_eq (pts_lK (F := F) d L _)); iexact Hl'
    isplitl [Hr']; · iapply (Entails.of_eq (pts_rK (F := F) d L _)); iexact Hr'
    isplitl [Ha']; · iapply (Entails.of_eq (pts_aK (F := F) d L _)); iexact Ha'
    isplitl [Hx']; · iapply (Entails.of_eq (pts_xK (F := F) d L _)); iexact Hx'
    iapply (Entails.of_eq (pts_yK (F := F) d L _)); iexact Hy'
  isplitl [H0 H1 H2 H3' H4' Hbufs]
  · isplitl [H0]; · iexists _; iexact H0
    isplitl [H1]; · iexists _; iexact H1
    isplitl [H2]; · iexists _; iexact H2
    isplitl [H3']; · iexists _; iexact H3'
    isplitl [H4']; · iexists _; iexact H4'
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

theorem defs₀_vector (c : Fin τ.nSC) (s : Fin τ.nSub) :
    defs₀ (F := F) (.scVector c s) 1 ()
      = SparseCore.onTile hcore1 hsub1 (fun c s => cc1__scatter_body (coordsV c s)
          lV (Memref.isWhole_whole _) rV (Memref.isWhole_whole _) aV (Memref.isWhole_whole _) xV (Memref.isWhole_whole _) yV (Memref.isWhole_whole _)
          sL (Memref.isWhole_whole _) sR (Memref.isWhole_whole _) sA (Memref.isWhole_whole _) sX (Memref.isWhole_whole _) sY (Memref.isWhole_whole _)
          cc1_scoped0 cc1_scoped1 cc1_scoped2 cc1_scoped3 cc1_scoped4) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hp : ∀ d, Perm (n := 1024) (RK d)) : (K (F := F)).TileObl (D (F := F)) 𝒱 (P LP RK AV X0 Y0) v₀ 0 := by
  intro d c i O W hO _ _
  simp only [show (P (F := F) LP RK AV X0 Y0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) LP RK AV X0 Y0 hF (hp d) O W hO).trans (wp_mono frame _ _ fun _ => obl_post)

end Tile

end Cert.Proof.KernelIdeal

end
-- ==== Proof.Launch.lean ====
/-
  THE WHOLE RUN: @main on the TensorCore — the host's slices, casts and pads, the TensorCore kernel's region, the
  SparseCore call, the two last slices —, the ghost state it starts from, and the launch theorem applied. What every
  unscoped buffer holds at the end is named: `V4`.
-/
module

public import proofs.«01_k».proof.Proof.Region
public import proofs.«01_k».proof.Proof.Tile

@[expose] public section

noncomputable section

namespace Cert.Proof.KernelIdeal

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.ShloMosaic.StableHlo (after held launchContents seq)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Scatter

variable {F : FTy → Type} [FloatOps F] [Named F] [∀ e, Nonempty (Elt F e)]

local notation "𝕄" => MT nD τ sig (HIx 1) (Elt F) ℕ UU ℕ

/-! ## The host's operations -/

/-- Before the TensorCore kernel. -/
def ops1 : List (HloOp τ sig (Elt F)) := [
  StableHlo.unary main_arg0 main_v0 ((extractStridedSlice S1024x200x1 ![0, 0, 0] · slices_S1024x200x3_S1024x200x1_0_0_0) : (⟨S1024x200x3, .f32⟩ : BufTy).Contents (Elt F) → (⟨S1024x200x1, .f32⟩ : BufTy).Contents (Elt F)),
  StableHlo.reshape main_v0 main_v1 (rfl : (.f32 : EltTy) = .f32) shapeCasts_S1024x200x1_S1024x200,
  StableHlo.unary main_arg0 main_v2 ((extractStridedSlice S1024x200x1 ![0, 0, 1] · slices_S1024x200x3_S1024x200x1_0_0_1) : (⟨S1024x200x3, .f32⟩ : BufTy).Contents (Elt F) → (⟨S1024x200x1, .f32⟩ : BufTy).Contents (Elt F)),
  StableHlo.reshape main_v2 main_v3 (rfl : (.f32 : EltTy) = .f32) shapeCasts_S1024x200x1_S1024x200,
  StableHlo.unary main_arg3 main_v4 ((truncf .bf16 · bitsLt_bf16_f32) : (⟨S10, .f32⟩ : BufTy).Contents (Elt F) → (⟨S10, .bf16⟩ : BufTy).Contents (Elt F)),
  StableHlo.unary main_v4 main_v5 ((extf .f32 · bitsLt_bf16_f32) : (⟨S10, .bf16⟩ : BufTy).Contents (Elt F) → (⟨S10, .f32⟩ : BufTy).Contents (Elt F)),
  StableHlo.nullary main_cst (constant S_ .f32 0x3F800000#32),
  StableHlo.TRef.unary (.of main_cst : StableHlo.TRef sig ⟨S_, .f32⟩) main_call0.v0 id,
  StableHlo.TRef.binary (.of main_v1 : StableHlo.TRef sig ⟨S1024x200, .f32⟩) main_call0.v0 main_call0.v1 (fun x v => pad S1024x256 ![0, 0] ![0, 56] ![0, 0] x v pads_S1024x200_S1024x256_000_0560 h_S_),
  StableHlo.nullary main_cst_0 (constant S_ .f32 0x3F800000#32),
  StableHlo.TRef.unary (.of main_cst_0 : StableHlo.TRef sig ⟨S_, .f32⟩) main_call1.v0 id,
  StableHlo.TRef.binary (.of main_v3 : StableHlo.TRef sig ⟨S1024x200, .f32⟩) main_call1.v0 main_call1.v1 (fun x v => pad S1024x256 ![0, 0] ![0, 56] ![0, 0] x v pads_S1024x200_S1024x256_000_0560 h_S_)]

/-- After the SparseCore call. -/
def ops2 : List (HloOp τ sig (Elt F)) := [
  StableHlo.unary main_v9_0 main_v10 ((extractStridedSlice S1024x200 ![0, 0] · slices_S1024x256_S1024x200_0_0) : (⟨S1024x256, .f32⟩ : BufTy).Contents (Elt F) → (⟨S1024x200, .f32⟩ : BufTy).Contents (Elt F)),
  StableHlo.unary main_v9_1 main_v11 ((extractStridedSlice S1024x200 ![0, 0] · slices_S1024x256_S1024x200_0_0) : (⟨S1024x256, .i32⟩ : BufTy).Contents (Elt F) → (⟨S1024x200, .i32⟩ : BufTy).Contents (Elt F))]

/-- The TensorCore kernel's call. -/
def call0 : Prog (TpuEff nD τ sig (Elt F) (ΛP (F := F)) .tc) PUnit := .op (.customCall (Pipeline.entry 0) ()) fun u => .ret u

theorem main_eq (d : Dev nD) : main (F := F) d
    = seq ops1 >>= fun _ => (SparseCore.liftProg call0 >>= fun _ => ((K (F := F)).run d 0 >>= fun _ => (seq ops2 >>= fun _ => pure ⟨⟩))) := by
  rfl

/-! ## What the buffers hold along @main -/

variable (m : (ℓ : Loc nD τ sig) → Buf (Elt F) ℓ) (ρ : Dev nD → PrngReg)

/-- Before the region, by device. -/
def V1 (d : Dev nD) : Valuation τ sig (Elt F) := after ops1 (launchContents m d)
/-- The same, read at the TensorCore's references. -/
abbrev W1 (d : Dev nD) (b : Ref sig .tc) : Buf (Elt F) ((d : Thread nD τ).loc b) := V1 m d (Proc.devRef .tc b)
/-- After the region. -/
def V2 (d : Dev nD) : Valuation τ sig (Elt F) :=
  Function.update (Function.update (Function.update (V1 m d) (Proc.devRef .tc main_v8_0) (LPv (W1 m) d)) (Proc.devRef .tc main_v8_1) (RKv (W1 m) d))
    (Proc.devRef .tc main_v8_2) (AVv (W1 m) d)
abbrev W2 (d : Dev nD) (b : Ref sig .tc) : Buf (Elt F) ((d : Thread nD τ).loc b) := V2 m d (Proc.devRef .tc b)
abbrev X0v (d : Dev nD) : Buf (Elt F) (xLoc d) := W2 m d main_v9_0
abbrev Y0v (d : Dev nD) : Buf (Elt F) (yLoc d) := W2 m d main_v9_1
/-- After the SparseCore call. -/
def V3 (d : Dev nD) : Valuation τ sig (Elt F) :=
  Function.update (Function.update (V2 m d) (Proc.devRef .tc main_v9_0) (OX (LPv (W1 m)) (RKv (W1 m)) d)) (Proc.devRef .tc main_v9_1) (OY (RKv (W1 m)) (AVv (W1 m)) d)
/-- At the end. -/
def V4 (d : Dev nD) : Valuation τ sig (Elt F) := after ops2 (V3 m d)

theorem devRef_ne {b b' : Ref sig .tc} (h : b ≠ b') : (Proc.devRef .tc b : DevRef τ sig) ≠ Proc.devRef .tc b' := StableHlo.devRef_ne_of_ne h

theorem W2_v8_0 (d : Dev nD) : W2 m d main_v8_0 = LPv (W1 m) d := by
  unfold W2 V2
  rw [Function.update_of_ne (devRef_ne (by decide)), Function.update_of_ne (devRef_ne (by decide)), Function.update_self]
theorem W2_v8_1 (d : Dev nD) : W2 m d main_v8_1 = RKv (W1 m) d := by
  unfold W2 V2
  rw [Function.update_of_ne (devRef_ne (by decide)), Function.update_self]
theorem W2_v8_2 (d : Dev nD) : W2 m d main_v8_2 = AVv (W1 m) d := by
  unfold W2 V2
  rw [Function.update_self]
theorem W2_ne (d : Dev nD) (b : Ref sig .tc) (h0 : b ≠ main_v8_0) (h1 : b ≠ main_v8_1) (h2 : b ≠ main_v8_2) : W2 m d b = W1 m d b := by
  unfold W2 V2
  rw [Function.update_of_ne (devRef_ne h2), Function.update_of_ne (devRef_ne h1), Function.update_of_ne (devRef_ne h0)]

/-- The TensorCore's unscoped references. -/
def ucRefs : Finset (DevRef τ sig) := (StableHlo.tcRefs τ sig).filter fun b => ¬ b.isScoped

/-- The unscoped buffers at a valuation are that set held at it. -/
theorem unscopedBufs_held (c : Dev nD) (U : Valuation τ sig (Elt F)) :
    (unscopedBufs c (fun b => U (Proc.devRef .tc b)) : sProp 𝕄) = held (c : Thread nD τ) ucRefs U := by
  unfold unscopedBufs StableHlo.held ucRefs StableHlo.tcRefs
  rw [Finset.filter_map, bigSep_map]
  rfl

/-- The host's operations stay within the unscoped buffers and take no fresh one. -/
theorem ops1_bufs : ∀ op ∈ (ops1 : List (HloOp τ sig (Elt F))), op.bufs ⊆ ucRefs := by
  refine List.forall_iff_forall_mem.mp ?_
  unfold ops1
  simp only [List.Forall]
  refine ⟨?_, ?_, ?_, ?_, ?_, ?_, ?_, ?_, ?_, ?_, ?_, ?_⟩
  · show ({Proc.devRef .tc main_arg0, Proc.devRef .tc main_v0} : Finset (DevRef τ sig)) ⊆ ucRefs; decide
  · show ({Proc.devRef .tc main_v0, Proc.devRef .tc main_v1} : Finset (DevRef τ sig)) ⊆ ucRefs; decide
  · show ({Proc.devRef .tc main_arg0, Proc.devRef .tc main_v2} : Finset (DevRef τ sig)) ⊆ ucRefs; decide
  · show ({Proc.devRef .tc main_v2, Proc.devRef .tc main_v3} : Finset (DevRef τ sig)) ⊆ ucRefs; decide
  · show ({Proc.devRef .tc main_arg3, Proc.devRef .tc main_v4} : Finset (DevRef τ sig)) ⊆ ucRefs; decide
  · show ({Proc.devRef .tc main_v4, Proc.devRef .tc main_v5} : Finset (DevRef τ sig)) ⊆ ucRefs; decide
  · show ({Proc.devRef .tc main_cst} : Finset (DevRef τ sig)) ⊆ ucRefs; decide
  · show ({Proc.devRef .tc main_cst, Proc.devRef .tc main_call0_v0} : Finset (DevRef τ sig)) ⊆ ucRefs; decide
  · show ({Proc.devRef .tc main_v1, Proc.devRef .tc main_call0_v0, Proc.devRef .tc main_v6} : Finset (DevRef τ sig)) ⊆ ucRefs; decide
  · show ({Proc.devRef .tc main_cst_0} : Finset (DevRef τ sig)) ⊆ ucRefs; decide
  · show ({Proc.devRef .tc main_cst_0, Proc.devRef .tc main_call1_v0} : Finset (DevRef τ sig)) ⊆ ucRefs; decide
  · show ({Proc.devRef .tc main_v3, Proc.devRef .tc main_call1_v0, Proc.devRef .tc main_v7} : Finset (DevRef τ sig)) ⊆ ucRefs; decide
theorem ops1_fresh : ∀ op ∈ (ops1 : List (HloOp τ sig (Elt F))), op.fresh = ∅ := by
  refine List.forall_iff_forall_mem.mp ?_
  unfold ops1
  simp only [List.Forall]
  refine ⟨rfl, rfl, rfl, rfl, rfl, rfl, rfl, rfl, rfl, rfl, rfl, rfl⟩
theorem ops2_bufs : ∀ op ∈ (ops2 : List (HloOp τ sig (Elt F))), op.bufs ⊆ ucRefs := by
  refine List.forall_iff_forall_mem.mp ?_
  unfold ops2
  simp only [List.Forall]
  refine ⟨?_, ?_⟩
  · show ({Proc.devRef .tc main_v9_0, Proc.devRef .tc main_v10} : Finset (DevRef τ sig)) ⊆ ucRefs; decide
  · show ({Proc.devRef .tc main_v9_1, Proc.devRef .tc main_v11} : Finset (DevRef τ sig)) ⊆ ucRefs; decide
theorem ops2_fresh : ∀ op ∈ (ops2 : List (HloOp τ sig (Elt F))), op.fresh = ∅ := by
  refine List.forall_iff_forall_mem.mp ?_
  unfold ops2
  simp only [List.Forall]
  refine ⟨rfl, rfl⟩

/-- The five arrays of the SparseCore call. -/
def five : Finset (DevRef τ sig) :=
  {Proc.devRef .tc main_v8_0, Proc.devRef .tc main_v8_1, Proc.devRef .tc main_v8_2, Proc.devRef .tc main_v9_0, Proc.devRef .tc main_v9_1}

theorem five_sub : five ⊆ ucRefs := by decide

theorem held_five (d : Dev nD) (U : Valuation τ sig (Elt F)) :
    (held (d : Thread nD τ) five U : sProp 𝕄) = iprop((lLoc d ↦{fullShare} U (Proc.devRef .tc main_v8_0)) ∗ (rLoc d ↦{fullShare} U (Proc.devRef .tc main_v8_1))
      ∗ (aLoc d ↦{fullShare} U (Proc.devRef .tc main_v8_2)) ∗ (xLoc d ↦{fullShare} U (Proc.devRef .tc main_v9_0)) ∗ (yLoc d ↦{fullShare} U (Proc.devRef .tc main_v9_1))) := by
  unfold StableHlo.held five
  rw [SparseCore.bigSep_insert' (by decide), SparseCore.bigSep_insert' (by decide), SparseCore.bigSep_insert' (by decide), SparseCore.bigSep_insert' (by decide), bigSep_singleton]

/-! ## The ghost state -/

def adm : (p : Fin 1) → (pcfgs (F := F) p).Adm := fun q => (cfgs q).toPCfg_adm

theorem phinj : Function.Injective (Pipeline.cellOf (nD := nD) (τ := τ) (Pipeline.pin (pcfgs (F := F)) adm)) := cellOf_inj

/-- The handshakes' cells and tokens, the pipeline's, no counter. -/
def u₀ : UU := (initOf (K (F := F)).hsCells (K (F := F)).hsToks,
  (initOf (Pipeline.cells (Pipeline.pin (pcfgs (F := F)) adm) phinj) (Pipeline.launchToks (Pipeline.pin (pcfgs (F := F)) adm) phinj), 1))

/-- What @main starts from beside the launch's: the pipeline's cells and tokens. -/
abbrev G (d : Dev nD) : sProp 𝕄 :=
  iprop(Pipeline.cellsGhost (Pipeline.pin (pcfgs (F := F)) adm) EP 0 d ∗ Pipeline.toksInit (Pipeline.pin (pcfgs (F := F)) adm) EP 0 d)

abbrev PP : (K (F := F)).Pay (nD := nD) (Val := Elt F) (Name := ℕ) (U := UU) := P (LPv (W1 m)) (RKv (W1 m)) (AVv (W1 m)) (X0v m) (Y0v m)

theorem ghost_cells : (bigSep Finset.univ fun d : Dev nD => bigSep Finset.univ fun p : Fin 1 => (Pipeline.cellsGhost (Pipeline.pin (pcfgs (F := F)) adm) EP p d : sProp 𝕄))
    ⊢ bigSep Finset.univ fun d : Dev nD => Pipeline.cellsGhost (Pipeline.pin (pcfgs (F := F)) adm) EP 0 d :=
  bigSep_mono fun _ _ => bigSep_elim (Finset.mem_univ (0 : Fin 1))
theorem ghost_toks : (bigSep Finset.univ fun d : Dev nD => bigSep Finset.univ fun p : Fin 1 => (Pipeline.toksInit (Pipeline.pin (pcfgs (F := F)) adm) EP p d : sProp 𝕄))
    ⊢ bigSep Finset.univ fun d : Dev nD => Pipeline.toksInit (Pipeline.pin (pcfgs (F := F)) adm) EP 0 d :=
  bigSep_mono fun _ _ => bigSep_elim (Finset.mem_univ (0 : Fin 1))
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (PP m).x q thr) := by
  unfold u₀
  iintro Hu
  ihave H := (ownU_pair (initOf (K (F := F)).hsCells (K (F := F)).hsToks)
    ((initOf (Pipeline.cells (Pipeline.pin (pcfgs (F := F)) adm) phinj) (Pipeline.launchToks (Pipeline.pin (pcfgs (F := F)) adm) phinj), 1) : UP × Counters)) $$ Hu
  icases H with ⟨HH, HR⟩
  ihave H := (own_pair_emb (embR : Emb (UP × Counters) 𝕄)
    (initOf (Pipeline.cells (Pipeline.pin (pcfgs (F := F)) adm) phinj) (Pipeline.launchToks (Pipeline.pin (pcfgs (F := F)) adm) phinj)) (1 : Counters)) $$ HR
  icases H with ⟨HP, -⟩
  ihave HP := (Entails.of_eq (show BI.own (((Emb.inl : Emb UP (UP × Counters)).trans (embR : Emb (UP × Counters) 𝕄)) (initOf (Pipeline.cells (Pipeline.pin (pcfgs (F := F)) adm) phinj) (Pipeline.launchToks (Pipeline.pin (pcfgs (F := F)) adm) phinj)))
    = BI.own ((EP (F := F)) (initOf (Pipeline.cells (Pipeline.pin (pcfgs (F := F)) adm) phinj) (Pipeline.launchToks (Pipeline.pin (pcfgs (F := F)) adm) phinj))) from rfl)) $$ HP
  imod (Pipeline.fund_ghost (Pipeline.pin (pcfgs (F := F)) adm) (EP (F := F)) phinj) $$ HP with ⟨Hc, Ht⟩
  imodintro
  isplitl [HH]; · iexact HH
  isplitl [Hc Ht]
  · rw [bigSep_sep']
    isplitl [Hc]
    · iapply ghost_cells; iexact Hc
    · iapply ghost_toks; iexact Ht
  rw [show (bigSep Finset.univ fun thr : Thread nD τ => bigSep Finset.univ fun q : Fin 1 => (PP m).x q thr) = bigSep Finset.univ fun _ => iprop(emp) from
    bigSep_congr fun _ _ => bigSep_univ_of_subsingleton (0 : Fin 1), bigSep_nothing]
  iempintro

/-! ## @main on the TensorCore -/

/-- The region as @main enters it. -/
abbrev region := reg (W1 m) adm (W2 m) (W2_v8_0 m) (W2_v8_1 m) (W2_v8_2 m) (W2_ne m)

/-- What @main keeps: every unscoped buffer at its last contents. -/
abbrev FIN (d : Dev nD) : sProp 𝕄 := held (d : Thread nD τ) ucRefs (V4 m d)

/-- The five arrays before the call are the call's payloads, -/
theorem before_call (d : Dev nD) :
    (iprop((lLoc d ↦{fullShare} V2 m d (Proc.devRef .tc main_v8_0)) ∗ (rLoc d ↦{fullShare} V2 m d (Proc.devRef .tc main_v8_1))
      ∗ (aLoc d ↦{fullShare} V2 m d (Proc.devRef .tc main_v8_2)) ∗ (xLoc d ↦{fullShare} V2 m d (Proc.devRef .tc main_v9_0)) ∗ (yLoc d ↦{fullShare} V2 m d (Proc.devRef .tc main_v9_1))) : sProp 𝕄)
      = bigSep Finset.univ fun c : Fin ((K (F := F)).nCore 0) => (PP m).st 0 d c := by
  rw [show V2 m d (Proc.devRef .tc main_v8_0) = LPv (W1 m) d from W2_v8_0 m d, show V2 m d (Proc.devRef .tc main_v8_1) = RKv (W1 m) d from W2_v8_1 m d,
    show V2 m d (Proc.devRef .tc main_v8_2) = AVv (W1 m) d from W2_v8_2 m d]
  exact (whole_eq (LPv (W1 m)) (RKv (W1 m)) (AVv (W1 m)) d (X0v m d) (Y0v m d)).symm

theorem V3_x (d : Dev nD) : V3 m d (Proc.devRef .tc main_v9_0) = OX (LPv (W1 m)) (RKv (W1 m)) d := by
  unfold V3
  rw [Function.update_of_ne (devRef_ne (by decide)), Function.update_self]
theorem V3_y (d : Dev nD) : V3 m d (Proc.devRef .tc main_v9_1) = OY (RKv (W1 m)) (AVv (W1 m)) d := by
  unfold V3
  rw [Function.update_self]
theorem V3_ne (d : Dev nD) (b : DevRef τ sig) (h0 : b ≠ Proc.devRef .tc main_v9_0) (h1 : b ≠ Proc.devRef .tc main_v9_1) : V3 m d b = V2 m d b := by
  unfold V3
  rw [Function.update_of_ne h1, Function.update_of_ne h0]

/-- and after it. -/
theorem after_call (d : Dev nD) :
    (bigSep Finset.univ fun c : Fin ((K (F := F)).nCore 0) => (PP m).dn 0 d c)
      = (iprop((lLoc d ↦{fullShare} V3 m d (Proc.devRef .tc main_v8_0)) ∗ (rLoc d ↦{fullShare} V3 m d (Proc.devRef .tc main_v8_1))
      ∗ (aLoc d ↦{fullShare} V3 m d (Proc.devRef .tc main_v8_2)) ∗ (xLoc d ↦{fullShare} V3 m d (Proc.devRef .tc main_v9_0)) ∗ (yLoc d ↦{fullShare} V3 m d (Proc.devRef .tc main_v9_1))) : sProp 𝕄) := by
  rw [V3_x, V3_y, V3_ne m d _ (devRef_ne (by decide)) (devRef_ne (by decide)), V3_ne m d _ (devRef_ne (by decide)) (devRef_ne (by decide)),
    V3_ne m d _ (devRef_ne (by decide)) (devRef_ne (by decide)),
    show V2 m d (Proc.devRef .tc main_v8_0) = LPv (W1 m) d from W2_v8_0 m d, show V2 m d (Proc.devRef .tc main_v8_1) = RKv (W1 m) d from W2_v8_1 m d,
    show V2 m d (Proc.devRef .tc main_v8_2) = AVv (W1 m) d from W2_v8_2 m d]
  exact whole_eq (LPv (W1 m)) (RKv (W1 m)) (AVv (W1 m)) d _ _

theorem held_others (d : Dev nD) : (held (d : Thread nD τ) (ucRefs \ five) (V2 m d) : sProp 𝕄) = held (d : Thread nD τ) (ucRefs \ five) (V3 m d) :=
  StableHlo.held_congr _ fun b hb => (V3_ne m d b
    (fun h => (Finset.mem_sdiff.mp hb).2 (h ▸ by unfold five; simp)) (fun h => (Finset.mem_sdiff.mp hb).2 (h ▸ by unfold five; simp))).symm

/-- The TensorCore's state before the call, but for what it owes. -/
def restSt (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))
theorem tcSt_zero (d : Dev nD) : ((K (F := F)).tcSt EH d 0 : sProp 𝕄) = iprop(owing d ∗ restSt d) := rfl

theorem hmain (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  iintro ⟨#Hctx, Hst, ⟨Hb, Hbufs, Hts, -⟩, ⟨Hcg, Htk⟩⟩
  ihave Hbufs := (Entails.of_eq (unscopedBufs_held d (launchContents m d))) $$ Hbufs
  iapply (StableHlo.wp_seq 𝒱 none Set.univ d ucRefs _ ops1 ops1_bufs ops1_fresh (launchContents m d)) $$ [Hb Hbufs]
  · isplitl [Hb] <;> iassumption
  iintro ⟨Hb, Hbufs⟩
  rw [wp_bind]
  iapply ((K (F := F)).wp_liftProg (D (F := F)) 𝒱 (SparseCore.T d) Set.univ none call0 _)
  ihave Hst := (Entails.of_eq (tcSt_zero d)) $$ Hst
  icases Hst with ⟨HO, Hrest⟩
  iapply (Pipeline.RegionSeg.wp (pcfgs (F := F)) adm (pdats (W1 m) adm) none phinj EP defs₀ 𝒱₀ (K (F := F)).L (K (F := F)).lev (region m) d none
    (fun _ h => nomatch h) (fun u => .ret u) _)
  isplitr [Hb Hbufs HO Hcg Htk]
  swap
  · isplitl [Hb]; · iexact Hb
    isplitl [Hbufs HO]
    · iapply (Entails.of_eq (show iprop(unscopedBufs d (W1 m d) ∗ owing d) = (region m).pre d from rfl))
      isplitl [Hbufs]
      · iapply (Entails.of_eq (unscopedBufs_held d (V1 m d)).symm); iexact Hbufs
      iexact HO
    isplitr; · iapply (SparseCore.Cfg.ctx_levAts κ) $$ Hctx
    isplitl [Hcg] <;> iassumption
  iintro ⟨Hb, Hpost⟩
  ihave Hpost := (Entails.of_eq (show (region m).post d = iprop(unscopedBufs d (W2 m d) ∗ owing d) from rfl)) $$ Hpost
  icases Hpost with ⟨Hbufs, HO⟩
  ihave Hbufs := (Entails.of_eq (unscopedBufs_held d (V2 m d))) $$ Hbufs
  ihave Hbufs := (Entails.of_eq (StableHlo.held_sub_split (d : Thread nD τ) five_sub (V2 m d))) $$ Hbufs
  icases Hbufs with ⟨Hfive, Hothers⟩
  ihave Hfive := (Entails.of_eq (held_five d (V2 m d))) $$ Hfive
  ihave Hfive := (Entails.of_eq (before_call m d)) $$ Hfive
  rw [wp_ret]
  imodintro
  rw [wp_bind]
  iapply ((K (F := F)).wp_run (D (F := F)) 𝒱 (EH := EH) (P := PP m) κ d 0) $$ [HO Hrest Hfive Hothers Hb Hts]
  isplitr; · iexact Hctx
  isplitl [HO Hrest]
  · iapply (Entails.of_eq (tcSt_zero d).symm)
    isplitl [HO] <;> iassumption
  isplitl [Hfive]; · iexact Hfive
  iintro ⟨Hst, Hfive⟩
  ihave Hfive := (Entails.of_eq (after_call m d)) $$ Hfive
  ihave Hfive := (Entails.of_eq (held_five d (V3 m d)).symm) $$ Hfive
  ihave Hothers := (Entails.of_eq (held_others m d)) $$ Hothers
  ihave Hbufs := (Entails.of_eq (StableHlo.held_sub_split (d : Thread nD τ) five_sub (V3 m d)).symm) $$ [Hfive Hothers]
  · isplitl [Hfive] <;> iassumption
  iapply (StableHlo.wp_seq 𝒱 none Set.univ d ucRefs _ ops2 ops2_bufs ops2_fresh (V3 m d)) $$ [Hb Hbufs]
  · isplitl [Hb] <;> iassumption
  iintro ⟨Hb, Hbufs⟩
  rw [wp_pure]
  imodintro
  isplitl [Hst]; · iexact Hst
  isplitl [Hbufs]; · iexact Hbufs
  isplitl [Hb] <;> iassumption

/-! ## The run -/

def fq (d : Dev nD) (s' : Phys nD τ sig (Elt F)) : Prop := ∀ b ∈ ucRefs, s'.mem.mem (d, b) = V4 m d b

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) ucRefs) $$ [HSI H]
  · isplitl [HSI]; · iexact HSI
    iexact H
  ipureintro
  exact h

/-- Every execution of the program's threads ends, with every unscoped buffer at `V4` and every counter at zero, if the
    ranks the TensorCore kernel leaves are, in each row, distinct and within the row. -/
theorem run_main (hp : ∀ d, Perm (n := 1024) (RKv (W1 m) d)) :
    θ_run (Cert.KernelIdeal.defs (F := F)) (Cert.KernelIdeal.threads (F := F)) ⟨m, fun _ => 0, ρ⟩
      (fun r => (∀ d : Dev nD, ∀ b ∈ ucRefs, r.2.mem (d, b) = V4 m d b) ∧ r.2.sem = fun _ => 0) :=
  SparseCore.Cfg.θ_run_sc_quiescent (K := K (F := F)) (D := D (F := F)) (𝒱 := 𝒱) (EH := EH) (P := PP m) (A := ∅) scFacts v₀
    (fun q hq => match q with | 0 => nomatch hq)
    (fun q _ => match q with | 0 => tileObl (LPv (W1 m)) (RKv (W1 m)) (AVv (W1 m)) (X0v m) (Y0v m) scFacts hp)
    (fun q _ => match q with | 0 => SparseCore.Cfg.VecSplit.of_plain (vecSplit (LPv (W1 m)) (RKv (W1 m)) (AVv (W1 m)) (X0v m) (Y0v m)))
    m ρ main G (FIN m) (u₀ (F := F)) (sep_elim_left.trans (hu₀ m)) (hmain m ρ) (fq m) (hfin m)
    (fun r => (∀ d : Dev nD, ∀ b ∈ ucRefs, r.2.mem (d, b) = V4 m d b) ∧ r.2.sem = fun _ => 0) (fun _ h hz => ⟨h, hz⟩)

end Cert.Proof.KernelIdeal

end
-- ==== Proof.KernelEnd.lean ====
/-
  THE KERNEL'S RUN over the extended reals, end to end: it ends with its arguments unchanged, and, where every score is above
  `⊥`, with the greedy pass over the scores in its two results.
-/
module

public import proofs.«01_k».proof.Proof.KernelValue
public import proofs.«01_k».proof.Proof.Launch
public import Idealize.ShloMosaic.Lib.KernelVsHost

@[expose] public section

noncomputable section

namespace Cert.Proof.KernelIdeal

open Idealize.ShloMosaic Idealize.ShloMosaic.TcCoe Idealize.ShloMosaic.Tactic
open Idealize.ShloMosaic.StableHlo (after held launchContents seq)
open Idealize.SL.Sem
open Cert.KernelIdeal Cert.KernelIdeal.Gen
open Cert.Proof.Order (Upto rank tail)
open Cert.Proof.Score

variable (m : (ℓ : Loc nD τ sig) → Buf (Elt Ideal) ℓ) (ρ : Dev nD → PrngReg)

/-! ### What the host leaves before the decode kernel -/

theorem W1_v5 (d : Dev nD) : (W1 m d main_v5 : FVec Ideal S10 .f32) = m ((d : Thread nD τ).loc main_arg3) := by
  unfold W1 V1 ops1
  after_results
  rfl

theorem W1_arg4 (d : Dev nD) : W1 m d main_arg4 = m ((d : Thread nD τ).loc main_arg4) := by
  unfold W1 V1 ops1
  after_results

/-- A column of the first argument, padded to 256 lanes, read at one of the 200 items. -/
theorem padded_column (x : FVec Ideal S1024x200x3 .f32) (o : Fin 3) (hs : S1024x200x3.Slices ![0, 0, o.val] S1024x200x1) (p : FVec Ideal S_ .f32)
    (r : Fin 1024) (i : Fin 256) (h : i.val < 200) :
    pad S1024x256 ![0, 0] ![0, 56] ![0, 0] (shapeCast S1024x200 (extractStridedSlice S1024x200x1 ![0, 0, o.val] x hs) shapeCasts_S1024x200x1_S1024x200) p
      pads_S1024x200_S1024x256_000_0560 h_S_ (ix2 r i) = x (ix3 r ⟨i.val, h⟩ o) := by
  refine (pad_apply_of_inside ![0, 0] ![0, 56] ![0, 0] _ p pads_S1024x200_S1024x256_000_0560 h_S_ (ix2 r i) (ix2 r ⟨i.val, h⟩) ?_).trans ?_
  · intro a
    match a with
    | ⟨0, _⟩ => show r.val = 0 + r.val * (0 + 1); omega
    | ⟨1, _⟩ => show i.val = 0 + i.val * (0 + 1); omega
  refine (shapeCast_apply _ _ _ (ix3 r ⟨i.val, h⟩ 0) ?_).trans (extractStridedSlice_apply _ _ _ _ _ ?_)
  · rw [Shape.rowMajor_val_three, Shape.rowMajor_val_two]
    show (r.val * 200 + i.val) * 1 + 0 = r.val * 200 + i.val
    omega
  · intro a
    match a with
    | ⟨0, _⟩ => show r.val = 0 + r.val; omega
    | ⟨1, _⟩ => show i.val = 0 + i.val; omega
    | ⟨2, _⟩ => show o.val = o.val + 0; omega

theorem W1_v6 (d : Dev nD) (r : Fin 1024) (i : Fin 256) (h : i.val < 200) :
    (W1 m d main_v6 : FVec Ideal S1024x256 .f32) (ix2 r i) = (m ((d : Thread nD τ).loc main_arg0) : FVec Ideal S1024x200x3 .f32) (ix3 r ⟨i.val, h⟩ 0) := by
  unfold W1 V1 ops1
  after_results
  exact padded_column (m ((d : Thread nD τ).loc main_arg0)) 0 slices_S1024x200x3_S1024x200x1_0_0_0 (constant (F := Ideal) S_ .f32 0x3F800000#32) r i h

theorem W1_v7 (d : Dev nD) (r : Fin 1024) (i : Fin 256) (h : i.val < 200) :
    (W1 m d main_v7 : FVec Ideal S1024x256 .f32) (ix2 r i) = (m ((d : Thread nD τ).loc main_arg0) : FVec Ideal S1024x200x3 .f32) (ix3 r ⟨i.val, h⟩ 1) := by
  unfold W1 V1 ops1
  after_results
  exact padded_column (m ((d : Thread nD τ).loc main_arg0)) 1 slices_S1024x200x3_S1024x200x1_0_0_1 (constant (F := Ideal) S_ .f32 0x3F800000#32) r i h

/-- The scores of the rows of 200 items, from the arguments. -/
abbrev argScores (d : Dev nD) : Fin 1024 → Fin 200 → EReal :=
  rowScores (m ((d : Thread nD τ).loc main_arg0)) (m ((d : Thread nD τ).loc main_arg3)) (m ((d : Thread nD τ).loc main_arg4))

theorem le_lanes : 200 ≤ 256 := by decide

theorem scores_castLE (d : Dev nD) (r : Fin 1024) (i : Fin 200) : scores (W1 m) d r (i.castLE le_lanes) = argScores m d r i := by
  have hi : (i.castLE le_lanes).val < 200 := i.isLt
  unfold scores
  rw [if_pos hi, W1_v6 m d r _ hi, W1_v7 m d r _ hi, W1_v5, W1_arg4]
  rfl

theorem scores_pad (d : Dev nD) (r : Fin 1024) (j : Fin 256) (h : 200 ≤ j.val) : scores (W1 m) d r j = ⊥ := by
  unfold scores
  rw [if_neg (by omega)]

/-! ### What the run leaves -/

theorem V4_of_ne (d : Dev nD) (b : Ref sig .tc) (h : b ≠ main_v8_0 ∧ b ≠ main_v8_1 ∧ b ≠ main_v8_2 ∧ b ≠ main_v9_0 ∧ b ≠ main_v9_1 ∧ b ≠ main_v10 ∧ b ≠ main_v11)
    (h1 : W1 m d b = m ((d : Thread nD τ).loc b)) : V4 m d (Proc.devRef .tc b) = m ((d : Thread nD τ).loc b) := by
  obtain ⟨h80, h81, h82, h90, h91, h10, h11⟩ := h
  have e4 : V4 m d (Proc.devRef .tc b) = V3 m d (Proc.devRef .tc b) := by
    unfold V4
    refine StableHlo.after_of_forall_not_mem _ _ (List.forall_iff_forall_mem.mp ?_)
    unfold ops2
    simp only [List.Forall]
    refine ⟨?_, ?_⟩
    · exact fun hm => devRef_ne h10 (Finset.mem_singleton.mp hm)
    · exact fun hm => devRef_ne h11 (Finset.mem_singleton.mp hm)
  rw [e4]
  exact (V3_ne m d (Proc.devRef .tc b) (devRef_ne h90) (devRef_ne h91)).trans ((W2_ne m d b h80 h81 h82).trans h1)

theorem V4_v10 (d : Dev nD) : (V4 m d (Proc.devRef .tc main_v10) : FVec Ideal S1024x200 .f32)
    = extractStridedSlice S1024x200 ![0, 0] (OX (LPv (W1 m)) (RKv (W1 m)) d : FVec Ideal S1024x256 .f32) slices_S1024x256_S1024x200_0_0 := by
  have e : (V4 m d (Proc.devRef .tc main_v10) : FVec Ideal S1024x200 .f32)
      = extractStridedSlice S1024x200 ![0, 0] (V3 m d (Proc.devRef .tc main_v9_0) : FVec Ideal S1024x256 .f32) slices_S1024x256_S1024x200_0_0 := by
    unfold V4 ops2
    after_results
  rw [e, V3_x]

theorem V4_v11 (d : Dev nD) : (V4 m d (Proc.devRef .tc main_v11) : IVec S1024x200 32)
    = extractStridedSlice S1024x200 ![0, 0] (OY (RKv (W1 m)) (AVv (W1 m)) d : IVec S1024x256 32) slices_S1024x256_S1024x200_0_0 := by
  have e : (V4 m d (Proc.devRef .tc main_v11) : IVec S1024x200 32)
      = extractStridedSlice S1024x200 ![0, 0] (V3 m d (Proc.devRef .tc main_v9_1) : IVec S1024x256 32) slices_S1024x256_S1024x200_0_0 := by
    unfold V4 ops2
    after_results
  rw [e, V3_y]

/-- A slice of the first 200 lanes, read at a position. -/
theorem slice_apply {α : Type} (x : S1024x256.Idx → α) (r : Fin 1024) (t : Fin 200) :
    extractStridedSlice S1024x200 ![0, 0] x slices_S1024x256_S1024x200_0_0 (ix2 r t) = x (ix2 r (t.castLE le_lanes)) := by
  refine extractStridedSlice_apply _ _ _ _ _ fun a => ?_
  match a with
  | ⟨0, _⟩ => show r.val = 0 + r.val; omega
  | ⟨1, _⟩ => show t.val = 0 + t.val; omega

/-- The two results are the greedy pass over the scores. -/
theorem decoded (d : Dev nD) (hf : ∀ r i, ⊥ < argScores m d r i) :
    Decoded (argScores m d) (V4 m d (Proc.devRef .tc main_v10)) (V4 m d (Proc.devRef .tc main_v11)) := by
  intro r i
  have hk : ((RKv (W1 m) d : S1024x256.Idx → BitVec 32) (ix2 r (i.castLE le_lanes))).toNat = rank (argScores m d r) i :=
    (RKv_toNat (W1 m) d r _).trans (Order.rank_castLE le_lanes (scores (W1 m) d r) (scores_castLE m d r) (scores_pad m d r) (hf r) i)
  have hlt : ((RKv (W1 m) d : S1024x256.Idx → BitVec 32) (ix2 r (i.castLE le_lanes))).toNat < 256 := ((perm (W1 m) d) r).1 _
  have hix : (⟨rank (argScores m d r) i, Order.rank_lt i⟩ : Fin 200).castLE le_lanes
      = ⟨((RKv (W1 m) d : S1024x256.Idx → BitVec 32) (ix2 r (i.castLE le_lanes))).toNat, hlt⟩ := Fin.ext hk.symm
  have ht : tail (scores (W1 m) d r) (i.castLE le_lanes) = tail (argScores m d r) i :=
    Order.tail_castLE le_lanes (scores (W1 m) d r) (scores_castLE m d r) (scores_pad m d r) (hf r) i
  constructor
  · rw [V4_v10, slice_apply, hix]
    refine (Scatter.place_placed (n := 1024) (LPv (W1 m) d) (perm (W1 m) d) r (i.castLE le_lanes) hlt).trans ?_
    rw [LPv_eq]
    show 0 - Ideal.log (1 + tail (scores (W1 m) d r) (i.castLE le_lanes)) = logp (argScores m d r) i
    rw [ht]
    rfl
  · rw [V4_v11, slice_apply, hix]
    refine (Scatter.place_placed (n := 1024) (AVv (W1 m) d) (perm (W1 m) d) r (i.castLE le_lanes) hlt).trans ?_
    rw [AVv_eq]
    rfl

/-! ### The run -/

theorem arg_mem : (Proc.devRef .tc main_arg0 : DevRef τ sig) ∈ ucRefs ∧ (Proc.devRef .tc main_arg1 : DevRef τ sig) ∈ ucRefs ∧ (Proc.devRef .tc main_arg2 : DevRef τ sig) ∈ ucRefs
    ∧ (Proc.devRef .tc main_arg3 : DevRef τ sig) ∈ ucRefs ∧ (Proc.devRef .tc main_arg4 : DevRef τ sig) ∈ ucRefs := by decide

theorem result_mem : (Proc.devRef .tc main_v10 : DevRef τ sig) ∈ ucRefs ∧ (Proc.devRef .tc main_v11 : DevRef τ sig) ∈ ucRefs := by decide

theorem W1_arg0 (d : Dev nD) : W1 m d main_arg0 = m ((d : Thread nD τ).loc main_arg0) := by
  unfold W1 V1 ops1
  after_results
theorem W1_arg1 (d : Dev nD) : W1 m d main_arg1 = m ((d : Thread nD τ).loc main_arg1) := by
  unfold W1 V1 ops1
  after_results
theorem W1_arg2 (d : Dev nD) : W1 m d main_arg2 = m ((d : Thread nD τ).loc main_arg2) := by
  unfold W1 V1 ops1
  after_results
theorem W1_arg3 (d : Dev nD) : W1 m d main_arg3 = m ((d : Thread nD τ).loc main_arg3) := by
  unfold W1 V1 ops1
  after_results

/-- Every device's arguments at the end of the run. -/
abbrev ArgsKept (μ : (ℓ : Loc nD τ sig) → Buf (Elt Ideal) ℓ) (c : Dev nD) : Prop :=
  μ ((c : Thread nD τ).loc main_arg0) = m ((c : Thread nD τ).loc main_arg0) ∧ μ ((c : Thread nD τ).loc main_arg1) = m ((c : Thread nD τ).loc main_arg1)
    ∧ μ ((c : Thread nD τ).loc main_arg2) = m ((c : Thread nD τ).loc main_arg2) ∧ μ ((c : Thread nD τ).loc main_arg3) = m ((c : Thread nD τ).loc main_arg3)
    ∧ μ ((c : Thread nD τ).loc main_arg4) = m ((c : Thread nD τ).loc main_arg4)

theorem args_kept {μ : (ℓ : Loc nD τ sig) → Buf (Elt Ideal) ℓ} (h : ∀ d : Dev nD, ∀ b ∈ ucRefs, μ (d, b) = V4 m d b) (c : Dev nD) : ArgsKept m μ c :=
  ⟨(h c _ arg_mem.1).trans (V4_of_ne m c main_arg0 (by decide) (W1_arg0 m c)),
    (h c _ arg_mem.2.1).trans (V4_of_ne m c main_arg1 (by decide) (W1_arg1 m c)),
    (h c _ arg_mem.2.2.1).trans (V4_of_ne m c main_arg2 (by decide) (W1_arg2 m c)),
    (h c _ arg_mem.2.2.2.1).trans (V4_of_ne m c main_arg3 (by decide) (W1_arg3 m c)),
    (h c _ arg_mem.2.2.2.2).trans (V4_of_ne m c main_arg4 (by decide) (W1_arg4 m c))⟩

/-- The whole run: both results, the arguments unchanged, every semaphore back at zero. -/
theorem run_ends :
    θ_run (Cert.KernelIdeal.defs (F := Ideal)) (Cert.KernelIdeal.threads (F := Ideal)) ⟨m, fun _ => 0, ρ⟩ (fun r =>
      (∀ c : Dev nD, r.2.mem ((c : Thread nD τ).loc main_v10) = V4 m c (Proc.devRef .tc main_v10)
        ∧ r.2.mem ((c : Thread nD τ).loc main_v11) = V4 m c (Proc.devRef .tc main_v11) ∧ ArgsKept m r.2.mem c)
      ∧ r.2.sem = fun _ => 0) :=
  θ_run_mono (run_main m ρ fun d => perm (W1 m) d)
    fun _ h => ⟨fun c => ⟨h.1 c _ result_mem.1, h.1 c _ result_mem.2, args_kept m h.1 c⟩, h.2⟩

end Cert.Proof.KernelIdeal

end
-- ==== Proof.RefFold.lean ====
/- The reference's run, first part: `main` is a stretch of host operations, one counted loop of 200 trips and a
   stretch after it. `run_fold` says that every fair execution ends with every buffer at the fold of those
   operations over the loop's trips. The lists of operations below restate the printed program in its own order. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

-- a long stretch's `::` list and the decided enumerations over the program's references recurse past the default depth
set_option maxRecDepth 1104

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

/-- 63 host operations of @main, in order. -/
abbrev hostOps0 : List (HloOp τ sig (Elt F)) :=
  ( StableHlo.unary main_arg0 main_v0 ((extractStridedSlice S1024x200x1 ![0, 0, 0] · slices_S1024x200x3_S1024x200x1_0_0_0) : (⟨S1024x200x3, .f32⟩ : BufTy).Contents (Elt F) → (⟨S1024x200x1, .f32⟩ : BufTy).Contents (Elt F))
  :: StableHlo.reshape main_v0 main_v1 (rfl : (.f32 : EltTy) = .f32) shapeCasts_S1024x200x1_S1024x200
  :: StableHlo.nullary main_c (constantI S_ 32 2#32)
  :: StableHlo.unary main_c main_v2 (broadcastInDim S1 ![] bcast_S_S1 : (⟨S_, .i32⟩ : BufTy).Contents (Elt F) → (⟨S1, .i32⟩ : BufTy).Contents (Elt F))
  :: StableHlo.ternary main_arg0 main_v2 main_v1 main_v3 ((fun x i u => Host.scatter scatter_S1024x200x3_S1_S1024x200_01_2_2_0 (fun _ b => b) x i u) : (⟨S1024x200x3, .f32⟩ : BufTy).Contents (Elt F) → (⟨S1, .i32⟩ : BufTy).Contents (Elt F) → (⟨S1024x200, .f32⟩ : BufTy).Contents (Elt F) → (⟨S1024x200x3, .f32⟩ : BufTy).Contents (Elt F))
  :: StableHlo.unary main_v3 main_v4 ((extractStridedSlice S1024x200x1 ![0, 0, 0] · slices_S1024x200x3_S1024x200x1_0_0_0) : (⟨S1024x200x3, .f32⟩ : BufTy).Contents (Elt F) → (⟨S1024x200x1, .f32⟩ : BufTy).Contents (Elt F))
  :: StableHlo.reshape main_v4 main_v5 (rfl : (.f32 : EltTy) = .f32) shapeCasts_S1024x200x1_S1024x200
  :: StableHlo.unary main_v3 main_v6 ((extractStridedSlice S1024x200x1 ![0, 0, 1] · slices_S1024x200x3_S1024x200x1_0_0_1) : (⟨S1024x200x3, .f32⟩ : BufTy).Contents (Elt F) → (⟨S1024x200x1, .f32⟩ : BufTy).Contents (Elt F))
  :: StableHlo.reshape main_v6 main_v7 (rfl : (.f32 : EltTy) = .f32) shapeCasts_S1024x200x1_S1024x200
  :: StableHlo.unary main_v3 main_v8 ((extractStridedSlice S1024x200x1 ![0, 0, 2] · slices_S1024x200x3_S1024x200x1_0_0_2) : (⟨S1024x200x3, .f32⟩ : BufTy).Contents (Elt F) → (⟨S1024x200x1, .f32⟩ : BufTy).Contents (Elt F))
  :: StableHlo.reshape main_v8 main_v9 (rfl : (.f32 : EltTy) = .f32) shapeCasts_S1024x200x1_S1024x200
  :: StableHlo.binary main_v7 main_v5 main_v10 (Host.divf : (⟨S1024x200, .f32⟩ : BufTy).Contents (Elt F) → (⟨S1024x200, .f32⟩ : BufTy).Contents (Elt F) → (⟨S1024x200, .f32⟩ : BufTy).Contents (Elt F))
  :: StableHlo.binary main_v9 main_v5 main_v11 (Host.divf : (⟨S1024x200, .f32⟩ : BufTy).Contents (Elt F) → (⟨S1024x200, .f32⟩ : BufTy).Contents (Elt F) → (⟨S1024x200, .f32⟩ : BufTy).Contents (Elt F))
  :: StableHlo.binary main_v5 main_v7 main_v12 (subf : (⟨S1024x200, .f32⟩ : BufTy).Contents (Elt F) → (⟨S1024x200, .f32⟩ : BufTy).Contents (Elt F) → (⟨S1024x200, .f32⟩ : BufTy).Contents (Elt F))
  :: StableHlo.nullary main_cst (constant S_ .f32 0x447A0000#32)
  :: StableHlo.unary main_cst main_v13 (broadcastInDim S1024x200 ![] bcast_S_S1024x200 : (⟨S_, .f32⟩ : BufTy).Contents (Elt F) → (⟨S1024x200, .f32⟩ : BufTy).Contents (Elt F))
  :: StableHlo.binary main_v12 main_v13 main_v14 (Host.divf : (⟨S1024x200, .f32⟩ : BufTy).Contents (Elt F) → (⟨S1024x200, .f32⟩ : BufTy).Contents (Elt F) → (⟨S1024x200, .f32⟩ : BufTy).Contents (Elt F))
  :: StableHlo.binary main_v5 main_v9 main_v15 (subf : (⟨S1024x200, .f32⟩ : BufTy).Contents (Elt F) → (⟨S1024x200, .f32⟩ : BufTy).Contents (Elt F) → (⟨S1024x200, .f32⟩ : BufTy).Contents (Elt F))
  :: StableHlo.nullary main_cst_0 (constant S_ .f32 0x447A0000#32)
  :: StableHlo.unary main_cst_0 main_v16 (broadcastInDim S1024x200 ![] bcast_S_S1024x200 : (⟨S_, .f32⟩ : BufTy).Contents (Elt F) → (⟨S1024x200, .f32⟩ : BufTy).Contents (Elt F))
  :: StableHlo.binary main_v15 main_v16 main_v17 (Host.divf : (⟨S1024x200, .f32⟩ : BufTy).Contents (Elt F) → (⟨S1024x200, .f32⟩ : BufTy).Contents (Elt F) → (⟨S1024x200, .f32⟩ : BufTy).Contents (Elt F))
  :: StableHlo.unary main_v5 main_v18 (Host.log : (⟨S1024x200, .f32⟩ : BufTy).Contents (Elt F) → (⟨S1024x200, .f32⟩ : BufTy).Contents (Elt F))
  :: StableHlo.nullary main_cst_1 (constant S_ .f32 0x3F317218#32)
  :: StableHlo.unary main_cst_1 main_v19 (broadcastInDim S1024x200 ![] bcast_S_S1024x200 : (⟨S_, .f32⟩ : BufTy).Contents (Elt F) → (⟨S1024x200, .f32⟩ : BufTy).Contents (Elt F))
  :: StableHlo.binary main_v18 main_v19 main_v20 (Host.divf : (⟨S1024x200, .f32⟩ : BufTy).Contents (Elt F) → (⟨S1024x200, .f32⟩ : BufTy).Contents (Elt F) → (⟨S1024x200, .f32⟩ : BufTy).Contents (Elt F))
  :: StableHlo.nullary main_cst_2 (constant S_ .f32 0x3F317218#32)
  :: StableHlo.unary main_cst_2 main_v21 (broadcastInDim S1024x200 ![] bcast_S_S1024x200 : (⟨S_, .f32⟩ : BufTy).Contents (Elt F) → (⟨S1024x200, .f32⟩ : BufTy).Contents (Elt F))
  :: StableHlo.binary main_v7 main_v21 main_v22 (Host.divf : (⟨S1024x200, .f32⟩ : BufTy).Contents (Elt F) → (⟨S1024x200, .f32⟩ : BufTy).Contents (Elt F) → (⟨S1024x200, .f32⟩ : BufTy).Contents (Elt F))
  :: StableHlo.unary main_v22 main_v23 (Host.log : (⟨S1024x200, .f32⟩ : BufTy).Contents (Elt F) → (⟨S1024x200, .f32⟩ : BufTy).Contents (Elt F))
  :: StableHlo.nullary main_cst_3 (constant S_ .f32 0x3F317218#32)
  :: StableHlo.unary main_cst_3 main_v24 (broadcastInDim S1024x200 ![] bcast_S_S1024x200 : (⟨S_, .f32⟩ : BufTy).Contents (Elt F) → (⟨S1024x200, .f32⟩ : BufTy).Contents (Elt F))
  :: StableHlo.binary main_v9 main_v24 main_v25 (Host.divf : (⟨S1024x200, .f32⟩ : BufTy).Contents (Elt F) → (⟨S1024x200, .f32⟩ : BufTy).Contents (Elt F) → (⟨S1024x200, .f32⟩ : BufTy).Contents (Elt F))
  :: StableHlo.unary main_v25 main_v26 (Host.log : (⟨S1024x200, .f32⟩ : BufTy).Contents (Elt F) → (⟨S1024x200, .f32⟩ : BufTy).Contents (Elt F))
  :: StableHlo.unary main_v10 main_v27 (broadcastInDim S1024x200x1 ![0, 1] bcast_S1024x200_S1024x200x1_0_1 : (⟨S1024x200, .f32⟩ : BufTy).Contents (Elt F) → (⟨S1024x200x1, .f32⟩ : BufTy).Contents (Elt F))
  :: StableHlo.unary main_v11 main_v28 (broadcastInDim S1024x200x1 ![0, 1] bcast_S1024x200_S1024x200x1_0_1 : (⟨S1024x200, .f32⟩ : BufTy).Contents (Elt F) → (⟨S1024x200x1, .f32⟩ : BufTy).Contents (Elt F))
  :: StableHlo.unary main_v14 main_v29 (broadcastInDim S1024x200x1 ![0, 1] bcast_S1024x200_S1024x200x1_0_1 : (⟨S1024x200, .f32⟩ : BufTy).Contents (Elt F) → (⟨S1024x200x1, .f32⟩ : BufTy).Contents (Elt F))
  :: StableHlo.unary main_v17 main_v30 (broadcastInDim S1024x200x1 ![0, 1] bcast_S1024x200_S1024x200x1_0_1 : (⟨S1024x200, .f32⟩ : BufTy).Contents (Elt F) → (⟨S1024x200x1, .f32⟩ : BufTy).Contents (Elt F))
  :: StableHlo.unary main_v20 main_v31 (broadcastInDim S1024x200x1 ![0, 1] bcast_S1024x200_S1024x200x1_0_1 : (⟨S1024x200, .f32⟩ : BufTy).Contents (Elt F) → (⟨S1024x200x1, .f32⟩ : BufTy).Contents (Elt F))
  :: StableHlo.unary main_v23 main_v32 (broadcastInDim S1024x200x1 ![0, 1] bcast_S1024x200_S1024x200x1_0_1 : (⟨S1024x200, .f32⟩ : BufTy).Contents (Elt F) → (⟨S1024x200x1, .f32⟩ : BufTy).Contents (Elt F))
  :: StableHlo.unary main_v26 main_v33 (broadcastInDim S1024x200x1 ![0, 1] bcast_S1024x200_S1024x200x1_0_1 : (⟨S1024x200, .f32⟩ : BufTy).Contents (Elt F) → (⟨S1024x200x1, .f32⟩ : BufTy).Contents (Elt F))
  :: StableHlo.nary ![main_v27, main_v28, main_v29, main_v30, main_v31, main_v32, main_v33] main_v34 (fun u => (concatenate S1024x200x7 2 [⟨S1024x200x1, (u 0 : (⟨S1024x200x1, .f32⟩ : BufTy).Contents (Elt F))⟩, ⟨S1024x200x1, (u 1 : (⟨S1024x200x1, .f32⟩ : BufTy).Contents (Elt F))⟩, ⟨S1024x200x1, (u 2 : (⟨S1024x200x1, .f32⟩ : BufTy).Contents (Elt F))⟩, ⟨S1024x200x1, (u 3 : (⟨S1024x200x1, .f32⟩ : BufTy).Contents (Elt F))⟩, ⟨S1024x200x1, (u 4 : (⟨S1024x200x1, .f32⟩ : BufTy).Contents (Elt F))⟩, ⟨S1024x200x1, (u 5 : (⟨S1024x200x1, .f32⟩ : BufTy).Contents (Elt F))⟩, ⟨S1024x200x1, (u 6 : (⟨S1024x200x1, .f32⟩ : BufTy).Contents (Elt F))⟩] concatenates_S1024x200x1_S1024x200x1_S1024x200x1_S1024x200x1_S1024x200x1_S1024x200x1_S1024x200x1_S1024x200x7_d2 : (⟨S1024x200x7, .f32⟩ : BufTy).Contents (Elt F)))
  :: StableHlo.nullary main_cst_4 (constant S_ .f32 0x447A0000#32)
  :: StableHlo.unary main_cst_4 main_v35 (broadcastInDim S1024x200x3 ![] bcast_S_S1024x200x3 : (⟨S_, .f32⟩ : BufTy).Contents (Elt F) → (⟨S1024x200x3, .f32⟩ : BufTy).Contents (Elt F))
  :: StableHlo.binary main_v3 main_v35 main_v36 (Host.divf : (⟨S1024x200x3, .f32⟩ : BufTy).Contents (Elt F) → (⟨S1024x200x3, .f32⟩ : BufTy).Contents (Elt F) → (⟨S1024x200x3, .f32⟩ : BufTy).Contents (Elt F))
  :: StableHlo.binary main_v34 main_v36 main_v37 ((fun a b => concatenate S1024x200x10 2 [⟨S1024x200x7, a⟩, ⟨S1024x200x3, b⟩] concatenates_S1024x200x7_S1024x200x3_S1024x200x10_d2) : (⟨S1024x200x7, .f32⟩ : BufTy).Contents (Elt F) → (⟨S1024x200x3, .f32⟩ : BufTy).Contents (Elt F) → (⟨S1024x200x10, .f32⟩ : BufTy).Contents (Elt F))
  :: StableHlo.binary main_v37 main_arg3 main_v38 ((fun l r => Host.dotGeneral dot_S1024x200x10_S10_S1024x200_2_0_01_n_n_n none l r) : (⟨S1024x200x10, .f32⟩ : BufTy).Contents (Elt F) → (⟨S10, .f32⟩ : BufTy).Contents (Elt F) → (⟨S1024x200, .f32⟩ : BufTy).Contents (Elt F))
  :: StableHlo.reshape main_arg4 main_v39 (rfl : (.f32 : EltTy) = .f32) shapeCasts_S1_S_
  :: StableHlo.unary main_v39 main_v40 (broadcastInDim S1024x200 ![] bcast_S_S1024x200 : (⟨S_, .f32⟩ : BufTy).Contents (Elt F) → (⟨S1024x200, .f32⟩ : BufTy).Contents (Elt F))
  :: StableHlo.binary main_v38 main_v40 main_v41 (addf : (⟨S1024x200, .f32⟩ : BufTy).Contents (Elt F) → (⟨S1024x200, .f32⟩ : BufTy).Contents (Elt F) → (⟨S1024x200, .f32⟩ : BufTy).Contents (Elt F))
  :: StableHlo.nullary main_v42 (iotaInDim S1024 32 0)
  :: StableHlo.nullary main_c_5 (constantI S_ 1 0#1)
  :: StableHlo.unary main_c_5 main_v43 (broadcastInDim S1024x200 ![] bcast_S_S1024x200 : (⟨S_, .i1⟩ : BufTy).Contents (Elt F) → (⟨S1024x200, .i1⟩ : BufTy).Contents (Elt F))
  :: StableHlo.nullary main_cst_6 (constant S_ .f32 0x00000000#32)
  :: StableHlo.unary main_cst_6 main_v44 (broadcastInDim S200x1024 ![] bcast_S_S200x1024 : (⟨S_, .f32⟩ : BufTy).Contents (Elt F) → (⟨S200x1024, .f32⟩ : BufTy).Contents (Elt F))
  :: StableHlo.nullary main_c_7 (constantI S_ 32 0#32)
  :: StableHlo.unary main_c_7 main_v45 (broadcastInDim S200x1024 ![] bcast_S_S200x1024 : (⟨S_, .i32⟩ : BufTy).Contents (Elt F) → (⟨S200x1024, .i32⟩ : BufTy).Contents (Elt F))
  :: StableHlo.nullary main_c_8 (constantI S_ 32 0#32)
  :: StableHlo.unary main_v41 main_v46_0 id
  :: StableHlo.unary main_v42 main_v46_1 id
  :: StableHlo.unary main_c_8 main_v46_2 id
  :: StableHlo.unary main_v43 main_v46_3 id
  :: StableHlo.unary main_v44 main_v46_4 id
  :: StableHlo.unary main_v45 main_v46_5 id
  :: [] )
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.ternary_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.nullary_bufs_sub .., StableHlo.unary_bufs_sub .., StableHlo.binary_bufs_sub .., StableHlo.binary_bufs_sub .., StableHlo.binary_bufs_sub .., StableHlo.reshape_bufs_sub .., StableHlo.unary_bufs_sub .., StableHlo.binary_bufs_sub .., StableHlo.nullary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- 2 host operations of @main, in order. -/
abbrev hostOps0_1 : List (HloOp τ sig (Elt F)) :=
  [ StableHlo.unary main_v46_4 main_v47 ((transpose S1024x200 [1, 0] · transposes_S200x1024_S1024x200_1_0) : (⟨S200x1024, .f32⟩ : BufTy).Contents (Elt F) → (⟨S1024x200, .f32⟩ : BufTy).Contents (Elt F)),
    StableHlo.unary main_v46_5 main_v48 ((transpose S1024x200 [1, 0] · transposes_S200x1024_S1024x200_1_0) : (⟨S200x1024, .i32⟩ : BufTy).Contents (Elt F) → (⟨S1024x200, .i32⟩ : BufTy).Contents (Elt F)) ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.unary_bufs_sub .., StableHlo.unary_bufs_sub ..⟩
/-- 60 host operations of @main, window 0 (statements 1 … 60), in order. -/
abbrev main_part0_ops0 : List (HloOp τ sig (Elt F)) :=
  ( StableHlo.unary main_arg0 main_v0 ((extractStridedSlice S1024x200x1 ![0, 0, 0] · slices_S1024x200x3_S1024x200x1_0_0_0) : (⟨S1024x200x3, .f32⟩ : BufTy).Contents (Elt F) → (⟨S1024x200x1, .f32⟩ : BufTy).Contents (Elt F))
  :: StableHlo.reshape main_v0 main_v1 (rfl : (.f32 : EltTy) = .f32) shapeCasts_S1024x200x1_S1024x200
  :: StableHlo.nullary main_c (constantI S_ 32 2#32)
  :: StableHlo.unary main_c main_v2 (broadcastInDim S1 ![] bcast_S_S1 : (⟨S_, .i32⟩ : BufTy).Contents (Elt F) → (⟨S1, .i32⟩ : BufTy).Contents (Elt F))
  :: StableHlo.ternary main_arg0 main_v2 main_v1 main_v3 ((fun x i u => Host.scatter scatter_S1024x200x3_S1_S1024x200_01_2_2_0 (fun _ b => b) x i u) : (⟨S1024x200x3, .f32⟩ : BufTy).Contents (Elt F) → (⟨S1, .i32⟩ : BufTy).Contents (Elt F) → (⟨S1024x200, .f32⟩ : BufTy).Contents (Elt F) → (⟨S1024x200x3, .f32⟩ : BufTy).Contents (Elt F))
  :: StableHlo.unary main_v3 main_v4 ((extractStridedSlice S1024x200x1 ![0, 0, 0] · slices_S1024x200x3_S1024x200x1_0_0_0) : (⟨S1024x200x3, .f32⟩ : BufTy).Contents (Elt F) → (⟨S1024x200x1, .f32⟩ : BufTy).Contents (Elt F))
  :: StableHlo.reshape main_v4 main_v5 (rfl : (.f32 : EltTy) = .f32) shapeCasts_S1024x200x1_S1024x200
  :: StableHlo.unary main_v3 main_v6 ((extractStridedSlice S1024x200x1 ![0, 0, 1] · slices_S1024x200x3_S1024x200x1_0_0_1) : (⟨S1024x200x3, .f32⟩ : BufTy).Contents (Elt F) → (⟨S1024x200x1, .f32⟩ : BufTy).Contents (Elt F))
  :: StableHlo.reshape main_v6 main_v7 (rfl : (.f32 : EltTy) = .f32) shapeCasts_S1024x200x1_S1024x200
  :: StableHlo.unary main_v3 main_v8 ((extractStridedSlice S1024x200x1 ![0, 0, 2] · slices_S1024x200x3_S1024x200x1_0_0_2) : (⟨S1024x200x3, .f32⟩ : BufTy).Contents (Elt F) → (⟨S1024x200x1, .f32⟩ : BufTy).Contents (Elt F))
  :: StableHlo.reshape main_v8 main_v9 (rfl : (.f32 : EltTy) = .f32) shapeCasts_S1024x200x1_S1024x200
  :: StableHlo.binary main_v7 main_v5 main_v10 (Host.divf : (⟨S1024x200, .f32⟩ : BufTy).Contents (Elt F) → (⟨S1024x200, .f32⟩ : BufTy).Contents (Elt F) → (⟨S1024x200, .f32⟩ : BufTy).Contents (Elt F))
  :: StableHlo.binary main_v9 main_v5 main_v11 (Host.divf : (⟨S1024x200, .f32⟩ : BufTy).Contents (Elt F) → (⟨S1024x200, .f32⟩ : BufTy).Contents (Elt F) → (⟨S1024x200, .f32⟩ : BufTy).Contents (Elt F))
  :: StableHlo.binary main_v5 main_v7 main_v12 (subf : (⟨S1024x200, .f32⟩ : BufTy).Contents (Elt F) → (⟨S1024x200, .f32⟩ : BufTy).Contents (Elt F) → (⟨S1024x200, .f32⟩ : BufTy).Contents (Elt F))
  :: StableHlo.nullary main_cst (constant S_ .f32 0x447A0000#32)
  :: StableHlo.unary main_cst main_v13 (broadcastInDim S1024x200 ![] bcast_S_S1024x200 : (⟨S_, .f32⟩ : BufTy).Contents (Elt F) → (⟨S1024x200, .f32⟩ : BufTy).Contents (Elt F))
  :: StableHlo.binary main_v12 main_v13 main_v14 (Host.divf : (⟨S1024x200, .f32⟩ : BufTy).Contents (Elt F) → (⟨S1024x200, .f32⟩ : BufTy).Contents (Elt F) → (⟨S1024x200, .f32⟩ : BufTy).Contents (Elt F))
  :: StableHlo.binary main_v5 main_v9 main_v15 (subf : (⟨S1024x200, .f32⟩ : BufTy).Contents (Elt F) → (⟨S1024x200, .f32⟩ : BufTy).Contents (Elt F) → (⟨S1024x200, .f32⟩ : BufTy).Contents (Elt F))
  :: StableHlo.nullary main_cst_0 (constant S_ .f32 0x447A0000#32)
  :: StableHlo.unary main_cst_0 main_v16 (broadcastInDim S1024x200 ![] bcast_S_S1024x200 : (⟨S_, .f32⟩ : BufTy).Contents (Elt F) → (⟨S1024x200, .f32⟩ : BufTy).Contents (Elt F))
  :: StableHlo.binary main_v15 main_v16 main_v17 (Host.divf : (⟨S1024x200, .f32⟩ : BufTy).Contents (Elt F) → (⟨S1024x200, .f32⟩ : BufTy).Contents (Elt F) → (⟨S1024x200, .f32⟩ : BufTy).Contents (Elt F))
  :: StableHlo.unary main_v5 main_v18 (Host.log : (⟨S1024x200, .f32⟩ : BufTy).Contents (Elt F) → (⟨S1024x200, .f32⟩ : BufTy).Contents (Elt F))
  :: StableHlo.nullary main_cst_1 (constant S_ .f32 0x3F317218#32)
  :: StableHlo.unary main_cst_1 main_v19 (broadcastInDim S1024x200 ![] bcast_S_S1024x200 : (⟨S_, .f32⟩ : BufTy).Contents (Elt F) → (⟨S1024x200, .f32⟩ : BufTy).Contents (Elt F))
  :: StableHlo.binary main_v18 main_v19 main_v20 (Host.divf : (⟨S1024x200, .f32⟩ : BufTy).Contents (Elt F) → (⟨S1024x200, .f32⟩ : BufTy).Contents (Elt F) → (⟨S1024x200, .f32⟩ : BufTy).Contents (Elt F))
  :: StableHlo.nullary main_cst_2 (constant S_ .f32 0x3F317218#32)
  :: StableHlo.unary main_cst_2 main_v21 (broadcastInDim S1024x200 ![] bcast_S_S1024x200 : (⟨S_, .f32⟩ : BufTy).Contents (Elt F) → (⟨S1024x200, .f32⟩ : BufTy).Contents (Elt F))
  :: StableHlo.binary main_v7 main_v21 main_v22 (Host.divf : (⟨S1024x200, .f32⟩ : BufTy).Contents (Elt F) → (⟨S1024x200, .f32⟩ : BufTy).Contents (Elt F) → (⟨S1024x200, .f32⟩ : BufTy).Contents (Elt F))
  :: StableHlo.unary main_v22 main_v23 (Host.log : (⟨S1024x200, .f32⟩ : BufTy).Contents (Elt F) → (⟨S1024x200, .f32⟩ : BufTy).Contents (Elt F))
  :: StableHlo.nullary main_cst_3 (constant S_ .f32 0x3F317218#32)
  :: StableHlo.unary main_cst_3 main_v24 (broadcastInDim S1024x200 ![] bcast_S_S1024x200 : (⟨S_, .f32⟩ : BufTy).Contents (Elt F) → (⟨S1024x200, .f32⟩ : BufTy).Contents (Elt F))
  :: StableHlo.binary main_v9 main_v24 main_v25 (Host.divf : (⟨S1024x200, .f32⟩ : BufTy).Contents (Elt F) → (⟨S1024x200, .f32⟩ : BufTy).Contents (Elt F) → (⟨S1024x200, .f32⟩ : BufTy).Contents (Elt F))
  :: StableHlo.unary main_v25 main_v26 (Host.log : (⟨S1024x200, .f32⟩ : BufTy).Contents (Elt F) → (⟨S1024x200, .f32⟩ : BufTy).Contents (Elt F))
  :: StableHlo.unary main_v10 main_v27 (broadcastInDim S1024x200x1 ![0, 1] bcast_S1024x200_S1024x200x1_0_1 : (⟨S1024x200, .f32⟩ : BufTy).Contents (Elt F) → (⟨S1024x200x1, .f32⟩ : BufTy).Contents (Elt F))
  :: StableHlo.unary main_v11 main_v28 (broadcastInDim S1024x200x1 ![0, 1] bcast_S1024x200_S1024x200x1_0_1 : (⟨S1024x200, .f32⟩ : BufTy).Contents (Elt F) → (⟨S1024x200x1, .f32⟩ : BufTy).Contents (Elt F))
  :: StableHlo.unary main_v14 main_v29 (broadcastInDim S1024x200x1 ![0, 1] bcast_S1024x200_S1024x200x1_0_1 : (⟨S1024x200, .f32⟩ : BufTy).Contents (Elt F) → (⟨S1024x200x1, .f32⟩ : BufTy).Contents (Elt F))
  :: StableHlo.unary main_v17 main_v30 (broadcastInDim S1024x200x1 ![0, 1] bcast_S1024x200_S1024x200x1_0_1 : (⟨S1024x200, .f32⟩ : BufTy).Contents (Elt F) → (⟨S1024x200x1, .f32⟩ : BufTy).Contents (Elt F))
  :: StableHlo.unary main_v20 main_v31 (broadcastInDim S1024x200x1 ![0, 1] bcast_S1024x200_S1024x200x1_0_1 : (⟨S1024x200, .f32⟩ : BufTy).Contents (Elt F) → (⟨S1024x200x1, .f32⟩ : BufTy).Contents (Elt F))
  :: StableHlo.unary main_v23 main_v32 (broadcastInDim S1024x200x1 ![0, 1] bcast_S1024x200_S1024x200x1_0_1 : (⟨S1024x200, .f32⟩ : BufTy).Contents (Elt F) → (⟨S1024x200x1, .f32⟩ : BufTy).Contents (Elt F))
  :: StableHlo.unary main_v26 main_v33 (broadcastInDim S1024x200x1 ![0, 1] bcast_S1024x200_S1024x200x1_0_1 : (⟨S1024x200, .f32⟩ : BufTy).Contents (Elt F) → (⟨S1024x200x1, .f32⟩ : BufTy).Contents (Elt F))
  :: StableHlo.nary ![main_v27, main_v28, main_v29, main_v30, main_v31, main_v32, main_v33] main_v34 (fun u => (concatenate S1024x200x7 2 [⟨S1024x200x1, (u 0 : (⟨S1024x200x1, .f32⟩ : BufTy).Contents (Elt F))⟩, ⟨S1024x200x1, (u 1 : (⟨S1024x200x1, .f32⟩ : BufTy).Contents (Elt F))⟩, ⟨S1024x200x1, (u 2 : (⟨S1024x200x1, .f32⟩ : BufTy).Contents (Elt F))⟩, ⟨S1024x200x1, (u 3 : (⟨S1024x200x1, .f32⟩ : BufTy).Contents (Elt F))⟩, ⟨S1024x200x1, (u 4 : (⟨S1024x200x1, .f32⟩ : BufTy).Contents (Elt F))⟩, ⟨S1024x200x1, (u 5 : (⟨S1024x200x1, .f32⟩ : BufTy).Contents (Elt F))⟩, ⟨S1024x200x1, (u 6 : (⟨S1024x200x1, .f32⟩ : BufTy).Contents (Elt F))⟩] concatenates_S1024x200x1_S1024x200x1_S1024x200x1_S1024x200x1_S1024x200x1_S1024x200x1_S1024x200x1_S1024x200x7_d2 : (⟨S1024x200x7, .f32⟩ : BufTy).Contents (Elt F)))
  :: StableHlo.nullary main_cst_4 (constant S_ .f32 0x447A0000#32)
  :: StableHlo.unary main_cst_4 main_v35 (broadcastInDim S1024x200x3 ![] bcast_S_S1024x200x3 : (⟨S_, .f32⟩ : BufTy).Contents (Elt F) → (⟨S1024x200x3, .f32⟩ : BufTy).Contents (Elt F))
  :: StableHlo.binary main_v3 main_v35 main_v36 (Host.divf : (⟨S1024x200x3, .f32⟩ : BufTy).Contents (Elt F) → (⟨S1024x200x3, .f32⟩ : BufTy).Contents (Elt F) → (⟨S1024x200x3, .f32⟩ : BufTy).Contents (Elt F))
  :: StableHlo.binary main_v34 main_v36 main_v37 ((fun a b => concatenate S1024x200x10 2 [⟨S1024x200x7, a⟩, ⟨S1024x200x3, b⟩] concatenates_S1024x200x7_S1024x200x3_S1024x200x10_d2) : (⟨S1024x200x7, .f32⟩ : BufTy).Contents (Elt F) → (⟨S1024x200x3, .f32⟩ : BufTy).Contents (Elt F) → (⟨S1024x200x10, .f32⟩ : BufTy).Contents (Elt F))
  :: StableHlo.binary main_v37 main_arg3 main_v38 ((fun l r => Host.dotGeneral dot_S1024x200x10_S10_S1024x200_2_0_01_n_n_n none l r) : (⟨S1024x200x10, .f32⟩ : BufTy).Contents (Elt F) → (⟨S10, .f32⟩ : BufTy).Contents (Elt F) → (⟨S1024x200, .f32⟩ : BufTy).Contents (Elt F))
  :: StableHlo.reshape main_arg4 main_v39 (rfl : (.f32 : EltTy) = .f32) shapeCasts_S1_S_
  :: StableHlo.unary main_v39 main_v40 (broadcastInDim S1024x200 ![] bcast_S_S1024x200 : (⟨S_, .f32⟩ : BufTy).Contents (Elt F) → (⟨S1024x200, .f32⟩ : BufTy).Contents (Elt F))
  :: StableHlo.binary main_v38 main_v40 main_v41 (addf : (⟨S1024x200, .f32⟩ : BufTy).Contents (Elt F) → (⟨S1024x200, .f32⟩ : BufTy).Contents (Elt F) → (⟨S1024x200, .f32⟩ : BufTy).Contents (Elt F))
  :: StableHlo.nullary main_v42 (iotaInDim S1024 32 0)
  :: StableHlo.nullary main_c_5 (constantI S_ 1 0#1)
  :: StableHlo.unary main_c_5 main_v43 (broadcastInDim S1024x200 ![] bcast_S_S1024x200 : (⟨S_, .i1⟩ : BufTy).Contents (Elt F) → (⟨S1024x200, .i1⟩ : BufTy).Contents (Elt F))
  :: StableHlo.nullary main_cst_6 (constant S_ .f32 0x00000000#32)
  :: StableHlo.unary main_cst_6 main_v44 (broadcastInDim S200x1024 ![] bcast_S_S200x1024 : (⟨S_, .f32⟩ : BufTy).Contents (Elt F) → (⟨S200x1024, .f32⟩ : BufTy).Contents (Elt F))
  :: StableHlo.nullary main_c_7 (constantI S_ 32 0#32)
  :: StableHlo.unary main_c_7 main_v45 (broadcastInDim S200x1024 ![] bcast_S_S200x1024 : (⟨S_, .i32⟩ : BufTy).Contents (Elt F) → (⟨S200x1024, .i32⟩ : BufTy).Contents (Elt F))
  :: StableHlo.nullary main_c_8 (constantI S_ 32 0#32)
  :: StableHlo.unary main_v41 main_v46_0 id
  :: StableHlo.unary main_v42 main_v46_1 id
  :: StableHlo.unary main_c_8 main_v46_2 id
  :: [] )
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.ternary_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.nullary_bufs_sub .., StableHlo.unary_bufs_sub .., StableHlo.binary_bufs_sub .., StableHlo.binary_bufs_sub .., StableHlo.binary_bufs_sub .., StableHlo.reshape_bufs_sub .., StableHlo.unary_bufs_sub .., StableHlo.binary_bufs_sub .., StableHlo.nullary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub ..⟩
/-- Window 0 of `main` (`main_part0`, statements 1 … 60) is the chain of ITS items ending in the last
    (`Pipeline.chainK`: no closing `pure`, the window's last statement being in tail position), by `chain_rfl`. -/
theorem main_part0_chain (c : Dev nD) : main_part0 (F := F) c = (Pipeline.chainK
  [  ]
  (StableHlo.seq main_part0_ops0) : Prog (TpuEff nD τ sig (Elt F) (HostLoop.Sig (Pipeline.Sig Λ₀ (Fin 0) fun p => (pcfgs (F := F) p).Adm) 1) .tc) PUnit) := by
  chain_rfl

/-- 3 host operations of @main, window 1 (statements 61 … 67), in order. -/
abbrev main_part1_ops0 : List (HloOp τ sig (Elt F)) :=
  [ StableHlo.unary main_v43 main_v46_3 id,
    StableHlo.unary main_v44 main_v46_4 id,
    StableHlo.unary main_v45 main_v46_5 id ]
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.unary_bufs_sub .., StableHlo.unary_bufs_sub .., StableHlo.unary_bufs_sub ..⟩
/-- 2 host operations of @main, window 1 (statements 61 … 67), in order. -/
abbrev main_part1_ops1 : List (HloOp τ sig (Elt F)) :=
  [ StableHlo.unary main_v46_4 main_v47 ((transpose S1024x200 [1, 0] · transposes_S200x1024_S1024x200_1_0) : (⟨S200x1024, .f32⟩ : BufTy).Contents (Elt F) → (⟨S1024x200, .f32⟩ : BufTy).Contents (Elt F)),
    StableHlo.unary main_v46_5 main_v48 ((transpose S1024x200 [1, 0] · transposes_S200x1024_S1024x200_1_0) : (⟨S200x1024, .i32⟩ : BufTy).Contents (Elt F) → (⟨S1024x200, .i32⟩ : BufTy).Contents (Elt F)) ]
/-- Each touches TensorCore references only (`HostSeg.ofOps` over `StableHlo.tcRefs`, or a subset by `sub_ucRefs`). -/
theorem main_part1_ops1_sub : (main_part1_ops1 : List (HloOp τ sig (Elt F))).Forall fun op => op.bufs ⊆ StableHlo.tcRefs τ sig :=
  ⟨StableHlo.unary_bufs_sub .., StableHlo.unary_bufs_sub ..⟩
/-- The last window of `main` (`main_part1`, statements 61 … 67) is the chain of ITS items, each item aligned with the window's
    statements, then `chain_rfl`. -/
theorem main_part1_chain (c : Dev nD) : main_part1 (F := F) c = (Pipeline.chain
  [ StableHlo.seq main_part1_ops0,
    HostLoop.enter 0,
    StableHlo.seq main_part1_ops1 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    StableHlo.seq main_part1_ops0,
    HostLoop.enter 0,
    StableHlo.seq main_part1_ops1 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c) = _
  rewrite [main_part1_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 1)) :=
  [ .ops [main_part0_ops0, main_part1_ops0],
    .prog (HostLoop.enter 0),
    .ops [main_part1_ops1] ]

/-- The windows' item list is `main_groups` with each stretch cut into its window pieces (`StableHlo.Group.cut`): the two
    lists are the same, by `chain_rfl`. -/
theorem main_chain_cut (c : Dev nD) : (Pipeline.chain
  [ StableHlo.seq main_part0_ops0,
    StableHlo.seq main_part1_ops0,
    HostLoop.enter 0,
    StableHlo.seq main_part1_ops1 ] : Prog (TpuEff nD τ sig (Elt F) (HostLoop.Sig (Pipeline.Sig Λ₀ (Fin 0) fun p => (pcfgs (F := F) p).Adm) 1) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    HostLoop.enter 0,
    StableHlo.seq hostOps0_1 ] : Prog (TpuEff nD τ sig (Elt F) (HostLoop.Sig (Pipeline.Sig Λ₀ (Fin 0) fun p => (pcfgs (F := F) p).Adm) 1) .tc) PUnit) := by
  chain_rfl

/-- `main` is the chain of its items (`Pipeline.chain`): operation stretches, regions, loops and branches in
    order, a module-local function called from it a stretch of its own. Assembled from its 2 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    HostLoop.enter 0,
    StableHlo.seq hostOps0_1 ] : Prog (TpuEff nD τ sig (Elt F) (HostLoop.Sig (Pipeline.Sig Λ₀ (Fin 0) fun p => (pcfgs (F := F) p).Adm) 1) .tc) PUnit) :=
  (main_chain_windows (F := F) c).trans <| (main_chain_cut (F := F) c).trans <|
    (StableHlo.chain_cut_eq_whole (main_groups (F := F) c)).trans (main_chain_whole (F := F) c)

-- no `main_segs` (the loop-free kit's `Seg.run` equation) for this @main: it has a host loop; a certificate takes `main_chain` (Lib/Pipeline/RegionsLoop.lean)

/-- 1 host operation of host loop 0's body region, in order. -/
abbrev while0Ops0 : List (HloOp τ sig (Elt F)) :=
  [ StableHlo.nullary main_while0b_cst_14 (constant S_ .f32 0xFF800000#32) ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  StableHlo.nullary_bufs_sub ..
/-- 3 host operations of @_where (main_while0b_call0), in order. -/
abbrev while0Ops0_1 : List (HloOp τ sig (Elt F)) :=
  [ StableHlo.TRef.unary (.of main_while0b_cst_14 : StableHlo.TRef sig ⟨S_, .f32⟩) (.of main_while0b_call0_v0 : StableHlo.TRef sig ⟨S_, .f32⟩) id,
    StableHlo.TRef.unary (.of main_while0b_call0_v0 : StableHlo.TRef sig ⟨S_, .f32⟩) (.of main_while0b_call0_v1 : StableHlo.TRef sig ⟨S1024x200, .f32⟩) (broadcastInDim S1024x200 ![] bcast_S_S1024x200),
    StableHlo.TRef.ternary (.of main_v46_3 : StableHlo.TRef sig ⟨S1024x200, .i1⟩) (.of main_while0b_call0_v1 : StableHlo.TRef sig ⟨S1024x200, .f32⟩) (.of main_v46_0 : StableHlo.TRef sig ⟨S1024x200, .f32⟩) (.of main_while0b_v49 : StableHlo.TRef sig ⟨S1024x200, .f32⟩) select ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.unary_bufs_sub .., StableHlo.unary_bufs_sub .., StableHlo.ternary_bufs_sub ..⟩
/-- 14 host operations of host loop 0's body region, in order. -/
abbrev while0Ops0_2 : List (HloOp τ sig (Elt F)) :=
  [ StableHlo.nullary main_while0b_cst_15 (constant S_ .f32 0xFF800000#32),
    StableHlo.binary main_while0b_v49 main_while0b_cst_15 main_while0b_v50 ((fun x v => Host.reduce FloatOps.maximumf x v reducesTo_S1024x200_S1024_d1 h_S_) : (⟨S1024x200, .f32⟩ : BufTy).Contents (Elt F) → (⟨S_, .f32⟩ : BufTy).Contents (Elt F) → (⟨S1024, .f32⟩ : BufTy).Contents (Elt F)),
    StableHlo.nullary main_while0b_cst_16 (constant S_ .f32 0xFF800000#32),
    StableHlo.unary main_while0b_cst_16 main_while0b_v51 (broadcastInDim S1024 ![] bcast_S_S1024 : (⟨S_, .f32⟩ : BufTy).Contents (Elt F) → (⟨S1024, .f32⟩ : BufTy).Contents (Elt F)),
    StableHlo.binary main_while0b_v51 main_while0b_v50 main_while0b_v52 (maximumf : (⟨S1024, .f32⟩ : BufTy).Contents (Elt F) → (⟨S1024, .f32⟩ : BufTy).Contents (Elt F) → (⟨S1024, .f32⟩ : BufTy).Contents (Elt F)),
    StableHlo.unary main_while0b_v52 main_while0b_v53 (broadcastInDim S1024x1 ![0] bcast_S1024_S1024x1_0 : (⟨S1024, .f32⟩ : BufTy).Contents (Elt F) → (⟨S1024x1, .f32⟩ : BufTy).Contents (Elt F)),
    StableHlo.unary main_while0b_v53 main_while0b_v54 (broadcastInDim S1024x200 ![0, 1] bcast_S1024x1_S1024x200_0_1 : (⟨S1024x1, .f32⟩ : BufTy).Contents (Elt F) → (⟨S1024x200, .f32⟩ : BufTy).Contents (Elt F)),
    StableHlo.binary main_while0b_v49 main_while0b_v54 main_while0b_v55 (subf : (⟨S1024x200, .f32⟩ : BufTy).Contents (Elt F) → (⟨S1024x200, .f32⟩ : BufTy).Contents (Elt F) → (⟨S1024x200, .f32⟩ : BufTy).Contents (Elt F)),
    StableHlo.unary main_while0b_v55 main_while0b_v56 (Host.exp : (⟨S1024x200, .f32⟩ : BufTy).Contents (Elt F) → (⟨S1024x200, .f32⟩ : BufTy).Contents (Elt F)),
    StableHlo.nullary main_while0b_cst_17 (constant S_ .f32 0x00000000#32),
    StableHlo.binary main_while0b_v56 main_while0b_cst_17 main_while0b_v57 ((fun x v => Host.reduceAdd x v reducesTo_S1024x200_S1024_d1 h_S_) : (⟨S1024x200, .f32⟩ : BufTy).Contents (Elt F) → (⟨S_, .f32⟩ : BufTy).Contents (Elt F) → (⟨S1024, .f32⟩ : BufTy).Contents (Elt F)),
    StableHlo.unary main_while0b_v57 main_while0b_v58 (broadcastInDim S1024x1 ![0] bcast_S1024_S1024x1_0 : (⟨S1024, .f32⟩ : BufTy).Contents (Elt F) → (⟨S1024x1, .f32⟩ : BufTy).Contents (Elt F)),
    StableHlo.unary main_while0b_v58 main_while0b_v59 (broadcastInDim S1024x200 ![0, 1] bcast_S1024x1_S1024x200_0_1 : (⟨S1024x1, .f32⟩ : BufTy).Contents (Elt F) → (⟨S1024x200, .f32⟩ : BufTy).Contents (Elt F)),
    StableHlo.binary main_while0b_v56 main_while0b_v59 main_while0b_v60 (Host.divf : (⟨S1024x200, .f32⟩ : BufTy).Contents (Elt F) → (⟨S1024x200, .f32⟩ : BufTy).Contents (Elt F) → (⟨S1024x200, .f32⟩ : BufTy).Contents (Elt F)) ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩
/-- 5 host operations of @argmax (main_while0b_call1), in order. -/
abbrev while0Ops0_3 : List (HloOp τ sig (Elt F)) :=
  [ StableHlo.TRef.nullary (.of main_while0b_call1_v0 : StableHlo.TRef sig ⟨S1024x200, .i32⟩) (iotaInDim S1024x200 32 1),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_while0b_v60 : StableHlo.TRef sig ⟨S1024x200, .f32⟩) (.of main_while0b_call1_v0 : StableHlo.TRef sig ⟨S1024x200, .i32⟩) (.of main_while0b_call1_cst : StableHlo.TRef sig ⟨S_, .f32⟩) (.of main_while0b_call1_c : StableHlo.TRef sig ⟨S_, .i32⟩) (.of main_while0b_call1_v1_0 : StableHlo.TRef sig ⟨S1024, .f32⟩) (fun x y u v j => (Host.argReduce reducer_argmax_f32_i32 x y u v reducesTo_S1024x200_S1024_d1 h_S_ j).1),
    StableHlo.TRef.quaternary (.of main_while0b_v60 : StableHlo.TRef sig ⟨S1024x200, .f32⟩) (.of main_while0b_call1_v0 : StableHlo.TRef sig ⟨S1024x200, .i32⟩) (.of main_while0b_call1_cst : StableHlo.TRef sig ⟨S_, .f32⟩) (.of main_while0b_call1_c : StableHlo.TRef sig ⟨S_, .i32⟩) (.of main_while0b_v61 : StableHlo.TRef sig ⟨S1024, .i32⟩) (fun x y u v j => (Host.argReduce reducer_argmax_f32_i32 x y u v reducesTo_S1024x200_S1024_d1 h_S_ j).2) ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 1 host operation of host loop 0's body region, in order. -/
abbrev while0Ops0_4 : List (HloOp τ sig (Elt F)) :=
  [ StableHlo.unary main_while0b_v61 main_while0b_v62 (broadcastInDim S1024x1 ![0] bcast_S1024_S1024x1_0 : (⟨S1024, .i32⟩ : BufTy).Contents (Elt F) → (⟨S1024x1, .i32⟩ : BufTy).Contents (Elt F)) ]
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  StableHlo.unary_bufs_sub ..
/-- 22 host operations of @take_along_axis (main_while0b_call2), in order. -/
abbrev while0Ops0_5 : List (HloOp τ sig (Elt F)) :=
  [ StableHlo.TRef.nullary (.of main_while0b_call2_c : StableHlo.TRef sig ⟨S_, .i32⟩) (constantI S_ 32 0#32),
    StableHlo.TRef.unary (.of main_while0b_call2_c : StableHlo.TRef sig ⟨S_, .i32⟩) (.of main_while0b_call2_v0 : StableHlo.TRef sig ⟨S1024x1, .i32⟩) (broadcastInDim S1024x1 ![] bcast_S_S1024x1),
    StableHlo.TRef.binary (.of main_while0b_v62 : StableHlo.TRef sig ⟨S1024x1, .i32⟩) (.of main_while0b_call2_v0 : StableHlo.TRef sig ⟨S1024x1, .i32⟩) (.of main_while0b_call2_v1 : StableHlo.TRef sig ⟨S1024x1, .i1⟩) (cmpi .slt),
    StableHlo.TRef.nullary (.of main_while0b_call2_c_0 : StableHlo.TRef sig ⟨S_, .i32⟩) (constantI S_ 32 200#32),
    StableHlo.TRef.unary (.of main_while0b_call2_c_0 : StableHlo.TRef sig ⟨S_, .i32⟩) (.of main_while0b_call2_v2 : StableHlo.TRef sig ⟨S1024x1, .i32⟩) (broadcastInDim S1024x1 ![] bcast_S_S1024x1),
    StableHlo.TRef.binary (.of main_while0b_v62 : StableHlo.TRef sig ⟨S1024x1, .i32⟩) (.of main_while0b_call2_v2 : StableHlo.TRef sig ⟨S1024x1, .i32⟩) (.of main_while0b_call2_v3 : StableHlo.TRef sig ⟨S1024x1, .i32⟩) addi,
    StableHlo.TRef.ternary (.of main_while0b_call2_v1 : StableHlo.TRef sig ⟨S1024x1, .i1⟩) (.of main_while0b_call2_v3 : StableHlo.TRef sig ⟨S1024x1, .i32⟩) (.of main_while0b_v62 : StableHlo.TRef sig ⟨S1024x1, .i32⟩) (.of main_while0b_call2_v4 : StableHlo.TRef sig ⟨S1024x1, .i32⟩) select,
    StableHlo.TRef.reshape (.of main_while0b_call2_v4 : StableHlo.TRef sig ⟨S1024x1, .i32⟩) (.of main_while0b_call2_v5 : StableHlo.TRef sig ⟨S1024x1x1, .i32⟩) (rfl : (.i32 : EltTy) = .i32) shapeCasts_S1024x1_S1024x1x1,
    StableHlo.TRef.nullary (.of main_while0b_call2_c_1 : StableHlo.TRef sig ⟨S1, .i32⟩) (constantI S1 32 199#32),
    StableHlo.TRef.nullary (.of main_while0b_call2_c_2 : StableHlo.TRef sig ⟨S_, .i32⟩) (constantI S_ 32 0#32),
    StableHlo.TRef.unary (.of main_while0b_call2_c_2 : StableHlo.TRef sig ⟨S_, .i32⟩) (.of main_while0b_call2_v6 : StableHlo.TRef sig ⟨S1024x1x1, .i32⟩) (broadcastInDim S1024x1x1 ![] bcast_S_S1024x1x1),
    StableHlo.TRef.binary (.of main_while0b_call2_v5 : StableHlo.TRef sig ⟨S1024x1x1, .i32⟩) (.of main_while0b_call2_v6 : StableHlo.TRef sig ⟨S1024x1x1, .i32⟩) (.of main_while0b_call2_v7 : StableHlo.TRef sig ⟨S1024x1x1, .i1⟩) (cmpi .sge),
    StableHlo.TRef.unary (.of main_while0b_call2_c_1 : StableHlo.TRef sig ⟨S1, .i32⟩) (.of main_while0b_call2_v8 : StableHlo.TRef sig ⟨S1x1x1, .i32⟩) (broadcastInDim S1x1x1 ![2] bcast_S1_S1x1x1_2),
    StableHlo.TRef.unary (.of main_while0b_call2_v8 : StableHlo.TRef sig ⟨S1x1x1, .i32⟩) (.of main_while0b_call2_v9 : StableHlo.TRef sig ⟨S1024x1x1, .i32⟩) (broadcastInDim S1024x1x1 ![0, 1, 2] bcast_S1x1x1_S1024x1x1_0_1_2),
    StableHlo.TRef.binary (.of main_while0b_call2_v5 : StableHlo.TRef sig ⟨S1024x1x1, .i32⟩) (.of main_while0b_call2_v9 : StableHlo.TRef sig ⟨S1024x1x1, .i32⟩) (.of main_while0b_call2_v10 : StableHlo.TRef sig ⟨S1024x1x1, .i1⟩) (cmpi .sle),
    StableHlo.TRef.binary (.of main_while0b_call2_v7 : StableHlo.TRef sig ⟨S1024x1x1, .i1⟩) (.of main_while0b_call2_v10 : StableHlo.TRef sig ⟨S1024x1x1, .i1⟩) (.of main_while0b_call2_v11 : StableHlo.TRef sig ⟨S1024x1x1, .i1⟩) andi,
    StableHlo.TRef.nullary (.of main_while0b_call2_c_3 : StableHlo.TRef sig ⟨S_, .i1⟩) (constantI S_ 1 1#1),
    StableHlo.TRef.binary (.of main_while0b_call2_v11 : StableHlo.TRef sig ⟨S1024x1x1, .i1⟩) (.of main_while0b_call2_c_3 : StableHlo.TRef sig ⟨S_, .i1⟩) (.of main_while0b_call2_v12 : StableHlo.TRef sig ⟨S1024x1, .i1⟩) (fun x v => Host.reduce IntOp.andi x v reducesTo_S1024x1x1_S1024x1_d2 h_S_),
    StableHlo.TRef.binary (.of main_while0b_v60 : StableHlo.TRef sig ⟨S1024x200, .f32⟩) (.of main_while0b_call2_v5 : StableHlo.TRef sig ⟨S1024x1x1, .i32⟩) (.of main_while0b_call2_v13 : StableHlo.TRef sig ⟨S1024x1, .f32⟩) (fun x i => Host.gather gather_S1024x200_S1024x1x1_S1024x1_n_1_0_0_1_2_11 x i),
    StableHlo.TRef.nullary (.of main_while0b_call2_cst : StableHlo.TRef sig ⟨S_, .f32⟩) (constant S_ .f32 0x7FC00000#32),
    StableHlo.TRef.unary (.of main_while0b_call2_cst : StableHlo.TRef sig ⟨S_, .f32⟩) (.of main_while0b_call2_v14 : StableHlo.TRef sig ⟨S1024x1, .f32⟩) (broadcastInDim S1024x1 ![] bcast_S_S1024x1),
    StableHlo.TRef.ternary (.of main_while0b_call2_v12 : StableHlo.TRef sig ⟨S1024x1, .i1⟩) (.of main_while0b_call2_v13 : StableHlo.TRef sig ⟨S1024x1, .f32⟩) (.of main_while0b_call2_v14 : StableHlo.TRef sig ⟨S1024x1, .f32⟩) (.of main_while0b_v63 : StableHlo.TRef sig ⟨S1024x1, .f32⟩) select ]
/-- Each touches TensorCore references only (`HostSeg.ofOps` over `StableHlo.tcRefs`, or a subset by `sub_ucRefs`). -/
theorem while0Ops0_5_sub : (while0Ops0_5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- 22 host operations of host loop 0's body region, in order. -/
abbrev while0Ops0_6 : List (HloOp τ sig (Elt F)) :=
  [ StableHlo.reshape main_while0b_v63 main_while0b_v64 (rfl : (.f32 : EltTy) = .f32) shapeCasts_S1024x1_S1024,
    StableHlo.unary main_while0b_v64 main_while0b_v65 (Host.log : (⟨S1024, .f32⟩ : BufTy).Contents (Elt F) → (⟨S1024, .f32⟩ : BufTy).Contents (Elt F)),
    StableHlo.nullary main_while0b_c_18 (constantI S_ 32 0#32),
    StableHlo.unary main_while0b_c_18 main_while0b_v66 (broadcastInDim S1024 ![] bcast_S_S1024 : (⟨S_, .i32⟩ : BufTy).Contents (Elt F) → (⟨S1024, .i32⟩ : BufTy).Contents (Elt F)),
    StableHlo.binary main_v46_1 main_while0b_v66 main_while0b_v67 (cmpi .slt : (⟨S1024, .i32⟩ : BufTy).Contents (Elt F) → (⟨S1024, .i32⟩ : BufTy).Contents (Elt F) → (⟨S1024, .i1⟩ : BufTy).Contents (Elt F)),
    StableHlo.nullary main_while0b_c_19 (constantI S_ 32 1024#32),
    StableHlo.unary main_while0b_c_19 main_while0b_v68 (broadcastInDim S1024 ![] bcast_S_S1024 : (⟨S_, .i32⟩ : BufTy).Contents (Elt F) → (⟨S1024, .i32⟩ : BufTy).Contents (Elt F)),
    StableHlo.binary main_v46_1 main_while0b_v68 main_while0b_v69 (addi : (⟨S1024, .i32⟩ : BufTy).Contents (Elt F) → (⟨S1024, .i32⟩ : BufTy).Contents (Elt F) → (⟨S1024, .i32⟩ : BufTy).Contents (Elt F)),
    StableHlo.ternary main_while0b_v67 main_while0b_v69 main_v46_1 main_while0b_v70 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.nullary main_while0b_c_20 (constantI S_ 32 0#32),
    StableHlo.unary main_while0b_c_20 main_while0b_v71 (broadcastInDim S1024 ![] bcast_S_S1024 : (⟨S_, .i32⟩ : BufTy).Contents (Elt F) → (⟨S1024, .i32⟩ : BufTy).Contents (Elt F)),
    StableHlo.binary main_while0b_v61 main_while0b_v71 main_while0b_v72 (cmpi .slt : (⟨S1024, .i32⟩ : BufTy).Contents (Elt F) → (⟨S1024, .i32⟩ : BufTy).Contents (Elt F) → (⟨S1024, .i1⟩ : BufTy).Contents (Elt F)),
    StableHlo.nullary main_while0b_c_21 (constantI S_ 32 200#32),
    StableHlo.unary main_while0b_c_21 main_while0b_v73 (broadcastInDim S1024 ![] bcast_S_S1024 : (⟨S_, .i32⟩ : BufTy).Contents (Elt F) → (⟨S1024, .i32⟩ : BufTy).Contents (Elt F)),
    StableHlo.binary main_while0b_v61 main_while0b_v73 main_while0b_v74 (addi : (⟨S1024, .i32⟩ : BufTy).Contents (Elt F) → (⟨S1024, .i32⟩ : BufTy).Contents (Elt F) → (⟨S1024, .i32⟩ : BufTy).Contents (Elt F)),
    StableHlo.ternary main_while0b_v72 main_while0b_v74 main_while0b_v61 main_while0b_v75 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_while0b_v70 main_while0b_v76 (broadcastInDim S1024x1 ![0] bcast_S1024_S1024x1_0 : (⟨S1024, .i32⟩ : BufTy).Contents (Elt F) → (⟨S1024x1, .i32⟩ : BufTy).Contents (Elt F)),
    StableHlo.unary main_while0b_v75 main_while0b_v77 (broadcastInDim S1024x1 ![0] bcast_S1024_S1024x1_0 : (⟨S1024, .i32⟩ : BufTy).Contents (Elt F) → (⟨S1024x1, .i32⟩ : BufTy).Contents (Elt F)),
    StableHlo.binary main_while0b_v76 main_while0b_v77 main_while0b_v78 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F)),
    StableHlo.nullary main_while0b_c_22 (constantI S_ 1 1#1),
    StableHlo.unary main_while0b_c_22 main_while0b_v79 (broadcastInDim S1024 ![] bcast_S_S1024 : (⟨S_, .i1⟩ : BufTy).Contents (Elt F) → (⟨S1024, .i1⟩ : BufTy).Contents (Elt F)),
    StableHlo.ternary main_v46_3 main_while0b_v78 main_while0b_v79 main_while0b_v80 ((fun x i u => Host.scatter scatter_S1024x200_S1024x2_S1024_n_01_01_1 (fun _ b => b) x i u) : (⟨S1024x200, .i1⟩ : BufTy).Contents (Elt F) → (⟨S1024x2, .i32⟩ : BufTy).Contents (Elt F) → (⟨S1024, .i1⟩ : BufTy).Contents (Elt F) → (⟨S1024x200, .i1⟩ : BufTy).Contents (Elt F)) ]
/-- Each touches TensorCore references only (`HostSeg.ofOps` over `StableHlo.tcRefs`, or a subset by `sub_ucRefs`). -/
theorem while0Ops0_6_sub : (while0Ops0_6 : List (HloOp τ sig (Elt F))).Forall fun op => op.bufs ⊆ StableHlo.tcRefs τ sig :=
  ⟨StableHlo.reshape_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.nullary_bufs_sub .., StableHlo.unary_bufs_sub .., StableHlo.ternary_bufs_sub ..⟩
/-- 3 host operations of @dynamic_update_index_in_dim (main_while0b_call3), in order. -/
abbrev while0Ops0_7 : List (HloOp τ sig (Elt F)) :=
  [ StableHlo.TRef.unary (.of main_while0b_v65 : StableHlo.TRef sig ⟨S1024, .f32⟩) (.of main_while0b_call3_v0 : StableHlo.TRef sig ⟨S1x1024, .f32⟩) (broadcastInDim S1x1024 ![1] bcast_S1024_S1x1024_1),
    StableHlo.TRef.nullary (.of main_while0b_call3_c : StableHlo.TRef sig ⟨S_, .i32⟩) (constantI S_ 32 0#32),
    StableHlo.TRef.binaryIndexed (.of main_v46_4 : StableHlo.TRef sig ⟨S200x1024, .f32⟩) (.of main_while0b_call3_v0 : StableHlo.TRef sig ⟨S1x1024, .f32⟩) ![(.of main_v46_2 : StableHlo.TRef sig ⟨S_, .i32⟩), (.of main_while0b_call3_c : StableHlo.TRef sig ⟨S_, .i32⟩)] (.of main_while0b_v81 : StableHlo.TRef sig ⟨S200x1024, .f32⟩) (fun x u i => Host.dynamicUpdateSlice x u (fun k => (i k (Shape.Idx.first h_S_)).toInt) updateFits_S200x1024_S1x1024) ]
/-- Each touches TensorCore references only (`HostSeg.ofOps` over `StableHlo.tcRefs`, or a subset by `sub_ucRefs`). -/
theorem while0Ops0_7_sub : (while0Ops0_7 : List (HloOp τ sig (Elt F))).Forall fun op => op.bufs ⊆ StableHlo.tcRefs τ sig :=
  ⟨StableHlo.unary_bufs_sub .., StableHlo.nullary_bufs_sub .., StableHlo.binaryIndexed_bufs_sub ..⟩
/-- 3 host operations of @dynamic_update_index_in_dim_0 (main_while0b_call4), in order. -/
abbrev while0Ops0_8 : List (HloOp τ sig (Elt F)) :=
  [ StableHlo.TRef.unary (.of main_while0b_v61 : StableHlo.TRef sig ⟨S1024, .i32⟩) (.of main_while0b_call4_v0 : StableHlo.TRef sig ⟨S1x1024, .i32⟩) (broadcastInDim S1x1024 ![1] bcast_S1024_S1x1024_1),
    StableHlo.TRef.nullary (.of main_while0b_call4_c : StableHlo.TRef sig ⟨S_, .i32⟩) (constantI S_ 32 0#32),
    StableHlo.TRef.binaryIndexed (.of main_v46_5 : StableHlo.TRef sig ⟨S200x1024, .i32⟩) (.of main_while0b_call4_v0 : StableHlo.TRef sig ⟨S1x1024, .i32⟩) ![(.of main_v46_2 : StableHlo.TRef sig ⟨S_, .i32⟩), (.of main_while0b_call4_c : StableHlo.TRef sig ⟨S_, .i32⟩)] (.of main_while0b_v82 : StableHlo.TRef sig ⟨S200x1024, .i32⟩) (fun x u i => Host.dynamicUpdateSlice x u (fun k => (i k (Shape.Idx.first h_S_)).toInt) updateFits_S200x1024_S1x1024) ]
/-- Each touches TensorCore references only (`HostSeg.ofOps` over `StableHlo.tcRefs`, or a subset by `sub_ucRefs`). -/
theorem while0Ops0_8_sub : (while0Ops0_8 : List (HloOp τ sig (Elt F))).Forall fun op => op.bufs ⊆ StableHlo.tcRefs τ sig :=
  ⟨StableHlo.unary_bufs_sub .., StableHlo.nullary_bufs_sub .., StableHlo.binaryIndexed_bufs_sub ..⟩
/-- 6 host operations of host loop 0's body region, in order. -/
abbrev while0Ops0_9 : List (HloOp τ sig (Elt F)) :=
  [ StableHlo.nullary main_while0b_c_23 (constantI S_ 32 1#32),
    StableHlo.binary main_v46_2 main_while0b_c_23 main_while0b_v83 (addi : (⟨S_, .i32⟩ : BufTy).Contents (Elt F) → (⟨S_, .i32⟩ : BufTy).Contents (Elt F) → (⟨S_, .i32⟩ : BufTy).Contents (Elt F)),
    StableHlo.unary main_while0b_v83 main_v46_2 id,
    StableHlo.unary main_while0b_v80 main_v46_3 id,
    StableHlo.unary main_while0b_v81 main_v46_4 id,
    StableHlo.unary main_while0b_v82 main_v46_5 id ]
/-- Each touches TensorCore references only (`HostSeg.ofOps` over `StableHlo.tcRefs`, or a subset by `sub_ucRefs`). -/
theorem while0Ops0_9_sub : (while0Ops0_9 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7,
    StableHlo.seq while0Ops0_8,
    StableHlo.seq while0Ops0_9 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons, Pipeline.chain_cons, StableHlo.chain_seq_cons, Pipeline.chain_cons, Pipeline.chain_cons, StableHlo.chain_seq_cons]
  chain_rfl

end Cert.ReferenceIdeal.Gen

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_v0, main_v1, main_c, main_v2, main_v3, main_v4, main_v5, main_v6, main_v7, main_v8, main_v9, main_v10, main_v11, main_v12, main_cst, main_v13, main_v14, main_v15, main_cst_0, main_v16, main_v17, main_v18, main_cst_1, main_v19, main_v20, main_cst_2, main_v21, main_v22, main_v23, main_cst_3, main_v24, main_v25, main_v26, main_v27, main_v28, main_v29, main_v30, main_v31, main_v32, main_v33, main_v34, main_cst_4, main_v35, main_v36, main_v37, main_v38, main_v39, main_v40, main_v41, main_v42, main_c_5, main_v43, main_cst_6, main_v44, main_c_7, main_v45, main_c_8, main_v46_0, main_v46_1, main_v46_2, main_v46_3, main_v46_4, main_v46_5]
theorem hostOps0_writes : (hostOps0 : List (HloOp τ sig (Elt F))).Forall fun op => op.writes ⊆ (hostOps0_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_cst_14]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_call0_v0, main_while0b_call0_v1, main_while0b_v49]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_cst_15, main_while0b_v50, main_while0b_cst_16, main_while0b_v51, main_while0b_v52, main_while0b_v53, main_while0b_v54, main_while0b_v55, main_while0b_v56, main_while0b_cst_17, main_while0b_v57, main_while0b_v58, main_while0b_v59, main_while0b_v60]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_call1_v0, main_while0b_call1_cst, main_while0b_call1_c, main_while0b_call1_v1_0, main_while0b_v61]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_v62]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `while0Ops0_5` allocates a buffer. -/
theorem while0Ops0_5_fresh : (while0Ops0_5 : List (HloOp τ sig (Elt F))).Forall fun op => op.fresh = ∅ :=
  StableHlo.forall_fresh_of_map rfl
/-- The reference each operation of `while0Ops0_5` writes, in order. -/
abbrev while0Ops0_5_W : List (Ref sig .tc) := [main_while0b_call2_c, main_while0b_call2_v0, main_while0b_call2_v1, main_while0b_call2_c_0, main_while0b_call2_v2, main_while0b_call2_v3, main_while0b_call2_v4, main_while0b_call2_v5, main_while0b_call2_c_1, main_while0b_call2_c_2, main_while0b_call2_v6, main_while0b_call2_v7, main_while0b_call2_v8, main_while0b_call2_v9, main_while0b_call2_v10, main_while0b_call2_v11, main_while0b_call2_c_3, main_while0b_call2_v12, main_while0b_call2_v13, main_while0b_call2_cst, main_while0b_call2_v14, main_while0b_v63]
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- No operation of `while0Ops0_6` allocates a buffer. -/
theorem while0Ops0_6_fresh : (while0Ops0_6 : List (HloOp τ sig (Elt F))).Forall fun op => op.fresh = ∅ :=
  StableHlo.forall_fresh_of_map rfl
/-- The reference each operation of `while0Ops0_6` writes, in order. -/
abbrev while0Ops0_6_W : List (Ref sig .tc) := [main_while0b_v64, main_while0b_v65, main_while0b_c_18, main_while0b_v66, main_while0b_v67, main_while0b_c_19, main_while0b_v68, main_while0b_v69, main_while0b_v70, main_while0b_c_20, main_while0b_v71, main_while0b_v72, main_while0b_c_21, main_while0b_v73, main_while0b_v74, main_while0b_v75, main_while0b_v76, main_while0b_v77, main_while0b_v78, main_while0b_c_22, main_while0b_v79, main_while0b_v80]
theorem while0Ops0_6_writes : (while0Ops0_6 : List (HloOp τ sig (Elt F))).Forall fun op => op.writes ⊆ (while0Ops0_6_W.map (Proc.devRef (τ := τ) .tc)).toFinset :=
  StableHlo.forall_writes_sub_of_map rfl
/-- No operation of `while0Ops0_7` allocates a buffer. -/
theorem while0Ops0_7_fresh : (while0Ops0_7 : List (HloOp τ sig (Elt F))).Forall fun op => op.fresh = ∅ :=
  StableHlo.forall_fresh_of_map rfl
/-- The reference each operation of `while0Ops0_7` writes, in order. -/
abbrev while0Ops0_7_W : List (Ref sig .tc) := [main_while0b_call3_v0, main_while0b_call3_c, main_while0b_v81]
theorem while0Ops0_7_writes : (while0Ops0_7 : List (HloOp τ sig (Elt F))).Forall fun op => op.writes ⊆ (while0Ops0_7_W.map (Proc.devRef (τ := τ) .tc)).toFinset :=
  StableHlo.forall_writes_sub_of_map rfl
/-- No operation of `while0Ops0_8` allocates a buffer. -/
theorem while0Ops0_8_fresh : (while0Ops0_8 : List (HloOp τ sig (Elt F))).Forall fun op => op.fresh = ∅ :=
  StableHlo.forall_fresh_of_map rfl
/-- The reference each operation of `while0Ops0_8` writes, in order. -/
abbrev while0Ops0_8_W : List (Ref sig .tc) := [main_while0b_call4_v0, main_while0b_call4_c, main_while0b_v82]
theorem while0Ops0_8_writes : (while0Ops0_8 : List (HloOp τ sig (Elt F))).Forall fun op => op.writes ⊆ (while0Ops0_8_W.map (Proc.devRef (τ := τ) .tc)).toFinset :=
  StableHlo.forall_writes_sub_of_map rfl
/-- No operation of `while0Ops0_9` allocates a buffer. -/
theorem while0Ops0_9_fresh : (while0Ops0_9 : List (HloOp τ sig (Elt F))).Forall fun op => op.fresh = ∅ :=
  StableHlo.forall_fresh_of_map rfl
/-- The reference each operation of `while0Ops0_9` writes, in order. -/
abbrev while0Ops0_9_W : List (Ref sig .tc) := [main_while0b_c_23, main_while0b_v83, main_v46_2, main_v46_3, main_v46_4, main_v46_5]
theorem while0Ops0_9_writes : (while0Ops0_9 : List (HloOp τ sig (Elt F))).Forall fun op => op.writes ⊆ (while0Ops0_9_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- The reference each operation of `hostOps0_1` writes, in order. -/
abbrev hostOps0_1_W : List (Ref sig .tc) := [main_v47, main_v48]
theorem hostOps0_1_writes : (hostOps0_1 : List (HloOp τ sig (Elt F))).Forall fun op => op.writes ⊆ (hostOps0_1_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_14 (constantI S_ 32 200#32),
    StableHlo.binary main_v46_2 main_while0c_c_14 main_while0c_v49 (cmpi .slt) ]

/-- @main's stretches before the loop, the loop body's, and @main's after the loop. -/
abbrev preI : List (List (HloOp τ sig (Elt F))) := [hostOps0]
abbrev bodyI : List (List (HloOp τ sig (Elt F))) := [while0Ops0, while0Ops0_1, while0Ops0_2, while0Ops0_3, while0Ops0_4, while0Ops0_5, while0Ops0_6, while0Ops0_7, while0Ops0_8, while0Ops0_9]
abbrev postI : List (List (HloOp τ sig (Elt F))) := [hostOps0_1]

theorem hpre : Plain (preI (F := F)) := .cons hostOps0_sub (hf := List.forall_iff_forall_mem.mp hostOps0_fresh) (.nil)
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.cons while0Ops0_7_sub (hf := List.forall_iff_forall_mem.mp while0Ops0_7_fresh) (.cons while0Ops0_8_sub (hf := List.forall_iff_forall_mem.mp while0Ops0_8_fresh) (.cons while0Ops0_9_sub (hf := List.forall_iff_forall_mem.mp while0Ops0_9_fresh) (.nil))))))))))
theorem hpost : Plain (postI (F := F)) := .cons hostOps0_1_sub (hf := List.forall_iff_forall_mem.mp hostOps0_1_fresh) (.nil)

/-- The reference each operation of `condOps` writes, in order. -/
abbrev condOps_W : List (Ref sig .tc) := [main_while0c_c_14, main_while0c_v49]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v46_2`) is written by one stretch of the body, `while0Ops0_9`: not by the condition, nor by the
    body's other stretches. -/
theorem ctr_cond (V : Valuation τ sig (Elt F)) : after condOps V (Proc.devRef .tc main_v46_2) = V (Proc.devRef .tc main_v46_2) :=
  after_of_writes_sub condOps V condOps_writes (by decide +kernel)
theorem ctr_while0Ops0 (V : Valuation τ sig (Elt F)) : after while0Ops0 V (Proc.devRef .tc main_v46_2) = V (Proc.devRef .tc main_v46_2) :=
  after_of_writes_sub while0Ops0 V while0Ops0_writes (by decide +kernel)
theorem ctr_while0Ops0_1 (V : Valuation τ sig (Elt F)) : after while0Ops0_1 V (Proc.devRef .tc main_v46_2) = V (Proc.devRef .tc main_v46_2) :=
  after_of_writes_sub while0Ops0_1 V while0Ops0_1_writes (by decide +kernel)
theorem ctr_while0Ops0_2 (V : Valuation τ sig (Elt F)) : after while0Ops0_2 V (Proc.devRef .tc main_v46_2) = V (Proc.devRef .tc main_v46_2) :=
  after_of_writes_sub while0Ops0_2 V while0Ops0_2_writes (by decide +kernel)
theorem ctr_while0Ops0_3 (V : Valuation τ sig (Elt F)) : after while0Ops0_3 V (Proc.devRef .tc main_v46_2) = V (Proc.devRef .tc main_v46_2) :=
  after_of_writes_sub while0Ops0_3 V while0Ops0_3_writes (by decide +kernel)
theorem ctr_while0Ops0_4 (V : Valuation τ sig (Elt F)) : after while0Ops0_4 V (Proc.devRef .tc main_v46_2) = V (Proc.devRef .tc main_v46_2) :=
  after_of_writes_sub while0Ops0_4 V while0Ops0_4_writes (by decide +kernel)
theorem ctr_while0Ops0_5 (V : Valuation τ sig (Elt F)) : after while0Ops0_5 V (Proc.devRef .tc main_v46_2) = V (Proc.devRef .tc main_v46_2) :=
  after_of_writes_sub while0Ops0_5 V while0Ops0_5_writes (by decide +kernel)
theorem ctr_while0Ops0_6 (V : Valuation τ sig (Elt F)) : after while0Ops0_6 V (Proc.devRef .tc main_v46_2) = V (Proc.devRef .tc main_v46_2) :=
  after_of_writes_sub while0Ops0_6 V while0Ops0_6_writes (by decide +kernel)
theorem ctr_while0Ops0_7 (V : Valuation τ sig (Elt F)) : after while0Ops0_7 V (Proc.devRef .tc main_v46_2) = V (Proc.devRef .tc main_v46_2) :=
  after_of_writes_sub while0Ops0_7 V while0Ops0_7_writes (by decide +kernel)
theorem ctr_while0Ops0_8 (V : Valuation τ sig (Elt F)) : after while0Ops0_8 V (Proc.devRef .tc main_v46_2) = V (Proc.devRef .tc main_v46_2) :=
  after_of_writes_sub while0Ops0_8 V while0Ops0_8_writes (by decide +kernel)

set_option maxRecDepth 100000 in
/-- `while0Ops0_9` leaves the counter one step on. -/
theorem ctr_step (X : Valuation τ sig (Elt F)) :
    after while0Ops0_9 X (Proc.devRef .tc main_v46_2) = addi (X (Proc.devRef .tc main_v46_2)) (constantI S_ 32 1#32) := by
  after_results
  rfl

/-- The counter is the loop's lower bound at the loop's entry: its last writer before the loop read back. -/
theorem ctr_entry (c : Dev nD) : entryContents preI m c (Proc.devRef .tc main_v46_2) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v46_2) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_8, ctr_while0Ops0_7, ctr_while0Ops0_6, ctr_while0Ops0_5, ctr_while0Ops0_4, ctr_while0Ops0_3, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 200 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v46_2 HostLoop.idx0)
        (HloOp.result _ (atK m k c) main_while0c_c_14 HostLoop.idx0) = 1#1) (k < 200)
    rw [nullary_result_ne _ _ _ _ (by decide), nullary_result, hctr]
    exact Scf.cmpi_slt_iv_ub_iff (lb := 0#32) (ub := 200#32) (st := 1#32) (by decide) (show k ≤ Scf.trips 0#32 200#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 200 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 200 m ρ (cond_spec m)

end Cert.ReferenceIdeal.Value

end
-- ==== Proof.RefTrip.lean ====
/- The reference's run, second part: what one trip of the loop leaves in each carried buffer, read off the
   operations in windows, and the run's results as that step iterated 200 times. -/
module

public import proofs.«01_k».proof.Proof.RefFold

@[expose] public section

-- a long stretch's `::` list and the decided enumerations over the program's references recurse past the default depth
set_option maxRecDepth 1104

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

variable (m : (ℓ : Loc nD τ sig) → Buf (Elt F) ℓ) (ρ : Dev nD → PrngReg)

/-! ## One trip's values -/

/-- The function of the body's operation that writes `main_while0b_v78`, named. It packs its operands into a list of dependent pairs
    whose shapes a later argument's type mentions, so `simp` cannot rewrite an operand where it stands; applied by
    name, the operands are plain arguments, which the window lemmas below rewrite before the name unfolds. -/
def fn_main_while0b_v78 : (⟨S1024x1, .i32⟩ : BufTy).Contents (Elt F) → (⟨S1024x1, .i32⟩ : BufTy).Contents (Elt F) → (⟨S1024x2, .i32⟩ : BufTy).Contents (Elt F) :=
  (fun a b => concatenate S1024x2 1 [⟨S1024x1, a⟩, ⟨S1024x1, b⟩] concatenates_S1024x1_S1024x1_S1024x2_d1)

/-- The body's operations 1 … 1 of 80. -/
abbrev trip_w0 : List (HloOp τ sig (Elt F)) :=
  [ StableHlo.nullary main_while0b_cst_14 (constant S_ .f32 0xFF800000#32) ]

/-- The body's operations 2 … 4 of 80. -/
abbrev trip_w1 : List (HloOp τ sig (Elt F)) :=
  [ StableHlo.TRef.unary (.of main_while0b_cst_14 : StableHlo.TRef sig ⟨S_, .f32⟩) (.of main_while0b_call0_v0 : StableHlo.TRef sig ⟨S_, .f32⟩) id,
    StableHlo.TRef.unary (.of main_while0b_call0_v0 : StableHlo.TRef sig ⟨S_, .f32⟩) (.of main_while0b_call0_v1 : StableHlo.TRef sig ⟨S1024x200, .f32⟩) (broadcastInDim S1024x200 ![] bcast_S_S1024x200),
    StableHlo.TRef.ternary (.of main_v46_3 : StableHlo.TRef sig ⟨S1024x200, .i1⟩) (.of main_while0b_call0_v1 : StableHlo.TRef sig ⟨S1024x200, .f32⟩) (.of main_v46_0 : StableHlo.TRef sig ⟨S1024x200, .f32⟩) (.of main_while0b_v49 : StableHlo.TRef sig ⟨S1024x200, .f32⟩) select ]

/-- The body's operations 5 … 18 of 80. -/
abbrev trip_w2 : List (HloOp τ sig (Elt F)) :=
  [ StableHlo.nullary main_while0b_cst_15 (constant S_ .f32 0xFF800000#32),
    StableHlo.binary main_while0b_v49 main_while0b_cst_15 main_while0b_v50 ((fun x v => Host.reduce FloatOps.maximumf x v reducesTo_S1024x200_S1024_d1 h_S_) : (⟨S1024x200, .f32⟩ : BufTy).Contents (Elt F) → (⟨S_, .f32⟩ : BufTy).Contents (Elt F) → (⟨S1024, .f32⟩ : BufTy).Contents (Elt F)),
    StableHlo.nullary main_while0b_cst_16 (constant S_ .f32 0xFF800000#32),
    StableHlo.unary main_while0b_cst_16 main_while0b_v51 (broadcastInDim S1024 ![] bcast_S_S1024 : (⟨S_, .f32⟩ : BufTy).Contents (Elt F) → (⟨S1024, .f32⟩ : BufTy).Contents (Elt F)),
    StableHlo.binary main_while0b_v51 main_while0b_v50 main_while0b_v52 (maximumf : (⟨S1024, .f32⟩ : BufTy).Contents (Elt F) → (⟨S1024, .f32⟩ : BufTy).Contents (Elt F) → (⟨S1024, .f32⟩ : BufTy).Contents (Elt F)),
    StableHlo.unary main_while0b_v52 main_while0b_v53 (broadcastInDim S1024x1 ![0] bcast_S1024_S1024x1_0 : (⟨S1024, .f32⟩ : BufTy).Contents (Elt F) → (⟨S1024x1, .f32⟩ : BufTy).Contents (Elt F)),
    StableHlo.unary main_while0b_v53 main_while0b_v54 (broadcastInDim S1024x200 ![0, 1] bcast_S1024x1_S1024x200_0_1 : (⟨S1024x1, .f32⟩ : BufTy).Contents (Elt F) → (⟨S1024x200, .f32⟩ : BufTy).Contents (Elt F)),
    StableHlo.binary main_while0b_v49 main_while0b_v54 main_while0b_v55 (subf : (⟨S1024x200, .f32⟩ : BufTy).Contents (Elt F) → (⟨S1024x200, .f32⟩ : BufTy).Contents (Elt F) → (⟨S1024x200, .f32⟩ : BufTy).Contents (Elt F)),
    StableHlo.unary main_while0b_v55 main_while0b_v56 (Host.exp : (⟨S1024x200, .f32⟩ : BufTy).Contents (Elt F) → (⟨S1024x200, .f32⟩ : BufTy).Contents (Elt F)),
    StableHlo.nullary main_while0b_cst_17 (constant S_ .f32 0x00000000#32),
    StableHlo.binary main_while0b_v56 main_while0b_cst_17 main_while0b_v57 ((fun x v => Host.reduceAdd x v reducesTo_S1024x200_S1024_d1 h_S_) : (⟨S1024x200, .f32⟩ : BufTy).Contents (Elt F) → (⟨S_, .f32⟩ : BufTy).Contents (Elt F) → (⟨S1024, .f32⟩ : BufTy).Contents (Elt F)),
    StableHlo.unary main_while0b_v57 main_while0b_v58 (broadcastInDim S1024x1 ![0] bcast_S1024_S1024x1_0 : (⟨S1024, .f32⟩ : BufTy).Contents (Elt F) → (⟨S1024x1, .f32⟩ : BufTy).Contents (Elt F)),
    StableHlo.unary main_while0b_v58 main_while0b_v59 (broadcastInDim S1024x200 ![0, 1] bcast_S1024x1_S1024x200_0_1 : (⟨S1024x1, .f32⟩ : BufTy).Contents (Elt F) → (⟨S1024x200, .f32⟩ : BufTy).Contents (Elt F)),
    StableHlo.binary main_while0b_v56 main_while0b_v59 main_while0b_v60 (Host.divf : (⟨S1024x200, .f32⟩ : BufTy).Contents (Elt F) → (⟨S1024x200, .f32⟩ : BufTy).Contents (Elt F) → (⟨S1024x200, .f32⟩ : BufTy).Contents (Elt F)) ]

/-- The body's operations 19 … 23 of 80. -/
abbrev trip_w3 : List (HloOp τ sig (Elt F)) :=
  [ StableHlo.TRef.nullary (.of main_while0b_call1_v0 : StableHlo.TRef sig ⟨S1024x200, .i32⟩) (iotaInDim S1024x200 32 1),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_while0b_v60 : StableHlo.TRef sig ⟨S1024x200, .f32⟩) (.of main_while0b_call1_v0 : StableHlo.TRef sig ⟨S1024x200, .i32⟩) (.of main_while0b_call1_cst : StableHlo.TRef sig ⟨S_, .f32⟩) (.of main_while0b_call1_c : StableHlo.TRef sig ⟨S_, .i32⟩) (.of main_while0b_call1_v1_0 : StableHlo.TRef sig ⟨S1024, .f32⟩) (fun x y u v j => (Host.argReduce reducer_argmax_f32_i32 x y u v reducesTo_S1024x200_S1024_d1 h_S_ j).1),
    StableHlo.TRef.quaternary (.of main_while0b_v60 : StableHlo.TRef sig ⟨S1024x200, .f32⟩) (.of main_while0b_call1_v0 : StableHlo.TRef sig ⟨S1024x200, .i32⟩) (.of main_while0b_call1_cst : StableHlo.TRef sig ⟨S_, .f32⟩) (.of main_while0b_call1_c : StableHlo.TRef sig ⟨S_, .i32⟩) (.of main_while0b_v61 : StableHlo.TRef sig ⟨S1024, .i32⟩) (fun x y u v j => (Host.argReduce reducer_argmax_f32_i32 x y u v reducesTo_S1024x200_S1024_d1 h_S_ j).2) ]

/-- The body's operations 24 … 24 of 80. -/
abbrev trip_w4 : List (HloOp τ sig (Elt F)) :=
  [ StableHlo.unary main_while0b_v61 main_while0b_v62 (broadcastInDim S1024x1 ![0] bcast_S1024_S1024x1_0 : (⟨S1024, .i32⟩ : BufTy).Contents (Elt F) → (⟨S1024x1, .i32⟩ : BufTy).Contents (Elt F)) ]

/-- The body's operations 25 … 46 of 80. -/
abbrev trip_w5 : List (HloOp τ sig (Elt F)) :=
  [ StableHlo.TRef.nullary (.of main_while0b_call2_c : StableHlo.TRef sig ⟨S_, .i32⟩) (constantI S_ 32 0#32),
    StableHlo.TRef.unary (.of main_while0b_call2_c : StableHlo.TRef sig ⟨S_, .i32⟩) (.of main_while0b_call2_v0 : StableHlo.TRef sig ⟨S1024x1, .i32⟩) (broadcastInDim S1024x1 ![] bcast_S_S1024x1),
    StableHlo.TRef.binary (.of main_while0b_v62 : StableHlo.TRef sig ⟨S1024x1, .i32⟩) (.of main_while0b_call2_v0 : StableHlo.TRef sig ⟨S1024x1, .i32⟩) (.of main_while0b_call2_v1 : StableHlo.TRef sig ⟨S1024x1, .i1⟩) (cmpi .slt),
    StableHlo.TRef.nullary (.of main_while0b_call2_c_0 : StableHlo.TRef sig ⟨S_, .i32⟩) (constantI S_ 32 200#32),
    StableHlo.TRef.unary (.of main_while0b_call2_c_0 : StableHlo.TRef sig ⟨S_, .i32⟩) (.of main_while0b_call2_v2 : StableHlo.TRef sig ⟨S1024x1, .i32⟩) (broadcastInDim S1024x1 ![] bcast_S_S1024x1),
    StableHlo.TRef.binary (.of main_while0b_v62 : StableHlo.TRef sig ⟨S1024x1, .i32⟩) (.of main_while0b_call2_v2 : StableHlo.TRef sig ⟨S1024x1, .i32⟩) (.of main_while0b_call2_v3 : StableHlo.TRef sig ⟨S1024x1, .i32⟩) addi,
    StableHlo.TRef.ternary (.of main_while0b_call2_v1 : StableHlo.TRef sig ⟨S1024x1, .i1⟩) (.of main_while0b_call2_v3 : StableHlo.TRef sig ⟨S1024x1, .i32⟩) (.of main_while0b_v62 : StableHlo.TRef sig ⟨S1024x1, .i32⟩) (.of main_while0b_call2_v4 : StableHlo.TRef sig ⟨S1024x1, .i32⟩) select,
    StableHlo.TRef.reshape (.of main_while0b_call2_v4 : StableHlo.TRef sig ⟨S1024x1, .i32⟩) (.of main_while0b_call2_v5 : StableHlo.TRef sig ⟨S1024x1x1, .i32⟩) (rfl : (.i32 : EltTy) = .i32) shapeCasts_S1024x1_S1024x1x1,
    StableHlo.TRef.nullary (.of main_while0b_call2_c_1 : StableHlo.TRef sig ⟨S1, .i32⟩) (constantI S1 32 199#32),
    StableHlo.TRef.nullary (.of main_while0b_call2_c_2 : StableHlo.TRef sig ⟨S_, .i32⟩) (constantI S_ 32 0#32),
    StableHlo.TRef.unary (.of main_while0b_call2_c_2 : StableHlo.TRef sig ⟨S_, .i32⟩) (.of main_while0b_call2_v6 : StableHlo.TRef sig ⟨S1024x1x1, .i32⟩) (broadcastInDim S1024x1x1 ![] bcast_S_S1024x1x1),
    StableHlo.TRef.binary (.of main_while0b_call2_v5 : StableHlo.TRef sig ⟨S1024x1x1, .i32⟩) (.of main_while0b_call2_v6 : StableHlo.TRef sig ⟨S1024x1x1, .i32⟩) (.of main_while0b_call2_v7 : StableHlo.TRef sig ⟨S1024x1x1, .i1⟩) (cmpi .sge),
    StableHlo.TRef.unary (.of main_while0b_call2_c_1 : StableHlo.TRef sig ⟨S1, .i32⟩) (.of main_while0b_call2_v8 : StableHlo.TRef sig ⟨S1x1x1, .i32⟩) (broadcastInDim S1x1x1 ![2] bcast_S1_S1x1x1_2),
    StableHlo.TRef.unary (.of main_while0b_call2_v8 : StableHlo.TRef sig ⟨S1x1x1, .i32⟩) (.of main_while0b_call2_v9 : StableHlo.TRef sig ⟨S1024x1x1, .i32⟩) (broadcastInDim S1024x1x1 ![0, 1, 2] bcast_S1x1x1_S1024x1x1_0_1_2),
    StableHlo.TRef.binary (.of main_while0b_call2_v5 : StableHlo.TRef sig ⟨S1024x1x1, .i32⟩) (.of main_while0b_call2_v9 : StableHlo.TRef sig ⟨S1024x1x1, .i32⟩) (.of main_while0b_call2_v10 : StableHlo.TRef sig ⟨S1024x1x1, .i1⟩) (cmpi .sle),
    StableHlo.TRef.binary (.of main_while0b_call2_v7 : StableHlo.TRef sig ⟨S1024x1x1, .i1⟩) (.of main_while0b_call2_v10 : StableHlo.TRef sig ⟨S1024x1x1, .i1⟩) (.of main_while0b_call2_v11 : StableHlo.TRef sig ⟨S1024x1x1, .i1⟩) andi,
    StableHlo.TRef.nullary (.of main_while0b_call2_c_3 : StableHlo.TRef sig ⟨S_, .i1⟩) (constantI S_ 1 1#1),
    StableHlo.TRef.binary (.of main_while0b_call2_v11 : StableHlo.TRef sig ⟨S1024x1x1, .i1⟩) (.of main_while0b_call2_c_3 : StableHlo.TRef sig ⟨S_, .i1⟩) (.of main_while0b_call2_v12 : StableHlo.TRef sig ⟨S1024x1, .i1⟩) (fun x v => Host.reduce IntOp.andi x v reducesTo_S1024x1x1_S1024x1_d2 h_S_),
    StableHlo.TRef.binary (.of main_while0b_v60 : StableHlo.TRef sig ⟨S1024x200, .f32⟩) (.of main_while0b_call2_v5 : StableHlo.TRef sig ⟨S1024x1x1, .i32⟩) (.of main_while0b_call2_v13 : StableHlo.TRef sig ⟨S1024x1, .f32⟩) (fun x i => Host.gather gather_S1024x200_S1024x1x1_S1024x1_n_1_0_0_1_2_11 x i),
    StableHlo.TRef.nullary (.of main_while0b_call2_cst : StableHlo.TRef sig ⟨S_, .f32⟩) (constant S_ .f32 0x7FC00000#32),
    StableHlo.TRef.unary (.of main_while0b_call2_cst : StableHlo.TRef sig ⟨S_, .f32⟩) (.of main_while0b_call2_v14 : StableHlo.TRef sig ⟨S1024x1, .f32⟩) (broadcastInDim S1024x1 ![] bcast_S_S1024x1),
    StableHlo.TRef.ternary (.of main_while0b_call2_v12 : StableHlo.TRef sig ⟨S1024x1, .i1⟩) (.of main_while0b_call2_v13 : StableHlo.TRef sig ⟨S1024x1, .f32⟩) (.of main_while0b_call2_v14 : StableHlo.TRef sig ⟨S1024x1, .f32⟩) (.of main_while0b_v63 : StableHlo.TRef sig ⟨S1024x1, .f32⟩) select ]

/-- The body's operations 47 … 68 of 80. -/
abbrev trip_w6 : List (HloOp τ sig (Elt F)) :=
  [ StableHlo.reshape main_while0b_v63 main_while0b_v64 (rfl : (.f32 : EltTy) = .f32) shapeCasts_S1024x1_S1024,
    StableHlo.unary main_while0b_v64 main_while0b_v65 (Host.log : (⟨S1024, .f32⟩ : BufTy).Contents (Elt F) → (⟨S1024, .f32⟩ : BufTy).Contents (Elt F)),
    StableHlo.nullary main_while0b_c_18 (constantI S_ 32 0#32),
    StableHlo.unary main_while0b_c_18 main_while0b_v66 (broadcastInDim S1024 ![] bcast_S_S1024 : (⟨S_, .i32⟩ : BufTy).Contents (Elt F) → (⟨S1024, .i32⟩ : BufTy).Contents (Elt F)),
    StableHlo.binary main_v46_1 main_while0b_v66 main_while0b_v67 (cmpi .slt : (⟨S1024, .i32⟩ : BufTy).Contents (Elt F) → (⟨S1024, .i32⟩ : BufTy).Contents (Elt F) → (⟨S1024, .i1⟩ : BufTy).Contents (Elt F)),
    StableHlo.nullary main_while0b_c_19 (constantI S_ 32 1024#32),
    StableHlo.unary main_while0b_c_19 main_while0b_v68 (broadcastInDim S1024 ![] bcast_S_S1024 : (⟨S_, .i32⟩ : BufTy).Contents (Elt F) → (⟨S1024, .i32⟩ : BufTy).Contents (Elt F)),
    StableHlo.binary main_v46_1 main_while0b_v68 main_while0b_v69 (addi : (⟨S1024, .i32⟩ : BufTy).Contents (Elt F) → (⟨S1024, .i32⟩ : BufTy).Contents (Elt F) → (⟨S1024, .i32⟩ : BufTy).Contents (Elt F)),
    StableHlo.ternary main_while0b_v67 main_while0b_v69 main_v46_1 main_while0b_v70 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.nullary main_while0b_c_20 (constantI S_ 32 0#32),
    StableHlo.unary main_while0b_c_20 main_while0b_v71 (broadcastInDim S1024 ![] bcast_S_S1024 : (⟨S_, .i32⟩ : BufTy).Contents (Elt F) → (⟨S1024, .i32⟩ : BufTy).Contents (Elt F)),
    StableHlo.binary main_while0b_v61 main_while0b_v71 main_while0b_v72 (cmpi .slt : (⟨S1024, .i32⟩ : BufTy).Contents (Elt F) → (⟨S1024, .i32⟩ : BufTy).Contents (Elt F) → (⟨S1024, .i1⟩ : BufTy).Contents (Elt F)),
    StableHlo.nullary main_while0b_c_21 (constantI S_ 32 200#32),
    StableHlo.unary main_while0b_c_21 main_while0b_v73 (broadcastInDim S1024 ![] bcast_S_S1024 : (⟨S_, .i32⟩ : BufTy).Contents (Elt F) → (⟨S1024, .i32⟩ : BufTy).Contents (Elt F)),
    StableHlo.binary main_while0b_v61 main_while0b_v73 main_while0b_v74 (addi : (⟨S1024, .i32⟩ : BufTy).Contents (Elt F) → (⟨S1024, .i32⟩ : BufTy).Contents (Elt F) → (⟨S1024, .i32⟩ : BufTy).Contents (Elt F)),
    StableHlo.ternary main_while0b_v72 main_while0b_v74 main_while0b_v61 main_while0b_v75 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_while0b_v70 main_while0b_v76 (broadcastInDim S1024x1 ![0] bcast_S1024_S1024x1_0 : (⟨S1024, .i32⟩ : BufTy).Contents (Elt F) → (⟨S1024x1, .i32⟩ : BufTy).Contents (Elt F)),
    StableHlo.unary main_while0b_v75 main_while0b_v77 (broadcastInDim S1024x1 ![0] bcast_S1024_S1024x1_0 : (⟨S1024, .i32⟩ : BufTy).Contents (Elt F) → (⟨S1024x1, .i32⟩ : BufTy).Contents (Elt F)),
    StableHlo.binary main_while0b_v76 main_while0b_v77 main_while0b_v78 (fn_main_while0b_v78 (F := F)),
    StableHlo.nullary main_while0b_c_22 (constantI S_ 1 1#1),
    StableHlo.unary main_while0b_c_22 main_while0b_v79 (broadcastInDim S1024 ![] bcast_S_S1024 : (⟨S_, .i1⟩ : BufTy).Contents (Elt F) → (⟨S1024, .i1⟩ : BufTy).Contents (Elt F)),
    StableHlo.ternary main_v46_3 main_while0b_v78 main_while0b_v79 main_while0b_v80 ((fun x i u => Host.scatter scatter_S1024x200_S1024x2_S1024_n_01_01_1 (fun _ b => b) x i u) : (⟨S1024x200, .i1⟩ : BufTy).Contents (Elt F) → (⟨S1024x2, .i32⟩ : BufTy).Contents (Elt F) → (⟨S1024, .i1⟩ : BufTy).Contents (Elt F) → (⟨S1024x200, .i1⟩ : BufTy).Contents (Elt F)) ]

/-- The body's operations 69 … 71 of 80. -/
abbrev trip_w7 : List (HloOp τ sig (Elt F)) :=
  [ StableHlo.TRef.unary (.of main_while0b_v65 : StableHlo.TRef sig ⟨S1024, .f32⟩) (.of main_while0b_call3_v0 : StableHlo.TRef sig ⟨S1x1024, .f32⟩) (broadcastInDim S1x1024 ![1] bcast_S1024_S1x1024_1),
    StableHlo.TRef.nullary (.of main_while0b_call3_c : StableHlo.TRef sig ⟨S_, .i32⟩) (constantI S_ 32 0#32),
    StableHlo.TRef.binaryIndexed (.of main_v46_4 : StableHlo.TRef sig ⟨S200x1024, .f32⟩) (.of main_while0b_call3_v0 : StableHlo.TRef sig ⟨S1x1024, .f32⟩) ![(.of main_v46_2 : StableHlo.TRef sig ⟨S_, .i32⟩), (.of main_while0b_call3_c : StableHlo.TRef sig ⟨S_, .i32⟩)] (.of main_while0b_v81 : StableHlo.TRef sig ⟨S200x1024, .f32⟩) (fun x u i => Host.dynamicUpdateSlice x u (fun k => (i k (Shape.Idx.first h_S_)).toInt) updateFits_S200x1024_S1x1024) ]

/-- The body's operations 72 … 74 of 80. -/
abbrev trip_w8 : List (HloOp τ sig (Elt F)) :=
  [ StableHlo.TRef.unary (.of main_while0b_v61 : StableHlo.TRef sig ⟨S1024, .i32⟩) (.of main_while0b_call4_v0 : StableHlo.TRef sig ⟨S1x1024, .i32⟩) (broadcastInDim S1x1024 ![1] bcast_S1024_S1x1024_1),
    StableHlo.TRef.nullary (.of main_while0b_call4_c : StableHlo.TRef sig ⟨S_, .i32⟩) (constantI S_ 32 0#32),
    StableHlo.TRef.binaryIndexed (.of main_v46_5 : StableHlo.TRef sig ⟨S200x1024, .i32⟩) (.of main_while0b_call4_v0 : StableHlo.TRef sig ⟨S1x1024, .i32⟩) ![(.of main_v46_2 : StableHlo.TRef sig ⟨S_, .i32⟩), (.of main_while0b_call4_c : StableHlo.TRef sig ⟨S_, .i32⟩)] (.of main_while0b_v82 : StableHlo.TRef sig ⟨S200x1024, .i32⟩) (fun x u i => Host.dynamicUpdateSlice x u (fun k => (i k (Shape.Idx.first h_S_)).toInt) updateFits_S200x1024_S1x1024) ]

set_option maxRecDepth 5000 in
/-- `while0Ops0` is its windows in order. -/
theorem while0Ops0_cut : (while0Ops0 : List (HloOp τ sig (Elt F))) = trip_w0 := rfl
set_option maxRecDepth 5000 in
/-- `while0Ops0_1` is its windows in order. -/
theorem while0Ops0_1_cut : (while0Ops0_1 : List (HloOp τ sig (Elt F))) = trip_w1 := rfl
set_option maxRecDepth 5000 in
/-- `while0Ops0_2` is its windows in order. -/
theorem while0Ops0_2_cut : (while0Ops0_2 : List (HloOp τ sig (Elt F))) = trip_w2 := rfl
set_option maxRecDepth 5000 in
/-- `while0Ops0_3` is its windows in order. -/
theorem while0Ops0_3_cut : (while0Ops0_3 : List (HloOp τ sig (Elt F))) = trip_w3 := rfl
set_option maxRecDepth 5000 in
/-- `while0Ops0_4` is its windows in order. -/
theorem while0Ops0_4_cut : (while0Ops0_4 : List (HloOp τ sig (Elt F))) = trip_w4 := rfl
set_option maxRecDepth 5000 in
/-- `while0Ops0_5` is its windows in order. -/
theorem while0Ops0_5_cut : (while0Ops0_5 : List (HloOp τ sig (Elt F))) = trip_w5 := rfl
set_option maxRecDepth 5000 in
/-- `while0Ops0_6` is its windows in order. -/
theorem while0Ops0_6_cut : (while0Ops0_6 : List (HloOp τ sig (Elt F))) = trip_w6 := rfl
set_option maxRecDepth 5000 in
/-- `while0Ops0_7` is its windows in order. -/
theorem while0Ops0_7_cut : (while0Ops0_7 : List (HloOp τ sig (Elt F))) = trip_w7 := rfl
set_option maxRecDepth 5000 in
/-- `while0Ops0_8` is its windows in order. -/
theorem while0Ops0_8_cut : (while0Ops0_8 : List (HloOp τ sig (Elt F))) = trip_w8 := rfl

set_option maxRecDepth 8192 in
/-- `main_while0b_v49`'s composed term of the carried buffers (named: it is used 2 times). -/
def res_main_while0b_v49 (V0 : Valuation τ sig (Elt F)) : (Proc.devRef .tc main_while0b_v49 : DevRef τ sig).ty.Contents (Elt F) :=
  select (V0 (Proc.devRef .tc main_v46_3)) (broadcastInDim S1024x200 ![] bcast_S_S1024x200 (id (constant S_ .f32 0xFF800000#32))) (V0 (Proc.devRef .tc main_v46_0))

set_option maxRecDepth 8192 in
/-- `main_while0b_v56`'s composed term of the carried buffers (named: it is used 2 times). -/
def res_main_while0b_v56 (V0 : Valuation τ sig (Elt F)) : (Proc.devRef .tc main_while0b_v56 : DevRef τ sig).ty.Contents (Elt F) :=
  Host.exp (subf (res_main_while0b_v49 V0) (broadcastInDim S1024x200 ![0, 1] bcast_S1024x1_S1024x200_0_1 (broadcastInDim S1024x1 ![0] bcast_S1024_S1024x1_0 (maximumf (broadcastInDim S1024 ![] bcast_S_S1024 (constant S_ .f32 0xFF800000#32)) (Host.reduce FloatOps.maximumf (res_main_while0b_v49 V0) (constant S_ .f32 0xFF800000#32) reducesTo_S1024x200_S1024_d1 h_S_)))))

set_option maxRecDepth 8192 in
/-- `main_while0b_v60`'s composed term of the carried buffers (named: it is used 3 times). -/
def res_main_while0b_v60 (V0 : Valuation τ sig (Elt F)) : (Proc.devRef .tc main_while0b_v60 : DevRef τ sig).ty.Contents (Elt F) :=
  Host.divf (res_main_while0b_v56 V0) (broadcastInDim S1024x200 ![0, 1] bcast_S1024x1_S1024x200_0_1 (broadcastInDim S1024x1 ![0] bcast_S1024_S1024x1_0 (Host.reduceAdd (res_main_while0b_v56 V0) (constant S_ .f32 0x00000000#32) reducesTo_S1024x200_S1024_d1 h_S_)))

set_option maxRecDepth 8192 in
/-- `main_while0b_call1_v0`'s composed term of the carried buffers (named: it is used 2 times). -/
def res_main_while0b_call1_v0 (V0 : Valuation τ sig (Elt F)) : (Proc.devRef .tc main_while0b_call1_v0 : DevRef τ sig).ty.Contents (Elt F) :=
  iotaInDim S1024x200 32 1

set_option maxRecDepth 8192 in
/-- `main_while0b_call1_cst`'s composed term of the carried buffers (named: it is used 2 times). -/
def res_main_while0b_call1_cst (V0 : Valuation τ sig (Elt F)) : (Proc.devRef .tc main_while0b_call1_cst : DevRef τ sig).ty.Contents (Elt F) :=
  constant S_ .f32 0xFF800000#32

set_option maxRecDepth 8192 in
/-- `main_while0b_call1_c`'s composed term of the carried buffers (named: it is used 2 times). -/
def res_main_while0b_call1_c (V0 : Valuation τ sig (Elt F)) : (Proc.devRef .tc main_while0b_call1_c : DevRef τ sig).ty.Contents (Elt F) :=
  constantI S_ 32 0#32

set_option maxRecDepth 8192 in
/-- `main_while0b_v61`'s composed term of the carried buffers (named: it is used 5 times). -/
def res_main_while0b_v61 (V0 : Valuation τ sig (Elt F)) : (Proc.devRef .tc main_while0b_v61 : DevRef τ sig).ty.Contents (Elt F) :=
  (fun j => (Host.argReduce reducer_argmax_f32_i32 (res_main_while0b_v60 V0) (res_main_while0b_call1_v0 V0) (res_main_while0b_call1_cst V0) (res_main_while0b_call1_c V0) reducesTo_S1024x200_S1024_d1 h_S_ j).2)

set_option maxRecDepth 8192 in
/-- `main_while0b_v62`'s composed term of the carried buffers (named: it is used 3 times). -/
def res_main_while0b_v62 (V0 : Valuation τ sig (Elt F)) : (Proc.devRef .tc main_while0b_v62 : DevRef τ sig).ty.Contents (Elt F) :=
  broadcastInDim S1024x1 ![0] bcast_S1024_S1024x1_0 (res_main_while0b_v61 V0)

set_option maxRecDepth 8192 in
/-- `main_while0b_call2_v5`'s composed term of the carried buffers (named: it is used 3 times). -/
def res_main_while0b_call2_v5 (V0 : Valuation τ sig (Elt F)) : (Proc.devRef .tc main_while0b_call2_v5 : DevRef τ sig).ty.Contents (Elt F) :=
  shapeCast S1024x1x1 (select (cmpi .slt (res_main_while0b_v62 V0) (broadcastInDim S1024x1 ![] bcast_S_S1024x1 (constantI S_ 32 0#32))) (addi (res_main_while0b_v62 V0) (broadcastInDim S1024x1 ![] bcast_S_S1024x1 (constantI S_ 32 200#32))) (res_main_while0b_v62 V0)) shapeCasts_S1024x1_S1024x1x1

/-- The device's buffer contents before the body's first window. -/
def val0 (V0 : Valuation τ sig (Elt F)) : Valuation τ sig (Elt F) := V0
theorem val0_main_v46_3 (V0 : Valuation τ sig (Elt F)) : val0 V0 (no_index (Proc.devRef .tc main_v46_3)) = V0 (Proc.devRef .tc main_v46_3) := rfl
theorem val0_main_v46_0 (V0 : Valuation τ sig (Elt F)) : val0 V0 (no_index (Proc.devRef .tc main_v46_0)) = V0 (Proc.devRef .tc main_v46_0) := rfl
theorem val0_main_v46_1 (V0 : Valuation τ sig (Elt F)) : val0 V0 (no_index (Proc.devRef .tc main_v46_1)) = V0 (Proc.devRef .tc main_v46_1) := rfl
theorem val0_main_v46_4 (V0 : Valuation τ sig (Elt F)) : val0 V0 (no_index (Proc.devRef .tc main_v46_4)) = V0 (Proc.devRef .tc main_v46_4) := rfl
theorem val0_main_v46_2 (V0 : Valuation τ sig (Elt F)) : val0 V0 (no_index (Proc.devRef .tc main_v46_2)) = V0 (Proc.devRef .tc main_v46_2) := rfl
theorem val0_main_v46_5 (V0 : Valuation τ sig (Elt F)) : val0 V0 (no_index (Proc.devRef .tc main_v46_5)) = V0 (Proc.devRef .tc main_v46_5) := rfl

/-- The device's buffer contents after the body's first 1 window. -/
def val1 (V0 : Valuation τ sig (Elt F)) : Valuation τ sig (Elt F) := after trip_w0 (val0 V0)
/-- The buffers that window `trip_w0`'s operations write. -/
abbrev trip_w0_W : List (Ref sig .tc) := [main_while0b_cst_14]
set_option maxRecDepth 8192 in
theorem trip_w0_writes : (trip_w0 : List (HloOp τ sig (Elt F))).Forall fun op => op.writes ⊆ (trip_w0_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v46_3 (V0 : Valuation τ sig (Elt F)) : val1 V0 (no_index (Proc.devRef .tc main_v46_3)) = V0 (Proc.devRef .tc main_v46_3) :=
  (val1_keep V0 main_v46_3 (by decide)).trans (val0_main_v46_3 V0)
theorem val1_main_v46_0 (V0 : Valuation τ sig (Elt F)) : val1 V0 (no_index (Proc.devRef .tc main_v46_0)) = V0 (Proc.devRef .tc main_v46_0) :=
  (val1_keep V0 main_v46_0 (by decide)).trans (val0_main_v46_0 V0)
theorem val1_main_v46_1 (V0 : Valuation τ sig (Elt F)) : val1 V0 (no_index (Proc.devRef .tc main_v46_1)) = V0 (Proc.devRef .tc main_v46_1) :=
  (val1_keep V0 main_v46_1 (by decide)).trans (val0_main_v46_1 V0)
theorem val1_main_v46_4 (V0 : Valuation τ sig (Elt F)) : val1 V0 (no_index (Proc.devRef .tc main_v46_4)) = V0 (Proc.devRef .tc main_v46_4) :=
  (val1_keep V0 main_v46_4 (by decide)).trans (val0_main_v46_4 V0)
theorem val1_main_v46_2 (V0 : Valuation τ sig (Elt F)) : val1 V0 (no_index (Proc.devRef .tc main_v46_2)) = V0 (Proc.devRef .tc main_v46_2) :=
  (val1_keep V0 main_v46_2 (by decide)).trans (val0_main_v46_2 V0)
theorem val1_main_v46_5 (V0 : Valuation τ sig (Elt F)) : val1 V0 (no_index (Proc.devRef .tc main_v46_5)) = V0 (Proc.devRef .tc main_v46_5) :=
  (val1_keep V0 main_v46_5 (by decide)).trans (val0_main_v46_5 V0)
set_option maxRecDepth 8192 in
theorem val1_main_while0b_cst_14 (V0 : Valuation τ sig (Elt F)) : val1 V0 (no_index (Proc.devRef .tc main_while0b_cst_14)) = constant S_ .f32 0xFF800000#32 := by
  unfold val1
  simp only [trip_w0]
  after_results_entrywise [cast_eq]

/-- The device's buffer contents after the body's first 2 windows. -/
def val2 (V0 : Valuation τ sig (Elt F)) : Valuation τ sig (Elt F) := after trip_w1 (val1 V0)
/-- The buffers that window `trip_w1`'s operations write. -/
abbrev trip_w1_W : List (Ref sig .tc) := [main_while0b_call0_v0, main_while0b_call0_v1, main_while0b_v49]
set_option maxRecDepth 8192 in
theorem trip_w1_writes : (trip_w1 : List (HloOp τ sig (Elt F))).Forall fun op => op.writes ⊆ (trip_w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v46_3 (V0 : Valuation τ sig (Elt F)) : val2 V0 (no_index (Proc.devRef .tc main_v46_3)) = V0 (Proc.devRef .tc main_v46_3) :=
  (val2_keep V0 main_v46_3 (by decide)).trans (val1_main_v46_3 V0)
theorem val2_main_v46_0 (V0 : Valuation τ sig (Elt F)) : val2 V0 (no_index (Proc.devRef .tc main_v46_0)) = V0 (Proc.devRef .tc main_v46_0) :=
  (val2_keep V0 main_v46_0 (by decide)).trans (val1_main_v46_0 V0)
theorem val2_main_v46_1 (V0 : Valuation τ sig (Elt F)) : val2 V0 (no_index (Proc.devRef .tc main_v46_1)) = V0 (Proc.devRef .tc main_v46_1) :=
  (val2_keep V0 main_v46_1 (by decide)).trans (val1_main_v46_1 V0)
theorem val2_main_v46_4 (V0 : Valuation τ sig (Elt F)) : val2 V0 (no_index (Proc.devRef .tc main_v46_4)) = V0 (Proc.devRef .tc main_v46_4) :=
  (val2_keep V0 main_v46_4 (by decide)).trans (val1_main_v46_4 V0)
theorem val2_main_v46_2 (V0 : Valuation τ sig (Elt F)) : val2 V0 (no_index (Proc.devRef .tc main_v46_2)) = V0 (Proc.devRef .tc main_v46_2) :=
  (val2_keep V0 main_v46_2 (by decide)).trans (val1_main_v46_2 V0)
theorem val2_main_v46_5 (V0 : Valuation τ sig (Elt F)) : val2 V0 (no_index (Proc.devRef .tc main_v46_5)) = V0 (Proc.devRef .tc main_v46_5) :=
  (val2_keep V0 main_v46_5 (by decide)).trans (val1_main_v46_5 V0)
set_option maxRecDepth 8192 in
theorem val2_main_while0b_v49 (V0 : Valuation τ sig (Elt F)) : val2 V0 (no_index (Proc.devRef .tc main_while0b_v49)) = res_main_while0b_v49 V0 := by
  unfold val2
  simp only [trip_w1]
  after_results_entrywise [val1_main_v46_0, val1_main_while0b_cst_14, val1_main_v46_3, res_main_while0b_v49, cast_eq]

/-- The device's buffer contents after the body's first 3 windows. -/
def val3 (V0 : Valuation τ sig (Elt F)) : Valuation τ sig (Elt F) := after trip_w2 (val2 V0)
/-- The buffers that window `trip_w2`'s operations write. -/
abbrev trip_w2_W : List (Ref sig .tc) := [main_while0b_cst_15, main_while0b_v50, main_while0b_cst_16, main_while0b_v51, main_while0b_v52, main_while0b_v53, main_while0b_v54, main_while0b_v55, main_while0b_v56, main_while0b_cst_17, main_while0b_v57, main_while0b_v58, main_while0b_v59, main_while0b_v60]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v46_3 (V0 : Valuation τ sig (Elt F)) : val3 V0 (no_index (Proc.devRef .tc main_v46_3)) = V0 (Proc.devRef .tc main_v46_3) :=
  (val3_keep V0 main_v46_3 (by decide)).trans (val2_main_v46_3 V0)
theorem val3_main_v46_0 (V0 : Valuation τ sig (Elt F)) : val3 V0 (no_index (Proc.devRef .tc main_v46_0)) = V0 (Proc.devRef .tc main_v46_0) :=
  (val3_keep V0 main_v46_0 (by decide)).trans (val2_main_v46_0 V0)
theorem val3_main_v46_1 (V0 : Valuation τ sig (Elt F)) : val3 V0 (no_index (Proc.devRef .tc main_v46_1)) = V0 (Proc.devRef .tc main_v46_1) :=
  (val3_keep V0 main_v46_1 (by decide)).trans (val2_main_v46_1 V0)
theorem val3_main_v46_4 (V0 : Valuation τ sig (Elt F)) : val3 V0 (no_index (Proc.devRef .tc main_v46_4)) = V0 (Proc.devRef .tc main_v46_4) :=
  (val3_keep V0 main_v46_4 (by decide)).trans (val2_main_v46_4 V0)
theorem val3_main_v46_2 (V0 : Valuation τ sig (Elt F)) : val3 V0 (no_index (Proc.devRef .tc main_v46_2)) = V0 (Proc.devRef .tc main_v46_2) :=
  (val3_keep V0 main_v46_2 (by decide)).trans (val2_main_v46_2 V0)
theorem val3_main_v46_5 (V0 : Valuation τ sig (Elt F)) : val3 V0 (no_index (Proc.devRef .tc main_v46_5)) = V0 (Proc.devRef .tc main_v46_5) :=
  (val3_keep V0 main_v46_5 (by decide)).trans (val2_main_v46_5 V0)
set_option maxRecDepth 8192 in
set_option maxHeartbeats 1400000 in
theorem val3_main_while0b_v60 (V0 : Valuation τ sig (Elt F)) : val3 V0 (no_index (Proc.devRef .tc main_while0b_v60)) = res_main_while0b_v60 V0 := by
  unfold val3
  simp only [trip_w2]
  after_results_entrywise [val2_main_while0b_v49, res_main_while0b_v56, res_main_while0b_v60, cast_eq]

/-- The device's buffer contents after the body's first 4 windows. -/
def val4 (V0 : Valuation τ sig (Elt F)) : Valuation τ sig (Elt F) := after trip_w3 (val3 V0)
/-- The buffers that window `trip_w3`'s operations write. -/
abbrev trip_w3_W : List (Ref sig .tc) := [main_while0b_call1_v0, main_while0b_call1_cst, main_while0b_call1_c, main_while0b_call1_v1_0, main_while0b_v61]
set_option maxRecDepth 8192 in
theorem trip_w3_writes : (trip_w3 : List (HloOp τ sig (Elt F))).Forall fun op => op.writes ⊆ (trip_w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v46_3 (V0 : Valuation τ sig (Elt F)) : val4 V0 (no_index (Proc.devRef .tc main_v46_3)) = V0 (Proc.devRef .tc main_v46_3) :=
  (val4_keep V0 main_v46_3 (by decide)).trans (val3_main_v46_3 V0)
theorem val4_main_v46_0 (V0 : Valuation τ sig (Elt F)) : val4 V0 (no_index (Proc.devRef .tc main_v46_0)) = V0 (Proc.devRef .tc main_v46_0) :=
  (val4_keep V0 main_v46_0 (by decide)).trans (val3_main_v46_0 V0)
theorem val4_main_v46_1 (V0 : Valuation τ sig (Elt F)) : val4 V0 (no_index (Proc.devRef .tc main_v46_1)) = V0 (Proc.devRef .tc main_v46_1) :=
  (val4_keep V0 main_v46_1 (by decide)).trans (val3_main_v46_1 V0)
theorem val4_main_v46_4 (V0 : Valuation τ sig (Elt F)) : val4 V0 (no_index (Proc.devRef .tc main_v46_4)) = V0 (Proc.devRef .tc main_v46_4) :=
  (val4_keep V0 main_v46_4 (by decide)).trans (val3_main_v46_4 V0)
theorem val4_main_v46_2 (V0 : Valuation τ sig (Elt F)) : val4 V0 (no_index (Proc.devRef .tc main_v46_2)) = V0 (Proc.devRef .tc main_v46_2) :=
  (val4_keep V0 main_v46_2 (by decide)).trans (val3_main_v46_2 V0)
theorem val4_main_v46_5 (V0 : Valuation τ sig (Elt F)) : val4 V0 (no_index (Proc.devRef .tc main_v46_5)) = V0 (Proc.devRef .tc main_v46_5) :=
  (val4_keep V0 main_v46_5 (by decide)).trans (val3_main_v46_5 V0)
theorem val4_main_while0b_v60 (V0 : Valuation τ sig (Elt F)) : val4 V0 (no_index (Proc.devRef .tc main_while0b_v60)) = res_main_while0b_v60 V0 :=
  (val4_keep V0 main_while0b_v60 (by decide)).trans (val3_main_while0b_v60 V0)
set_option maxRecDepth 8192 in
theorem val4_main_while0b_v61 (V0 : Valuation τ sig (Elt F)) : val4 V0 (no_index (Proc.devRef .tc main_while0b_v61)) = res_main_while0b_v61 V0 := by
  unfold val4
  simp only [trip_w3]
  after_results_entrywise [val3_main_while0b_v60, res_main_while0b_call1_v0, res_main_while0b_call1_cst, res_main_while0b_call1_c, res_main_while0b_v61, cast_eq]

/-- The device's buffer contents after the body's first 5 windows. -/
def val5 (V0 : Valuation τ sig (Elt F)) : Valuation τ sig (Elt F) := after trip_w4 (val4 V0)
/-- The buffers that window `trip_w4`'s operations write. -/
abbrev trip_w4_W : List (Ref sig .tc) := [main_while0b_v62]
set_option maxRecDepth 8192 in
theorem trip_w4_writes : (trip_w4 : List (HloOp τ sig (Elt F))).Forall fun op => op.writes ⊆ (trip_w4_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v46_3 (V0 : Valuation τ sig (Elt F)) : val5 V0 (no_index (Proc.devRef .tc main_v46_3)) = V0 (Proc.devRef .tc main_v46_3) :=
  (val5_keep V0 main_v46_3 (by decide)).trans (val4_main_v46_3 V0)
theorem val5_main_v46_0 (V0 : Valuation τ sig (Elt F)) : val5 V0 (no_index (Proc.devRef .tc main_v46_0)) = V0 (Proc.devRef .tc main_v46_0) :=
  (val5_keep V0 main_v46_0 (by decide)).trans (val4_main_v46_0 V0)
theorem val5_main_v46_1 (V0 : Valuation τ sig (Elt F)) : val5 V0 (no_index (Proc.devRef .tc main_v46_1)) = V0 (Proc.devRef .tc main_v46_1) :=
  (val5_keep V0 main_v46_1 (by decide)).trans (val4_main_v46_1 V0)
theorem val5_main_v46_4 (V0 : Valuation τ sig (Elt F)) : val5 V0 (no_index (Proc.devRef .tc main_v46_4)) = V0 (Proc.devRef .tc main_v46_4) :=
  (val5_keep V0 main_v46_4 (by decide)).trans (val4_main_v46_4 V0)
theorem val5_main_v46_2 (V0 : Valuation τ sig (Elt F)) : val5 V0 (no_index (Proc.devRef .tc main_v46_2)) = V0 (Proc.devRef .tc main_v46_2) :=
  (val5_keep V0 main_v46_2 (by decide)).trans (val4_main_v46_2 V0)
theorem val5_main_v46_5 (V0 : Valuation τ sig (Elt F)) : val5 V0 (no_index (Proc.devRef .tc main_v46_5)) = V0 (Proc.devRef .tc main_v46_5) :=
  (val5_keep V0 main_v46_5 (by decide)).trans (val4_main_v46_5 V0)
theorem val5_main_while0b_v60 (V0 : Valuation τ sig (Elt F)) : val5 V0 (no_index (Proc.devRef .tc main_while0b_v60)) = res_main_while0b_v60 V0 :=
  (val5_keep V0 main_while0b_v60 (by decide)).trans (val4_main_while0b_v60 V0)
theorem val5_main_while0b_v61 (V0 : Valuation τ sig (Elt F)) : val5 V0 (no_index (Proc.devRef .tc main_while0b_v61)) = res_main_while0b_v61 V0 :=
  (val5_keep V0 main_while0b_v61 (by decide)).trans (val4_main_while0b_v61 V0)
set_option maxRecDepth 8192 in
theorem val5_main_while0b_v62 (V0 : Valuation τ sig (Elt F)) : val5 V0 (no_index (Proc.devRef .tc main_while0b_v62)) = res_main_while0b_v62 V0 := by
  unfold val5
  simp only [trip_w4]
  after_results_entrywise [val4_main_while0b_v61, res_main_while0b_v62, cast_eq]

/-- The device's buffer contents after the body's first 6 windows. -/
def val6 (V0 : Valuation τ sig (Elt F)) : Valuation τ sig (Elt F) := after trip_w5 (val5 V0)
/-- The buffers that window `trip_w5`'s operations write. -/
abbrev trip_w5_W : List (Ref sig .tc) := [main_while0b_call2_c, main_while0b_call2_v0, main_while0b_call2_v1, main_while0b_call2_c_0, main_while0b_call2_v2, main_while0b_call2_v3, main_while0b_call2_v4, main_while0b_call2_v5, main_while0b_call2_c_1, main_while0b_call2_c_2, main_while0b_call2_v6, main_while0b_call2_v7, main_while0b_call2_v8, main_while0b_call2_v9, main_while0b_call2_v10, main_while0b_call2_v11, main_while0b_call2_c_3, main_while0b_call2_v12, main_while0b_call2_v13, main_while0b_call2_cst, main_while0b_call2_v14, main_while0b_v63]
set_option maxRecDepth 8192 in
theorem trip_w5_writes : (trip_w5 : List (HloOp τ sig (Elt F))).Forall fun op => op.writes ⊆ (trip_w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w5` does not write keeps its contents through it. -/
theorem val6_keep (V0 : Valuation τ sig (Elt F)) (r : Ref sig .tc) (h : r ∉ trip_w5_W) :
    val6 V0 (Proc.devRef .tc r) = val5 V0 (Proc.devRef .tc r) :=
  after_of_writes_sub trip_w5 _ trip_w5_writes h
theorem val6_main_v46_3 (V0 : Valuation τ sig (Elt F)) : val6 V0 (no_index (Proc.devRef .tc main_v46_3)) = V0 (Proc.devRef .tc main_v46_3) :=
  (val6_keep V0 main_v46_3 (by decide)).trans (val5_main_v46_3 V0)
theorem val6_main_v46_0 (V0 : Valuation τ sig (Elt F)) : val6 V0 (no_index (Proc.devRef .tc main_v46_0)) = V0 (Proc.devRef .tc main_v46_0) :=
  (val6_keep V0 main_v46_0 (by decide)).trans (val5_main_v46_0 V0)
theorem val6_main_v46_1 (V0 : Valuation τ sig (Elt F)) : val6 V0 (no_index (Proc.devRef .tc main_v46_1)) = V0 (Proc.devRef .tc main_v46_1) :=
  (val6_keep V0 main_v46_1 (by decide)).trans (val5_main_v46_1 V0)
theorem val6_main_v46_4 (V0 : Valuation τ sig (Elt F)) : val6 V0 (no_index (Proc.devRef .tc main_v46_4)) = V0 (Proc.devRef .tc main_v46_4) :=
  (val6_keep V0 main_v46_4 (by decide)).trans (val5_main_v46_4 V0)
theorem val6_main_v46_2 (V0 : Valuation τ sig (Elt F)) : val6 V0 (no_index (Proc.devRef .tc main_v46_2)) = V0 (Proc.devRef .tc main_v46_2) :=
  (val6_keep V0 main_v46_2 (by decide)).trans (val5_main_v46_2 V0)
theorem val6_main_v46_5 (V0 : Valuation τ sig (Elt F)) : val6 V0 (no_index (Proc.devRef .tc main_v46_5)) = V0 (Proc.devRef .tc main_v46_5) :=
  (val6_keep V0 main_v46_5 (by decide)).trans (val5_main_v46_5 V0)
theorem val6_main_while0b_v61 (V0 : Valuation τ sig (Elt F)) : val6 V0 (no_index (Proc.devRef .tc main_while0b_v61)) = res_main_while0b_v61 V0 :=
  (val6_keep V0 main_while0b_v61 (by decide)).trans (val5_main_while0b_v61 V0)
set_option maxRecDepth 8192 in
set_option maxHeartbeats 2000000 in
theorem val6_main_while0b_v63 (V0 : Valuation τ sig (Elt F)) : val6 V0 (no_index (Proc.devRef .tc main_while0b_v63)) = select (Host.reduce IntOp.andi (andi (cmpi .sge (res_main_while0b_call2_v5 V0) (broadcastInDim S1024x1x1 ![] bcast_S_S1024x1x1 (constantI S_ 32 0#32))) (cmpi .sle (res_main_while0b_call2_v5 V0) (broadcastInDim S1024x1x1 ![0, 1, 2] bcast_S1x1x1_S1024x1x1_0_1_2 (broadcastInDim S1x1x1 ![2] bcast_S1_S1x1x1_2 (constantI S1 32 199#32))))) (constantI S_ 1 1#1) reducesTo_S1024x1x1_S1024x1_d2 h_S_) (Host.gather gather_S1024x200_S1024x1x1_S1024x1_n_1_0_0_1_2_11 (res_main_while0b_v60 V0) (res_main_while0b_call2_v5 V0)) (broadcastInDim S1024x1 ![] bcast_S_S1024x1 (constant S_ .f32 0x7FC00000#32)) := by
  unfold val6
  simp only [trip_w5]
  after_results_entrywise [val5_main_while0b_v62, val5_main_while0b_v60, res_main_while0b_call2_v5, cast_eq]

/-- The device's buffer contents after the body's first 7 windows. -/
def val7 (V0 : Valuation τ sig (Elt F)) : Valuation τ sig (Elt F) := after trip_w6 (val6 V0)
/-- The buffers that window `trip_w6`'s operations write. -/
abbrev trip_w6_W : List (Ref sig .tc) := [main_while0b_v64, main_while0b_v65, main_while0b_c_18, main_while0b_v66, main_while0b_v67, main_while0b_c_19, main_while0b_v68, main_while0b_v69, main_while0b_v70, main_while0b_c_20, main_while0b_v71, main_while0b_v72, main_while0b_c_21, main_while0b_v73, main_while0b_v74, main_while0b_v75, main_while0b_v76, main_while0b_v77, main_while0b_v78, main_while0b_c_22, main_while0b_v79, main_while0b_v80]
set_option maxRecDepth 8192 in
theorem trip_w6_writes : (trip_w6 : List (HloOp τ sig (Elt F))).Forall fun op => op.writes ⊆ (trip_w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w6` does not write keeps its contents through it. -/
theorem val7_keep (V0 : Valuation τ sig (Elt F)) (r : Ref sig .tc) (h : r ∉ trip_w6_W) :
    val7 V0 (Proc.devRef .tc r) = val6 V0 (Proc.devRef .tc r) :=
  after_of_writes_sub trip_w6 _ trip_w6_writes h
theorem val7_main_v46_3 (V0 : Valuation τ sig (Elt F)) : val7 V0 (no_index (Proc.devRef .tc main_v46_3)) = V0 (Proc.devRef .tc main_v46_3) :=
  (val7_keep V0 main_v46_3 (by decide)).trans (val6_main_v46_3 V0)
theorem val7_main_v46_0 (V0 : Valuation τ sig (Elt F)) : val7 V0 (no_index (Proc.devRef .tc main_v46_0)) = V0 (Proc.devRef .tc main_v46_0) :=
  (val7_keep V0 main_v46_0 (by decide)).trans (val6_main_v46_0 V0)
theorem val7_main_v46_1 (V0 : Valuation τ sig (Elt F)) : val7 V0 (no_index (Proc.devRef .tc main_v46_1)) = V0 (Proc.devRef .tc main_v46_1) :=
  (val7_keep V0 main_v46_1 (by decide)).trans (val6_main_v46_1 V0)
theorem val7_main_v46_4 (V0 : Valuation τ sig (Elt F)) : val7 V0 (no_index (Proc.devRef .tc main_v46_4)) = V0 (Proc.devRef .tc main_v46_4) :=
  (val7_keep V0 main_v46_4 (by decide)).trans (val6_main_v46_4 V0)
theorem val7_main_v46_2 (V0 : Valuation τ sig (Elt F)) : val7 V0 (no_index (Proc.devRef .tc main_v46_2)) = V0 (Proc.devRef .tc main_v46_2) :=
  (val7_keep V0 main_v46_2 (by decide)).trans (val6_main_v46_2 V0)
theorem val7_main_v46_5 (V0 : Valuation τ sig (Elt F)) : val7 V0 (no_index (Proc.devRef .tc main_v46_5)) = V0 (Proc.devRef .tc main_v46_5) :=
  (val7_keep V0 main_v46_5 (by decide)).trans (val6_main_v46_5 V0)
theorem val7_main_while0b_v61 (V0 : Valuation τ sig (Elt F)) : val7 V0 (no_index (Proc.devRef .tc main_while0b_v61)) = res_main_while0b_v61 V0 :=
  (val7_keep V0 main_while0b_v61 (by decide)).trans (val6_main_while0b_v61 V0)
set_option maxRecDepth 8192 in
set_option maxHeartbeats 2000000 in
theorem val7_main_while0b_v65 (V0 : Valuation τ sig (Elt F)) : val7 V0 (no_index (Proc.devRef .tc main_while0b_v65)) = Host.log (shapeCast S1024 (select (Host.reduce IntOp.andi (andi (cmpi .sge (res_main_while0b_call2_v5 V0) (broadcastInDim S1024x1x1 ![] bcast_S_S1024x1x1 (constantI S_ 32 0#32))) (cmpi .sle (res_main_while0b_call2_v5 V0) (broadcastInDim S1024x1x1 ![0, 1, 2] bcast_S1x1x1_S1024x1x1_0_1_2 (broadcastInDim S1x1x1 ![2] bcast_S1_S1x1x1_2 (constantI S1 32 199#32))))) (constantI S_ 1 1#1) reducesTo_S1024x1x1_S1024x1_d2 h_S_) (Host.gather gather_S1024x200_S1024x1x1_S1024x1_n_1_0_0_1_2_11 (res_main_while0b_v60 V0) (res_main_while0b_call2_v5 V0)) (broadcastInDim S1024x1 ![] bcast_S_S1024x1 (constant S_ .f32 0x7FC00000#32))) shapeCasts_S1024x1_S1024) := by
  unfold val7
  simp only [trip_w6]
  after_results_entrywise [val6_main_while0b_v63, cast_eq]
set_option maxRecDepth 8192 in
set_option maxHeartbeats 2000000 in
theorem val7_main_while0b_v80 (V0 : Valuation τ sig (Elt F)) : val7 V0 (no_index (Proc.devRef .tc main_while0b_v80)) = Host.scatter scatter_S1024x200_S1024x2_S1024_n_01_01_1 (fun _ b => b) (V0 (Proc.devRef .tc main_v46_3)) (concatenate S1024x2 1 [⟨S1024x1, (broadcastInDim S1024x1 ![0] bcast_S1024_S1024x1_0 (select (cmpi .slt (V0 (Proc.devRef .tc main_v46_1)) (broadcastInDim S1024 ![] bcast_S_S1024 (constantI S_ 32 0#32))) (addi (V0 (Proc.devRef .tc main_v46_1)) (broadcastInDim S1024 ![] bcast_S_S1024 (constantI S_ 32 1024#32))) (V0 (Proc.devRef .tc main_v46_1))))⟩, ⟨S1024x1, (broadcastInDim S1024x1 ![0] bcast_S1024_S1024x1_0 (select (cmpi .slt (res_main_while0b_v61 V0) (broadcastInDim S1024 ![] bcast_S_S1024 (constantI S_ 32 0#32))) (addi (res_main_while0b_v61 V0) (broadcastInDim S1024 ![] bcast_S_S1024 (constantI S_ 32 200#32))) (res_main_while0b_v61 V0)))⟩] concatenates_S1024x1_S1024x1_S1024x2_d1) (broadcastInDim S1024 ![] bcast_S_S1024 (constantI S_ 1 1#1)) := by
  unfold val7
  simp only [trip_w6]
  after_results_entrywise [val6_main_while0b_v61, val6_main_v46_1, val6_main_v46_3, cast_eq]

/-- The device's buffer contents after the body's first 8 windows. -/
def val8 (V0 : Valuation τ sig (Elt F)) : Valuation τ sig (Elt F) := after trip_w7 (val7 V0)
/-- The buffers that window `trip_w7`'s operations write. -/
abbrev trip_w7_W : List (Ref sig .tc) := [main_while0b_call3_v0, main_while0b_call3_c, main_while0b_v81]
set_option maxRecDepth 8192 in
theorem trip_w7_writes : (trip_w7 : List (HloOp τ sig (Elt F))).Forall fun op => op.writes ⊆ (trip_w7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w7` does not write keeps its contents through it. -/
theorem val8_keep (V0 : Valuation τ sig (Elt F)) (r : Ref sig .tc) (h : r ∉ trip_w7_W) :
    val8 V0 (Proc.devRef .tc r) = val7 V0 (Proc.devRef .tc r) :=
  after_of_writes_sub trip_w7 _ trip_w7_writes h
theorem val8_main_v46_3 (V0 : Valuation τ sig (Elt F)) : val8 V0 (no_index (Proc.devRef .tc main_v46_3)) = V0 (Proc.devRef .tc main_v46_3) :=
  (val8_keep V0 main_v46_3 (by decide)).trans (val7_main_v46_3 V0)
theorem val8_main_v46_0 (V0 : Valuation τ sig (Elt F)) : val8 V0 (no_index (Proc.devRef .tc main_v46_0)) = V0 (Proc.devRef .tc main_v46_0) :=
  (val8_keep V0 main_v46_0 (by decide)).trans (val7_main_v46_0 V0)
theorem val8_main_v46_1 (V0 : Valuation τ sig (Elt F)) : val8 V0 (no_index (Proc.devRef .tc main_v46_1)) = V0 (Proc.devRef .tc main_v46_1) :=
  (val8_keep V0 main_v46_1 (by decide)).trans (val7_main_v46_1 V0)
theorem val8_main_v46_4 (V0 : Valuation τ sig (Elt F)) : val8 V0 (no_index (Proc.devRef .tc main_v46_4)) = V0 (Proc.devRef .tc main_v46_4) :=
  (val8_keep V0 main_v46_4 (by decide)).trans (val7_main_v46_4 V0)
theorem val8_main_v46_2 (V0 : Valuation τ sig (Elt F)) : val8 V0 (no_index (Proc.devRef .tc main_v46_2)) = V0 (Proc.devRef .tc main_v46_2) :=
  (val8_keep V0 main_v46_2 (by decide)).trans (val7_main_v46_2 V0)
theorem val8_main_v46_5 (V0 : Valuation τ sig (Elt F)) : val8 V0 (no_index (Proc.devRef .tc main_v46_5)) = V0 (Proc.devRef .tc main_v46_5) :=
  (val8_keep V0 main_v46_5 (by decide)).trans (val7_main_v46_5 V0)
theorem val8_main_while0b_v61 (V0 : Valuation τ sig (Elt F)) : val8 V0 (no_index (Proc.devRef .tc main_while0b_v61)) = res_main_while0b_v61 V0 :=
  (val8_keep V0 main_while0b_v61 (by decide)).trans (val7_main_while0b_v61 V0)
theorem val8_main_while0b_v80 (V0 : Valuation τ sig (Elt F)) : val8 V0 (no_index (Proc.devRef .tc main_while0b_v80)) = Host.scatter scatter_S1024x200_S1024x2_S1024_n_01_01_1 (fun _ b => b) (V0 (Proc.devRef .tc main_v46_3)) (concatenate S1024x2 1 [⟨S1024x1, (broadcastInDim S1024x1 ![0] bcast_S1024_S1024x1_0 (select (cmpi .slt (V0 (Proc.devRef .tc main_v46_1)) (broadcastInDim S1024 ![] bcast_S_S1024 (constantI S_ 32 0#32))) (addi (V0 (Proc.devRef .tc main_v46_1)) (broadcastInDim S1024 ![] bcast_S_S1024 (constantI S_ 32 1024#32))) (V0 (Proc.devRef .tc main_v46_1))))⟩, ⟨S1024x1, (broadcastInDim S1024x1 ![0] bcast_S1024_S1024x1_0 (select (cmpi .slt (res_main_while0b_v61 V0) (broadcastInDim S1024 ![] bcast_S_S1024 (constantI S_ 32 0#32))) (addi (res_main_while0b_v61 V0) (broadcastInDim S1024 ![] bcast_S_S1024 (constantI S_ 32 200#32))) (res_main_while0b_v61 V0)))⟩] concatenates_S1024x1_S1024x1_S1024x2_d1) (broadcastInDim S1024 ![] bcast_S_S1024 (constantI S_ 1 1#1)) :=
  (val8_keep V0 main_while0b_v80 (by decide)).trans (val7_main_while0b_v80 V0)
set_option maxRecDepth 8192 in
theorem val8_main_while0b_v81 (V0 : Valuation τ sig (Elt F)) : val8 V0 (no_index (Proc.devRef .tc main_while0b_v81)) = Host.dynamicUpdateSlice (V0 (Proc.devRef .tc main_v46_4)) (broadcastInDim S1x1024 ![1] bcast_S1024_S1x1024_1 (Host.log (shapeCast S1024 (select (Host.reduce IntOp.andi (andi (cmpi .sge (res_main_while0b_call2_v5 V0) (broadcastInDim S1024x1x1 ![] bcast_S_S1024x1x1 (constantI S_ 32 0#32))) (cmpi .sle (res_main_while0b_call2_v5 V0) (broadcastInDim S1024x1x1 ![0, 1, 2] bcast_S1x1x1_S1024x1x1_0_1_2 (broadcastInDim S1x1x1 ![2] bcast_S1_S1x1x1_2 (constantI S1 32 199#32))))) (constantI S_ 1 1#1) reducesTo_S1024x1x1_S1024x1_d2 h_S_) (Host.gather gather_S1024x200_S1024x1x1_S1024x1_n_1_0_0_1_2_11 (res_main_while0b_v60 V0) (res_main_while0b_call2_v5 V0)) (broadcastInDim S1024x1 ![] bcast_S_S1024x1 (constant S_ .f32 0x7FC00000#32))) shapeCasts_S1024x1_S1024))) (fun k => (((![V0 (Proc.devRef .tc main_v46_2), constantI S_ 32 0#32] : Fin 2 → (⟨S_, .i32⟩ : BufTy).Contents (Elt F))) k (Shape.Idx.first h_S_)).toInt) updateFits_S200x1024_S1x1024 := by
  unfold val8
  simp only [trip_w7]
  after_results_entrywise [val7_main_v46_2, val7_main_while0b_v65, val7_main_v46_4, cast_eq]

/-- The device's buffer contents after the body's first 9 windows. -/
def val9 (V0 : Valuation τ sig (Elt F)) : Valuation τ sig (Elt F) := after trip_w8 (val8 V0)
/-- The buffers that window `trip_w8`'s operations write. -/
abbrev trip_w8_W : List (Ref sig .tc) := [main_while0b_call4_v0, main_while0b_call4_c, main_while0b_v82]
set_option maxRecDepth 8192 in
theorem trip_w8_writes : (trip_w8 : List (HloOp τ sig (Elt F))).Forall fun op => op.writes ⊆ (trip_w8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w8` does not write keeps its contents through it. -/
theorem val9_keep (V0 : Valuation τ sig (Elt F)) (r : Ref sig .tc) (h : r ∉ trip_w8_W) :
    val9 V0 (Proc.devRef .tc r) = val8 V0 (Proc.devRef .tc r) :=
  after_of_writes_sub trip_w8 _ trip_w8_writes h
theorem val9_main_v46_3 (V0 : Valuation τ sig (Elt F)) : val9 V0 (no_index (Proc.devRef .tc main_v46_3)) = V0 (Proc.devRef .tc main_v46_3) :=
  (val9_keep V0 main_v46_3 (by decide)).trans (val8_main_v46_3 V0)
theorem val9_main_v46_0 (V0 : Valuation τ sig (Elt F)) : val9 V0 (no_index (Proc.devRef .tc main_v46_0)) = V0 (Proc.devRef .tc main_v46_0) :=
  (val9_keep V0 main_v46_0 (by decide)).trans (val8_main_v46_0 V0)
theorem val9_main_v46_1 (V0 : Valuation τ sig (Elt F)) : val9 V0 (no_index (Proc.devRef .tc main_v46_1)) = V0 (Proc.devRef .tc main_v46_1) :=
  (val9_keep V0 main_v46_1 (by decide)).trans (val8_main_v46_1 V0)
theorem val9_main_v46_4 (V0 : Valuation τ sig (Elt F)) : val9 V0 (no_index (Proc.devRef .tc main_v46_4)) = V0 (Proc.devRef .tc main_v46_4) :=
  (val9_keep V0 main_v46_4 (by decide)).trans (val8_main_v46_4 V0)
theorem val9_main_v46_2 (V0 : Valuation τ sig (Elt F)) : val9 V0 (no_index (Proc.devRef .tc main_v46_2)) = V0 (Proc.devRef .tc main_v46_2) :=
  (val9_keep V0 main_v46_2 (by decide)).trans (val8_main_v46_2 V0)
theorem val9_main_v46_5 (V0 : Valuation τ sig (Elt F)) : val9 V0 (no_index (Proc.devRef .tc main_v46_5)) = V0 (Proc.devRef .tc main_v46_5) :=
  (val9_keep V0 main_v46_5 (by decide)).trans (val8_main_v46_5 V0)
theorem val9_main_while0b_v80 (V0 : Valuation τ sig (Elt F)) : val9 V0 (no_index (Proc.devRef .tc main_while0b_v80)) = Host.scatter scatter_S1024x200_S1024x2_S1024_n_01_01_1 (fun _ b => b) (V0 (Proc.devRef .tc main_v46_3)) (concatenate S1024x2 1 [⟨S1024x1, (broadcastInDim S1024x1 ![0] bcast_S1024_S1024x1_0 (select (cmpi .slt (V0 (Proc.devRef .tc main_v46_1)) (broadcastInDim S1024 ![] bcast_S_S1024 (constantI S_ 32 0#32))) (addi (V0 (Proc.devRef .tc main_v46_1)) (broadcastInDim S1024 ![] bcast_S_S1024 (constantI S_ 32 1024#32))) (V0 (Proc.devRef .tc main_v46_1))))⟩, ⟨S1024x1, (broadcastInDim S1024x1 ![0] bcast_S1024_S1024x1_0 (select (cmpi .slt (res_main_while0b_v61 V0) (broadcastInDim S1024 ![] bcast_S_S1024 (constantI S_ 32 0#32))) (addi (res_main_while0b_v61 V0) (broadcastInDim S1024 ![] bcast_S_S1024 (constantI S_ 32 200#32))) (res_main_while0b_v61 V0)))⟩] concatenates_S1024x1_S1024x1_S1024x2_d1) (broadcastInDim S1024 ![] bcast_S_S1024 (constantI S_ 1 1#1)) :=
  (val9_keep V0 main_while0b_v80 (by decide)).trans (val8_main_while0b_v80 V0)
theorem val9_main_while0b_v81 (V0 : Valuation τ sig (Elt F)) : val9 V0 (no_index (Proc.devRef .tc main_while0b_v81)) = Host.dynamicUpdateSlice (V0 (Proc.devRef .tc main_v46_4)) (broadcastInDim S1x1024 ![1] bcast_S1024_S1x1024_1 (Host.log (shapeCast S1024 (select (Host.reduce IntOp.andi (andi (cmpi .sge (res_main_while0b_call2_v5 V0) (broadcastInDim S1024x1x1 ![] bcast_S_S1024x1x1 (constantI S_ 32 0#32))) (cmpi .sle (res_main_while0b_call2_v5 V0) (broadcastInDim S1024x1x1 ![0, 1, 2] bcast_S1x1x1_S1024x1x1_0_1_2 (broadcastInDim S1x1x1 ![2] bcast_S1_S1x1x1_2 (constantI S1 32 199#32))))) (constantI S_ 1 1#1) reducesTo_S1024x1x1_S1024x1_d2 h_S_) (Host.gather gather_S1024x200_S1024x1x1_S1024x1_n_1_0_0_1_2_11 (res_main_while0b_v60 V0) (res_main_while0b_call2_v5 V0)) (broadcastInDim S1024x1 ![] bcast_S_S1024x1 (constant S_ .f32 0x7FC00000#32))) shapeCasts_S1024x1_S1024))) (fun k => (((![V0 (Proc.devRef .tc main_v46_2), constantI S_ 32 0#32] : Fin 2 → (⟨S_, .i32⟩ : BufTy).Contents (Elt F))) k (Shape.Idx.first h_S_)).toInt) updateFits_S200x1024_S1x1024 :=
  (val9_keep V0 main_while0b_v81 (by decide)).trans (val8_main_while0b_v81 V0)
set_option maxRecDepth 8192 in
theorem val9_main_while0b_v82 (V0 : Valuation τ sig (Elt F)) : val9 V0 (no_index (Proc.devRef .tc main_while0b_v82)) = Host.dynamicUpdateSlice (V0 (Proc.devRef .tc main_v46_5)) (broadcastInDim S1x1024 ![1] bcast_S1024_S1x1024_1 (res_main_while0b_v61 V0)) (fun k => (((![V0 (Proc.devRef .tc main_v46_2), constantI S_ 32 0#32] : Fin 2 → (⟨S_, .i32⟩ : BufTy).Contents (Elt F))) k (Shape.Idx.first h_S_)).toInt) updateFits_S200x1024_S1x1024 := by
  unfold val9
  simp only [trip_w8]
  after_results_entrywise [val8_main_v46_2, val8_main_while0b_v61, val8_main_v46_5, cast_eq]

set_option maxRecDepth 8192 in
/-- The body's stretches before `while0Ops0_9`, from any contents: their windows in order. -/
theorem trip_windows (V0 : Valuation τ sig (Elt F)) : after while0Ops0_8 (after while0Ops0_7 (after while0Ops0_6 (after while0Ops0_5 (after while0Ops0_4 (after while0Ops0_3 (after while0Ops0_2 (after while0Ops0_1 (after while0Ops0 (V0))))))))) = val9 V0 := by
  simp only [while0Ops0_cut, while0Ops0_1_cut, while0Ops0_2_cut, while0Ops0_3_cut, while0Ops0_4_cut, while0Ops0_5_cut, while0Ops0_6_cut, while0Ops0_7_cut, while0Ops0_8_cut, after_append]
  rfl

set_option maxRecDepth 8192 in
set_option maxHeartbeats 2000000 in
/-- `main_v46_0` after one trip's body, from any contents. -/
theorem trip_main_v46_0 (V0 : Valuation τ sig (Elt F)) : afterL bodyI V0 (no_index (Proc.devRef .tc main_v46_0)) = V0 (Proc.devRef .tc main_v46_0) := by
  simp only [bodyI, afterL_cons, afterL_nil, trip_windows]
  after_results
  all_goals (try simp only [val9_main_while0b_v80, val9_main_while0b_v81, val9_main_while0b_v82, val9_main_v46_0, val9_main_v46_1, val9_main_v46_2, val9_main_v46_3, val9_main_v46_4, val9_main_v46_5]) <;> rfl
set_option maxRecDepth 8192 in
set_option maxHeartbeats 2000000 in
/-- `main_v46_1` after one trip's body, from any contents. -/
theorem trip_main_v46_1 (V0 : Valuation τ sig (Elt F)) : afterL bodyI V0 (no_index (Proc.devRef .tc main_v46_1)) = V0 (Proc.devRef .tc main_v46_1) := by
  simp only [bodyI, afterL_cons, afterL_nil, trip_windows]
  after_results
  all_goals (try simp only [val9_main_while0b_v80, val9_main_while0b_v81, val9_main_while0b_v82, val9_main_v46_0, val9_main_v46_1, val9_main_v46_2, val9_main_v46_3, val9_main_v46_4, val9_main_v46_5]) <;> rfl
set_option maxRecDepth 8192 in
set_option maxHeartbeats 2000000 in
/-- `main_v46_2` after one trip's body, from any contents. -/
theorem trip_main_v46_2 (V0 : Valuation τ sig (Elt F)) : afterL bodyI V0 (no_index (Proc.devRef .tc main_v46_2)) = id (addi (V0 (Proc.devRef .tc main_v46_2)) (constantI S_ 32 1#32)) := by
  simp only [bodyI, afterL_cons, afterL_nil, trip_windows]
  after_results
  all_goals (try simp only [val9_main_while0b_v80, val9_main_while0b_v81, val9_main_while0b_v82, val9_main_v46_0, val9_main_v46_1, val9_main_v46_2, val9_main_v46_3, val9_main_v46_4, val9_main_v46_5]) <;> rfl
set_option maxRecDepth 8192 in
set_option maxHeartbeats 2000000 in
/-- `main_v46_3` after one trip's body, from any contents. -/
theorem trip_main_v46_3 (V0 : Valuation τ sig (Elt F)) : afterL bodyI V0 (no_index (Proc.devRef .tc main_v46_3)) = id (Host.scatter scatter_S1024x200_S1024x2_S1024_n_01_01_1 (fun _ b => b) (V0 (Proc.devRef .tc main_v46_3)) (concatenate S1024x2 1 [⟨S1024x1, (broadcastInDim S1024x1 ![0] bcast_S1024_S1024x1_0 (select (cmpi .slt (V0 (Proc.devRef .tc main_v46_1)) (broadcastInDim S1024 ![] bcast_S_S1024 (constantI S_ 32 0#32))) (addi (V0 (Proc.devRef .tc main_v46_1)) (broadcastInDim S1024 ![] bcast_S_S1024 (constantI S_ 32 1024#32))) (V0 (Proc.devRef .tc main_v46_1))))⟩, ⟨S1024x1, (broadcastInDim S1024x1 ![0] bcast_S1024_S1024x1_0 (select (cmpi .slt (res_main_while0b_v61 V0) (broadcastInDim S1024 ![] bcast_S_S1024 (constantI S_ 32 0#32))) (addi (res_main_while0b_v61 V0) (broadcastInDim S1024 ![] bcast_S_S1024 (constantI S_ 32 200#32))) (res_main_while0b_v61 V0)))⟩] concatenates_S1024x1_S1024x1_S1024x2_d1) (broadcastInDim S1024 ![] bcast_S_S1024 (constantI S_ 1 1#1))) := by
  simp only [bodyI, afterL_cons, afterL_nil, trip_windows]
  after_results
  all_goals (try simp only [val9_main_while0b_v80, val9_main_while0b_v81, val9_main_while0b_v82, val9_main_v46_0, val9_main_v46_1, val9_main_v46_2, val9_main_v46_3, val9_main_v46_4, val9_main_v46_5]) <;> rfl
set_option maxRecDepth 8192 in
set_option maxHeartbeats 2000000 in
/-- `main_v46_4` after one trip's body, from any contents. -/
theorem trip_main_v46_4 (V0 : Valuation τ sig (Elt F)) : afterL bodyI V0 (no_index (Proc.devRef .tc main_v46_4)) = id (Host.dynamicUpdateSlice (V0 (Proc.devRef .tc main_v46_4)) (broadcastInDim S1x1024 ![1] bcast_S1024_S1x1024_1 (Host.log (shapeCast S1024 (select (Host.reduce IntOp.andi (andi (cmpi .sge (res_main_while0b_call2_v5 V0) (broadcastInDim S1024x1x1 ![] bcast_S_S1024x1x1 (constantI S_ 32 0#32))) (cmpi .sle (res_main_while0b_call2_v5 V0) (broadcastInDim S1024x1x1 ![0, 1, 2] bcast_S1x1x1_S1024x1x1_0_1_2 (broadcastInDim S1x1x1 ![2] bcast_S1_S1x1x1_2 (constantI S1 32 199#32))))) (constantI S_ 1 1#1) reducesTo_S1024x1x1_S1024x1_d2 h_S_) (Host.gather gather_S1024x200_S1024x1x1_S1024x1_n_1_0_0_1_2_11 (res_main_while0b_v60 V0) (res_main_while0b_call2_v5 V0)) (broadcastInDim S1024x1 ![] bcast_S_S1024x1 (constant S_ .f32 0x7FC00000#32))) shapeCasts_S1024x1_S1024))) (fun k => (((![V0 (Proc.devRef .tc main_v46_2), constantI S_ 32 0#32] : Fin 2 → (⟨S_, .i32⟩ : BufTy).Contents (Elt F))) k (Shape.Idx.first h_S_)).toInt) updateFits_S200x1024_S1x1024) := by
  simp only [bodyI, afterL_cons, afterL_nil, trip_windows]
  after_results
  all_goals (try simp only [val9_main_while0b_v80, val9_main_while0b_v81, val9_main_while0b_v82, val9_main_v46_0, val9_main_v46_1, val9_main_v46_2, val9_main_v46_3, val9_main_v46_4, val9_main_v46_5]) <;> rfl
set_option maxRecDepth 8192 in
set_option maxHeartbeats 2000000 in
/-- `main_v46_5` after one trip's body, from any contents. -/
theorem trip_main_v46_5 (V0 : Valuation τ sig (Elt F)) : afterL bodyI V0 (no_index (Proc.devRef .tc main_v46_5)) = id (Host.dynamicUpdateSlice (V0 (Proc.devRef .tc main_v46_5)) (broadcastInDim S1x1024 ![1] bcast_S1024_S1x1024_1 (res_main_while0b_v61 V0)) (fun k => (((![V0 (Proc.devRef .tc main_v46_2), constantI S_ 32 0#32] : Fin 2 → (⟨S_, .i32⟩ : BufTy).Contents (Elt F))) k (Shape.Idx.first h_S_)).toInt) updateFits_S200x1024_S1x1024) := by
  simp only [bodyI, afterL_cons, afterL_nil, trip_windows]
  after_results
  all_goals (try simp only [val9_main_while0b_v80, val9_main_while0b_v81, val9_main_while0b_v82, val9_main_v46_0, val9_main_v46_1, val9_main_v46_2, val9_main_v46_3, val9_main_v46_4, val9_main_v46_5]) <;> rfl

/-- The loop's carried buffers. -/
abbrev carriedRefs : List (Ref sig .tc) := [main_v46_0, main_v46_1, main_v46_2, main_v46_3, main_v46_4, main_v46_5]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while0b_v49_congr {V0 V0' : Valuation τ sig (Elt F)} (h : Agree V0 V0') : res_main_while0b_v49 V0 = res_main_while0b_v49 V0' := by
  unfold res_main_while0b_v49
  rw [h main_v46_3 (by decide), h main_v46_0 (by decide)]
set_option maxRecDepth 8192 in
theorem res_main_while0b_v56_congr {V0 V0' : Valuation τ sig (Elt F)} (h : Agree V0 V0') : res_main_while0b_v56 V0 = res_main_while0b_v56 V0' := by
  unfold res_main_while0b_v56
  rw [res_main_while0b_v49_congr h]
set_option maxRecDepth 8192 in
theorem res_main_while0b_v60_congr {V0 V0' : Valuation τ sig (Elt F)} (h : Agree V0 V0') : res_main_while0b_v60 V0 = res_main_while0b_v60 V0' := by
  unfold res_main_while0b_v60
  rw [res_main_while0b_v56_congr h]
set_option maxRecDepth 8192 in
theorem res_main_while0b_call1_v0_congr {V0 V0' : Valuation τ sig (Elt F)} (h : Agree V0 V0') : res_main_while0b_call1_v0 V0 = res_main_while0b_call1_v0 V0' := by
  unfold res_main_while0b_call1_v0
  rfl
set_option maxRecDepth 8192 in
theorem res_main_while0b_call1_cst_congr {V0 V0' : Valuation τ sig (Elt F)} (h : Agree V0 V0') : res_main_while0b_call1_cst V0 = res_main_while0b_call1_cst V0' := by
  unfold res_main_while0b_call1_cst
  rfl
set_option maxRecDepth 8192 in
theorem res_main_while0b_call1_c_congr {V0 V0' : Valuation τ sig (Elt F)} (h : Agree V0 V0') : res_main_while0b_call1_c V0 = res_main_while0b_call1_c V0' := by
  unfold res_main_while0b_call1_c
  rfl
set_option maxRecDepth 8192 in
theorem res_main_while0b_v61_congr {V0 V0' : Valuation τ sig (Elt F)} (h : Agree V0 V0') : res_main_while0b_v61 V0 = res_main_while0b_v61 V0' := by
  unfold res_main_while0b_v61
  rw [res_main_while0b_v60_congr h, res_main_while0b_call1_v0_congr h, res_main_while0b_call1_cst_congr h, res_main_while0b_call1_c_congr h]
set_option maxRecDepth 8192 in
theorem res_main_while0b_v62_congr {V0 V0' : Valuation τ sig (Elt F)} (h : Agree V0 V0') : res_main_while0b_v62 V0 = res_main_while0b_v62 V0' := by
  unfold res_main_while0b_v62
  rw [res_main_while0b_v61_congr h]
set_option maxRecDepth 8192 in
theorem res_main_while0b_call2_v5_congr {V0 V0' : Valuation τ sig (Elt F)} (h : Agree V0 V0') : res_main_while0b_call2_v5 V0 = res_main_while0b_call2_v5 V0' := by
  unfold res_main_while0b_call2_v5
  rw [res_main_while0b_v62_congr h]

set_option maxRecDepth 8192 in
/-- `main_v46_2` after one trip, of the contents before it. -/
def step_main_v46_2 (V0 : Valuation τ sig (Elt F)) : (Proc.devRef .tc main_v46_2 : DevRef τ sig).ty.Contents (Elt F) :=
  id (addi (V0 (Proc.devRef .tc main_v46_2)) (constantI S_ 32 1#32))
set_option maxRecDepth 8192 in
theorem step_main_v46_2_congr {V0 V0' : Valuation τ sig (Elt F)} (h : Agree V0 V0') : step_main_v46_2 V0 = step_main_v46_2 V0' := by
  unfold step_main_v46_2
  rw [h main_v46_2 (by decide)]
set_option maxRecDepth 8192 in
/-- `main_v46_3` after one trip, of the contents before it. -/
def step_main_v46_3 (V0 : Valuation τ sig (Elt F)) : (Proc.devRef .tc main_v46_3 : DevRef τ sig).ty.Contents (Elt F) :=
  id (Host.scatter scatter_S1024x200_S1024x2_S1024_n_01_01_1 (fun _ b => b) (V0 (Proc.devRef .tc main_v46_3)) (concatenate S1024x2 1 [⟨S1024x1, (broadcastInDim S1024x1 ![0] bcast_S1024_S1024x1_0 (select (cmpi .slt (V0 (Proc.devRef .tc main_v46_1)) (broadcastInDim S1024 ![] bcast_S_S1024 (constantI S_ 32 0#32))) (addi (V0 (Proc.devRef .tc main_v46_1)) (broadcastInDim S1024 ![] bcast_S_S1024 (constantI S_ 32 1024#32))) (V0 (Proc.devRef .tc main_v46_1))))⟩, ⟨S1024x1, (broadcastInDim S1024x1 ![0] bcast_S1024_S1024x1_0 (select (cmpi .slt (res_main_while0b_v61 V0) (broadcastInDim S1024 ![] bcast_S_S1024 (constantI S_ 32 0#32))) (addi (res_main_while0b_v61 V0) (broadcastInDim S1024 ![] bcast_S_S1024 (constantI S_ 32 200#32))) (res_main_while0b_v61 V0)))⟩] concatenates_S1024x1_S1024x1_S1024x2_d1) (broadcastInDim S1024 ![] bcast_S_S1024 (constantI S_ 1 1#1)))
set_option maxRecDepth 8192 in
theorem step_main_v46_3_congr {V0 V0' : Valuation τ sig (Elt F)} (h : Agree V0 V0') : step_main_v46_3 V0 = step_main_v46_3 V0' := by
  unfold step_main_v46_3
  rw [res_main_while0b_v61_congr h, h main_v46_3 (by decide), h main_v46_1 (by decide)]
set_option maxRecDepth 8192 in
/-- `main_v46_4` after one trip, of the contents before it. -/
def step_main_v46_4 (V0 : Valuation τ sig (Elt F)) : (Proc.devRef .tc main_v46_4 : DevRef τ sig).ty.Contents (Elt F) :=
  id (Host.dynamicUpdateSlice (V0 (Proc.devRef .tc main_v46_4)) (broadcastInDim S1x1024 ![1] bcast_S1024_S1x1024_1 (Host.log (shapeCast S1024 (select (Host.reduce IntOp.andi (andi (cmpi .sge (res_main_while0b_call2_v5 V0) (broadcastInDim S1024x1x1 ![] bcast_S_S1024x1x1 (constantI S_ 32 0#32))) (cmpi .sle (res_main_while0b_call2_v5 V0) (broadcastInDim S1024x1x1 ![0, 1, 2] bcast_S1x1x1_S1024x1x1_0_1_2 (broadcastInDim S1x1x1 ![2] bcast_S1_S1x1x1_2 (constantI S1 32 199#32))))) (constantI S_ 1 1#1) reducesTo_S1024x1x1_S1024x1_d2 h_S_) (Host.gather gather_S1024x200_S1024x1x1_S1024x1_n_1_0_0_1_2_11 (res_main_while0b_v60 V0) (res_main_while0b_call2_v5 V0)) (broadcastInDim S1024x1 ![] bcast_S_S1024x1 (constant S_ .f32 0x7FC00000#32))) shapeCasts_S1024x1_S1024))) (fun k => (((![V0 (Proc.devRef .tc main_v46_2), constantI S_ 32 0#32] : Fin 2 → (⟨S_, .i32⟩ : BufTy).Contents (Elt F))) k (Shape.Idx.first h_S_)).toInt) updateFits_S200x1024_S1x1024)
set_option maxRecDepth 8192 in
theorem step_main_v46_4_congr {V0 V0' : Valuation τ sig (Elt F)} (h : Agree V0 V0') : step_main_v46_4 V0 = step_main_v46_4 V0' := by
  unfold step_main_v46_4
  rw [res_main_while0b_call2_v5_congr h, res_main_while0b_v60_congr h, h main_v46_4 (by decide), h main_v46_2 (by decide)]
set_option maxRecDepth 8192 in
/-- `main_v46_5` after one trip, of the contents before it. -/
def step_main_v46_5 (V0 : Valuation τ sig (Elt F)) : (Proc.devRef .tc main_v46_5 : DevRef τ sig).ty.Contents (Elt F) :=
  id (Host.dynamicUpdateSlice (V0 (Proc.devRef .tc main_v46_5)) (broadcastInDim S1x1024 ![1] bcast_S1024_S1x1024_1 (res_main_while0b_v61 V0)) (fun k => (((![V0 (Proc.devRef .tc main_v46_2), constantI S_ 32 0#32] : Fin 2 → (⟨S_, .i32⟩ : BufTy).Contents (Elt F))) k (Shape.Idx.first h_S_)).toInt) updateFits_S200x1024_S1x1024)
set_option maxRecDepth 8192 in
theorem step_main_v46_5_congr {V0 V0' : Valuation τ sig (Elt F)} (h : Agree V0 V0') : step_main_v46_5 V0 = step_main_v46_5 V0' := by
  unfold step_main_v46_5
  rw [res_main_while0b_v61_congr h, h main_v46_5 (by decide), h main_v46_2 (by decide)]

/-- ONE TRIP on the carried buffers: the buffers the body writes step, everything else is as it was. -/
def STEP (V0 : Valuation τ sig (Elt F)) : Valuation τ sig (Elt F) :=
  Function.update (Function.update (Function.update (Function.update (V0) (Proc.devRef .tc main_v46_2) (step_main_v46_2 V0)) (Proc.devRef .tc main_v46_3) (step_main_v46_3 V0)) (Proc.devRef .tc main_v46_4) (step_main_v46_4 V0)) (Proc.devRef .tc main_v46_5) (step_main_v46_5 V0)

theorem STEP_main_v46_0 (V0 : Valuation τ sig (Elt F)) : STEP V0 (Proc.devRef .tc main_v46_0) = V0 (Proc.devRef .tc main_v46_0) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v46_1 (V0 : Valuation τ sig (Elt F)) : STEP V0 (Proc.devRef .tc main_v46_1) = V0 (Proc.devRef .tc main_v46_1) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v46_2 (V0 : Valuation τ sig (Elt F)) : STEP V0 (Proc.devRef .tc main_v46_2) = step_main_v46_2 V0 := by
  unfold STEP; rw [Function.update_of_ne (devRef_ne_of_ne (by decide))]; rw [Function.update_of_ne (devRef_ne_of_ne (by decide))]; rw [Function.update_of_ne (devRef_ne_of_ne (by decide))]; rw [Function.update_self]
theorem STEP_main_v46_3 (V0 : Valuation τ sig (Elt F)) : STEP V0 (Proc.devRef .tc main_v46_3) = step_main_v46_3 V0 := by
  unfold STEP; rw [Function.update_of_ne (devRef_ne_of_ne (by decide))]; rw [Function.update_of_ne (devRef_ne_of_ne (by decide))]; rw [Function.update_self]
theorem STEP_main_v46_4 (V0 : Valuation τ sig (Elt F)) : STEP V0 (Proc.devRef .tc main_v46_4) = step_main_v46_4 V0 := by
  unfold STEP; rw [Function.update_of_ne (devRef_ne_of_ne (by decide))]; rw [Function.update_self]
theorem STEP_main_v46_5 (V0 : Valuation τ sig (Elt F)) : STEP V0 (Proc.devRef .tc main_v46_5) = step_main_v46_5 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v46_0 (after condOps X)).trans ((hc main_v46_0 (by decide)).trans (STEP_main_v46_0 X).symm)
  · exact (trip_main_v46_1 (after condOps X)).trans ((hc main_v46_1 (by decide)).trans (STEP_main_v46_1 X).symm)
  · exact (trip_main_v46_2 (after condOps X)).trans ((step_main_v46_2_congr hc).trans (STEP_main_v46_2 X).symm)
  · exact (trip_main_v46_3 (after condOps X)).trans ((step_main_v46_3_congr hc).trans (STEP_main_v46_3 X).symm)
  · exact (trip_main_v46_4 (after condOps X)).trans ((step_main_v46_4_congr hc).trans (STEP_main_v46_4 X).symm)
  · exact (trip_main_v46_5 (after condOps X)).trans ((step_main_v46_5_congr hc).trans (STEP_main_v46_5 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v46_0, STEP_main_v46_0]; exact h main_v46_0 (by decide)
  · rw [STEP_main_v46_1, STEP_main_v46_1]; exact h main_v46_1 (by decide)
  · rw [STEP_main_v46_2, STEP_main_v46_2]; exact step_main_v46_2_congr h
  · rw [STEP_main_v46_3, STEP_main_v46_3]; exact step_main_v46_3_congr h
  · rw [STEP_main_v46_4, STEP_main_v46_4]; exact step_main_v46_4_congr h
  · rw [STEP_main_v46_5, STEP_main_v46_5]; exact step_main_v46_5_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

theorem keep_main_arg0_hostOps0 (V : Valuation τ sig (Elt F)) : after hostOps0 V (Proc.devRef .tc main_arg0) = V (Proc.devRef .tc main_arg0) :=
  after_of_writes_sub hostOps0 V hostOps0_writes (by decide +kernel)
theorem keep_main_arg0_condOps (V : Valuation τ sig (Elt F)) : after condOps V (Proc.devRef .tc main_arg0) = V (Proc.devRef .tc main_arg0) :=
  after_of_writes_sub condOps V condOps_writes (by decide +kernel)
theorem keep_main_arg0_while0Ops0 (V : Valuation τ sig (Elt F)) : after while0Ops0 V (Proc.devRef .tc main_arg0) = V (Proc.devRef .tc main_arg0) :=
  after_of_writes_sub while0Ops0 V while0Ops0_writes (by decide +kernel)
theorem keep_main_arg0_while0Ops0_1 (V : Valuation τ sig (Elt F)) : after while0Ops0_1 V (Proc.devRef .tc main_arg0) = V (Proc.devRef .tc main_arg0) :=
  after_of_writes_sub while0Ops0_1 V while0Ops0_1_writes (by decide +kernel)
theorem keep_main_arg0_while0Ops0_2 (V : Valuation τ sig (Elt F)) : after while0Ops0_2 V (Proc.devRef .tc main_arg0) = V (Proc.devRef .tc main_arg0) :=
  after_of_writes_sub while0Ops0_2 V while0Ops0_2_writes (by decide +kernel)
theorem keep_main_arg0_while0Ops0_3 (V : Valuation τ sig (Elt F)) : after while0Ops0_3 V (Proc.devRef .tc main_arg0) = V (Proc.devRef .tc main_arg0) :=
  after_of_writes_sub while0Ops0_3 V while0Ops0_3_writes (by decide +kernel)
theorem keep_main_arg0_while0Ops0_4 (V : Valuation τ sig (Elt F)) : after while0Ops0_4 V (Proc.devRef .tc main_arg0) = V (Proc.devRef .tc main_arg0) :=
  after_of_writes_sub while0Ops0_4 V while0Ops0_4_writes (by decide +kernel)
theorem keep_main_arg0_while0Ops0_5 (V : Valuation τ sig (Elt F)) : after while0Ops0_5 V (Proc.devRef .tc main_arg0) = V (Proc.devRef .tc main_arg0) :=
  after_of_writes_sub while0Ops0_5 V while0Ops0_5_writes (by decide +kernel)
theorem keep_main_arg0_while0Ops0_6 (V : Valuation τ sig (Elt F)) : after while0Ops0_6 V (Proc.devRef .tc main_arg0) = V (Proc.devRef .tc main_arg0) :=
  after_of_writes_sub while0Ops0_6 V while0Ops0_6_writes (by decide +kernel)
theorem keep_main_arg0_while0Ops0_7 (V : Valuation τ sig (Elt F)) : after while0Ops0_7 V (Proc.devRef .tc main_arg0) = V (Proc.devRef .tc main_arg0) :=
  after_of_writes_sub while0Ops0_7 V while0Ops0_7_writes (by decide +kernel)
theorem keep_main_arg0_while0Ops0_8 (V : Valuation τ sig (Elt F)) : after while0Ops0_8 V (Proc.devRef .tc main_arg0) = V (Proc.devRef .tc main_arg0) :=
  after_of_writes_sub while0Ops0_8 V while0Ops0_8_writes (by decide +kernel)
theorem keep_main_arg0_while0Ops0_9 (V : Valuation τ sig (Elt F)) : after while0Ops0_9 V (Proc.devRef .tc main_arg0) = V (Proc.devRef .tc main_arg0) :=
  after_of_writes_sub while0Ops0_9 V while0Ops0_9_writes (by decide +kernel)
theorem keep_main_arg0_hostOps0_1 (V : Valuation τ sig (Elt F)) : after hostOps0_1 V (Proc.devRef .tc main_arg0) = V (Proc.devRef .tc main_arg0) :=
  after_of_writes_sub hostOps0_1 V hostOps0_1_writes (by decide +kernel)
/-- The argument `main_arg0` is written by nothing: it holds its launch contents before every condition. -/
theorem atK_main_arg0 (c : Dev nD) : ∀ k, atK m k c (Proc.devRef .tc main_arg0) = m ((c.tc : Thread nD τ).loc main_arg0)
  | 0 => by
    rw [show atK m 0 c = entryContents preI m c from rfl]
    simp only [entryContents, afterL_cons, afterL_nil]
    rw [keep_main_arg0_hostOps0]
  | k + 1 => by
    rw [show atK m (k + 1) c = afterL bodyI (after condOps (atK m k c)) from rfl]
    simp only [afterL_cons, afterL_nil]
    rw [keep_main_arg0_while0Ops0_9, keep_main_arg0_while0Ops0_8, keep_main_arg0_while0Ops0_7, keep_main_arg0_while0Ops0_6, keep_main_arg0_while0Ops0_5, keep_main_arg0_while0Ops0_4, keep_main_arg0_while0Ops0_3, keep_main_arg0_while0Ops0_2, keep_main_arg0_while0Ops0_1, keep_main_arg0_while0Ops0, keep_main_arg0_condOps, atK_main_arg0 c k]

theorem keep_main_arg1_hostOps0 (V : Valuation τ sig (Elt F)) : after hostOps0 V (Proc.devRef .tc main_arg1) = V (Proc.devRef .tc main_arg1) :=
  after_of_writes_sub hostOps0 V hostOps0_writes (by decide +kernel)
theorem keep_main_arg1_condOps (V : Valuation τ sig (Elt F)) : after condOps V (Proc.devRef .tc main_arg1) = V (Proc.devRef .tc main_arg1) :=
  after_of_writes_sub condOps V condOps_writes (by decide +kernel)
theorem keep_main_arg1_while0Ops0 (V : Valuation τ sig (Elt F)) : after while0Ops0 V (Proc.devRef .tc main_arg1) = V (Proc.devRef .tc main_arg1) :=
  after_of_writes_sub while0Ops0 V while0Ops0_writes (by decide +kernel)
theorem keep_main_arg1_while0Ops0_1 (V : Valuation τ sig (Elt F)) : after while0Ops0_1 V (Proc.devRef .tc main_arg1) = V (Proc.devRef .tc main_arg1) :=
  after_of_writes_sub while0Ops0_1 V while0Ops0_1_writes (by decide +kernel)
theorem keep_main_arg1_while0Ops0_2 (V : Valuation τ sig (Elt F)) : after while0Ops0_2 V (Proc.devRef .tc main_arg1) = V (Proc.devRef .tc main_arg1) :=
  after_of_writes_sub while0Ops0_2 V while0Ops0_2_writes (by decide +kernel)
theorem keep_main_arg1_while0Ops0_3 (V : Valuation τ sig (Elt F)) : after while0Ops0_3 V (Proc.devRef .tc main_arg1) = V (Proc.devRef .tc main_arg1) :=
  after_of_writes_sub while0Ops0_3 V while0Ops0_3_writes (by decide +kernel)
theorem keep_main_arg1_while0Ops0_4 (V : Valuation τ sig (Elt F)) : after while0Ops0_4 V (Proc.devRef .tc main_arg1) = V (Proc.devRef .tc main_arg1) :=
  after_of_writes_sub while0Ops0_4 V while0Ops0_4_writes (by decide +kernel)
theorem keep_main_arg1_while0Ops0_5 (V : Valuation τ sig (Elt F)) : after while0Ops0_5 V (Proc.devRef .tc main_arg1) = V (Proc.devRef .tc main_arg1) :=
  after_of_writes_sub while0Ops0_5 V while0Ops0_5_writes (by decide +kernel)
theorem keep_main_arg1_while0Ops0_6 (V : Valuation τ sig (Elt F)) : after while0Ops0_6 V (Proc.devRef .tc main_arg1) = V (Proc.devRef .tc main_arg1) :=
  after_of_writes_sub while0Ops0_6 V while0Ops0_6_writes (by decide +kernel)
theorem keep_main_arg1_while0Ops0_7 (V : Valuation τ sig (Elt F)) : after while0Ops0_7 V (Proc.devRef .tc main_arg1) = V (Proc.devRef .tc main_arg1) :=
  after_of_writes_sub while0Ops0_7 V while0Ops0_7_writes (by decide +kernel)
theorem keep_main_arg1_while0Ops0_8 (V : Valuation τ sig (Elt F)) : after while0Ops0_8 V (Proc.devRef .tc main_arg1) = V (Proc.devRef .tc main_arg1) :=
  after_of_writes_sub while0Ops0_8 V while0Ops0_8_writes (by decide +kernel)
theorem keep_main_arg1_while0Ops0_9 (V : Valuation τ sig (Elt F)) : after while0Ops0_9 V (Proc.devRef .tc main_arg1) = V (Proc.devRef .tc main_arg1) :=
  after_of_writes_sub while0Ops0_9 V while0Ops0_9_writes (by decide +kernel)
theorem keep_main_arg1_hostOps0_1 (V : Valuation τ sig (Elt F)) : after hostOps0_1 V (Proc.devRef .tc main_arg1) = V (Proc.devRef .tc main_arg1) :=
  after_of_writes_sub hostOps0_1 V hostOps0_1_writes (by decide +kernel)
/-- The argument `main_arg1` is written by nothing: it holds its launch contents before every condition. -/
theorem atK_main_arg1 (c : Dev nD) : ∀ k, atK m k c (Proc.devRef .tc main_arg1) = m ((c.tc : Thread nD τ).loc main_arg1)
  | 0 => by
    rw [show atK m 0 c = entryContents preI m c from rfl]
    simp only [entryContents, afterL_cons, afterL_nil]
    rw [keep_main_arg1_hostOps0]
  | k + 1 => by
    rw [show atK m (k + 1) c = afterL bodyI (after condOps (atK m k c)) from rfl]
    simp only [afterL_cons, afterL_nil]
    rw [keep_main_arg1_while0Ops0_9, keep_main_arg1_while0Ops0_8, keep_main_arg1_while0Ops0_7, keep_main_arg1_while0Ops0_6, keep_main_arg1_while0Ops0_5, keep_main_arg1_while0Ops0_4, keep_main_arg1_while0Ops0_3, keep_main_arg1_while0Ops0_2, keep_main_arg1_while0Ops0_1, keep_main_arg1_while0Ops0, keep_main_arg1_condOps, atK_main_arg1 c k]

theorem keep_main_arg2_hostOps0 (V : Valuation τ sig (Elt F)) : after hostOps0 V (Proc.devRef .tc main_arg2) = V (Proc.devRef .tc main_arg2) :=
  after_of_writes_sub hostOps0 V hostOps0_writes (by decide +kernel)
theorem keep_main_arg2_condOps (V : Valuation τ sig (Elt F)) : after condOps V (Proc.devRef .tc main_arg2) = V (Proc.devRef .tc main_arg2) :=
  after_of_writes_sub condOps V condOps_writes (by decide +kernel)
theorem keep_main_arg2_while0Ops0 (V : Valuation τ sig (Elt F)) : after while0Ops0 V (Proc.devRef .tc main_arg2) = V (Proc.devRef .tc main_arg2) :=
  after_of_writes_sub while0Ops0 V while0Ops0_writes (by decide +kernel)
theorem keep_main_arg2_while0Ops0_1 (V : Valuation τ sig (Elt F)) : after while0Ops0_1 V (Proc.devRef .tc main_arg2) = V (Proc.devRef .tc main_arg2) :=
  after_of_writes_sub while0Ops0_1 V while0Ops0_1_writes (by decide +kernel)
theorem keep_main_arg2_while0Ops0_2 (V : Valuation τ sig (Elt F)) : after while0Ops0_2 V (Proc.devRef .tc main_arg2) = V (Proc.devRef .tc main_arg2) :=
  after_of_writes_sub while0Ops0_2 V while0Ops0_2_writes (by decide +kernel)
theorem keep_main_arg2_while0Ops0_3 (V : Valuation τ sig (Elt F)) : after while0Ops0_3 V (Proc.devRef .tc main_arg2) = V (Proc.devRef .tc main_arg2) :=
  after_of_writes_sub while0Ops0_3 V while0Ops0_3_writes (by decide +kernel)
theorem keep_main_arg2_while0Ops0_4 (V : Valuation τ sig (Elt F)) : after while0Ops0_4 V (Proc.devRef .tc main_arg2) = V (Proc.devRef .tc main_arg2) :=
  after_of_writes_sub while0Ops0_4 V while0Ops0_4_writes (by decide +kernel)
theorem keep_main_arg2_while0Ops0_5 (V : Valuation τ sig (Elt F)) : after while0Ops0_5 V (Proc.devRef .tc main_arg2) = V (Proc.devRef .tc main_arg2) :=
  after_of_writes_sub while0Ops0_5 V while0Ops0_5_writes (by decide +kernel)
theorem keep_main_arg2_while0Ops0_6 (V : Valuation τ sig (Elt F)) : after while0Ops0_6 V (Proc.devRef .tc main_arg2) = V (Proc.devRef .tc main_arg2) :=
  after_of_writes_sub while0Ops0_6 V while0Ops0_6_writes (by decide +kernel)
theorem keep_main_arg2_while0Ops0_7 (V : Valuation τ sig (Elt F)) : after while0Ops0_7 V (Proc.devRef .tc main_arg2) = V (Proc.devRef .tc main_arg2) :=
  after_of_writes_sub while0Ops0_7 V while0Ops0_7_writes (by decide +kernel)
theorem keep_main_arg2_while0Ops0_8 (V : Valuation τ sig (Elt F)) : after while0Ops0_8 V (Proc.devRef .tc main_arg2) = V (Proc.devRef .tc main_arg2) :=
  after_of_writes_sub while0Ops0_8 V while0Ops0_8_writes (by decide +kernel)
theorem keep_main_arg2_while0Ops0_9 (V : Valuation τ sig (Elt F)) : after while0Ops0_9 V (Proc.devRef .tc main_arg2) = V (Proc.devRef .tc main_arg2) :=
  after_of_writes_sub while0Ops0_9 V while0Ops0_9_writes (by decide +kernel)
theorem keep_main_arg2_hostOps0_1 (V : Valuation τ sig (Elt F)) : after hostOps0_1 V (Proc.devRef .tc main_arg2) = V (Proc.devRef .tc main_arg2) :=
  after_of_writes_sub hostOps0_1 V hostOps0_1_writes (by decide +kernel)
/-- The argument `main_arg2` is written by nothing: it holds its launch contents before every condition. -/
theorem atK_main_arg2 (c : Dev nD) : ∀ k, atK m k c (Proc.devRef .tc main_arg2) = m ((c.tc : Thread nD τ).loc main_arg2)
  | 0 => by
    rw [show atK m 0 c = entryContents preI m c from rfl]
    simp only [entryContents, afterL_cons, afterL_nil]
    rw [keep_main_arg2_hostOps0]
  | k + 1 => by
    rw [show atK m (k + 1) c = afterL bodyI (after condOps (atK m k c)) from rfl]
    simp only [afterL_cons, afterL_nil]
    rw [keep_main_arg2_while0Ops0_9, keep_main_arg2_while0Ops0_8, keep_main_arg2_while0Ops0_7, keep_main_arg2_while0Ops0_6, keep_main_arg2_while0Ops0_5, keep_main_arg2_while0Ops0_4, keep_main_arg2_while0Ops0_3, keep_main_arg2_while0Ops0_2, keep_main_arg2_while0Ops0_1, keep_main_arg2_while0Ops0, keep_main_arg2_condOps, atK_main_arg2 c k]

theorem keep_main_arg3_hostOps0 (V : Valuation τ sig (Elt F)) : after hostOps0 V (Proc.devRef .tc main_arg3) = V (Proc.devRef .tc main_arg3) :=
  after_of_writes_sub hostOps0 V hostOps0_writes (by decide +kernel)
theorem keep_main_arg3_condOps (V : Valuation τ sig (Elt F)) : after condOps V (Proc.devRef .tc main_arg3) = V (Proc.devRef .tc main_arg3) :=
  after_of_writes_sub condOps V condOps_writes (by decide +kernel)
theorem keep_main_arg3_while0Ops0 (V : Valuation τ sig (Elt F)) : after while0Ops0 V (Proc.devRef .tc main_arg3) = V (Proc.devRef .tc main_arg3) :=
  after_of_writes_sub while0Ops0 V while0Ops0_writes (by decide +kernel)
theorem keep_main_arg3_while0Ops0_1 (V : Valuation τ sig (Elt F)) : after while0Ops0_1 V (Proc.devRef .tc main_arg3) = V (Proc.devRef .tc main_arg3) :=
  after_of_writes_sub while0Ops0_1 V while0Ops0_1_writes (by decide +kernel)
theorem keep_main_arg3_while0Ops0_2 (V : Valuation τ sig (Elt F)) : after while0Ops0_2 V (Proc.devRef .tc main_arg3) = V (Proc.devRef .tc main_arg3) :=
  after_of_writes_sub while0Ops0_2 V while0Ops0_2_writes (by decide +kernel)
theorem keep_main_arg3_while0Ops0_3 (V : Valuation τ sig (Elt F)) : after while0Ops0_3 V (Proc.devRef .tc main_arg3) = V (Proc.devRef .tc main_arg3) :=
  after_of_writes_sub while0Ops0_3 V while0Ops0_3_writes (by decide +kernel)
theorem keep_main_arg3_while0Ops0_4 (V : Valuation τ sig (Elt F)) : after while0Ops0_4 V (Proc.devRef .tc main_arg3) = V (Proc.devRef .tc main_arg3) :=
  after_of_writes_sub while0Ops0_4 V while0Ops0_4_writes (by decide +kernel)
theorem keep_main_arg3_while0Ops0_5 (V : Valuation τ sig (Elt F)) : after while0Ops0_5 V (Proc.devRef .tc main_arg3) = V (Proc.devRef .tc main_arg3) :=
  after_of_writes_sub while0Ops0_5 V while0Ops0_5_writes (by decide +kernel)
theorem keep_main_arg3_while0Ops0_6 (V : Valuation τ sig (Elt F)) : after while0Ops0_6 V (Proc.devRef .tc main_arg3) = V (Proc.devRef .tc main_arg3) :=
  after_of_writes_sub while0Ops0_6 V while0Ops0_6_writes (by decide +kernel)
theorem keep_main_arg3_while0Ops0_7 (V : Valuation τ sig (Elt F)) : after while0Ops0_7 V (Proc.devRef .tc main_arg3) = V (Proc.devRef .tc main_arg3) :=
  after_of_writes_sub while0Ops0_7 V while0Ops0_7_writes (by decide +kernel)
theorem keep_main_arg3_while0Ops0_8 (V : Valuation τ sig (Elt F)) : after while0Ops0_8 V (Proc.devRef .tc main_arg3) = V (Proc.devRef .tc main_arg3) :=
  after_of_writes_sub while0Ops0_8 V while0Ops0_8_writes (by decide +kernel)
theorem keep_main_arg3_while0Ops0_9 (V : Valuation τ sig (Elt F)) : after while0Ops0_9 V (Proc.devRef .tc main_arg3) = V (Proc.devRef .tc main_arg3) :=
  after_of_writes_sub while0Ops0_9 V while0Ops0_9_writes (by decide +kernel)
theorem keep_main_arg3_hostOps0_1 (V : Valuation τ sig (Elt F)) : after hostOps0_1 V (Proc.devRef .tc main_arg3) = V (Proc.devRef .tc main_arg3) :=
  after_of_writes_sub hostOps0_1 V hostOps0_1_writes (by decide +kernel)
/-- The argument `main_arg3` is written by nothing: it holds its launch contents before every condition. -/
theorem atK_main_arg3 (c : Dev nD) : ∀ k, atK m k c (Proc.devRef .tc main_arg3) = m ((c.tc : Thread nD τ).loc main_arg3)
  | 0 => by
    rw [show atK m 0 c = entryContents preI m c from rfl]
    simp only [entryContents, afterL_cons, afterL_nil]
    rw [keep_main_arg3_hostOps0]
  | k + 1 => by
    rw [show atK m (k + 1) c = afterL bodyI (after condOps (atK m k c)) from rfl]
    simp only [afterL_cons, afterL_nil]
    rw [keep_main_arg3_while0Ops0_9, keep_main_arg3_while0Ops0_8, keep_main_arg3_while0Ops0_7, keep_main_arg3_while0Ops0_6, keep_main_arg3_while0Ops0_5, keep_main_arg3_while0Ops0_4, keep_main_arg3_while0Ops0_3, keep_main_arg3_while0Ops0_2, keep_main_arg3_while0Ops0_1, keep_main_arg3_while0Ops0, keep_main_arg3_condOps, atK_main_arg3 c k]

theorem keep_main_arg4_hostOps0 (V : Valuation τ sig (Elt F)) : after hostOps0 V (Proc.devRef .tc main_arg4) = V (Proc.devRef .tc main_arg4) :=
  after_of_writes_sub hostOps0 V hostOps0_writes (by decide +kernel)
theorem keep_main_arg4_condOps (V : Valuation τ sig (Elt F)) : after condOps V (Proc.devRef .tc main_arg4) = V (Proc.devRef .tc main_arg4) :=
  after_of_writes_sub condOps V condOps_writes (by decide +kernel)
theorem keep_main_arg4_while0Ops0 (V : Valuation τ sig (Elt F)) : after while0Ops0 V (Proc.devRef .tc main_arg4) = V (Proc.devRef .tc main_arg4) :=
  after_of_writes_sub while0Ops0 V while0Ops0_writes (by decide +kernel)
theorem keep_main_arg4_while0Ops0_1 (V : Valuation τ sig (Elt F)) : after while0Ops0_1 V (Proc.devRef .tc main_arg4) = V (Proc.devRef .tc main_arg4) :=
  after_of_writes_sub while0Ops0_1 V while0Ops0_1_writes (by decide +kernel)
theorem keep_main_arg4_while0Ops0_2 (V : Valuation τ sig (Elt F)) : after while0Ops0_2 V (Proc.devRef .tc main_arg4) = V (Proc.devRef .tc main_arg4) :=
  after_of_writes_sub while0Ops0_2 V while0Ops0_2_writes (by decide +kernel)
theorem keep_main_arg4_while0Ops0_3 (V : Valuation τ sig (Elt F)) : after while0Ops0_3 V (Proc.devRef .tc main_arg4) = V (Proc.devRef .tc main_arg4) :=
  after_of_writes_sub while0Ops0_3 V while0Ops0_3_writes (by decide +kernel)
theorem keep_main_arg4_while0Ops0_4 (V : Valuation τ sig (Elt F)) : after while0Ops0_4 V (Proc.devRef .tc main_arg4) = V (Proc.devRef .tc main_arg4) :=
  after_of_writes_sub while0Ops0_4 V while0Ops0_4_writes (by decide +kernel)
theorem keep_main_arg4_while0Ops0_5 (V : Valuation τ sig (Elt F)) : after while0Ops0_5 V (Proc.devRef .tc main_arg4) = V (Proc.devRef .tc main_arg4) :=
  after_of_writes_sub while0Ops0_5 V while0Ops0_5_writes (by decide +kernel)
theorem keep_main_arg4_while0Ops0_6 (V : Valuation τ sig (Elt F)) : after while0Ops0_6 V (Proc.devRef .tc main_arg4) = V (Proc.devRef .tc main_arg4) :=
  after_of_writes_sub while0Ops0_6 V while0Ops0_6_writes (by decide +kernel)
theorem keep_main_arg4_while0Ops0_7 (V : Valuation τ sig (Elt F)) : after while0Ops0_7 V (Proc.devRef .tc main_arg4) = V (Proc.devRef .tc main_arg4) :=
  after_of_writes_sub while0Ops0_7 V while0Ops0_7_writes (by decide +kernel)
theorem keep_main_arg4_while0Ops0_8 (V : Valuation τ sig (Elt F)) : after while0Ops0_8 V (Proc.devRef .tc main_arg4) = V (Proc.devRef .tc main_arg4) :=
  after_of_writes_sub while0Ops0_8 V while0Ops0_8_writes (by decide +kernel)
theorem keep_main_arg4_while0Ops0_9 (V : Valuation τ sig (Elt F)) : after while0Ops0_9 V (Proc.devRef .tc main_arg4) = V (Proc.devRef .tc main_arg4) :=
  after_of_writes_sub while0Ops0_9 V while0Ops0_9_writes (by decide +kernel)
theorem keep_main_arg4_hostOps0_1 (V : Valuation τ sig (Elt F)) : after hostOps0_1 V (Proc.devRef .tc main_arg4) = V (Proc.devRef .tc main_arg4) :=
  after_of_writes_sub hostOps0_1 V hostOps0_1_writes (by decide +kernel)
/-- The argument `main_arg4` is written by nothing: it holds its launch contents before every condition. -/
theorem atK_main_arg4 (c : Dev nD) : ∀ k, atK m k c (Proc.devRef .tc main_arg4) = m ((c.tc : Thread nD τ).loc main_arg4)
  | 0 => by
    rw [show atK m 0 c = entryContents preI m c from rfl]
    simp only [entryContents, afterL_cons, afterL_nil]
    rw [keep_main_arg4_hostOps0]
  | k + 1 => by
    rw [show atK m (k + 1) c = afterL bodyI (after condOps (atK m k c)) from rfl]
    simp only [afterL_cons, afterL_nil]
    rw [keep_main_arg4_while0Ops0_9, keep_main_arg4_while0Ops0_8, keep_main_arg4_while0Ops0_7, keep_main_arg4_while0Ops0_6, keep_main_arg4_while0Ops0_5, keep_main_arg4_while0Ops0_4, keep_main_arg4_while0Ops0_3, keep_main_arg4_while0Ops0_2, keep_main_arg4_while0Ops0_1, keep_main_arg4_while0Ops0, keep_main_arg4_condOps, atK_main_arg4 c k]

/-! ## After the loop -/

/-- The operations after the loop do not write `main_arg0`. -/
theorem post_keeps_main_arg0 (V0 : Valuation τ sig (Elt F)) : afterL postI V0 (Proc.devRef .tc main_arg0) = V0 (Proc.devRef .tc main_arg0) := by
  simp only [postI, afterL_cons, afterL_nil]
  rw [keep_main_arg0_hostOps0_1]
/-- The operations after the loop do not write `main_arg1`. -/
theorem post_keeps_main_arg1 (V0 : Valuation τ sig (Elt F)) : afterL postI V0 (Proc.devRef .tc main_arg1) = V0 (Proc.devRef .tc main_arg1) := by
  simp only [postI, afterL_cons, afterL_nil]
  rw [keep_main_arg1_hostOps0_1]
/-- The operations after the loop do not write `main_arg2`. -/
theorem post_keeps_main_arg2 (V0 : Valuation τ sig (Elt F)) : afterL postI V0 (Proc.devRef .tc main_arg2) = V0 (Proc.devRef .tc main_arg2) := by
  simp only [postI, afterL_cons, afterL_nil]
  rw [keep_main_arg2_hostOps0_1]
/-- The operations after the loop do not write `main_arg3`. -/
theorem post_keeps_main_arg3 (V0 : Valuation τ sig (Elt F)) : afterL postI V0 (Proc.devRef .tc main_arg3) = V0 (Proc.devRef .tc main_arg3) := by
  simp only [postI, afterL_cons, afterL_nil]
  rw [keep_main_arg3_hostOps0_1]
/-- The operations after the loop do not write `main_arg4`. -/
theorem post_keeps_main_arg4 (V0 : Valuation τ sig (Elt F)) : afterL postI V0 (Proc.devRef .tc main_arg4) = V0 (Proc.devRef .tc main_arg4) := by
  simp only [postI, afterL_cons, afterL_nil]
  rw [keep_main_arg4_hostOps0_1]
/-- `STEP` iterated on the loop's entry leaves the argument `main_arg0` as the launch has it. -/
theorem iter_main_arg0 (c : Dev nD) : ∀ k, (STEP^[k] (entryContents preI m c)) (Proc.devRef .tc main_arg0) = m ((c.tc : Thread nD τ).loc main_arg0)
  | 0 => by rw [Function.iterate_zero, id_eq, ← atTrip_zero condOps bodyI (entryContents preI m)]; exact atK_main_arg0 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg0 c k
/-- `STEP` iterated on the loop's entry leaves the argument `main_arg1` as the launch has it. -/
theorem iter_main_arg1 (c : Dev nD) : ∀ k, (STEP^[k] (entryContents preI m c)) (Proc.devRef .tc main_arg1) = m ((c.tc : Thread nD τ).loc main_arg1)
  | 0 => by rw [Function.iterate_zero, id_eq, ← atTrip_zero condOps bodyI (entryContents preI m)]; exact atK_main_arg1 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg1 c k
/-- `STEP` iterated on the loop's entry leaves the argument `main_arg2` as the launch has it. -/
theorem iter_main_arg2 (c : Dev nD) : ∀ k, (STEP^[k] (entryContents preI m c)) (Proc.devRef .tc main_arg2) = m ((c.tc : Thread nD τ).loc main_arg2)
  | 0 => by rw [Function.iterate_zero, id_eq, ← atTrip_zero condOps bodyI (entryContents preI m)]; exact atK_main_arg2 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg2 c k
/-- `STEP` iterated on the loop's entry leaves the argument `main_arg3` as the launch has it. -/
theorem iter_main_arg3 (c : Dev nD) : ∀ k, (STEP^[k] (entryContents preI m c)) (Proc.devRef .tc main_arg3) = m ((c.tc : Thread nD τ).loc main_arg3)
  | 0 => by rw [Function.iterate_zero, id_eq, ← atTrip_zero condOps bodyI (entryContents preI m)]; exact atK_main_arg3 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg3 c k
/-- `STEP` iterated on the loop's entry leaves the argument `main_arg4` as the launch has it. -/
theorem iter_main_arg4 (c : Dev nD) : ∀ k, (STEP^[k] (entryContents preI m c)) (Proc.devRef .tc main_arg4) = m ((c.tc : Thread nD τ).loc main_arg4)
  | 0 => by rw [Function.iterate_zero, id_eq, ← atTrip_zero condOps bodyI (entryContents preI m)]; exact atK_main_arg4 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg4 c k
set_option maxRecDepth 8192 in
/-- `main_v47`, which the operations after the loop make, of the contents they start from. -/
def out_main_v47 (V0 : Valuation τ sig (Elt F)) : (Proc.devRef .tc main_v47 : DevRef τ sig).ty.Contents (Elt F) :=
  transpose S1024x200 [1, 0] (V0 (Proc.devRef .tc main_v46_4)) transposes_S200x1024_S1024x200_1_0
set_option maxRecDepth 8192 in
set_option maxHeartbeats 2000000 in
theorem post_main_v47 (V0 : Valuation τ sig (Elt F)) : afterL postI V0 (no_index (Proc.devRef .tc main_v47)) = out_main_v47 V0 := by
  unfold out_main_v47
  simp only [postI, afterL_cons, afterL_nil, hostOps0_1]
  after_results_entrywise []
set_option maxRecDepth 8192 in
theorem out_main_v47_congr {V0 V0' : Valuation τ sig (Elt F)} (h : Agree V0 V0') : out_main_v47 V0 = out_main_v47 V0' := by
  unfold out_main_v47
  rw [h main_v46_4 (by decide)]
set_option maxRecDepth 8192 in
/-- `main_v48`, which the operations after the loop make, of the contents they start from. -/
def out_main_v48 (V0 : Valuation τ sig (Elt F)) : (Proc.devRef .tc main_v48 : DevRef τ sig).ty.Contents (Elt F) :=
  transpose S1024x200 [1, 0] (V0 (Proc.devRef .tc main_v46_5)) transposes_S200x1024_S1024x200_1_0
set_option maxRecDepth 8192 in
set_option maxHeartbeats 2000000 in
theorem post_main_v48 (V0 : Valuation τ sig (Elt F)) : afterL postI V0 (no_index (Proc.devRef .tc main_v48)) = out_main_v48 V0 := by
  unfold out_main_v48
  simp only [postI, afterL_cons, afterL_nil, hostOps0_1]
  after_results_entrywise []
set_option maxRecDepth 8192 in
theorem out_main_v48_congr {V0 V0' : Valuation τ sig (Elt F)} (h : Agree V0 V0') : out_main_v48 V0 = out_main_v48 V0' := by
  unfold out_main_v48
  rw [h main_v46_5 (by decide)]
/-- THE RUN: on every device, for any float values, from any memory with zero counters, every weakly fair execution
    of @main terminates with each result at its component of `STEP` iterated 200 times on the loop's entry (`step_‹buffer›`
    says what one trip makes of each carried buffer), or, for a result the operations after the loop make, at `out_‹result›` of that, and every argument unchanged. -/
theorem run : θ_run (defs (F := F)) (onTc (τ := τ) (main (F := F))) ⟨m, fun _ => 0, ρ⟩ fun r => ∀ c : Dev nD,
      r.2.mem ((c.tc : Thread nD τ).loc main_v47) = out_main_v47 (STEP^[200] (entryContents preI m c))
      ∧ r.2.mem ((c.tc : Thread nD τ).loc main_v48) = out_main_v48 (STEP^[200] (entryContents preI m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v47 rfl).trans ((post_main_v47 _).trans (out_main_v47_congr (fun j hj => (cond_keeps _ j hj).trans (atK_agree m c 200 j hj)))),
      (h c main_v48 rfl).trans ((post_main_v48 _).trans (out_main_v48_congr (fun j hj => (cond_keeps _ j hj).trans (atK_agree m c 200 j hj)))),
      (h c main_arg0 rfl).trans ((post_keeps_main_arg0 _).trans ((keep_main_arg0_condOps _).trans (atK_main_arg0 m c 200))),
      (h c main_arg1 rfl).trans ((post_keeps_main_arg1 _).trans ((keep_main_arg1_condOps _).trans (atK_main_arg1 m c 200))),
      (h c main_arg2 rfl).trans ((post_keeps_main_arg2 _).trans ((keep_main_arg2_condOps _).trans (atK_main_arg2 m c 200))),
      (h c main_arg3 rfl).trans ((post_keeps_main_arg3 _).trans ((keep_main_arg3_condOps _).trans (atK_main_arg3 m c 200))),
      (h c main_arg4 rfl).trans ((post_keeps_main_arg4 _).trans ((keep_main_arg4_condOps _).trans (atK_main_arg4 m c 200)))⟩) (run_fold m ρ)

end Cert.ReferenceIdeal.Value

end
-- ==== Proof.RefStep.lean ====
/- One trip of the reference's loop as plain definitions: the state a trip hands the next, each value computed
   before the loop (`K_…` without reading an argument, `A_…` from the arguments), each value of the body in order
   (`b‹k› j s`, of the trip's number `j` and the state `s`), and `init` and `step`. -/
module

public import proofs.«01_k».proof.ReferenceIdeal
public import proofs.«01_k».proof.Proof.Gen.ReferenceIdeal

@[expose] public section

set_option maxRecDepth 8192

noncomputable section

namespace Cert.ReferenceIdeal.Step

open Idealize.ShloMosaic Cert.ReferenceIdeal Cert.ReferenceIdeal.Gen

variable {F : FTy → Type} [FloatOps F]

/-- What a trip hands the next. -/
structure State (F : FTy → Type) [FloatOps F] where
  main_v46_3 : (⟨S1024x200, .i1⟩ : BufTy).Contents (Elt F)
  main_v46_4 : (⟨S200x1024, .f32⟩ : BufTy).Contents (Elt F)
  main_v46_5 : (⟨S200x1024, .i32⟩ : BufTy).Contents (Elt F)
  main_v46_0 : (⟨S1024x200, .f32⟩ : BufTy).Contents (Elt F)

/-! What @main computes before the loop without reading an argument. -/

def K_main_c : (⟨S_, .i32⟩ : BufTy).Contents (Elt F) := constantI S_ 32 2#32
def K_main_v2 : (⟨S1, .i32⟩ : BufTy).Contents (Elt F) := broadcastInDim S1 ![] bcast_S_S1 ((K_main_c (F := F)))
def K_main_cst : (⟨S_, .f32⟩ : BufTy).Contents (Elt F) := constant S_ .f32 0x447A0000#32
def K_main_v13 : (⟨S1024x200, .f32⟩ : BufTy).Contents (Elt F) := broadcastInDim S1024x200 ![] bcast_S_S1024x200 ((K_main_cst (F := F)))
def K_main_cst_0 : (⟨S_, .f32⟩ : BufTy).Contents (Elt F) := constant S_ .f32 0x447A0000#32
def K_main_v16 : (⟨S1024x200, .f32⟩ : BufTy).Contents (Elt F) := broadcastInDim S1024x200 ![] bcast_S_S1024x200 ((K_main_cst_0 (F := F)))
def K_main_cst_1 : (⟨S_, .f32⟩ : BufTy).Contents (Elt F) := constant S_ .f32 0x3F317218#32
def K_main_v19 : (⟨S1024x200, .f32⟩ : BufTy).Contents (Elt F) := broadcastInDim S1024x200 ![] bcast_S_S1024x200 ((K_main_cst_1 (F := F)))
def K_main_cst_2 : (⟨S_, .f32⟩ : BufTy).Contents (Elt F) := constant S_ .f32 0x3F317218#32
def K_main_v21 : (⟨S1024x200, .f32⟩ : BufTy).Contents (Elt F) := broadcastInDim S1024x200 ![] bcast_S_S1024x200 ((K_main_cst_2 (F := F)))
def K_main_cst_3 : (⟨S_, .f32⟩ : BufTy).Contents (Elt F) := constant S_ .f32 0x3F317218#32
def K_main_v24 : (⟨S1024x200, .f32⟩ : BufTy).Contents (Elt F) := broadcastInDim S1024x200 ![] bcast_S_S1024x200 ((K_main_cst_3 (F := F)))
def K_main_cst_4 : (⟨S_, .f32⟩ : BufTy).Contents (Elt F) := constant S_ .f32 0x447A0000#32
def K_main_v35 : (⟨S1024x200x3, .f32⟩ : BufTy).Contents (Elt F) := broadcastInDim S1024x200x3 ![] bcast_S_S1024x200x3 ((K_main_cst_4 (F := F)))
def K_main_v42 : (⟨S1024, .i32⟩ : BufTy).Contents (Elt F) := iotaInDim S1024 32 0
def K_main_c_5 : (⟨S_, .i1⟩ : BufTy).Contents (Elt F) := constantI S_ 1 0#1
def K_main_v43 : (⟨S1024x200, .i1⟩ : BufTy).Contents (Elt F) := broadcastInDim S1024x200 ![] bcast_S_S1024x200 ((K_main_c_5 (F := F)))
def K_main_cst_6 : (⟨S_, .f32⟩ : BufTy).Contents (Elt F) := constant S_ .f32 0x00000000#32
def K_main_v44 : (⟨S200x1024, .f32⟩ : BufTy).Contents (Elt F) := broadcastInDim S200x1024 ![] bcast_S_S200x1024 ((K_main_cst_6 (F := F)))
def K_main_c_7 : (⟨S_, .i32⟩ : BufTy).Contents (Elt F) := constantI S_ 32 0#32
def K_main_v45 : (⟨S200x1024, .i32⟩ : BufTy).Contents (Elt F) := broadcastInDim S200x1024 ![] bcast_S_S200x1024 ((K_main_c_7 (F := F)))
def K_main_c_8 : (⟨S_, .i32⟩ : BufTy).Contents (Elt F) := constantI S_ 32 0#32

/-! What @main computes before the loop from its arguments, as functions of them. -/

def A_main_v0 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200x1, .f32⟩ : BufTy).Contents (Elt F) := extractStridedSlice S1024x200x1 ![0, 0, 0] (main_arg0) slices_S1024x200x3_S1024x200x1_0_0_0
def A_main_v1 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200, .f32⟩ : BufTy).Contents (Elt F) := shapeCast _ ((A_main_v0 main_arg0 main_arg3 main_arg4)) shapeCasts_S1024x200x1_S1024x200
def A_main_v3 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200x3, .f32⟩ : BufTy).Contents (Elt F) := Host.scatter scatter_S1024x200x3_S1_S1024x200_01_2_2_0 (fun _ b => b) (main_arg0) ((K_main_v2 (F := F))) ((A_main_v1 main_arg0 main_arg3 main_arg4))
def A_main_v4 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200x1, .f32⟩ : BufTy).Contents (Elt F) := extractStridedSlice S1024x200x1 ![0, 0, 0] ((A_main_v3 main_arg0 main_arg3 main_arg4)) slices_S1024x200x3_S1024x200x1_0_0_0
def A_main_v5 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200, .f32⟩ : BufTy).Contents (Elt F) := shapeCast _ ((A_main_v4 main_arg0 main_arg3 main_arg4)) shapeCasts_S1024x200x1_S1024x200
def A_main_v6 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200x1, .f32⟩ : BufTy).Contents (Elt F) := extractStridedSlice S1024x200x1 ![0, 0, 1] ((A_main_v3 main_arg0 main_arg3 main_arg4)) slices_S1024x200x3_S1024x200x1_0_0_1
def A_main_v7 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200, .f32⟩ : BufTy).Contents (Elt F) := shapeCast _ ((A_main_v6 main_arg0 main_arg3 main_arg4)) shapeCasts_S1024x200x1_S1024x200
def A_main_v8 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200x1, .f32⟩ : BufTy).Contents (Elt F) := extractStridedSlice S1024x200x1 ![0, 0, 2] ((A_main_v3 main_arg0 main_arg3 main_arg4)) slices_S1024x200x3_S1024x200x1_0_0_2
def A_main_v9 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200, .f32⟩ : BufTy).Contents (Elt F) := shapeCast _ ((A_main_v8 main_arg0 main_arg3 main_arg4)) shapeCasts_S1024x200x1_S1024x200
def A_main_v10 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200, .f32⟩ : BufTy).Contents (Elt F) := Host.divf ((A_main_v7 main_arg0 main_arg3 main_arg4)) ((A_main_v5 main_arg0 main_arg3 main_arg4))
def A_main_v11 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200, .f32⟩ : BufTy).Contents (Elt F) := Host.divf ((A_main_v9 main_arg0 main_arg3 main_arg4)) ((A_main_v5 main_arg0 main_arg3 main_arg4))
def A_main_v12 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200, .f32⟩ : BufTy).Contents (Elt F) := subf ((A_main_v5 main_arg0 main_arg3 main_arg4)) ((A_main_v7 main_arg0 main_arg3 main_arg4))
def A_main_v14 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200, .f32⟩ : BufTy).Contents (Elt F) := Host.divf ((A_main_v12 main_arg0 main_arg3 main_arg4)) ((K_main_v13 (F := F)))
def A_main_v15 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200, .f32⟩ : BufTy).Contents (Elt F) := subf ((A_main_v5 main_arg0 main_arg3 main_arg4)) ((A_main_v9 main_arg0 main_arg3 main_arg4))
def A_main_v17 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200, .f32⟩ : BufTy).Contents (Elt F) := Host.divf ((A_main_v15 main_arg0 main_arg3 main_arg4)) ((K_main_v16 (F := F)))
def A_main_v18 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200, .f32⟩ : BufTy).Contents (Elt F) := Host.log ((A_main_v5 main_arg0 main_arg3 main_arg4))
def A_main_v20 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200, .f32⟩ : BufTy).Contents (Elt F) := Host.divf ((A_main_v18 main_arg0 main_arg3 main_arg4)) ((K_main_v19 (F := F)))
def A_main_v22 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200, .f32⟩ : BufTy).Contents (Elt F) := Host.divf ((A_main_v7 main_arg0 main_arg3 main_arg4)) ((K_main_v21 (F := F)))
def A_main_v23 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200, .f32⟩ : BufTy).Contents (Elt F) := Host.log ((A_main_v22 main_arg0 main_arg3 main_arg4))
def A_main_v25 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200, .f32⟩ : BufTy).Contents (Elt F) := Host.divf ((A_main_v9 main_arg0 main_arg3 main_arg4)) ((K_main_v24 (F := F)))
def A_main_v26 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200, .f32⟩ : BufTy).Contents (Elt F) := Host.log ((A_main_v25 main_arg0 main_arg3 main_arg4))
def A_main_v27 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200x1, .f32⟩ : BufTy).Contents (Elt F) := broadcastInDim S1024x200x1 ![0, 1] bcast_S1024x200_S1024x200x1_0_1 ((A_main_v10 main_arg0 main_arg3 main_arg4))
def A_main_v28 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200x1, .f32⟩ : BufTy).Contents (Elt F) := broadcastInDim S1024x200x1 ![0, 1] bcast_S1024x200_S1024x200x1_0_1 ((A_main_v11 main_arg0 main_arg3 main_arg4))
def A_main_v29 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200x1, .f32⟩ : BufTy).Contents (Elt F) := broadcastInDim S1024x200x1 ![0, 1] bcast_S1024x200_S1024x200x1_0_1 ((A_main_v14 main_arg0 main_arg3 main_arg4))
def A_main_v30 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200x1, .f32⟩ : BufTy).Contents (Elt F) := broadcastInDim S1024x200x1 ![0, 1] bcast_S1024x200_S1024x200x1_0_1 ((A_main_v17 main_arg0 main_arg3 main_arg4))
def A_main_v31 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200x1, .f32⟩ : BufTy).Contents (Elt F) := broadcastInDim S1024x200x1 ![0, 1] bcast_S1024x200_S1024x200x1_0_1 ((A_main_v20 main_arg0 main_arg3 main_arg4))
def A_main_v32 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200x1, .f32⟩ : BufTy).Contents (Elt F) := broadcastInDim S1024x200x1 ![0, 1] bcast_S1024x200_S1024x200x1_0_1 ((A_main_v23 main_arg0 main_arg3 main_arg4))
def A_main_v33 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200x1, .f32⟩ : BufTy).Contents (Elt F) := broadcastInDim S1024x200x1 ![0, 1] bcast_S1024x200_S1024x200x1_0_1 ((A_main_v26 main_arg0 main_arg3 main_arg4))
def A_main_v34 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200x7, .f32⟩ : BufTy).Contents (Elt F) := (concatenate S1024x200x7 2 [⟨S1024x200x1, (((A_main_v27 main_arg0 main_arg3 main_arg4)) : (⟨S1024x200x1, .f32⟩ : BufTy).Contents (Elt F))⟩, ⟨S1024x200x1, (((A_main_v28 main_arg0 main_arg3 main_arg4)) : (⟨S1024x200x1, .f32⟩ : BufTy).Contents (Elt F))⟩, ⟨S1024x200x1, (((A_main_v29 main_arg0 main_arg3 main_arg4)) : (⟨S1024x200x1, .f32⟩ : BufTy).Contents (Elt F))⟩, ⟨S1024x200x1, (((A_main_v30 main_arg0 main_arg3 main_arg4)) : (⟨S1024x200x1, .f32⟩ : BufTy).Contents (Elt F))⟩, ⟨S1024x200x1, (((A_main_v31 main_arg0 main_arg3 main_arg4)) : (⟨S1024x200x1, .f32⟩ : BufTy).Contents (Elt F))⟩, ⟨S1024x200x1, (((A_main_v32 main_arg0 main_arg3 main_arg4)) : (⟨S1024x200x1, .f32⟩ : BufTy).Contents (Elt F))⟩, ⟨S1024x200x1, (((A_main_v33 main_arg0 main_arg3 main_arg4)) : (⟨S1024x200x1, .f32⟩ : BufTy).Contents (Elt F))⟩] concatenates_S1024x200x1_S1024x200x1_S1024x200x1_S1024x200x1_S1024x200x1_S1024x200x1_S1024x200x1_S1024x200x7_d2 : (⟨S1024x200x7, .f32⟩ : BufTy).Contents (Elt F))
def A_main_v36 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200x3, .f32⟩ : BufTy).Contents (Elt F) := Host.divf ((A_main_v3 main_arg0 main_arg3 main_arg4)) ((K_main_v35 (F := F)))
def A_main_v37 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200x10, .f32⟩ : BufTy).Contents (Elt F) := concatenate S1024x200x10 2 [⟨S1024x200x7, ((A_main_v34 main_arg0 main_arg3 main_arg4))⟩, ⟨S1024x200x3, ((A_main_v36 main_arg0 main_arg3 main_arg4))⟩] concatenates_S1024x200x7_S1024x200x3_S1024x200x10_d2
def A_main_v38 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200, .f32⟩ : BufTy).Contents (Elt F) := Host.dotGeneral dot_S1024x200x10_S10_S1024x200_2_0_01_n_n_n none ((A_main_v37 main_arg0 main_arg3 main_arg4)) (main_arg3)
def A_main_v39 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S_, .f32⟩ : BufTy).Contents (Elt F) := shapeCast _ (main_arg4) shapeCasts_S1_S_
def A_main_v40 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200, .f32⟩ : BufTy).Contents (Elt F) := broadcastInDim S1024x200 ![] bcast_S_S1024x200 ((A_main_v39 main_arg0 main_arg3 main_arg4))
def A_main_v41 (main_arg0 : (⟨S1024x200x3, .f32⟩ : BufTy).Contents (Elt F)) (main_arg3 : (⟨S10, .f32⟩ : BufTy).Contents (Elt F)) (main_arg4 : (⟨S1, .f32⟩ : BufTy).Contents (Elt F)) : (⟨S1024x200, .f32⟩ : BufTy).Contents (Elt F) := addf ((A_main_v38 main_arg0 main_arg3 main_arg4)) ((A_main_v40 main_arg0 main_arg3 main_arg4))

/-! One trip's values, in the body's order. -/

def b0 (j : ℕ) (s : State F) : (⟨S_, .f32⟩ : BufTy).Contents (Elt F) :=
  constant S_ .f32 0xFF800000#32
def b1 (j : ℕ) (s : State F) : (⟨S_, .f32⟩ : BufTy).Contents (Elt F) := b0 j s
theorem b1_id (j : ℕ) (s : State F) : b1 j s = b0 j s := rfl
def b2 (j : ℕ) (s : State F) : (⟨S1024x200, .f32⟩ : BufTy).Contents (Elt F) :=
  broadcastInDim S1024x200 ![] bcast_S_S1024x200 ((b1 j s))
def b3 (j : ℕ) (s : State F) : (⟨S1024x200, .f32⟩ : BufTy).Contents (Elt F) :=
  select (s.main_v46_3) ((b2 j s)) (s.main_v46_0)
def b4 (j : ℕ) (s : State F) : (⟨S_, .f32⟩ : BufTy).Contents (Elt F) :=
  constant S_ .f32 0xFF800000#32
def b5 (j : ℕ) (s : State F) : (⟨S1024, .f32⟩ : BufTy).Contents (Elt F) :=
  Host.reduce FloatOps.maximumf ((b3 j s)) ((b4 j s)) reducesTo_S1024x200_S1024_d1 h_S_
def b6 (j : ℕ) (s : State F) : (⟨S_, .f32⟩ : BufTy).Contents (Elt F) :=
  constant S_ .f32 0xFF800000#32
def b7 (j : ℕ) (s : State F) : (⟨S1024, .f32⟩ : BufTy).Contents (Elt F) :=
  broadcastInDim S1024 ![] bcast_S_S1024 ((b6 j s))
def b8 (j : ℕ) (s : State F) : (⟨S1024, .f32⟩ : BufTy).Contents (Elt F) :=
  maximumf ((b7 j s)) ((b5 j s))
def b9 (j : ℕ) (s : State F) : (⟨S1024x1, .f32⟩ : BufTy).Contents (Elt F) :=
  broadcastInDim S1024x1 ![0] bcast_S1024_S1024x1_0 ((b8 j s))
def b10 (j : ℕ) (s : State F) : (⟨S1024x200, .f32⟩ : BufTy).Contents (Elt F) :=
  broadcastInDim S1024x200 ![0, 1] bcast_S1024x1_S1024x200_0_1 ((b9 j s))
def b11 (j : ℕ) (s : State F) : (⟨S1024x200, .f32⟩ : BufTy).Contents (Elt F) :=
  subf ((b3 j s)) ((b10 j s))
def b12 (j : ℕ) (s : State F) : (⟨S1024x200, .f32⟩ : BufTy).Contents (Elt F) :=
  Host.exp ((b11 j s))
def b13 (j : ℕ) (s : State F) : (⟨S_, .f32⟩ : BufTy).Contents (Elt F) :=
  constant S_ .f32 0x00000000#32
def b14 (j : ℕ) (s : State F) : (⟨S1024, .f32⟩ : BufTy).Contents (Elt F) :=
  Host.reduceAdd ((b12 j s)) ((b13 j s)) reducesTo_S1024x200_S1024_d1 h_S_
def b15 (j : ℕ) (s : State F) : (⟨S1024x1, .f32⟩ : BufTy).Contents (Elt F) :=
  broadcastInDim S1024x1 ![0] bcast_S1024_S1024x1_0 ((b14 j s))
def b16 (j : ℕ) (s : State F) : (⟨S1024x200, .f32⟩ : BufTy).Contents (Elt F) :=
  broadcastInDim S1024x200 ![0, 1] bcast_S1024x1_S1024x200_0_1 ((b15 j s))
def b17 (j : ℕ) (s : State F) : (⟨S1024x200, .f32⟩ : BufTy).Contents (Elt F) :=
  Host.divf ((b12 j s)) ((b16 j s))
def b18 (j : ℕ) (s : State F) : (⟨S1024x200, .i32⟩ : BufTy).Contents (Elt F) :=
  iotaInDim S1024x200 32 1
def b19 (j : ℕ) (s : State F) : (⟨S_, .f32⟩ : BufTy).Contents (Elt F) :=
  constant S_ .f32 0xFF800000#32
def b20 (j : ℕ) (s : State F) : (⟨S_, .i32⟩ : BufTy).Contents (Elt F) :=
  constantI S_ 32 0#32
def b21 (j : ℕ) (s : State F) : (⟨S1024, .f32⟩ : BufTy).Contents (Elt F) :=
  (fun o => (Host.argReduce reducer_argmax_f32_i32 ((b17 j s)) ((b18 j s)) ((b19 j s)) ((b20 j s)) reducesTo_S1024x200_S1024_d1 h_S_ o).1)
def b22 (j : ℕ) (s : State F) : (⟨S1024, .i32⟩ : BufTy).Contents (Elt F) :=
  (fun o => (Host.argReduce reducer_argmax_f32_i32 ((b17 j s)) ((b18 j s)) ((b19 j s)) ((b20 j s)) reducesTo_S1024x200_S1024_d1 h_S_ o).2)
def b23 (j : ℕ) (s : State F) : (⟨S1024x1, .i32⟩ : BufTy).Contents (Elt F) :=
  broadcastInDim S1024x1 ![0] bcast_S1024_S1024x1_0 ((b22 j s))
def b24 (j : ℕ) (s : State F) : (⟨S_, .i32⟩ : BufTy).Contents (Elt F) :=
  constantI S_ 32 0#32
def b25 (j : ℕ) (s : State F) : (⟨S1024x1, .i32⟩ : BufTy).Contents (Elt F) :=
  broadcastInDim S1024x1 ![] bcast_S_S1024x1 ((b24 j s))
def b26 (j : ℕ) (s : State F) : (⟨S1024x1, .i1⟩ : BufTy).Contents (Elt F) :=
  cmpi .slt ((b23 j s)) ((b25 j s))
def b27 (j : ℕ) (s : State F) : (⟨S_, .i32⟩ : BufTy).Contents (Elt F) :=
  constantI S_ 32 200#32
def b28 (j : ℕ) (s : State F) : (⟨S1024x1, .i32⟩ : BufTy).Contents (Elt F) :=
  broadcastInDim S1024x1 ![] bcast_S_S1024x1 ((b27 j s))
def b29 (j : ℕ) (s : State F) : (⟨S1024x1, .i32⟩ : BufTy).Contents (Elt F) :=
  addi ((b23 j s)) ((b28 j s))
def b30 (j : ℕ) (s : State F) : (⟨S1024x1, .i32⟩ : BufTy).Contents (Elt F) :=
  select ((b26 j s)) ((b29 j s)) ((b23 j s))
def b31 (j : ℕ) (s : State F) : (⟨S1024x1x1, .i32⟩ : BufTy).Contents (Elt F) :=
  shapeCast S1024x1x1 ((b30 j s)) shapeCasts_S1024x1_S1024x1x1
def b32 (j : ℕ) (s : State F) : (⟨S1, .i32⟩ : BufTy).Contents (Elt F) :=
  constantI S1 32 199#32
def b33 (j : ℕ) (s : State F) : (⟨S_, .i32⟩ : BufTy).Contents (Elt F) :=
  constantI S_ 32 0#32
def b34 (j : ℕ) (s : State F) : (⟨S1024x1x1, .i32⟩ : BufTy).Contents (Elt F) :=
  broadcastInDim S1024x1x1 ![] bcast_S_S1024x1x1 ((b33 j s))
def b35 (j : ℕ) (s : State F) : (⟨S1024x1x1, .i1⟩ : BufTy).Contents (Elt F) :=
  cmpi .sge ((b31 j s)) ((b34 j s))
def b36 (j : ℕ) (s : State F) : (⟨S1x1x1, .i32⟩ : BufTy).Contents (Elt F) :=
  broadcastInDim S1x1x1 ![2] bcast_S1_S1x1x1_2 ((b32 j s))
def b37 (j : ℕ) (s : State F) : (⟨S1024x1x1, .i32⟩ : BufTy).Contents (Elt F) :=
  broadcastInDim S1024x1x1 ![0, 1, 2] bcast_S1x1x1_S1024x1x1_0_1_2 ((b36 j s))
def b38 (j : ℕ) (s : State F) : (⟨S1024x1x1, .i1⟩ : BufTy).Contents (Elt F) :=
  cmpi .sle ((b31 j s)) ((b37 j s))
def b39 (j : ℕ) (s : State F) : (⟨S1024x1x1, .i1⟩ : BufTy).Contents (Elt F) :=
  andi ((b35 j s)) ((b38 j s))
def b40 (j : ℕ) (s : State F) : (⟨S_, .i1⟩ : BufTy).Contents (Elt F) :=
  constantI S_ 1 1#1
def b41 (j : ℕ) (s : State F) : (⟨S1024x1, .i1⟩ : BufTy).Contents (Elt F) :=
  Host.reduce IntOp.andi ((b39 j s)) ((b40 j s)) reducesTo_S1024x1x1_S1024x1_d2 h_S_
def b42 (j : ℕ) (s : State F) : (⟨S1024x1, .f32⟩ : BufTy).Contents (Elt F) :=
  Host.gather gather_S1024x200_S1024x1x1_S1024x1_n_1_0_0_1_2_11 ((b17 j s)) ((b31 j s))
def b43 (j : ℕ) (s : State F) : (⟨S_, .f32⟩ : BufTy).Contents (Elt F) :=
  constant S_ .f32 0x7FC00000#32
def b44 (j : ℕ) (s : State F) : (⟨S1024x1, .f32⟩ : BufTy).Contents (Elt F) :=
  broadcastInDim S1024x1 ![] bcast_S_S1024x1 ((b43 j s))
def b45 (j : ℕ) (s : State F) : (⟨S1024x1, .f32⟩ : BufTy).Contents (Elt F) :=
  select ((b41 j s)) ((b42 j s)) ((b44 j s))
def b46 (j : ℕ) (s : State F) : (⟨S1024, .f32⟩ : BufTy).Contents (Elt F) :=
  shapeCast S1024 ((b45 j s)) shapeCasts_S1024x1_S1024
def b47 (j : ℕ) (s : State F) : (⟨S1024, .f32⟩ : BufTy).Contents (Elt F) :=
  Host.log ((b46 j s))
def b48 (j : ℕ) (s : State F) : (⟨S_, .i32⟩ : BufTy).Contents (Elt F) :=
  constantI S_ 32 0#32
def b49 (j : ℕ) (s : State F) : (⟨S1024, .i32⟩ : BufTy).Contents (Elt F) :=
  broadcastInDim S1024 ![] bcast_S_S1024 ((b48 j s))
def b50 (j : ℕ) (s : State F) : (⟨S1024, .i1⟩ : BufTy).Contents (Elt F) :=
  cmpi .slt ((K_main_v42 (F := F))) ((b49 j s))
def b51 (j : ℕ) (s : State F) : (⟨S_, .i32⟩ : BufTy).Contents (Elt F) :=
  constantI S_ 32 1024#32
def b52 (j : ℕ) (s : State F) : (⟨S1024, .i32⟩ : BufTy).Contents (Elt F) :=
  broadcastInDim S1024 ![] bcast_S_S1024 ((b51 j s))
def b53 (j : ℕ) (s : State F) : (⟨S1024, .i32⟩ : BufTy).Contents (Elt F) :=
  addi ((K_main_v42 (F := F))) ((b52 j s))
def b54 (j : ℕ) (s : State F) : (⟨S1024, .i32⟩ : BufTy).Contents (Elt F) :=
  select ((b50 j s)) ((b53 j s)) ((K_main_v42 (F := F)))
def b55 (j : ℕ) (s : State F) : (⟨S_, .i32⟩ : BufTy).Contents (Elt F) :=
  constantI S_ 32 0#32
def b56 (j : ℕ) (s : State F) : (⟨S1024, .i32⟩ : BufTy).Contents (Elt F) :=
  broadcastInDim S1024 ![] bcast_S_S1024 ((b55 j s))
def b57 (j : ℕ) (s : State F) : (⟨S1024, .i1⟩ : BufTy).Contents (Elt F) :=
  cmpi .slt ((b22 j s)) ((b56 j s))
def b58 (j : ℕ) (s : State F) : (⟨S_, .i32⟩ : BufTy).Contents (Elt F) :=
  constantI S_ 32 200#32
def b59 (j : ℕ) (s : State F) : (⟨S1024, .i32⟩ : BufTy).Contents (Elt F) :=
  broadcastInDim S1024 ![] bcast_S_S1024 ((b58 j s))
def b60 (j : ℕ) (s : State F) : (⟨S1024, .i32⟩ : BufTy).Contents (Elt F) :=
  addi ((b22 j s)) ((b59 j s))
def b61 (j : ℕ) (s : State F) : (⟨S1024, .i32⟩ : BufTy).Contents (Elt F) :=
  select ((b57 j s)) ((b60 j s)) ((b22 j s))
def b62 (j : ℕ) (s : State F) : (⟨S1024x1, .i32⟩ : BufTy).Contents (Elt F) :=
  broadcastInDim S1024x1 ![0] bcast_S1024_S1024x1_0 ((b54 j s))
def b63 (j : ℕ) (s : State F) : (⟨S1024x1, .i32⟩ : BufTy).Contents (Elt F) :=
  broadcastInDim S1024x1 ![0] bcast_S1024_S1024x1_0 ((b61 j s))
def b64 (j : ℕ) (s : State F) : (⟨S1024x2, .i32⟩ : BufTy).Contents (Elt F) :=
  concatenate S1024x2 1 [⟨S1024x1, ((b62 j s))⟩, ⟨S1024x1, ((b63 j s))⟩] concatenates_S1024x1_S1024x1_S1024x2_d1
def b65 (j : ℕ) (s : State F) : (⟨S_, .i1⟩ : BufTy).Contents (Elt F) :=
  constantI S_ 1 1#1
def b66 (j : ℕ) (s : State F) : (⟨S1024, .i1⟩ : BufTy).Contents (Elt F) :=
  broadcastInDim S1024 ![] bcast_S_S1024 ((b65 j s))
def b67 (j : ℕ) (s : State F) : (⟨S1024x200, .i1⟩ : BufTy).Contents (Elt F) :=
  Host.scatter scatter_S1024x200_S1024x2_S1024_n_01_01_1 (fun _ b => b) (s.main_v46_3) ((b64 j s)) ((b66 j s))
def b68 (j : ℕ) (s : State F) : (⟨S1x1024, .f32⟩ : BufTy).Contents (Elt F) :=
  broadcastInDim S1x1024 ![1] bcast_S1024_S1x1024_1 ((b47 j s))
def b69 (j : ℕ) (s : State F) : (⟨S_, .i32⟩ : BufTy).Contents (Elt F) :=
  constantI S_ 32 0#32
def b70 (j : ℕ) (s : State F) : (⟨S200x1024, .f32⟩ : BufTy).Contents (Elt F) :=
  Host.dynamicUpdateSlice (s.main_v46_4) ((b68 j s)) (fun k => (((![(constantI S_ 32 (BitVec.ofNat 32 j) : (⟨S_, .i32⟩ : BufTy).Contents (Elt F)), (b69 j s)] : Fin 2 → (⟨S_, .i32⟩ : BufTy).Contents (Elt F))) k (Shape.Idx.first h_S_)).toInt) updateFits_S200x1024_S1x1024
def b71 (j : ℕ) (s : State F) : (⟨S1x1024, .i32⟩ : BufTy).Contents (Elt F) :=
  broadcastInDim S1x1024 ![1] bcast_S1024_S1x1024_1 ((b22 j s))
def b72 (j : ℕ) (s : State F) : (⟨S_, .i32⟩ : BufTy).Contents (Elt F) :=
  constantI S_ 32 0#32
def b73 (j : ℕ) (s : State F) : (⟨S200x1024, .i32⟩ : BufTy).Contents (Elt F) :=
  Host.dynamicUpdateSlice (s.main_v46_5) ((b71 j s)) (fun k => (((![(constantI S_ 32 (BitVec.ofNat 32 j) : (⟨S_, .i32⟩ : BufTy).Contents (Elt F)), (b72 j s)] : Fin 2 → (⟨S_, .i32⟩ : BufTy).Contents (Elt F))) k (Shape.Idx.first h_S_)).toInt) updateFits_S200x1024_S1x1024

/-- The state @main hands the first trip, of the arguments it copies in or computes from. -/
def init (main_arg0 : (⟨S1024x200x3, .f32⟩ : BufTy).Contents (Elt F)) (main_arg3 : (⟨S10, .f32⟩ : BufTy).Contents (Elt F)) (main_arg4 : (⟨S1, .f32⟩ : BufTy).Contents (Elt F)) : State F :=
  { main_v46_3 := K_main_v43 (F := F), main_v46_4 := K_main_v44 (F := F), main_v46_5 := K_main_v45 (F := F), main_v46_0 := A_main_v41 main_arg0 main_arg3 main_arg4 }

/-- One trip. -/
def step (j : ℕ) (s : State F) : State F :=
  { main_v46_3 := b67 j s, main_v46_4 := b70 j s, main_v46_5 := b73 j s, main_v46_0 := s.main_v46_0 }
variable (a3 : (⟨S1024x200, .i1⟩ : BufTy).Contents (Elt F)) (a4 : (⟨S200x1024, .f32⟩ : BufTy).Contents (Elt F)) (a5 : (⟨S200x1024, .i32⟩ : BufTy).Contents (Elt F)) (a0 : (⟨S1024x200, .f32⟩ : BufTy).Contents (Elt F))
theorem proj_3 : (State.mk (F := F) a3 a4 a5 a0).main_v46_3 = a3 := rfl
theorem proj_4 : (State.mk (F := F) a3 a4 a5 a0).main_v46_4 = a4 := rfl
theorem proj_5 : (State.mk (F := F) a3 a4 a5 a0).main_v46_5 = a5 := rfl
theorem proj_0 : (State.mk (F := F) a3 a4 a5 a0).main_v46_0 = a0 := rfl
theorem step_eq (j : ℕ) (s : State F) : step j s = State.mk (b67 j s) (b70 j s) (b73 j s) s.main_v46_0 := rfl
theorem step_main_v46_3 (j : ℕ) (s : State F) : (step j s).main_v46_3 = b67 j s :=
  (congrArg State.main_v46_3 (step_eq j s)).trans (proj_3 _ _ _ _)
theorem step_main_v46_4 (j : ℕ) (s : State F) : (step j s).main_v46_4 = b70 j s :=
  (congrArg State.main_v46_4 (step_eq j s)).trans (proj_4 _ _ _ _)
theorem step_main_v46_5 (j : ℕ) (s : State F) : (step j s).main_v46_5 = b73 j s :=
  (congrArg State.main_v46_5 (step_eq j s)).trans (proj_5 _ _ _ _)
theorem step_main_v46_0 (j : ℕ) (s : State F) : (step j s).main_v46_0 = s.main_v46_0 :=
  (congrArg State.main_v46_0 (step_eq j s)).trans (proj_0 _ _ _ _)
theorem init_eq (x0 : (⟨S1024x200x3, .f32⟩ : BufTy).Contents (Elt F)) (x3 : (⟨S10, .f32⟩ : BufTy).Contents (Elt F)) (x4 : (⟨S1, .f32⟩ : BufTy).Contents (Elt F)) :
    init x0 x3 x4 = State.mk (K_main_v43 (F := F)) (K_main_v44 (F := F)) (K_main_v45 (F := F)) (A_main_v41 x0 x3 x4) := rfl
theorem init_main_v46_3 (x0 : (⟨S1024x200x3, .f32⟩ : BufTy).Contents (Elt F)) (x3 : (⟨S10, .f32⟩ : BufTy).Contents (Elt F)) (x4 : (⟨S1, .f32⟩ : BufTy).Contents (Elt F)) : (init x0 x3 x4).main_v46_3 = K_main_v43 (F := F) :=
  (congrArg State.main_v46_3 (init_eq x0 x3 x4)).trans (proj_3 _ _ _ _)
theorem init_main_v46_4 (x0 : (⟨S1024x200x3, .f32⟩ : BufTy).Contents (Elt F)) (x3 : (⟨S10, .f32⟩ : BufTy).Contents (Elt F)) (x4 : (⟨S1, .f32⟩ : BufTy).Contents (Elt F)) : (init x0 x3 x4).main_v46_4 = K_main_v44 (F := F) :=
  (congrArg State.main_v46_4 (init_eq x0 x3 x4)).trans (proj_4 _ _ _ _)
theorem init_main_v46_5 (x0 : (⟨S1024x200x3, .f32⟩ : BufTy).Contents (Elt F)) (x3 : (⟨S10, .f32⟩ : BufTy).Contents (Elt F)) (x4 : (⟨S1, .f32⟩ : BufTy).Contents (Elt F)) : (init x0 x3 x4).main_v46_5 = K_main_v45 (F := F) :=
  (congrArg State.main_v46_5 (init_eq x0 x3 x4)).trans (proj_5 _ _ _ _)
theorem init_main_v46_0 (x0 : (⟨S1024x200x3, .f32⟩ : BufTy).Contents (Elt F)) (x3 : (⟨S10, .f32⟩ : BufTy).Contents (Elt F)) (x4 : (⟨S1, .f32⟩ : BufTy).Contents (Elt F)) : (init x0 x3 x4).main_v46_0 = A_main_v41 x0 x3 x4 :=
  (congrArg State.main_v46_0 (init_eq x0 x3 x4)).trans (proj_0 _ _ _ _)

/-- `main_v47`, which the operations after the loop make, of the loop's last state. -/
def R_main_v47 (s : State F) : (⟨S1024x200, .f32⟩ : BufTy).Contents (Elt F) :=
  transpose S1024x200 [1, 0] (s.main_v46_4) transposes_S200x1024_S1024x200_1_0

/-- `main_v48`, which the operations after the loop make, of the loop's last state. -/
def R_main_v48 (s : State F) : (⟨S1024x200, .i32⟩ : BufTy).Contents (Elt F) :=
  transpose S1024x200 [1, 0] (s.main_v46_5) transposes_S200x1024_S1024x200_1_0

end Cert.ReferenceIdeal.Step

end
-- ==== Proof.RefStepRun.lean ====
/- The reference's run over those definitions: a valuation that holds a state makes, after one more trip, one that
   holds the stepped state; so the run's results are fields of `step` iterated 200 times from `init`. -/
module

public import proofs.«01_k».proof.Proof.RefTrip
public import proofs.«01_k».proof.Proof.RefStep

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_3 : V0 (Proc.devRef .tc main_v46_3) = s.main_v46_3
  f_4 : V0 (Proc.devRef .tc main_v46_4) = s.main_v46_4
  f_5 : V0 (Proc.devRef .tc main_v46_5) = s.main_v46_5
  f_0 : V0 (Proc.devRef .tc main_v46_0) = s.main_v46_0
  n_2 : V0 (Proc.devRef .tc main_v46_2) = constantI S_ 32 (BitVec.ofNat 32 j)
  k_1 : V0 (Proc.devRef .tc main_v46_1) = Cert.ReferenceIdeal.Step.K_main_v42 (F := F)

variable {V0 s j}

set_option maxRecDepth 8192 in
theorem al_0 (h : Holds V0 s j) : (constant S_ .f32 0xFF800000#32 : (Proc.devRef .tc main_while0b_cst_14 : DevRef τ sig).ty.Contents (Elt F)) = Cert.ReferenceIdeal.Step.b0 j s := by
  unfold Cert.ReferenceIdeal.Step.b0
  rfl
set_option maxRecDepth 8192 in
theorem al_1 (h : Holds V0 s j) : (id (constant S_ .f32 0xFF800000#32) : (Proc.devRef .tc main_while0b_call0_v0 : DevRef τ sig).ty.Contents (Elt F)) = Cert.ReferenceIdeal.Step.b1 j s := by
  unfold Cert.ReferenceIdeal.Step.b1
  rw [← al_0 h]
  try rfl
set_option maxRecDepth 8192 in
theorem al_2 (h : Holds V0 s j) : (broadcastInDim S1024x200 ![] bcast_S_S1024x200 (id (constant S_ .f32 0xFF800000#32)) : (Proc.devRef .tc main_while0b_call0_v1 : DevRef τ sig).ty.Contents (Elt F)) = Cert.ReferenceIdeal.Step.b2 j s := by
  unfold Cert.ReferenceIdeal.Step.b2
  rw [← al_1 h]
  try rfl
set_option maxRecDepth 8192 in
theorem al_3 (h : Holds V0 s j) : (res_main_while0b_v49 V0 : (Proc.devRef .tc main_while0b_v49 : DevRef τ sig).ty.Contents (Elt F)) = Cert.ReferenceIdeal.Step.b3 j s := by
  unfold res_main_while0b_v49 Cert.ReferenceIdeal.Step.b3
  rw [← al_2 h, h.f_3, h.f_0]
  try rfl
set_option maxRecDepth 8192 in
theorem al_4 (h : Holds V0 s j) : (constant S_ .f32 0xFF800000#32 : (Proc.devRef .tc main_while0b_cst_15 : DevRef τ sig).ty.Contents (Elt F)) = Cert.ReferenceIdeal.Step.b4 j s := by
  unfold Cert.ReferenceIdeal.Step.b4
  rfl
set_option maxRecDepth 8192 in
theorem al_5 (h : Holds V0 s j) : (Host.reduce FloatOps.maximumf (res_main_while0b_v49 V0) (constant S_ .f32 0xFF800000#32) reducesTo_S1024x200_S1024_d1 h_S_ : (Proc.devRef .tc main_while0b_v50 : DevRef τ sig).ty.Contents (Elt F)) = Cert.ReferenceIdeal.Step.b5 j s := by
  unfold Cert.ReferenceIdeal.Step.b5
  rw [← al_3 h, ← al_4 h]
  try rfl
set_option maxRecDepth 8192 in
theorem al_6 (h : Holds V0 s j) : (constant S_ .f32 0xFF800000#32 : (Proc.devRef .tc main_while0b_cst_16 : DevRef τ sig).ty.Contents (Elt F)) = Cert.ReferenceIdeal.Step.b6 j s := by
  unfold Cert.ReferenceIdeal.Step.b6
  rfl
set_option maxRecDepth 8192 in
theorem al_7 (h : Holds V0 s j) : (broadcastInDim S1024 ![] bcast_S_S1024 (constant S_ .f32 0xFF800000#32) : (Proc.devRef .tc main_while0b_v51 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (maximumf (broadcastInDim S1024 ![] bcast_S_S1024 (constant S_ .f32 0xFF800000#32)) (Host.reduce FloatOps.maximumf (res_main_while0b_v49 V0) (constant S_ .f32 0xFF800000#32) reducesTo_S1024x200_S1024_d1 h_S_) : (Proc.devRef .tc main_while0b_v52 : DevRef τ sig).ty.Contents (Elt F)) = Cert.ReferenceIdeal.Step.b8 j s := by
  unfold Cert.ReferenceIdeal.Step.b8
  rw [← al_7 h, ← al_5 h]
  try rfl
set_option maxRecDepth 8192 in
theorem al_9 (h : Holds V0 s j) : (broadcastInDim S1024x1 ![0] bcast_S1024_S1024x1_0 (maximumf (broadcastInDim S1024 ![] bcast_S_S1024 (constant S_ .f32 0xFF800000#32)) (Host.reduce FloatOps.maximumf (res_main_while0b_v49 V0) (constant S_ .f32 0xFF800000#32) reducesTo_S1024x200_S1024_d1 h_S_)) : (Proc.devRef .tc main_while0b_v53 : DevRef τ sig).ty.Contents (Elt F)) = Cert.ReferenceIdeal.Step.b9 j s := by
  unfold Cert.ReferenceIdeal.Step.b9
  rw [← al_8 h]
  try rfl
set_option maxRecDepth 8192 in
theorem al_10 (h : Holds V0 s j) : (broadcastInDim S1024x200 ![0, 1] bcast_S1024x1_S1024x200_0_1 (broadcastInDim S1024x1 ![0] bcast_S1024_S1024x1_0 (maximumf (broadcastInDim S1024 ![] bcast_S_S1024 (constant S_ .f32 0xFF800000#32)) (Host.reduce FloatOps.maximumf (res_main_while0b_v49 V0) (constant S_ .f32 0xFF800000#32) reducesTo_S1024x200_S1024_d1 h_S_))) : (Proc.devRef .tc main_while0b_v54 : DevRef τ sig).ty.Contents (Elt F)) = Cert.ReferenceIdeal.Step.b10 j s := by
  unfold Cert.ReferenceIdeal.Step.b10
  rw [← al_9 h]
  try rfl
set_option maxRecDepth 8192 in
theorem al_11 (h : Holds V0 s j) : (subf (res_main_while0b_v49 V0) (broadcastInDim S1024x200 ![0, 1] bcast_S1024x1_S1024x200_0_1 (broadcastInDim S1024x1 ![0] bcast_S1024_S1024x1_0 (maximumf (broadcastInDim S1024 ![] bcast_S_S1024 (constant S_ .f32 0xFF800000#32)) (Host.reduce FloatOps.maximumf (res_main_while0b_v49 V0) (constant S_ .f32 0xFF800000#32) reducesTo_S1024x200_S1024_d1 h_S_)))) : (Proc.devRef .tc main_while0b_v55 : DevRef τ sig).ty.Contents (Elt F)) = Cert.ReferenceIdeal.Step.b11 j s := by
  unfold Cert.ReferenceIdeal.Step.b11
  rw [← al_3 h, ← al_10 h]
  try rfl
set_option maxRecDepth 8192 in
theorem al_12 (h : Holds V0 s j) : (res_main_while0b_v56 V0 : (Proc.devRef .tc main_while0b_v56 : DevRef τ sig).ty.Contents (Elt F)) = Cert.ReferenceIdeal.Step.b12 j s := by
  unfold res_main_while0b_v56 Cert.ReferenceIdeal.Step.b12
  rw [← al_11 h]
  try rfl
set_option maxRecDepth 8192 in
theorem al_13 (h : Holds V0 s j) : (constant S_ .f32 0x00000000#32 : (Proc.devRef .tc main_while0b_cst_17 : DevRef τ sig).ty.Contents (Elt F)) = Cert.ReferenceIdeal.Step.b13 j s := by
  unfold Cert.ReferenceIdeal.Step.b13
  rfl
set_option maxRecDepth 8192 in
theorem al_14 (h : Holds V0 s j) : (Host.reduceAdd (res_main_while0b_v56 V0) (constant S_ .f32 0x00000000#32) reducesTo_S1024x200_S1024_d1 h_S_ : (Proc.devRef .tc main_while0b_v57 : DevRef τ sig).ty.Contents (Elt F)) = Cert.ReferenceIdeal.Step.b14 j s := by
  unfold Cert.ReferenceIdeal.Step.b14
  rw [← al_12 h, ← al_13 h]
  try rfl
set_option maxRecDepth 8192 in
theorem al_15 (h : Holds V0 s j) : (broadcastInDim S1024x1 ![0] bcast_S1024_S1024x1_0 (Host.reduceAdd (res_main_while0b_v56 V0) (constant S_ .f32 0x00000000#32) reducesTo_S1024x200_S1024_d1 h_S_) : (Proc.devRef .tc main_while0b_v58 : DevRef τ sig).ty.Contents (Elt F)) = Cert.ReferenceIdeal.Step.b15 j s := by
  unfold Cert.ReferenceIdeal.Step.b15
  rw [← al_14 h]
  try rfl
set_option maxRecDepth 8192 in
theorem al_16 (h : Holds V0 s j) : (broadcastInDim S1024x200 ![0, 1] bcast_S1024x1_S1024x200_0_1 (broadcastInDim S1024x1 ![0] bcast_S1024_S1024x1_0 (Host.reduceAdd (res_main_while0b_v56 V0) (constant S_ .f32 0x00000000#32) reducesTo_S1024x200_S1024_d1 h_S_)) : (Proc.devRef .tc main_while0b_v59 : DevRef τ sig).ty.Contents (Elt F)) = Cert.ReferenceIdeal.Step.b16 j s := by
  unfold Cert.ReferenceIdeal.Step.b16
  rw [← al_15 h]
  try rfl
set_option maxRecDepth 8192 in
theorem al_17 (h : Holds V0 s j) : (res_main_while0b_v60 V0 : (Proc.devRef .tc main_while0b_v60 : DevRef τ sig).ty.Contents (Elt F)) = Cert.ReferenceIdeal.Step.b17 j s := by
  unfold res_main_while0b_v60 Cert.ReferenceIdeal.Step.b17
  rw [← al_12 h, ← al_16 h]
  try rfl
set_option maxRecDepth 8192 in
theorem al_18 (h : Holds V0 s j) : (res_main_while0b_call1_v0 V0 : (Proc.devRef .tc main_while0b_call1_v0 : DevRef τ sig).ty.Contents (Elt F)) = Cert.ReferenceIdeal.Step.b18 j s := by
  unfold res_main_while0b_call1_v0 Cert.ReferenceIdeal.Step.b18
  rfl
set_option maxRecDepth 8192 in
theorem al_19 (h : Holds V0 s j) : (res_main_while0b_call1_cst V0 : (Proc.devRef .tc main_while0b_call1_cst : DevRef τ sig).ty.Contents (Elt F)) = Cert.ReferenceIdeal.Step.b19 j s := by
  unfold res_main_while0b_call1_cst Cert.ReferenceIdeal.Step.b19
  rfl
set_option maxRecDepth 8192 in
theorem al_20 (h : Holds V0 s j) : (res_main_while0b_call1_c V0 : (Proc.devRef .tc main_while0b_call1_c : DevRef τ sig).ty.Contents (Elt F)) = Cert.ReferenceIdeal.Step.b20 j s := by
  unfold res_main_while0b_call1_c Cert.ReferenceIdeal.Step.b20
  rfl
set_option maxRecDepth 8192 in
theorem al_21 (h : Holds V0 s j) : ((fun j => (Host.argReduce reducer_argmax_f32_i32 (res_main_while0b_v60 V0) (res_main_while0b_call1_v0 V0) (res_main_while0b_call1_cst V0) (res_main_while0b_call1_c V0) reducesTo_S1024x200_S1024_d1 h_S_ j).1) : (Proc.devRef .tc main_while0b_call1_v1_0 : DevRef τ sig).ty.Contents (Elt F)) = Cert.ReferenceIdeal.Step.b21 j s := by
  unfold Cert.ReferenceIdeal.Step.b21
  rw [← al_17 h, ← al_18 h, ← al_19 h, ← al_20 h]
  try rfl
set_option maxRecDepth 8192 in
theorem al_22 (h : Holds V0 s j) : (res_main_while0b_v61 V0 : (Proc.devRef .tc main_while0b_v61 : DevRef τ sig).ty.Contents (Elt F)) = Cert.ReferenceIdeal.Step.b22 j s := by
  unfold res_main_while0b_v61 Cert.ReferenceIdeal.Step.b22
  rw [← al_17 h, ← al_18 h, ← al_19 h, ← al_20 h]
  try rfl
set_option maxRecDepth 8192 in
theorem al_23 (h : Holds V0 s j) : (res_main_while0b_v62 V0 : (Proc.devRef .tc main_while0b_v62 : DevRef τ sig).ty.Contents (Elt F)) = Cert.ReferenceIdeal.Step.b23 j s := by
  unfold res_main_while0b_v62 Cert.ReferenceIdeal.Step.b23
  rw [← al_22 h]
  try rfl
set_option maxRecDepth 8192 in
theorem al_24 (h : Holds V0 s j) : (constantI S_ 32 0#32 : (Proc.devRef .tc main_while0b_call2_c : DevRef τ sig).ty.Contents (Elt F)) = Cert.ReferenceIdeal.Step.b24 j s := by
  unfold Cert.ReferenceIdeal.Step.b24
  rfl
set_option maxRecDepth 8192 in
theorem al_25 (h : Holds V0 s j) : (broadcastInDim S1024x1 ![] bcast_S_S1024x1 (constantI S_ 32 0#32) : (Proc.devRef .tc main_while0b_call2_v0 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (cmpi .slt (res_main_while0b_v62 V0) (broadcastInDim S1024x1 ![] bcast_S_S1024x1 (constantI S_ 32 0#32)) : (Proc.devRef .tc main_while0b_call2_v1 : DevRef τ sig).ty.Contents (Elt F)) = Cert.ReferenceIdeal.Step.b26 j s := by
  unfold Cert.ReferenceIdeal.Step.b26
  rw [← al_23 h, ← al_25 h]
  try rfl
set_option maxRecDepth 8192 in
theorem al_27 (h : Holds V0 s j) : (constantI S_ 32 200#32 : (Proc.devRef .tc main_while0b_call2_c_0 : DevRef τ sig).ty.Contents (Elt F)) = Cert.ReferenceIdeal.Step.b27 j s := by
  unfold Cert.ReferenceIdeal.Step.b27
  rfl
set_option maxRecDepth 8192 in
theorem al_28 (h : Holds V0 s j) : (broadcastInDim S1024x1 ![] bcast_S_S1024x1 (constantI S_ 32 200#32) : (Proc.devRef .tc main_while0b_call2_v2 : DevRef τ sig).ty.Contents (Elt F)) = Cert.ReferenceIdeal.Step.b28 j s := by
  unfold Cert.ReferenceIdeal.Step.b28
  rw [← al_27 h]
  try rfl
set_option maxRecDepth 8192 in
theorem al_29 (h : Holds V0 s j) : (addi (res_main_while0b_v62 V0) (broadcastInDim S1024x1 ![] bcast_S_S1024x1 (constantI S_ 32 200#32)) : (Proc.devRef .tc main_while0b_call2_v3 : DevRef τ sig).ty.Contents (Elt F)) = Cert.ReferenceIdeal.Step.b29 j s := by
  unfold Cert.ReferenceIdeal.Step.b29
  rw [← al_23 h, ← al_28 h]
  try rfl
set_option maxRecDepth 8192 in
theorem al_30 (h : Holds V0 s j) : (select (cmpi .slt (res_main_while0b_v62 V0) (broadcastInDim S1024x1 ![] bcast_S_S1024x1 (constantI S_ 32 0#32))) (addi (res_main_while0b_v62 V0) (broadcastInDim S1024x1 ![] bcast_S_S1024x1 (constantI S_ 32 200#32))) (res_main_while0b_v62 V0) : (Proc.devRef .tc main_while0b_call2_v4 : DevRef τ sig).ty.Contents (Elt F)) = Cert.ReferenceIdeal.Step.b30 j s := by
  unfold Cert.ReferenceIdeal.Step.b30
  rw [← al_26 h, ← al_29 h, ← al_23 h]
  try rfl
set_option maxRecDepth 8192 in
theorem al_31 (h : Holds V0 s j) : (res_main_while0b_call2_v5 V0 : (Proc.devRef .tc main_while0b_call2_v5 : DevRef τ sig).ty.Contents (Elt F)) = Cert.ReferenceIdeal.Step.b31 j s := by
  unfold res_main_while0b_call2_v5 Cert.ReferenceIdeal.Step.b31
  rw [← al_30 h]
  try rfl
set_option maxRecDepth 8192 in
theorem al_32 (h : Holds V0 s j) : (constantI S1 32 199#32 : (Proc.devRef .tc main_while0b_call2_c_1 : DevRef τ sig).ty.Contents (Elt F)) = Cert.ReferenceIdeal.Step.b32 j s := by
  unfold Cert.ReferenceIdeal.Step.b32
  rfl
set_option maxRecDepth 8192 in
theorem al_33 (h : Holds V0 s j) : (constantI S_ 32 0#32 : (Proc.devRef .tc main_while0b_call2_c_2 : DevRef τ sig).ty.Contents (Elt F)) = Cert.ReferenceIdeal.Step.b33 j s := by
  unfold Cert.ReferenceIdeal.Step.b33
  rfl
set_option maxRecDepth 8192 in
theorem al_34 (h : Holds V0 s j) : (broadcastInDim S1024x1x1 ![] bcast_S_S1024x1x1 (constantI S_ 32 0#32) : (Proc.devRef .tc main_while0b_call2_v6 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (cmpi .sge (res_main_while0b_call2_v5 V0) (broadcastInDim S1024x1x1 ![] bcast_S_S1024x1x1 (constantI S_ 32 0#32)) : (Proc.devRef .tc main_while0b_call2_v7 : DevRef τ sig).ty.Contents (Elt F)) = Cert.ReferenceIdeal.Step.b35 j s := by
  unfold Cert.ReferenceIdeal.Step.b35
  rw [← al_31 h, ← al_34 h]
  try rfl
set_option maxRecDepth 8192 in
theorem al_36 (h : Holds V0 s j) : (broadcastInDim S1x1x1 ![2] bcast_S1_S1x1x1_2 (constantI S1 32 199#32) : (Proc.devRef .tc main_while0b_call2_v8 : DevRef τ sig).ty.Contents (Elt F)) = Cert.ReferenceIdeal.Step.b36 j s := by
  unfold Cert.ReferenceIdeal.Step.b36
  rw [← al_32 h]
  try rfl
set_option maxRecDepth 8192 in
theorem al_37 (h : Holds V0 s j) : (broadcastInDim S1024x1x1 ![0, 1, 2] bcast_S1x1x1_S1024x1x1_0_1_2 (broadcastInDim S1x1x1 ![2] bcast_S1_S1x1x1_2 (constantI S1 32 199#32)) : (Proc.devRef .tc main_while0b_call2_v9 : DevRef τ sig).ty.Contents (Elt F)) = Cert.ReferenceIdeal.Step.b37 j s := by
  unfold Cert.ReferenceIdeal.Step.b37
  rw [← al_36 h]
  try rfl
set_option maxRecDepth 8192 in
theorem al_38 (h : Holds V0 s j) : (cmpi .sle (res_main_while0b_call2_v5 V0) (broadcastInDim S1024x1x1 ![0, 1, 2] bcast_S1x1x1_S1024x1x1_0_1_2 (broadcastInDim S1x1x1 ![2] bcast_S1_S1x1x1_2 (constantI S1 32 199#32))) : (Proc.devRef .tc main_while0b_call2_v10 : DevRef τ sig).ty.Contents (Elt F)) = Cert.ReferenceIdeal.Step.b38 j s := by
  unfold Cert.ReferenceIdeal.Step.b38
  rw [← al_31 h, ← al_37 h]
  try rfl
set_option maxRecDepth 8192 in
theorem al_39 (h : Holds V0 s j) : (andi (cmpi .sge (res_main_while0b_call2_v5 V0) (broadcastInDim S1024x1x1 ![] bcast_S_S1024x1x1 (constantI S_ 32 0#32))) (cmpi .sle (res_main_while0b_call2_v5 V0) (broadcastInDim S1024x1x1 ![0, 1, 2] bcast_S1x1x1_S1024x1x1_0_1_2 (broadcastInDim S1x1x1 ![2] bcast_S1_S1x1x1_2 (constantI S1 32 199#32)))) : (Proc.devRef .tc main_while0b_call2_v11 : DevRef τ sig).ty.Contents (Elt F)) = Cert.ReferenceIdeal.Step.b39 j s := by
  unfold Cert.ReferenceIdeal.Step.b39
  rw [← al_35 h, ← al_38 h]
  try rfl
set_option maxRecDepth 8192 in
theorem al_40 (h : Holds V0 s j) : (constantI S_ 1 1#1 : (Proc.devRef .tc main_while0b_call2_c_3 : DevRef τ sig).ty.Contents (Elt F)) = Cert.ReferenceIdeal.Step.b40 j s := by
  unfold Cert.ReferenceIdeal.Step.b40
  rfl
set_option maxRecDepth 8192 in
theorem al_41 (h : Holds V0 s j) : (Host.reduce IntOp.andi (andi (cmpi .sge (res_main_while0b_call2_v5 V0) (broadcastInDim S1024x1x1 ![] bcast_S_S1024x1x1 (constantI S_ 32 0#32))) (cmpi .sle (res_main_while0b_call2_v5 V0) (broadcastInDim S1024x1x1 ![0, 1, 2] bcast_S1x1x1_S1024x1x1_0_1_2 (broadcastInDim S1x1x1 ![2] bcast_S1_S1x1x1_2 (constantI S1 32 199#32))))) (constantI S_ 1 1#1) reducesTo_S1024x1x1_S1024x1_d2 h_S_ : (Proc.devRef .tc main_while0b_call2_v12 : DevRef τ sig).ty.Contents (Elt F)) = Cert.ReferenceIdeal.Step.b41 j s := by
  unfold Cert.ReferenceIdeal.Step.b41
  rw [← al_39 h, ← al_40 h]
  try rfl
set_option maxRecDepth 8192 in
theorem al_42 (h : Holds V0 s j) : (Host.gather gather_S1024x200_S1024x1x1_S1024x1_n_1_0_0_1_2_11 (res_main_while0b_v60 V0) (res_main_while0b_call2_v5 V0) : (Proc.devRef .tc main_while0b_call2_v13 : DevRef τ sig).ty.Contents (Elt F)) = Cert.ReferenceIdeal.Step.b42 j s := by
  unfold Cert.ReferenceIdeal.Step.b42
  rw [← al_17 h, ← al_31 h]
  try rfl
set_option maxRecDepth 8192 in
theorem al_43 (h : Holds V0 s j) : (constant S_ .f32 0x7FC00000#32 : (Proc.devRef .tc main_while0b_call2_cst : DevRef τ sig).ty.Contents (Elt F)) = Cert.ReferenceIdeal.Step.b43 j s := by
  unfold Cert.ReferenceIdeal.Step.b43
  rfl
set_option maxRecDepth 8192 in
theorem al_44 (h : Holds V0 s j) : (broadcastInDim S1024x1 ![] bcast_S_S1024x1 (constant S_ .f32 0x7FC00000#32) : (Proc.devRef .tc main_while0b_call2_v14 : DevRef τ sig).ty.Contents (Elt F)) = Cert.ReferenceIdeal.Step.b44 j s := by
  unfold Cert.ReferenceIdeal.Step.b44
  rw [← al_43 h]
  try rfl
set_option maxRecDepth 8192 in
theorem al_45 (h : Holds V0 s j) : (select (Host.reduce IntOp.andi (andi (cmpi .sge (res_main_while0b_call2_v5 V0) (broadcastInDim S1024x1x1 ![] bcast_S_S1024x1x1 (constantI S_ 32 0#32))) (cmpi .sle (res_main_while0b_call2_v5 V0) (broadcastInDim S1024x1x1 ![0, 1, 2] bcast_S1x1x1_S1024x1x1_0_1_2 (broadcastInDim S1x1x1 ![2] bcast_S1_S1x1x1_2 (constantI S1 32 199#32))))) (constantI S_ 1 1#1) reducesTo_S1024x1x1_S1024x1_d2 h_S_) (Host.gather gather_S1024x200_S1024x1x1_S1024x1_n_1_0_0_1_2_11 (res_main_while0b_v60 V0) (res_main_while0b_call2_v5 V0)) (broadcastInDim S1024x1 ![] bcast_S_S1024x1 (constant S_ .f32 0x7FC00000#32)) : (Proc.devRef .tc main_while0b_v63 : DevRef τ sig).ty.Contents (Elt F)) = Cert.ReferenceIdeal.Step.b45 j s := by
  unfold Cert.ReferenceIdeal.Step.b45
  rw [← al_41 h, ← al_42 h, ← al_44 h]
  try rfl
set_option maxRecDepth 8192 in
theorem al_46 (h : Holds V0 s j) : (shapeCast S1024 (select (Host.reduce IntOp.andi (andi (cmpi .sge (res_main_while0b_call2_v5 V0) (broadcastInDim S1024x1x1 ![] bcast_S_S1024x1x1 (constantI S_ 32 0#32))) (cmpi .sle (res_main_while0b_call2_v5 V0) (broadcastInDim S1024x1x1 ![0, 1, 2] bcast_S1x1x1_S1024x1x1_0_1_2 (broadcastInDim S1x1x1 ![2] bcast_S1_S1x1x1_2 (constantI S1 32 199#32))))) (constantI S_ 1 1#1) reducesTo_S1024x1x1_S1024x1_d2 h_S_) (Host.gather gather_S1024x200_S1024x1x1_S1024x1_n_1_0_0_1_2_11 (res_main_while0b_v60 V0) (res_main_while0b_call2_v5 V0)) (broadcastInDim S1024x1 ![] bcast_S_S1024x1 (constant S_ .f32 0x7FC00000#32))) shapeCasts_S1024x1_S1024 : (Proc.devRef .tc main_while0b_v64 : DevRef τ sig).ty.Contents (Elt F)) = Cert.ReferenceIdeal.Step.b46 j s := by
  unfold Cert.ReferenceIdeal.Step.b46
  rw [← al_45 h]
  try rfl
set_option maxRecDepth 8192 in
theorem al_47 (h : Holds V0 s j) : (Host.log (shapeCast S1024 (select (Host.reduce IntOp.andi (andi (cmpi .sge (res_main_while0b_call2_v5 V0) (broadcastInDim S1024x1x1 ![] bcast_S_S1024x1x1 (constantI S_ 32 0#32))) (cmpi .sle (res_main_while0b_call2_v5 V0) (broadcastInDim S1024x1x1 ![0, 1, 2] bcast_S1x1x1_S1024x1x1_0_1_2 (broadcastInDim S1x1x1 ![2] bcast_S1_S1x1x1_2 (constantI S1 32 199#32))))) (constantI S_ 1 1#1) reducesTo_S1024x1x1_S1024x1_d2 h_S_) (Host.gather gather_S1024x200_S1024x1x1_S1024x1_n_1_0_0_1_2_11 (res_main_while0b_v60 V0) (res_main_while0b_call2_v5 V0)) (broadcastInDim S1024x1 ![] bcast_S_S1024x1 (constant S_ .f32 0x7FC00000#32))) shapeCasts_S1024x1_S1024) : (Proc.devRef .tc main_while0b_v65 : DevRef τ sig).ty.Contents (Elt F)) = Cert.ReferenceIdeal.Step.b47 j s := by
  unfold Cert.ReferenceIdeal.Step.b47
  rw [← al_46 h]
  try rfl
set_option maxRecDepth 8192 in
theorem al_48 (h : Holds V0 s j) : (constantI S_ 32 0#32 : (Proc.devRef .tc main_while0b_c_18 : DevRef τ sig).ty.Contents (Elt F)) = Cert.ReferenceIdeal.Step.b48 j s := by
  unfold Cert.ReferenceIdeal.Step.b48
  rfl
set_option maxRecDepth 8192 in
theorem al_49 (h : Holds V0 s j) : (broadcastInDim S1024 ![] bcast_S_S1024 (constantI S_ 32 0#32) : (Proc.devRef .tc main_while0b_v66 : DevRef τ sig).ty.Contents (Elt F)) = Cert.ReferenceIdeal.Step.b49 j s := by
  unfold Cert.ReferenceIdeal.Step.b49
  rw [← al_48 h]
  try rfl
set_option maxRecDepth 8192 in
theorem al_50 (h : Holds V0 s j) : (cmpi .slt (V0 (Proc.devRef .tc main_v46_1)) (broadcastInDim S1024 ![] bcast_S_S1024 (constantI S_ 32 0#32)) : (Proc.devRef .tc main_while0b_v67 : DevRef τ sig).ty.Contents (Elt F)) = Cert.ReferenceIdeal.Step.b50 j s := by
  unfold Cert.ReferenceIdeal.Step.b50
  rw [← al_49 h, h.k_1]
  try rfl
set_option maxRecDepth 8192 in
theorem al_51 (h : Holds V0 s j) : (constantI S_ 32 1024#32 : (Proc.devRef .tc main_while0b_c_19 : DevRef τ sig).ty.Contents (Elt F)) = Cert.ReferenceIdeal.Step.b51 j s := by
  unfold Cert.ReferenceIdeal.Step.b51
  rfl
set_option maxRecDepth 8192 in
theorem al_52 (h : Holds V0 s j) : (broadcastInDim S1024 ![] bcast_S_S1024 (constantI S_ 32 1024#32) : (Proc.devRef .tc main_while0b_v68 : DevRef τ sig).ty.Contents (Elt F)) = Cert.ReferenceIdeal.Step.b52 j s := by
  unfold Cert.ReferenceIdeal.Step.b52
  rw [← al_51 h]
  try rfl
set_option maxRecDepth 8192 in
theorem al_53 (h : Holds V0 s j) : (addi (V0 (Proc.devRef .tc main_v46_1)) (broadcastInDim S1024 ![] bcast_S_S1024 (constantI S_ 32 1024#32)) : (Proc.devRef .tc main_while0b_v69 : DevRef τ sig).ty.Contents (Elt F)) = Cert.ReferenceIdeal.Step.b53 j s := by
  unfold Cert.ReferenceIdeal.Step.b53
  rw [← al_52 h, h.k_1]
  try rfl
set_option maxRecDepth 8192 in
theorem al_54 (h : Holds V0 s j) : (select (cmpi .slt (V0 (Proc.devRef .tc main_v46_1)) (broadcastInDim S1024 ![] bcast_S_S1024 (constantI S_ 32 0#32))) (addi (V0 (Proc.devRef .tc main_v46_1)) (broadcastInDim S1024 ![] bcast_S_S1024 (constantI S_ 32 1024#32))) (V0 (Proc.devRef .tc main_v46_1)) : (Proc.devRef .tc main_while0b_v70 : DevRef τ sig).ty.Contents (Elt F)) = Cert.ReferenceIdeal.Step.b54 j s := by
  unfold Cert.ReferenceIdeal.Step.b54
  rw [← al_50 h, ← al_53 h, h.k_1]
  try rfl
set_option maxRecDepth 8192 in
theorem al_55 (h : Holds V0 s j) : (constantI S_ 32 0#32 : (Proc.devRef .tc main_while0b_c_20 : DevRef τ sig).ty.Contents (Elt F)) = Cert.ReferenceIdeal.Step.b55 j s := by
  unfold Cert.ReferenceIdeal.Step.b55
  rfl
set_option maxRecDepth 8192 in
theorem al_56 (h : Holds V0 s j) : (broadcastInDim S1024 ![] bcast_S_S1024 (constantI S_ 32 0#32) : (Proc.devRef .tc main_while0b_v71 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (cmpi .slt (res_main_while0b_v61 V0) (broadcastInDim S1024 ![] bcast_S_S1024 (constantI S_ 32 0#32)) : (Proc.devRef .tc main_while0b_v72 : DevRef τ sig).ty.Contents (Elt F)) = Cert.ReferenceIdeal.Step.b57 j s := by
  unfold Cert.ReferenceIdeal.Step.b57
  rw [← al_22 h, ← al_56 h]
  try rfl
set_option maxRecDepth 8192 in
theorem al_58 (h : Holds V0 s j) : (constantI S_ 32 200#32 : (Proc.devRef .tc main_while0b_c_21 : DevRef τ sig).ty.Contents (Elt F)) = Cert.ReferenceIdeal.Step.b58 j s := by
  unfold Cert.ReferenceIdeal.Step.b58
  rfl
set_option maxRecDepth 8192 in
theorem al_59 (h : Holds V0 s j) : (broadcastInDim S1024 ![] bcast_S_S1024 (constantI S_ 32 200#32) : (Proc.devRef .tc main_while0b_v73 : DevRef τ sig).ty.Contents (Elt F)) = Cert.ReferenceIdeal.Step.b59 j s := by
  unfold Cert.ReferenceIdeal.Step.b59
  rw [← al_58 h]
  try rfl
set_option maxRecDepth 8192 in
theorem al_60 (h : Holds V0 s j) : (addi (res_main_while0b_v61 V0) (broadcastInDim S1024 ![] bcast_S_S1024 (constantI S_ 32 200#32)) : (Proc.devRef .tc main_while0b_v74 : DevRef τ sig).ty.Contents (Elt F)) = Cert.ReferenceIdeal.Step.b60 j s := by
  unfold Cert.ReferenceIdeal.Step.b60
  rw [← al_22 h, ← al_59 h]
  try rfl
set_option maxRecDepth 8192 in
theorem al_61 (h : Holds V0 s j) : (select (cmpi .slt (res_main_while0b_v61 V0) (broadcastInDim S1024 ![] bcast_S_S1024 (constantI S_ 32 0#32))) (addi (res_main_while0b_v61 V0) (broadcastInDim S1024 ![] bcast_S_S1024 (constantI S_ 32 200#32))) (res_main_while0b_v61 V0) : (Proc.devRef .tc main_while0b_v75 : DevRef τ sig).ty.Contents (Elt F)) = Cert.ReferenceIdeal.Step.b61 j s := by
  unfold Cert.ReferenceIdeal.Step.b61
  rw [← al_57 h, ← al_60 h, ← al_22 h]
  try rfl
set_option maxRecDepth 8192 in
theorem al_62 (h : Holds V0 s j) : (broadcastInDim S1024x1 ![0] bcast_S1024_S1024x1_0 (select (cmpi .slt (V0 (Proc.devRef .tc main_v46_1)) (broadcastInDim S1024 ![] bcast_S_S1024 (constantI S_ 32 0#32))) (addi (V0 (Proc.devRef .tc main_v46_1)) (broadcastInDim S1024 ![] bcast_S_S1024 (constantI S_ 32 1024#32))) (V0 (Proc.devRef .tc main_v46_1))) : (Proc.devRef .tc main_while0b_v76 : DevRef τ sig).ty.Contents (Elt F)) = Cert.ReferenceIdeal.Step.b62 j s := by
  unfold Cert.ReferenceIdeal.Step.b62
  rw [← al_54 h]
  try rfl
set_option maxRecDepth 8192 in
theorem al_63 (h : Holds V0 s j) : (broadcastInDim S1024x1 ![0] bcast_S1024_S1024x1_0 (select (cmpi .slt (res_main_while0b_v61 V0) (broadcastInDim S1024 ![] bcast_S_S1024 (constantI S_ 32 0#32))) (addi (res_main_while0b_v61 V0) (broadcastInDim S1024 ![] bcast_S_S1024 (constantI S_ 32 200#32))) (res_main_while0b_v61 V0)) : (Proc.devRef .tc main_while0b_v77 : DevRef τ sig).ty.Contents (Elt F)) = Cert.ReferenceIdeal.Step.b63 j s := by
  unfold Cert.ReferenceIdeal.Step.b63
  rw [← al_61 h]
  try rfl
set_option maxRecDepth 8192 in
theorem al_64 (h : Holds V0 s j) : (concatenate S1024x2 1 [⟨S1024x1, (broadcastInDim S1024x1 ![0] bcast_S1024_S1024x1_0 (select (cmpi .slt (V0 (Proc.devRef .tc main_v46_1)) (broadcastInDim S1024 ![] bcast_S_S1024 (constantI S_ 32 0#32))) (addi (V0 (Proc.devRef .tc main_v46_1)) (broadcastInDim S1024 ![] bcast_S_S1024 (constantI S_ 32 1024#32))) (V0 (Proc.devRef .tc main_v46_1))))⟩, ⟨S1024x1, (broadcastInDim S1024x1 ![0] bcast_S1024_S1024x1_0 (select (cmpi .slt (res_main_while0b_v61 V0) (broadcastInDim S1024 ![] bcast_S_S1024 (constantI S_ 32 0#32))) (addi (res_main_while0b_v61 V0) (broadcastInDim S1024 ![] bcast_S_S1024 (constantI S_ 32 200#32))) (res_main_while0b_v61 V0)))⟩] concatenates_S1024x1_S1024x1_S1024x2_d1 : (Proc.devRef .tc main_while0b_v78 : DevRef τ sig).ty.Contents (Elt F)) = Cert.ReferenceIdeal.Step.b64 j s := by
  unfold Cert.ReferenceIdeal.Step.b64
  rw [← al_62 h, ← al_63 h]
  try rfl
set_option maxRecDepth 8192 in
theorem al_65 (h : Holds V0 s j) : (constantI S_ 1 1#1 : (Proc.devRef .tc main_while0b_c_22 : DevRef τ sig).ty.Contents (Elt F)) = Cert.ReferenceIdeal.Step.b65 j s := by
  unfold Cert.ReferenceIdeal.Step.b65
  rfl
set_option maxRecDepth 8192 in
theorem al_66 (h : Holds V0 s j) : (broadcastInDim S1024 ![] bcast_S_S1024 (constantI S_ 1 1#1) : (Proc.devRef .tc main_while0b_v79 : DevRef τ sig).ty.Contents (Elt F)) = Cert.ReferenceIdeal.Step.b66 j s := by
  unfold Cert.ReferenceIdeal.Step.b66
  rw [← al_65 h]
  try rfl
set_option maxRecDepth 8192 in
theorem al_67 (h : Holds V0 s j) : (Host.scatter scatter_S1024x200_S1024x2_S1024_n_01_01_1 (fun _ b => b) (V0 (Proc.devRef .tc main_v46_3)) (concatenate S1024x2 1 [⟨S1024x1, (broadcastInDim S1024x1 ![0] bcast_S1024_S1024x1_0 (select (cmpi .slt (V0 (Proc.devRef .tc main_v46_1)) (broadcastInDim S1024 ![] bcast_S_S1024 (constantI S_ 32 0#32))) (addi (V0 (Proc.devRef .tc main_v46_1)) (broadcastInDim S1024 ![] bcast_S_S1024 (constantI S_ 32 1024#32))) (V0 (Proc.devRef .tc main_v46_1))))⟩, ⟨S1024x1, (broadcastInDim S1024x1 ![0] bcast_S1024_S1024x1_0 (select (cmpi .slt (res_main_while0b_v61 V0) (broadcastInDim S1024 ![] bcast_S_S1024 (constantI S_ 32 0#32))) (addi (res_main_while0b_v61 V0) (broadcastInDim S1024 ![] bcast_S_S1024 (constantI S_ 32 200#32))) (res_main_while0b_v61 V0)))⟩] concatenates_S1024x1_S1024x1_S1024x2_d1) (broadcastInDim S1024 ![] bcast_S_S1024 (constantI S_ 1 1#1)) : (Proc.devRef .tc main_while0b_v80 : DevRef τ sig).ty.Contents (Elt F)) = Cert.ReferenceIdeal.Step.b67 j s := by
  unfold Cert.ReferenceIdeal.Step.b67
  rw [← al_64 h, ← al_66 h, h.f_3]
  try rfl
set_option maxRecDepth 8192 in
theorem al_68 (h : Holds V0 s j) : (broadcastInDim S1x1024 ![1] bcast_S1024_S1x1024_1 (Host.log (shapeCast S1024 (select (Host.reduce IntOp.andi (andi (cmpi .sge (res_main_while0b_call2_v5 V0) (broadcastInDim S1024x1x1 ![] bcast_S_S1024x1x1 (constantI S_ 32 0#32))) (cmpi .sle (res_main_while0b_call2_v5 V0) (broadcastInDim S1024x1x1 ![0, 1, 2] bcast_S1x1x1_S1024x1x1_0_1_2 (broadcastInDim S1x1x1 ![2] bcast_S1_S1x1x1_2 (constantI S1 32 199#32))))) (constantI S_ 1 1#1) reducesTo_S1024x1x1_S1024x1_d2 h_S_) (Host.gather gather_S1024x200_S1024x1x1_S1024x1_n_1_0_0_1_2_11 (res_main_while0b_v60 V0) (res_main_while0b_call2_v5 V0)) (broadcastInDim S1024x1 ![] bcast_S_S1024x1 (constant S_ .f32 0x7FC00000#32))) shapeCasts_S1024x1_S1024)) : (Proc.devRef .tc main_while0b_call3_v0 : DevRef τ sig).ty.Contents (Elt F)) = Cert.ReferenceIdeal.Step.b68 j s := by
  unfold Cert.ReferenceIdeal.Step.b68
  rw [← al_47 h]
  try rfl
set_option maxRecDepth 8192 in
theorem al_69 (h : Holds V0 s j) : (constantI S_ 32 0#32 : (Proc.devRef .tc main_while0b_call3_c : DevRef τ sig).ty.Contents (Elt F)) = Cert.ReferenceIdeal.Step.b69 j s := by
  unfold Cert.ReferenceIdeal.Step.b69
  rfl
set_option maxRecDepth 8192 in
theorem al_70 (h : Holds V0 s j) : (Host.dynamicUpdateSlice (V0 (Proc.devRef .tc main_v46_4)) (broadcastInDim S1x1024 ![1] bcast_S1024_S1x1024_1 (Host.log (shapeCast S1024 (select (Host.reduce IntOp.andi (andi (cmpi .sge (res_main_while0b_call2_v5 V0) (broadcastInDim S1024x1x1 ![] bcast_S_S1024x1x1 (constantI S_ 32 0#32))) (cmpi .sle (res_main_while0b_call2_v5 V0) (broadcastInDim S1024x1x1 ![0, 1, 2] bcast_S1x1x1_S1024x1x1_0_1_2 (broadcastInDim S1x1x1 ![2] bcast_S1_S1x1x1_2 (constantI S1 32 199#32))))) (constantI S_ 1 1#1) reducesTo_S1024x1x1_S1024x1_d2 h_S_) (Host.gather gather_S1024x200_S1024x1x1_S1024x1_n_1_0_0_1_2_11 (res_main_while0b_v60 V0) (res_main_while0b_call2_v5 V0)) (broadcastInDim S1024x1 ![] bcast_S_S1024x1 (constant S_ .f32 0x7FC00000#32))) shapeCasts_S1024x1_S1024))) (fun k => (((![V0 (Proc.devRef .tc main_v46_2), constantI S_ 32 0#32] : Fin 2 → (⟨S_, .i32⟩ : BufTy).Contents (Elt F))) k (Shape.Idx.first h_S_)).toInt) updateFits_S200x1024_S1x1024 : (Proc.devRef .tc main_while0b_v81 : DevRef τ sig).ty.Contents (Elt F)) = Cert.ReferenceIdeal.Step.b70 j s := by
  unfold Cert.ReferenceIdeal.Step.b70
  rw [← al_68 h, ← al_69 h, h.f_4, h.n_2]
  try rfl
set_option maxRecDepth 8192 in
theorem al_71 (h : Holds V0 s j) : (broadcastInDim S1x1024 ![1] bcast_S1024_S1x1024_1 (res_main_while0b_v61 V0) : (Proc.devRef .tc main_while0b_call4_v0 : DevRef τ sig).ty.Contents (Elt F)) = Cert.ReferenceIdeal.Step.b71 j s := by
  unfold Cert.ReferenceIdeal.Step.b71
  rw [← al_22 h]
  try rfl
set_option maxRecDepth 8192 in
theorem al_72 (h : Holds V0 s j) : (constantI S_ 32 0#32 : (Proc.devRef .tc main_while0b_call4_c : DevRef τ sig).ty.Contents (Elt F)) = Cert.ReferenceIdeal.Step.b72 j s := by
  unfold Cert.ReferenceIdeal.Step.b72
  rfl
set_option maxRecDepth 8192 in
theorem al_73 (h : Holds V0 s j) : (Host.dynamicUpdateSlice (V0 (Proc.devRef .tc main_v46_5)) (broadcastInDim S1x1024 ![1] bcast_S1024_S1x1024_1 (res_main_while0b_v61 V0)) (fun k => (((![V0 (Proc.devRef .tc main_v46_2), constantI S_ 32 0#32] : Fin 2 → (⟨S_, .i32⟩ : BufTy).Contents (Elt F))) k (Shape.Idx.first h_S_)).toInt) updateFits_S200x1024_S1x1024 : (Proc.devRef .tc main_while0b_v82 : DevRef τ sig).ty.Contents (Elt F)) = Cert.ReferenceIdeal.Step.b73 j s := by
  unfold Cert.ReferenceIdeal.Step.b73
  rw [← al_71 h, ← al_72 h, h.f_5, h.n_2]
  try rfl

/-! One trip's step of the carried values is `step`, field by field; a counter steps to the next number. -/

theorem step_3 (h : Holds V0 s j) : step_main_v46_3 V0 = (step j s).main_v46_3 := by
  unfold step_main_v46_3
  rw [Cert.ReferenceIdeal.Step.step_main_v46_3, id_eq]
  exact al_67 h
theorem step_4 (h : Holds V0 s j) : step_main_v46_4 V0 = (step j s).main_v46_4 := by
  unfold step_main_v46_4
  rw [Cert.ReferenceIdeal.Step.step_main_v46_4, id_eq]
  exact al_70 h
theorem step_5 (h : Holds V0 s j) : step_main_v46_5 V0 = (step j s).main_v46_5 := by
  unfold step_main_v46_5
  rw [Cert.ReferenceIdeal.Step.step_main_v46_5, id_eq]
  exact al_73 h
theorem step_2 (h : Holds V0 s j) : step_main_v46_2 V0 = constantI S_ 32 (BitVec.ofNat 32 (j + 1)) := by
  unfold step_main_v46_2
  rw [h.n_2]
  funext i
  show BitVec.ofNat 32 j + 1#32 = BitVec.ofNat 32 (j + 1)
  simp only [BitVec.ofNat_add]

set_option maxRecDepth 8192 in
theorem out_main_v47_holds (h : Holds V0 s j) : out_main_v47 V0 = Cert.ReferenceIdeal.Step.R_main_v47 s := by
  unfold out_main_v47 Cert.ReferenceIdeal.Step.R_main_v47
  rw [h.f_4]
  try rfl

set_option maxRecDepth 8192 in
theorem out_main_v48_holds (h : Holds V0 s j) : out_main_v48 V0 = Cert.ReferenceIdeal.Step.R_main_v48 s := by
  unfold out_main_v48 Cert.ReferenceIdeal.Step.R_main_v48
  rw [h.f_5]
  try rfl

theorem hs_3 (h : Holds V0 s j) : STEP V0 (Proc.devRef .tc main_v46_3) = (step j s).main_v46_3 := (STEP_main_v46_3 V0).trans (step_3 h)
theorem hs_4 (h : Holds V0 s j) : STEP V0 (Proc.devRef .tc main_v46_4) = (step j s).main_v46_4 := (STEP_main_v46_4 V0).trans (step_4 h)
theorem hs_5 (h : Holds V0 s j) : STEP V0 (Proc.devRef .tc main_v46_5) = (step j s).main_v46_5 := (STEP_main_v46_5 V0).trans (step_5 h)
theorem hs_0 (h : Holds V0 s j) : STEP V0 (Proc.devRef .tc main_v46_0) = (step j s).main_v46_0 := by
  rw [Cert.ReferenceIdeal.Step.step_main_v46_0]; exact (STEP_main_v46_0 V0).trans h.f_0
theorem hs_2 (h : Holds V0 s j) : STEP V0 (Proc.devRef .tc main_v46_2) = constantI S_ 32 (BitVec.ofNat 32 (j + 1)) := (STEP_main_v46_2 V0).trans (step_2 h)
theorem hs_1 (h : Holds V0 s j) : STEP V0 (Proc.devRef .tc main_v46_1) = Cert.ReferenceIdeal.Step.K_main_v42 (F := F) := (STEP_main_v46_1 V0).trans h.k_1

/-- One trip keeps the valuation holding: `step` of the state, the same set-up values, the next number. -/
theorem holds_step (h : Holds V0 s j) : Holds (STEP V0) (step j s) (j + 1) :=
  ⟨hs_3 h, hs_4 h, hs_5 h, hs_0 h, hs_2 h, hs_1 h⟩

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg3)) (m ((c.tc : Thread nD τ).loc main_arg4))

variable (m : (ℓ : Loc nD τ sig) → Buf (Elt F) ℓ) (c : Dev nD)

/-! What @main computes before the loop is its definitions. -/

set_option maxRecDepth 8192 in
theorem ek_c : (constantI S_ 32 2#32 : (Proc.devRef .tc main_c : DevRef τ sig).ty.Contents (Elt F)) = Cert.ReferenceIdeal.Step.K_main_c (F := F) := by
  unfold Cert.ReferenceIdeal.Step.K_main_c
  rfl
set_option maxRecDepth 8192 in
theorem ek_v2 : (broadcastInDim S1 ![] bcast_S_S1 (constantI S_ 32 2#32) : (Proc.devRef .tc main_v2 : DevRef τ sig).ty.Contents (Elt F)) = Cert.ReferenceIdeal.Step.K_main_v2 (F := F) := by
  unfold Cert.ReferenceIdeal.Step.K_main_v2
  rw [← ek_c]
  try rfl
set_option maxRecDepth 8192 in
theorem ek_cst : (constant S_ .f32 0x447A0000#32 : (Proc.devRef .tc main_cst : DevRef τ sig).ty.Contents (Elt F)) = Cert.ReferenceIdeal.Step.K_main_cst (F := F) := by
  unfold Cert.ReferenceIdeal.Step.K_main_cst
  rfl
set_option maxRecDepth 8192 in
theorem ek_v13 : (broadcastInDim S1024x200 ![] bcast_S_S1024x200 (constant S_ .f32 0x447A0000#32) : (Proc.devRef .tc main_v13 : DevRef τ sig).ty.Contents (Elt F)) = Cert.ReferenceIdeal.Step.K_main_v13 (F := F) := by
  unfold Cert.ReferenceIdeal.Step.K_main_v13
  rw [← ek_cst]
  try rfl
set_option maxRecDepth 8192 in
theorem ek_cst_0 : (constant S_ .f32 0x447A0000#32 : (Proc.devRef .tc main_cst_0 : DevRef τ sig).ty.Contents (Elt F)) = Cert.ReferenceIdeal.Step.K_main_cst_0 (F := F) := by
  unfold Cert.ReferenceIdeal.Step.K_main_cst_0
  rfl
set_option maxRecDepth 8192 in
theorem ek_v16 : (broadcastInDim S1024x200 ![] bcast_S_S1024x200 (constant S_ .f32 0x447A0000#32) : (Proc.devRef .tc main_v16 : DevRef τ sig).ty.Contents (Elt F)) = Cert.ReferenceIdeal.Step.K_main_v16 (F := F) := by
  unfold Cert.ReferenceIdeal.Step.K_main_v16
  rw [← ek_cst_0]
  try rfl
set_option maxRecDepth 8192 in
theorem ek_cst_1 : (constant S_ .f32 0x3F317218#32 : (Proc.devRef .tc main_cst_1 : DevRef τ sig).ty.Contents (Elt F)) = Cert.ReferenceIdeal.Step.K_main_cst_1 (F := F) := by
  unfold Cert.ReferenceIdeal.Step.K_main_cst_1
  rfl
set_option maxRecDepth 8192 in
theorem ek_v19 : (broadcastInDim S1024x200 ![] bcast_S_S1024x200 (constant S_ .f32 0x3F317218#32) : (Proc.devRef .tc main_v19 : DevRef τ sig).ty.Contents (Elt F)) = Cert.ReferenceIdeal.Step.K_main_v19 (F := F) := by
  unfold Cert.ReferenceIdeal.Step.K_main_v19
  rw [← ek_cst_1]
  try rfl
set_option maxRecDepth 8192 in
theorem ek_cst_2 : (constant S_ .f32 0x3F317218#32 : (Proc.devRef .tc main_cst_2 : DevRef τ sig).ty.Contents (Elt F)) = Cert.ReferenceIdeal.Step.K_main_cst_2 (F := F) := by
  unfold Cert.ReferenceIdeal.Step.K_main_cst_2
  rfl
set_option maxRecDepth 8192 in
theorem ek_v21 : (broadcastInDim S1024x200 ![] bcast_S_S1024x200 (constant S_ .f32 0x3F317218#32) : (Proc.devRef .tc main_v21 : DevRef τ sig).ty.Contents (Elt F)) = Cert.ReferenceIdeal.Step.K_main_v21 (F := F) := by
  unfold Cert.ReferenceIdeal.Step.K_main_v21
  rw [← ek_cst_2]
  try rfl
set_option maxRecDepth 8192 in
theorem ek_cst_3 : (constant S_ .f32 0x3F317218#32 : (Proc.devRef .tc main_cst_3 : DevRef τ sig).ty.Contents (Elt F)) = Cert.ReferenceIdeal.Step.K_main_cst_3 (F := F) := by
  unfold Cert.ReferenceIdeal.Step.K_main_cst_3
  rfl
set_option maxRecDepth 8192 in
theorem ek_v24 : (broadcastInDim S1024x200 ![] bcast_S_S1024x200 (constant S_ .f32 0x3F317218#32) : (Proc.devRef .tc main_v24 : DevRef τ sig).ty.Contents (Elt F)) = Cert.ReferenceIdeal.Step.K_main_v24 (F := F) := by
  unfold Cert.ReferenceIdeal.Step.K_main_v24
  rw [← ek_cst_3]
  try rfl
set_option maxRecDepth 8192 in
theorem ek_cst_4 : (constant S_ .f32 0x447A0000#32 : (Proc.devRef .tc main_cst_4 : DevRef τ sig).ty.Contents (Elt F)) = Cert.ReferenceIdeal.Step.K_main_cst_4 (F := F) := by
  unfold Cert.ReferenceIdeal.Step.K_main_cst_4
  rfl
set_option maxRecDepth 8192 in
theorem ek_v35 : (broadcastInDim S1024x200x3 ![] bcast_S_S1024x200x3 (constant S_ .f32 0x447A0000#32) : (Proc.devRef .tc main_v35 : DevRef τ sig).ty.Contents (Elt F)) = Cert.ReferenceIdeal.Step.K_main_v35 (F := F) := by
  unfold Cert.ReferenceIdeal.Step.K_main_v35
  rw [← ek_cst_4]
  try rfl
set_option maxRecDepth 8192 in
theorem en_v0 : (extractStridedSlice S1024x200x1 ![0, 0, 0] (m ((c.tc : Thread nD τ).loc main_arg0)) slices_S1024x200x3_S1024x200x1_0_0_0 : (Proc.devRef .tc main_v0 : DevRef τ sig).ty.Contents (Elt F)) = Cert.ReferenceIdeal.Step.A_main_v0 (m ((c.tc : Thread nD τ).loc main_arg0)) (m ((c.tc : Thread nD τ).loc main_arg3)) (m ((c.tc : Thread nD τ).loc main_arg4)) := by
  unfold Cert.ReferenceIdeal.Step.A_main_v0
  rfl
set_option maxRecDepth 8192 in
theorem en_v1 : (shapeCast _ (extractStridedSlice S1024x200x1 ![0, 0, 0] (m ((c.tc : Thread nD τ).loc main_arg0)) slices_S1024x200x3_S1024x200x1_0_0_0) shapeCasts_S1024x200x1_S1024x200 : (Proc.devRef .tc main_v1 : DevRef τ sig).ty.Contents (Elt F)) = Cert.ReferenceIdeal.Step.A_main_v1 (m ((c.tc : Thread nD τ).loc main_arg0)) (m ((c.tc : Thread nD τ).loc main_arg3)) (m ((c.tc : Thread nD τ).loc main_arg4)) := by
  unfold Cert.ReferenceIdeal.Step.A_main_v1
  rw [← en_v0 m c]
  try rfl
set_option maxRecDepth 8192 in
theorem en_v3 : (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200) : (Proc.devRef .tc main_v3 : DevRef τ sig).ty.Contents (Elt F)) = Cert.ReferenceIdeal.Step.A_main_v3 (m ((c.tc : Thread nD τ).loc main_arg0)) (m ((c.tc : Thread nD τ).loc main_arg3)) (m ((c.tc : Thread nD τ).loc main_arg4)) := by
  unfold Cert.ReferenceIdeal.Step.A_main_v3
  rw [← en_v1 m c, ← ek_v2]
  try rfl
set_option maxRecDepth 8192 in
theorem en_v4 : (extractStridedSlice S1024x200x1 ![0, 0, 0] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_0 : (Proc.devRef .tc main_v4 : DevRef τ sig).ty.Contents (Elt F)) = Cert.ReferenceIdeal.Step.A_main_v4 (m ((c.tc : Thread nD τ).loc main_arg0)) (m ((c.tc : Thread nD τ).loc main_arg3)) (m ((c.tc : Thread nD τ).loc main_arg4)) := by
  unfold Cert.ReferenceIdeal.Step.A_main_v4
  rw [← en_v3 m c]
  try rfl
set_option maxRecDepth 8192 in
theorem en_v5 : (shapeCast _ (extractStridedSlice S1024x200x1 ![0, 0, 0] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_0) shapeCasts_S1024x200x1_S1024x200 : (Proc.devRef .tc main_v5 : DevRef τ sig).ty.Contents (Elt F)) = Cert.ReferenceIdeal.Step.A_main_v5 (m ((c.tc : Thread nD τ).loc main_arg0)) (m ((c.tc : Thread nD τ).loc main_arg3)) (m ((c.tc : Thread nD τ).loc main_arg4)) := by
  unfold Cert.ReferenceIdeal.Step.A_main_v5
  rw [← en_v4 m c]
  try rfl
set_option maxRecDepth 8192 in
theorem en_v6 : (extractStridedSlice S1024x200x1 ![0, 0, 1] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_1 : (Proc.devRef .tc main_v6 : DevRef τ sig).ty.Contents (Elt F)) = Cert.ReferenceIdeal.Step.A_main_v6 (m ((c.tc : Thread nD τ).loc main_arg0)) (m ((c.tc : Thread nD τ).loc main_arg3)) (m ((c.tc : Thread nD τ).loc main_arg4)) := by
  unfold Cert.ReferenceIdeal.Step.A_main_v6
  rw [← en_v3 m c]
  try rfl
set_option maxRecDepth 8192 in
theorem en_v7 : (shapeCast _ (extractStridedSlice S1024x200x1 ![0, 0, 1] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_1) shapeCasts_S1024x200x1_S1024x200 : (Proc.devRef .tc main_v7 : DevRef τ sig).ty.Contents (Elt F)) = Cert.ReferenceIdeal.Step.A_main_v7 (m ((c.tc : Thread nD τ).loc main_arg0)) (m ((c.tc : Thread nD τ).loc main_arg3)) (m ((c.tc : Thread nD τ).loc main_arg4)) := by
  unfold Cert.ReferenceIdeal.Step.A_main_v7
  rw [← en_v6 m c]
  try rfl
set_option maxRecDepth 8192 in
theorem en_v8 : (extractStridedSlice S1024x200x1 ![0, 0, 2] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_2 : (Proc.devRef .tc main_v8 : DevRef τ sig).ty.Contents (Elt F)) = Cert.ReferenceIdeal.Step.A_main_v8 (m ((c.tc : Thread nD τ).loc main_arg0)) (m ((c.tc : Thread nD τ).loc main_arg3)) (m ((c.tc : Thread nD τ).loc main_arg4)) := by
  unfold Cert.ReferenceIdeal.Step.A_main_v8
  rw [← en_v3 m c]
  try rfl
set_option maxRecDepth 8192 in
theorem en_v9 : (shapeCast _ (extractStridedSlice S1024x200x1 ![0, 0, 2] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_2) shapeCasts_S1024x200x1_S1024x200 : (Proc.devRef .tc main_v9 : DevRef τ sig).ty.Contents (Elt F)) = Cert.ReferenceIdeal.Step.A_main_v9 (m ((c.tc : Thread nD τ).loc main_arg0)) (m ((c.tc : Thread nD τ).loc main_arg3)) (m ((c.tc : Thread nD τ).loc main_arg4)) := by
  unfold Cert.ReferenceIdeal.Step.A_main_v9
  rw [← en_v8 m c]
  try rfl
set_option maxRecDepth 8192 in
theorem en_v10 : (Host.divf (shapeCast _ (extractStridedSlice S1024x200x1 ![0, 0, 1] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_1) shapeCasts_S1024x200x1_S1024x200) (shapeCast _ (extractStridedSlice S1024x200x1 ![0, 0, 0] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_0) shapeCasts_S1024x200x1_S1024x200) : (Proc.devRef .tc main_v10 : DevRef τ sig).ty.Contents (Elt F)) = Cert.ReferenceIdeal.Step.A_main_v10 (m ((c.tc : Thread nD τ).loc main_arg0)) (m ((c.tc : Thread nD τ).loc main_arg3)) (m ((c.tc : Thread nD τ).loc main_arg4)) := by
  unfold Cert.ReferenceIdeal.Step.A_main_v10
  rw [← en_v7 m c, ← en_v5 m c]
  try rfl
set_option maxRecDepth 8192 in
theorem en_v11 : (Host.divf (shapeCast _ (extractStridedSlice S1024x200x1 ![0, 0, 2] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_2) shapeCasts_S1024x200x1_S1024x200) (shapeCast _ (extractStridedSlice S1024x200x1 ![0, 0, 0] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_0) shapeCasts_S1024x200x1_S1024x200) : (Proc.devRef .tc main_v11 : DevRef τ sig).ty.Contents (Elt F)) = Cert.ReferenceIdeal.Step.A_main_v11 (m ((c.tc : Thread nD τ).loc main_arg0)) (m ((c.tc : Thread nD τ).loc main_arg3)) (m ((c.tc : Thread nD τ).loc main_arg4)) := by
  unfold Cert.ReferenceIdeal.Step.A_main_v11
  rw [← en_v9 m c, ← en_v5 m c]
  try rfl
set_option maxRecDepth 8192 in
theorem en_v12 : (subf (shapeCast _ (extractStridedSlice S1024x200x1 ![0, 0, 0] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_0) shapeCasts_S1024x200x1_S1024x200) (shapeCast _ (extractStridedSlice S1024x200x1 ![0, 0, 1] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_1) shapeCasts_S1024x200x1_S1024x200) : (Proc.devRef .tc main_v12 : DevRef τ sig).ty.Contents (Elt F)) = Cert.ReferenceIdeal.Step.A_main_v12 (m ((c.tc : Thread nD τ).loc main_arg0)) (m ((c.tc : Thread nD τ).loc main_arg3)) (m ((c.tc : Thread nD τ).loc main_arg4)) := by
  unfold Cert.ReferenceIdeal.Step.A_main_v12
  rw [← en_v5 m c, ← en_v7 m c]
  try rfl
set_option maxRecDepth 8192 in
theorem en_v14 : (Host.divf (subf (shapeCast _ (extractStridedSlice S1024x200x1 ![0, 0, 0] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_0) shapeCasts_S1024x200x1_S1024x200) (shapeCast _ (extractStridedSlice S1024x200x1 ![0, 0, 1] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_1) shapeCasts_S1024x200x1_S1024x200)) (broadcastInDim S1024x200 ![] bcast_S_S1024x200 (constant S_ .f32 0x447A0000#32)) : (Proc.devRef .tc main_v14 : DevRef τ sig).ty.Contents (Elt F)) = Cert.ReferenceIdeal.Step.A_main_v14 (m ((c.tc : Thread nD τ).loc main_arg0)) (m ((c.tc : Thread nD τ).loc main_arg3)) (m ((c.tc : Thread nD τ).loc main_arg4)) := by
  unfold Cert.ReferenceIdeal.Step.A_main_v14
  rw [← en_v12 m c, ← ek_v13]
  try rfl
set_option maxRecDepth 8192 in
theorem en_v15 : (subf (shapeCast _ (extractStridedSlice S1024x200x1 ![0, 0, 0] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_0) shapeCasts_S1024x200x1_S1024x200) (shapeCast _ (extractStridedSlice S1024x200x1 ![0, 0, 2] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_2) shapeCasts_S1024x200x1_S1024x200) : (Proc.devRef .tc main_v15 : DevRef τ sig).ty.Contents (Elt F)) = Cert.ReferenceIdeal.Step.A_main_v15 (m ((c.tc : Thread nD τ).loc main_arg0)) (m ((c.tc : Thread nD τ).loc main_arg3)) (m ((c.tc : Thread nD τ).loc main_arg4)) := by
  unfold Cert.ReferenceIdeal.Step.A_main_v15
  rw [← en_v5 m c, ← en_v9 m c]
  try rfl
set_option maxRecDepth 8192 in
theorem en_v17 : (Host.divf (subf (shapeCast _ (extractStridedSlice S1024x200x1 ![0, 0, 0] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_0) shapeCasts_S1024x200x1_S1024x200) (shapeCast _ (extractStridedSlice S1024x200x1 ![0, 0, 2] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_2) shapeCasts_S1024x200x1_S1024x200)) (broadcastInDim S1024x200 ![] bcast_S_S1024x200 (constant S_ .f32 0x447A0000#32)) : (Proc.devRef .tc main_v17 : DevRef τ sig).ty.Contents (Elt F)) = Cert.ReferenceIdeal.Step.A_main_v17 (m ((c.tc : Thread nD τ).loc main_arg0)) (m ((c.tc : Thread nD τ).loc main_arg3)) (m ((c.tc : Thread nD τ).loc main_arg4)) := by
  unfold Cert.ReferenceIdeal.Step.A_main_v17
  rw [← en_v15 m c, ← ek_v16]
  try rfl
set_option maxRecDepth 8192 in
theorem en_v18 : (Host.log (shapeCast _ (extractStridedSlice S1024x200x1 ![0, 0, 0] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_0) shapeCasts_S1024x200x1_S1024x200) : (Proc.devRef .tc main_v18 : DevRef τ sig).ty.Contents (Elt F)) = Cert.ReferenceIdeal.Step.A_main_v18 (m ((c.tc : Thread nD τ).loc main_arg0)) (m ((c.tc : Thread nD τ).loc main_arg3)) (m ((c.tc : Thread nD τ).loc main_arg4)) := by
  unfold Cert.ReferenceIdeal.Step.A_main_v18
  rw [← en_v5 m c]
  try rfl
set_option maxRecDepth 8192 in
theorem en_v20 : (Host.divf (Host.log (shapeCast _ (extractStridedSlice S1024x200x1 ![0, 0, 0] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_0) shapeCasts_S1024x200x1_S1024x200)) (broadcastInDim S1024x200 ![] bcast_S_S1024x200 (constant S_ .f32 0x3F317218#32)) : (Proc.devRef .tc main_v20 : DevRef τ sig).ty.Contents (Elt F)) = Cert.ReferenceIdeal.Step.A_main_v20 (m ((c.tc : Thread nD τ).loc main_arg0)) (m ((c.tc : Thread nD τ).loc main_arg3)) (m ((c.tc : Thread nD τ).loc main_arg4)) := by
  unfold Cert.ReferenceIdeal.Step.A_main_v20
  rw [← en_v18 m c, ← ek_v19]
  try rfl
set_option maxRecDepth 8192 in
theorem en_v22 : (Host.divf (shapeCast _ (extractStridedSlice S1024x200x1 ![0, 0, 1] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_1) shapeCasts_S1024x200x1_S1024x200) (broadcastInDim S1024x200 ![] bcast_S_S1024x200 (constant S_ .f32 0x3F317218#32)) : (Proc.devRef .tc main_v22 : DevRef τ sig).ty.Contents (Elt F)) = Cert.ReferenceIdeal.Step.A_main_v22 (m ((c.tc : Thread nD τ).loc main_arg0)) (m ((c.tc : Thread nD τ).loc main_arg3)) (m ((c.tc : Thread nD τ).loc main_arg4)) := by
  unfold Cert.ReferenceIdeal.Step.A_main_v22
  rw [← en_v7 m c, ← ek_v21]
  try rfl
set_option maxRecDepth 8192 in
theorem en_v23 : (Host.log (Host.divf (shapeCast _ (extractStridedSlice S1024x200x1 ![0, 0, 1] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_1) shapeCasts_S1024x200x1_S1024x200) (broadcastInDim S1024x200 ![] bcast_S_S1024x200 (constant S_ .f32 0x3F317218#32))) : (Proc.devRef .tc main_v23 : DevRef τ sig).ty.Contents (Elt F)) = Cert.ReferenceIdeal.Step.A_main_v23 (m ((c.tc : Thread nD τ).loc main_arg0)) (m ((c.tc : Thread nD τ).loc main_arg3)) (m ((c.tc : Thread nD τ).loc main_arg4)) := by
  unfold Cert.ReferenceIdeal.Step.A_main_v23
  rw [← en_v22 m c]
  try rfl
set_option maxRecDepth 8192 in
theorem en_v25 : (Host.divf (shapeCast _ (extractStridedSlice S1024x200x1 ![0, 0, 2] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_2) shapeCasts_S1024x200x1_S1024x200) (broadcastInDim S1024x200 ![] bcast_S_S1024x200 (constant S_ .f32 0x3F317218#32)) : (Proc.devRef .tc main_v25 : DevRef τ sig).ty.Contents (Elt F)) = Cert.ReferenceIdeal.Step.A_main_v25 (m ((c.tc : Thread nD τ).loc main_arg0)) (m ((c.tc : Thread nD τ).loc main_arg3)) (m ((c.tc : Thread nD τ).loc main_arg4)) := by
  unfold Cert.ReferenceIdeal.Step.A_main_v25
  rw [← en_v9 m c, ← ek_v24]
  try rfl
set_option maxRecDepth 8192 in
theorem en_v26 : (Host.log (Host.divf (shapeCast _ (extractStridedSlice S1024x200x1 ![0, 0, 2] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_2) shapeCasts_S1024x200x1_S1024x200) (broadcastInDim S1024x200 ![] bcast_S_S1024x200 (constant S_ .f32 0x3F317218#32))) : (Proc.devRef .tc main_v26 : DevRef τ sig).ty.Contents (Elt F)) = Cert.ReferenceIdeal.Step.A_main_v26 (m ((c.tc : Thread nD τ).loc main_arg0)) (m ((c.tc : Thread nD τ).loc main_arg3)) (m ((c.tc : Thread nD τ).loc main_arg4)) := by
  unfold Cert.ReferenceIdeal.Step.A_main_v26
  rw [← en_v25 m c]
  try rfl
set_option maxRecDepth 8192 in
theorem en_v27 : (broadcastInDim S1024x200x1 ![0, 1] bcast_S1024x200_S1024x200x1_0_1 (Host.divf (shapeCast _ (extractStridedSlice S1024x200x1 ![0, 0, 1] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_1) shapeCasts_S1024x200x1_S1024x200) (shapeCast _ (extractStridedSlice S1024x200x1 ![0, 0, 0] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_0) shapeCasts_S1024x200x1_S1024x200)) : (Proc.devRef .tc main_v27 : DevRef τ sig).ty.Contents (Elt F)) = Cert.ReferenceIdeal.Step.A_main_v27 (m ((c.tc : Thread nD τ).loc main_arg0)) (m ((c.tc : Thread nD τ).loc main_arg3)) (m ((c.tc : Thread nD τ).loc main_arg4)) := by
  unfold Cert.ReferenceIdeal.Step.A_main_v27
  rw [← en_v10 m c]
  try rfl
set_option maxRecDepth 8192 in
theorem en_v28 : (broadcastInDim S1024x200x1 ![0, 1] bcast_S1024x200_S1024x200x1_0_1 (Host.divf (shapeCast _ (extractStridedSlice S1024x200x1 ![0, 0, 2] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_2) shapeCasts_S1024x200x1_S1024x200) (shapeCast _ (extractStridedSlice S1024x200x1 ![0, 0, 0] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_0) shapeCasts_S1024x200x1_S1024x200)) : (Proc.devRef .tc main_v28 : DevRef τ sig).ty.Contents (Elt F)) = Cert.ReferenceIdeal.Step.A_main_v28 (m ((c.tc : Thread nD τ).loc main_arg0)) (m ((c.tc : Thread nD τ).loc main_arg3)) (m ((c.tc : Thread nD τ).loc main_arg4)) := by
  unfold Cert.ReferenceIdeal.Step.A_main_v28
  rw [← en_v11 m c]
  try rfl
set_option maxRecDepth 8192 in
theorem en_v29 : (broadcastInDim S1024x200x1 ![0, 1] bcast_S1024x200_S1024x200x1_0_1 (Host.divf (subf (shapeCast _ (extractStridedSlice S1024x200x1 ![0, 0, 0] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_0) shapeCasts_S1024x200x1_S1024x200) (shapeCast _ (extractStridedSlice S1024x200x1 ![0, 0, 1] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_1) shapeCasts_S1024x200x1_S1024x200)) (broadcastInDim S1024x200 ![] bcast_S_S1024x200 (constant S_ .f32 0x447A0000#32))) : (Proc.devRef .tc main_v29 : DevRef τ sig).ty.Contents (Elt F)) = Cert.ReferenceIdeal.Step.A_main_v29 (m ((c.tc : Thread nD τ).loc main_arg0)) (m ((c.tc : Thread nD τ).loc main_arg3)) (m ((c.tc : Thread nD τ).loc main_arg4)) := by
  unfold Cert.ReferenceIdeal.Step.A_main_v29
  rw [← en_v14 m c]
  try rfl
set_option maxRecDepth 8192 in
theorem en_v30 : (broadcastInDim S1024x200x1 ![0, 1] bcast_S1024x200_S1024x200x1_0_1 (Host.divf (subf (shapeCast _ (extractStridedSlice S1024x200x1 ![0, 0, 0] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_0) shapeCasts_S1024x200x1_S1024x200) (shapeCast _ (extractStridedSlice S1024x200x1 ![0, 0, 2] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_2) shapeCasts_S1024x200x1_S1024x200)) (broadcastInDim S1024x200 ![] bcast_S_S1024x200 (constant S_ .f32 0x447A0000#32))) : (Proc.devRef .tc main_v30 : DevRef τ sig).ty.Contents (Elt F)) = Cert.ReferenceIdeal.Step.A_main_v30 (m ((c.tc : Thread nD τ).loc main_arg0)) (m ((c.tc : Thread nD τ).loc main_arg3)) (m ((c.tc : Thread nD τ).loc main_arg4)) := by
  unfold Cert.ReferenceIdeal.Step.A_main_v30
  rw [← en_v17 m c]
  try rfl
set_option maxRecDepth 8192 in
theorem en_v31 : (broadcastInDim S1024x200x1 ![0, 1] bcast_S1024x200_S1024x200x1_0_1 (Host.divf (Host.log (shapeCast _ (extractStridedSlice S1024x200x1 ![0, 0, 0] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_0) shapeCasts_S1024x200x1_S1024x200)) (broadcastInDim S1024x200 ![] bcast_S_S1024x200 (constant S_ .f32 0x3F317218#32))) : (Proc.devRef .tc main_v31 : DevRef τ sig).ty.Contents (Elt F)) = Cert.ReferenceIdeal.Step.A_main_v31 (m ((c.tc : Thread nD τ).loc main_arg0)) (m ((c.tc : Thread nD τ).loc main_arg3)) (m ((c.tc : Thread nD τ).loc main_arg4)) := by
  unfold Cert.ReferenceIdeal.Step.A_main_v31
  rw [← en_v20 m c]
  try rfl
set_option maxRecDepth 8192 in
theorem en_v32 : (broadcastInDim S1024x200x1 ![0, 1] bcast_S1024x200_S1024x200x1_0_1 (Host.log (Host.divf (shapeCast _ (extractStridedSlice S1024x200x1 ![0, 0, 1] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_1) shapeCasts_S1024x200x1_S1024x200) (broadcastInDim S1024x200 ![] bcast_S_S1024x200 (constant S_ .f32 0x3F317218#32)))) : (Proc.devRef .tc main_v32 : DevRef τ sig).ty.Contents (Elt F)) = Cert.ReferenceIdeal.Step.A_main_v32 (m ((c.tc : Thread nD τ).loc main_arg0)) (m ((c.tc : Thread nD τ).loc main_arg3)) (m ((c.tc : Thread nD τ).loc main_arg4)) := by
  unfold Cert.ReferenceIdeal.Step.A_main_v32
  rw [← en_v23 m c]
  try rfl
set_option maxRecDepth 8192 in
theorem en_v33 : (broadcastInDim S1024x200x1 ![0, 1] bcast_S1024x200_S1024x200x1_0_1 (Host.log (Host.divf (shapeCast _ (extractStridedSlice S1024x200x1 ![0, 0, 2] (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) slices_S1024x200x3_S1024x200x1_0_0_2) shapeCasts_S1024x200x1_S1024x200) (broadcastInDim S1024x200 ![] bcast_S_S1024x200 (constant S_ .f32 0x3F317218#32)))) : (Proc.devRef .tc main_v33 : DevRef τ sig).ty.Contents (Elt F)) = Cert.ReferenceIdeal.Step.A_main_v33 (m ((c.tc : Thread nD τ).loc main_arg0)) (m ((c.tc : Thread nD τ).loc main_arg3)) (m ((c.tc : Thread nD τ).loc main_arg4)) := by
  unfold Cert.ReferenceIdeal.Step.A_main_v33
  rw [← en_v26 m c]
  try rfl
set_option maxRecDepth 8192 in
theorem en_v36 : (Host.divf (Host.scatter scatter_S1024x200x3_S1_S1024x200_01_2_2_0 (fun _ b => b) (m ((c.tc : Thread nD τ).loc main_arg0)) (broadcastInDim S1 ![] bcast_S_S1 (constantI S_ 32 2#32)) (shapeCast _ (extractStridedSlice S1024x200x1 ![0, 0, 0] (m ((c.tc : Thread nD τ).loc main_arg0)) slices_S1024x200x3_S1024x200x1_0_0_0) shapeCasts_S1024x200x1_S1024x200)) (broadcastInDim S1024x200x3 ![] bcast_S_S1024x200x3 (constant S_ .f32 0x447A0000#32)) : (Proc.devRef .tc main_v36 : DevRef τ sig).ty.Contents (Elt F)) = Cert.ReferenceIdeal.Step.A_main_v36 (m ((c.tc : Thread nD τ).loc main_arg0)) (m ((c.tc : Thread nD τ).loc main_arg3)) (m ((c.tc : Thread nD τ).loc main_arg4)) := by
  unfold Cert.ReferenceIdeal.Step.A_main_v36
  rw [← en_v3 m c, ← ek_v35]
  try rfl
set_option maxRecDepth 8192 in
theorem en_v39 : (shapeCast _ (m ((c.tc : Thread nD τ).loc main_arg4)) shapeCasts_S1_S_ : (Proc.devRef .tc main_v39 : DevRef τ sig).ty.Contents (Elt F)) = Cert.ReferenceIdeal.Step.A_main_v39 (m ((c.tc : Thread nD τ).loc main_arg0)) (m ((c.tc : Thread nD τ).loc main_arg3)) (m ((c.tc : Thread nD τ).loc main_arg4)) := by
  unfold Cert.ReferenceIdeal.Step.A_main_v39
  rfl
set_option maxRecDepth 8192 in
theorem en_v40 : (broadcastInDim S1024x200 ![] bcast_S_S1024x200 (shapeCast _ (m ((c.tc : Thread nD τ).loc main_arg4)) shapeCasts_S1_S_) : (Proc.devRef .tc main_v40 : DevRef τ sig).ty.Contents (Elt F)) = Cert.ReferenceIdeal.Step.A_main_v40 (m ((c.tc : Thread nD τ).loc main_arg0)) (m ((c.tc : Thread nD τ).loc main_arg3)) (m ((c.tc : Thread nD τ).loc main_arg4)) := by
  unfold Cert.ReferenceIdeal.Step.A_main_v40
  rw [← en_v39 m c]
  try rfl

set_option maxRecDepth 65536 in
set_option maxHeartbeats 300000 in
/-- What @main's operations before the loop leave: the set-up values, number 0, the initial state. -/
theorem entry_holds : Holds (entryContents preI m c) (initState m c) 0 := by
  refine ⟨?_, ?_, ?_, ?_, ?_, ?_⟩
  · rw [Cert.ReferenceIdeal.Step.init_main_v46_3]
    simp only [entryContents, afterL_cons, afterL_nil]; after_reads_simp; rfl
  · rw [Cert.ReferenceIdeal.Step.init_main_v46_4]
    simp only [entryContents, afterL_cons, afterL_nil]; after_reads_simp; rfl
  · rw [Cert.ReferenceIdeal.Step.init_main_v46_5]
    simp only [entryContents, afterL_cons, afterL_nil]; after_reads_simp; rfl
  · rw [Cert.ReferenceIdeal.Step.init_main_v46_0]
    simp only [entryContents, afterL_cons, afterL_nil]; after_reads_simp
    rw [id_eq]
    refine (congrArg₂ addf ?_ ?_ : _ = addf (Step.A_main_v38 (m (c.tc.loc main_arg0)) (m (c.tc.loc main_arg3)) (m (c.tc.loc main_arg4))) (Step.A_main_v40 (m (c.tc.loc main_arg0)) (m (c.tc.loc main_arg3)) (m (c.tc.loc main_arg4))))
    swap
    · exact en_v40 m c
    unfold Step.A_main_v38
    refine congrArg (fun z : FVec F S1024x200x10 .f32 => Host.dotGeneral dot_S1024x200x10_S10_S1024x200_2_0_01_n_n_n none z (m (c.tc.loc main_arg3))) ?_
    have h36 : upto hostOps0 (launchContents m c) 44 (Proc.devRef .tc main_v36) = Step.A_main_v36 (m (c.tc.loc main_arg0)) (m (c.tc.loc main_arg3)) (m (c.tc.loc main_arg4)) := by
      after_reads_simp
      exact en_v36 m c
    have h34 : upto hostOps0 (launchContents m c) 44 (Proc.devRef .tc main_v34) = Step.A_main_v34 (m (c.tc.loc main_arg0)) (m (c.tc.loc main_arg3)) (m (c.tc.loc main_arg4)) := by
      after_reads_simp
      have h27 : upto hostOps0 (launchContents m c) 40 (Proc.devRef .tc main_v27) = Step.A_main_v27 (m (c.tc.loc main_arg0)) (m (c.tc.loc main_arg3)) (m (c.tc.loc main_arg4)) := by
        after_reads_simp
        exact en_v27 m c
      have h28 : upto hostOps0 (launchContents m c) 40 (Proc.devRef .tc main_v28) = Step.A_main_v28 (m (c.tc.loc main_arg0)) (m (c.tc.loc main_arg3)) (m (c.tc.loc main_arg4)) := by
        after_reads_simp
        exact en_v28 m c
      have h29 : upto hostOps0 (launchContents m c) 40 (Proc.devRef .tc main_v29) = Step.A_main_v29 (m (c.tc.loc main_arg0)) (m (c.tc.loc main_arg3)) (m (c.tc.loc main_arg4)) := by
        after_reads_simp
        exact en_v29 m c
      have h30 : upto hostOps0 (launchContents m c) 40 (Proc.devRef .tc main_v30) = Step.A_main_v30 (m (c.tc.loc main_arg0)) (m (c.tc.loc main_arg3)) (m (c.tc.loc main_arg4)) := by
        after_reads_simp
        exact en_v30 m c
      have h31 : upto hostOps0 (launchContents m c) 40 (Proc.devRef .tc main_v31) = Step.A_main_v31 (m (c.tc.loc main_arg0)) (m (c.tc.loc main_arg3)) (m (c.tc.loc main_arg4)) := by
        after_reads_simp
        exact en_v31 m c
      have h32 : upto hostOps0 (launchContents m c) 40 (Proc.devRef .tc main_v32) = Step.A_main_v32 (m (c.tc.loc main_arg0)) (m (c.tc.loc main_arg3)) (m (c.tc.loc main_arg4)) := by
        after_reads_simp
        exact en_v32 m c
      have h33 : upto hostOps0 (launchContents m c) 40 (Proc.devRef .tc main_v33) = Step.A_main_v33 (m (c.tc.loc main_arg0)) (m (c.tc.loc main_arg3)) (m (c.tc.loc main_arg4)) := by
        after_reads_simp
        exact en_v33 m c
      unfold Step.A_main_v34
      rw [← h27, ← h28, ← h29, ← h30, ← h31, ← h32, ← h33]
      rfl
    unfold Step.A_main_v37
    rw [← h34, ← h36]
  · simp only [entryContents, afterL_cons, afterL_nil]; after_reads_simp; rfl
  · simp only [entryContents, afterL_cons, afterL_nil]; after_reads_simp; rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 200 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v47) = Cert.ReferenceIdeal.Step.R_main_v47 (it c 200)
      ∧ r.2.mem ((c.tc : Thread nD τ).loc main_v48) = Cert.ReferenceIdeal.Step.R_main_v48 (it c 200)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    have hk := holds_iter m c (it c) (h0 c) (hs c) 200
    ⟨(h c).1.trans (out_main_v47_holds hk), (h c).2.1.trans (out_main_v48_holds hk), (h c).2.2.1, (h c).2.2.2.1, (h c).2.2.2.2.1, (h c).2.2.2.2.2.1, (h c).2.2.2.2.2.2⟩) (Value.run m ρ)

end Cert.ReferenceIdeal.StepRun

end
-- ==== Proof.RefOps.lean ====
/-
  THE REFERENCE'S OPERATIONS READ AT AN INDEX: its two scatters, its gather, its row reductions and its argmax.
-/
module

public import proofs.«01_k».proof.ReferenceIdeal
public import proofs.«01_k».proof.Proof.Gen.ReferenceIdeal
public import proofs.«01_k».proof.Proof.Score
public import Idealize.ShloMosaic.Lib.Routing.OpsPair
public import Idealize.ShloMosaic.Lib.Routing.OpsSet
public import Idealize.ShloMosaic.Lib.IdealHost
public import Idealize.ShloMosaic.Lib.Pipeline.Value

@[expose] public section

noncomputable section

namespace Cert.Proof.RefOps

open Idealize.ShloMosaic Cert.ReferenceIdeal Cert.ReferenceIdeal.Gen

/-! ### Where the updates land -/

/-- The one element a row's pair of index words names. -/
theorem pair_lands (idx : IVec S1024x2 32) (r : Fin 1024) (r' : Fin 1024) (c : Fin 200) :
    scatter_S1024x200_S1024x2_S1024_n_01_01_1.resultIdx? (ix1 r) idx = some (ix2 r' c)
      ↔ (idx (ix2 r 0)).toInt = (r'.val : Int) ∧ (idx (ix2 r 1)).toInt = (c.val : Int) := by
  rw [Routing.resultIdx?_eq_some]
  have s0 : scatter_S1024x200_S1024x2_S1024_n_01_01_1.start (ix1 r) idx 0 = (idx (ix2 r 0)).toInt :=
    congrArg (fun y => (idx y).toInt) (show scatter_S1024x200_S1024x2_S1024_n_01_01_1.siIdx (ix1 r) ⟨0, by decide⟩ = ix2 r 0 from by
      funext b
      match b with
      | ⟨0, _⟩ => rfl
      | ⟨1, _⟩ => rfl)
  have s1 : scatter_S1024x200_S1024x2_S1024_n_01_01_1.start (ix1 r) idx 1 = (idx (ix2 r 1)).toInt :=
    congrArg (fun y => (idx y).toInt) (show scatter_S1024x200_S1024x2_S1024_n_01_01_1.siIdx (ix1 r) ⟨1, by decide⟩ = ix2 r 1 from by
      funext b
      match b with
      | ⟨0, _⟩ => rfl
      | ⟨1, _⟩ => rfl)
  have w0 : scatter_S1024x200_S1024x2_S1024_n_01_01_1.window (ix1 r) 0 = 0 := rfl
  have w1 : scatter_S1024x200_S1024x2_S1024_n_01_01_1.window (ix1 r) 1 = 0 := rfl
  constructor
  · intro h
    have h0 := h 0
    have h1 := h 1
    rw [s0, w0] at h0
    rw [s1, w1] at h1
    exact ⟨by simpa using h0, by simpa using h1⟩
  · intro h a
    match a with
    | ⟨0, _⟩ => exact (congrArg₂ (fun x (y : ℕ) => x + (y : Int)) s0 w0).trans (by simpa using h.1)
    | ⟨1, _⟩ => exact (congrArg₂ (fun x (y : ℕ) => x + (y : Int)) s1 w1).trans (by simpa using h.2)

/-- Column `k` of the operand takes the updates. -/
theorem column_lands (idx : IVec S1 32) (k : Fin 3) (hk : (idx (ix1 0)).toInt = (k.val : Int)) (r r' : Fin 1024) (i i' : Fin 200) (c : Fin 3) :
    scatter_S1024x200x3_S1_S1024x200_01_2_2_0.resultIdx? (ix2 r i) idx = some (ix3 r' i' c) ↔ r = r' ∧ i = i' ∧ k = c := by
  rw [Routing.resultIdx?_eq_some]
  have s0 : scatter_S1024x200x3_S1_S1024x200_01_2_2_0.start (ix2 r i) idx 0 = 0 := rfl
  have s1 : scatter_S1024x200x3_S1_S1024x200_01_2_2_0.start (ix2 r i) idx 1 = 0 := rfl
  have s2 : scatter_S1024x200x3_S1_S1024x200_01_2_2_0.start (ix2 r i) idx 2 = (k.val : Int) :=
    (congrArg (fun y => (idx y).toInt) (show scatter_S1024x200x3_S1_S1024x200_01_2_2_0.siIdx (ix2 r i) ⟨0, by decide⟩ = ix1 0 from by
      funext b
      match b with
      | ⟨0, _⟩ => rfl)).trans hk
  have w0 : scatter_S1024x200x3_S1_S1024x200_01_2_2_0.window (ix2 r i) 0 = r.val := rfl
  have w1 : scatter_S1024x200x3_S1_S1024x200_01_2_2_0.window (ix2 r i) 1 = i.val := rfl
  have w2 : scatter_S1024x200x3_S1_S1024x200_01_2_2_0.window (ix2 r i) 2 = 0 := rfl
  constructor
  · intro h
    have h0 : _ = (r'.val : Int) := h 0
    have h1 : _ = (i'.val : Int) := h 1
    have h2 : _ = (c.val : Int) := h 2
    rw [s0, w0] at h0
    rw [s1, w1] at h1
    rw [s2, w2] at h2
    exact ⟨Fin.ext (by omega), Fin.ext (by omega), Fin.ext (by omega)⟩
  · rintro ⟨rfl, rfl, rfl⟩ a
    match a with
    | ⟨0, _⟩ => exact (congrArg₂ (fun x (y : ℕ) => x + (y : Int)) s0 w0).trans (by simp)
    | ⟨1, _⟩ => exact (congrArg₂ (fun x (y : ℕ) => x + (y : Int)) s1 w1).trans (by simp)
    | ⟨2, _⟩ => exact (congrArg₂ (fun x (y : ℕ) => x + (y : Int)) s2 w2).trans (by simp)

/-- The scatter of one column, read at an element. -/
theorem column_scatter {α : Type} (x : S1024x200x3.Idx → α) (idx : IVec S1 32) (upd : S1024x200.Idx → α) (k : Fin 3)
    (hk : (idx (ix1 0)).toInt = (k.val : Int)) (r : Fin 1024) (i : Fin 200) (c : Fin 3) :
    Host.scatter scatter_S1024x200x3_S1_S1024x200_01_2_2_0 (fun _ b => b) x idx upd (ix3 r i c) = if c = k then upd (ix2 r i) else x (ix3 r i c) := by
  have key : ∀ j : S1024x200.Idx, scatter_S1024x200x3_S1_S1024x200_01_2_2_0.resultIdx? j idx = some (ix3 r i c) → j = ix2 r i ∧ k = c := by
    intro j hj
    rw [eq_ix2 j] at hj
    obtain ⟨h0, h1, h2⟩ := (column_lands idx k hk (j 0) r (j 1) i c).1 hj
    exact ⟨(eq_ix2 j).trans (congrArg₂ ix2 h0 h1), h2⟩
  by_cases h : c = k
  · subst h
    rw [if_pos rfl]
    exact Routing.scatter_set_hit _ x idx upd _ _ (fun j hj => congrArg upd (key j hj).1) (ix2 r i) ((column_lands idx c hk r r i i c).2 ⟨rfl, rfl, rfl⟩)
  · rw [if_neg h]
    exact Routing.scatter_set_miss _ x idx upd _ fun j hj => h (key j hj).2.symm

/-- The scatter of one element a row, read at an element. -/
theorem pair_scatter {α : Type} (x : S1024x200.Idx → α) (idx : IVec S1024x2 32) (upd : S1024.Idx → α) (w : Fin 1024 → Fin 200)
    (h0 : ∀ r, (idx (ix2 r 0)).toInt = (r.val : Int)) (h1 : ∀ r, (idx (ix2 r 1)).toInt = ((w r).val : Int)) (r : Fin 1024) (c : Fin 200) :
    Host.scatter scatter_S1024x200_S1024x2_S1024_n_01_01_1 (fun _ b => b) x idx upd (ix2 r c) = if c = w r then upd (ix1 r) else x (ix2 r c) := by
  have one : ∀ q : Fin 1024, scatter_S1024x200_S1024x2_S1024_n_01_01_1.resultIdx? (ix1 q) idx = some (ix2 r c) → q = r ∧ c = w r := by
    intro q hq
    obtain ⟨e0, e1⟩ := (pair_lands idx q r c).1 hq
    have e : q = r := Fin.ext (by rw [h0] at e0; omega)
    subst e
    exact ⟨rfl, Fin.ext (by rw [h1] at e1; omega)⟩
  have key : ∀ j : S1024.Idx, scatter_S1024x200_S1024x2_S1024_n_01_01_1.resultIdx? j idx = some (ix2 r c) → j = ix1 r ∧ c = w r := by
    intro j hj
    have h := one (j 0) ((congrArg (fun y => scatter_S1024x200_S1024x2_S1024_n_01_01_1.resultIdx? y idx) (eq_ix1 j)).symm.trans hj)
    exact ⟨(eq_ix1 j).trans (congrArg ix1 h.1), h.2⟩
  by_cases h : c = w r
  · subst h
    rw [if_pos rfl]
    exact Routing.scatter_set_hit _ x idx upd _ _ (fun j hj => congrArg upd (key j hj).1) (ix1 r) ((pair_lands idx r r (w r)).2 ⟨h0 r, h1 r⟩)
  · rw [if_neg h]
    exact Routing.scatter_set_miss _ x idx upd _ fun j hj => h (key j hj).2

/-- The gather of one element a row. -/
theorem row_gather {α : Type} (x : S1024x200.Idx → α) (idx : IVec S1024x1x1 32) (r : Fin 1024) (c : Fin 200)
    (h : (idx (ix3 r 0 0)).toInt = (c.val : Int)) :
    Host.gather gather_S1024x200_S1024x1x1_S1024x1_n_1_0_0_1_2_11 x idx (ix2 r 0) = x (ix2 r c) := by
  have hc := c.isLt
  refine congrArg x (funext fun a => Fin.ext ?_)
  match a with
  | ⟨0, _⟩ =>
    have hs : gather_S1024x200_S1024x1x1_S1024x1_n_1_0_0_1_2_11.start (ix2 r 0) idx 0 = 0 := rfl
    have hb : gather_S1024x200_S1024x1x1_S1024x1_n_1_0_0_1_2_11.batchCoord (ix2 r 0) 0 = r.val := rfl
    have ho : gather_S1024x200_S1024x1x1_S1024x1_n_1_0_0_1_2_11.offCoord (ix2 r 0) 0 = 0 := rfl
    show gather_S1024x200_S1024x1x1_S1024x1_n_1_0_0_1_2_11.start (ix2 r 0) idx 0 + gather_S1024x200_S1024x1x1_S1024x1_n_1_0_0_1_2_11.batchCoord (ix2 r 0) 0
      + gather_S1024x200_S1024x1x1_S1024x1_n_1_0_0_1_2_11.offCoord (ix2 r 0) 0 = r.val
    rw [hs, hb, ho]
    omega
  | ⟨1, _⟩ =>
    have hs : gather_S1024x200_S1024x1x1_S1024x1_n_1_0_0_1_2_11.start (ix2 r 0) idx 1 = min (idx (ix3 r 0 0)).toInt.toNat (200 - 1) :=
      congrArg (fun y => min (idx y).toInt.toNat (200 - 1)) (show gather_S1024x200_S1024x1x1_S1024x1_n_1_0_0_1_2_11.siIdx (ix2 r 0) ⟨0, by decide⟩ = ix3 r 0 0 from by
        funext b
        match b with
        | ⟨0, _⟩ => rfl
        | ⟨1, _⟩ => rfl
        | ⟨2, _⟩ => rfl)
    have hb : gather_S1024x200_S1024x1x1_S1024x1_n_1_0_0_1_2_11.batchCoord (ix2 r 0) 1 = 0 := rfl
    have ho : gather_S1024x200_S1024x1x1_S1024x1_n_1_0_0_1_2_11.offCoord (ix2 r 0) 1 = 0 := rfl
    show gather_S1024x200_S1024x1x1_S1024x1_n_1_0_0_1_2_11.start (ix2 r 0) idx 1 + gather_S1024x200_S1024x1x1_S1024x1_n_1_0_0_1_2_11.batchCoord (ix2 r 0) 1
      + gather_S1024x200_S1024x1x1_S1024x1_n_1_0_0_1_2_11.offCoord (ix2 r 0) 1 = c.val
    rw [hs, hb, ho, h]
    omega

/-! ### Row reductions -/

theorem drop_row (a : Fin 1024) (b : Fin 200) : (reducesTo_S1024x200_S1024_d1 : S1024x200.ReducesTo [1] S1024).drop (ix2 a b) = ix1 a := by
  funext c
  match c with
  | ⟨0, _⟩ => exact Fin.ext (Shape.ReducesTo.drop_apply_val_of_eq (reducesTo_S1024x200_S1024_d1 : S1024x200.ReducesTo [1] S1024) (ix2 a b) 0 0)

theorem drop_row_eq (j : S1024x200.Idx) (r : Fin 1024) (h : (reducesTo_S1024x200_S1024_d1 : S1024x200.ReducesTo [1] S1024).drop j = ix1 r) :
    ∃ b : Fin 200, j = ix2 r b := by
  have e : (reducesTo_S1024x200_S1024_d1 : S1024x200.ReducesTo [1] S1024).drop j = ix1 (j 0) :=
    (congrArg (reducesTo_S1024x200_S1024_d1 : S1024x200.ReducesTo [1] S1024).drop (eq_ix2 j)).trans (drop_row (j 0) (j 1))
  have e' : j 0 = r := congrFun (e.symm.trans h) 0
  exact ⟨j 1, (eq_ix2 j).trans (congrArg (fun q => ix2 q (j 1)) e')⟩

theorem foldl_max {ι : Type} (x : ι → EReal) (M : EReal) : ∀ (l : List ι) (init : EReal), init ≤ M → (∀ i ∈ l, x i ≤ M) → (init = M ∨ ∃ i ∈ l, x i = M) →
    l.foldl (fun r i => max r (x i)) init = M
  | [], init, _, _, h => by
    rcases h with h | ⟨i, hi, _⟩
    · exact h
    · exact absurd hi List.not_mem_nil
  | a :: l, init, hi, hl, h => by
    refine foldl_max x M l (max init (x a)) (max_le hi (hl a List.mem_cons_self)) (fun i h' => hl i (List.mem_cons_of_mem _ h')) ?_
    rcases h with h | ⟨i, hm, h⟩
    · exact .inl (h ▸ max_eq_left (h.symm ▸ hl a List.mem_cons_self))
    · rcases List.mem_cons.1 hm with rfl | hm
      · exact .inl (h ▸ max_eq_right (h.symm ▸ hi))
      · exact .inr ⟨i, hm, h⟩

/-- A row's maximum, from its greatest element. -/
theorem row_max (x : FVec Ideal S1024x200 .f32) (init : FVec Ideal S_ .f32) (r : Fin 1024) (w : Fin 200) (hi : init (Shape.Idx.first h_S_) ≤ x (ix2 r w))
    (h : ∀ j : Fin 200, x (ix2 r j) ≤ x (ix2 r w)) :
    Host.reduce FloatOps.maximumf x init reducesTo_S1024x200_S1024_d1 h_S_ (ix1 r) = x (ix2 r w) := by
  rw [Host.reduce_eq_foldl]
  refine foldl_max x (x (ix2 r w)) _ _ hi (fun j hj => ?_) (.inr ⟨ix2 r w, ?_, rfl⟩)
  · obtain ⟨b, rfl⟩ := drop_row_eq j r (of_decide_eq_true (List.mem_filter.1 hj).2)
    exact h b
  · refine List.mem_filter.2 ⟨List.mem_map.2 ⟨S1024x200.rowMajor (ix2 r w), List.mem_finRange _, Equiv.symm_apply_apply _ _⟩, decide_eq_true (drop_row r w)⟩

/-- A row's sum. -/
theorem row_sum (x : FVec Ideal S1024x200 .f32) (init : FVec Ideal S_ .f32) (r : Fin 1024) :
    Host.reduceAdd x init reducesTo_S1024x200_S1024_d1 h_S_ (ix1 r) = init (Shape.Idx.first h_S_) + ∑ j : Fin 200, x (ix2 r j) := by
  rw [ValueIdx.hostReduceAdd_apply]
  unfold Ideal.hostReduceAdd
  refine congrArg (init (Shape.Idx.first h_S_) + ·) (Finset.sum_bij (fun j _ => (ix2 r j : S1024x200.Idx)) ?_ ?_ ?_ (fun _ _ => rfl)).symm
  · intro j _
    exact Finset.mem_filter.2 ⟨Finset.mem_univ _, drop_row r j⟩
  · intro a _ b _ h
    exact ((ix2_inj _ _ _ _).1 h).2
  · intro j hj
    obtain ⟨b, rfl⟩ := drop_row_eq j r (Finset.mem_filter.1 hj).2
    exact ⟨b, Finset.mem_univ _, rfl⟩

theorem foldl_and {ι : Type} (x : ι → BitVec 1) : ∀ (l : List ι), (∀ i ∈ l, x i = 1#1) → l.foldl (fun r i => IntOp.andi r (x i)) 1#1 = 1#1
  | [], _ => rfl
  | a :: l, h => by
    rw [List.foldl_cons, h a List.mem_cons_self]
    exact foldl_and x l fun i hi => h i (List.mem_cons_of_mem _ hi)

/-- A conjunction of bits that are all set. -/
theorem all_and {s t : Shape} {axes : List (Fin s.rank)} (x : IVec s 1) (init : IVec S_ 1) (h : s.ReducesTo axes t) (j : t.Idx)
    (hi : init (Shape.Idx.first h_S_) = 1#1) (hx : ∀ i, x i = 1#1) : Host.reduce IntOp.andi x init h h_S_ j = 1#1 := by
  rw [Host.reduce_eq_foldl, hi]
  exact foldl_and x _ fun i _ => hx i

/-! ### The argmax -/

/-- A pair the reducer keeps against another, from either side. -/
def Beats (p q : EReal × BitVec 32) : Prop := q.1 < p.1 ∨ (q.1 = p.1 ∧ p.2.toInt < q.2.toInt)

theorem reducer_left (p q : Ideal .f32 × BitVec 32) (h : Beats p q) : reducer_argmax_f32_i32 (F := Ideal) p q = p := by
  obtain ⟨p1, p2⟩ := p
  obtain ⟨q1, q2⟩ := q
  unfold Beats at h
  dsimp only at h
  unfold reducer_argmax_f32_i32
  simp only [Ideal.cmpf_def, Ideal.cmp, IntOp.ori, IntOp.andi, IntOp.cmpi, Scalar.select, BitVec.slt]
  rcases h with h | ⟨rfl, h⟩
  · simp [h, h.ne']
  · simp [h]

theorem reducer_right (p q : Ideal .f32 × BitVec 32) (h : Beats p q) : reducer_argmax_f32_i32 (F := Ideal) q p = p := by
  obtain ⟨p1, p2⟩ := p
  obtain ⟨q1, q2⟩ := q
  unfold Beats at h
  dsimp only at h
  unfold reducer_argmax_f32_i32
  simp only [Ideal.cmpf_def, Ideal.cmp, IntOp.ori, IntOp.andi, IntOp.cmpi, Scalar.select, BitVec.slt]
  rcases h with h | ⟨rfl, h⟩
  · simp [h.not_gt, h.ne]
  · simp [h.not_gt]

theorem reducer_self (p : Ideal .f32 × BitVec 32) : reducer_argmax_f32_i32 (F := Ideal) p p = p := by
  obtain ⟨p1, p2⟩ := p
  unfold reducer_argmax_f32_i32
  simp [Ideal.cmpf_def, Ideal.cmp, IntOp.ori, IntOp.andi, IntOp.cmpi, Scalar.select, BitVec.slt]

theorem reducer_either (p q : Ideal .f32 × BitVec 32) : reducer_argmax_f32_i32 (F := Ideal) p q = p ∨ reducer_argmax_f32_i32 (F := Ideal) p q = q := by
  obtain ⟨p1, p2⟩ := p
  obtain ⟨q1, q2⟩ := q
  rcases lt_trichotomy p1 q1 with h | h | h
  · exact .inr (reducer_right _ _ (.inl h))
  · subst h
    rcases lt_trichotomy p2.toInt q2.toInt with h | h | h
    · exact .inl (reducer_left _ _ (.inr ⟨rfl, h⟩))
    · obtain rfl := BitVec.eq_of_toInt_eq h
      exact .inl (reducer_self _)
    · exact .inr (reducer_right _ _ (.inr ⟨rfl, h⟩))
  · exact .inl (reducer_left _ _ (.inl h))

theorem foldl_argmax (p : Ideal .f32 × BitVec 32) : ∀ (l : List (Ideal .f32 × BitVec 32)) (init : Ideal .f32 × BitVec 32),
    (init = p ∨ Beats p init) → (∀ q ∈ l, q = p ∨ Beats p q) → (init = p ∨ p ∈ l) → l.foldl (reducer_argmax_f32_i32 (F := Ideal)) init = p
  | [], init, _, _, h => by simpa using h
  | a :: l, init, hi, hl, h => by
    have ha := hl a List.mem_cons_self
    rw [List.foldl_cons]
    refine foldl_argmax p l _ ?_ (fun q hq => hl q (List.mem_cons_of_mem _ hq)) ?_
    · rcases reducer_either init a with e | e <;> rw [e]
      · exact hi
      · exact ha
    · by_cases hp : init = p ∨ a = p
      · left
        rcases hp with rfl | rfl
        · rcases ha with rfl | ha
          · exact reducer_self _
          · exact reducer_left _ _ ha
        · rcases hi with rfl | hi
          · exact reducer_self _
          · exact reducer_right _ _ hi
      · push Not at hp
        rcases h with h | h
        · exact absurd h hp.1
        · rcases List.mem_cons.1 h with h | h
          · exact absurd h.symm hp.2
          · exact .inr h

/-- A row's argmax, from the element that beats the others. -/
theorem row_argmax (x : FVec Ideal S1024x200 .f32) (y : IVec S1024x200 32) (ix : FVec Ideal S_ .f32) (iy : IVec S_ 32) (r : Fin 1024) (w : Fin 200)
    (hi : Beats (x (ix2 r w), y (ix2 r w)) (ix (Shape.Idx.first h_S_), iy (Shape.Idx.first h_S_)))
    (h : ∀ j : Fin 200, j ≠ w → Beats (x (ix2 r w), y (ix2 r w)) (x (ix2 r j), y (ix2 r j))) :
    Host.argReduce (reducer_argmax_f32_i32 (F := Ideal)) x y ix iy reducesTo_S1024x200_S1024_d1 h_S_ (ix1 r) = (x (ix2 r w), y (ix2 r w)) := by
  rw [Ideal.argReduce_eq_reduce2, Host.reduce2_eq_foldl_fiber]
  refine foldl_argmax _ _ _ (.inr hi) (fun q hq => ?_) (.inr ?_)
  · unfold Host.argReduceFiber at hq
    obtain ⟨n, hn, rfl⟩ := List.mem_map.1 hq
    obtain ⟨b, hb⟩ := drop_row_eq (S1024x200.rowMajor.symm n) r (of_decide_eq_true (List.mem_filter.1 hn).2)
    rw [hb]
    by_cases e : b = w
    · exact .inl (e ▸ rfl)
    · exact .inr (h b e)
  · unfold Host.argReduceFiber
    exact List.mem_map.2 ⟨S1024x200.rowMajor (ix2 r w), List.mem_filter.2 ⟨List.mem_finRange _, decide_eq_true (by rw [Equiv.symm_apply_apply]; exact drop_row r w)⟩,
      by rw [Equiv.symm_apply_apply]⟩

/-! ### One row of the loop's arrays overwritten -/

theorem row_update {α : Type} (x : S200x1024.Idx → α) (upd : S1x1024.Idx → α) (st : Fin 2 → Int) (n : Fin 200) (h0 : st 0 = (n.val : Int)) (h1 : st 1 = 0)
    (t : Fin 200) (r : Fin 1024) :
    Host.dynamicUpdateSlice x upd st updateFits_S200x1024_S1x1024 (ix2 t r) = if t = n then upd (ix2 0 r) else x (ix2 t r) := by
  have hn := n.isLt
  have hr := r.isLt
  rw [Host.dynamicUpdateSlice_eq_updateSlice x upd st _ ![n.val, 0] (fun a => by
    match a with
    | ⟨0, _⟩ => show (min (max (st 0) 0) ((200 - 1 : ℕ) : Int)).toNat = n.val; rw [h0]; omega
    | ⟨1, _⟩ => show (min (max (st 1) 0) ((1024 - 1024 : ℕ) : Int)).toNat = 0; rw [h1]; omega)
    ⟨rfl, fun a => by
      match a with
      | ⟨0, _⟩ => show n.val + 1 ≤ 200; omega
      | ⟨1, _⟩ => show 0 + 1024 ≤ 1024; omega⟩]
  unfold updateSlice
  by_cases h : t = n
  · subst h
    rw [if_pos rfl, dif_pos]
    · refine congrArg upd (funext fun a => Fin.ext ?_)
      match a with
      | ⟨0, _⟩ => show t.val - t.val = 0; omega
      | ⟨1, _⟩ => show r.val - 0 = r.val; omega
    · intro a
      match a with
      | ⟨0, _⟩ => show t.val ≤ t.val ∧ t.val < t.val + 1; omega
      | ⟨1, _⟩ => show 0 ≤ r.val ∧ r.val < 0 + 1024; omega
  · rw [if_neg h, dif_neg]
    intro ha
    have h' : n.val ≤ t.val ∧ t.val < n.val + 1 := ha 0
    exact h (Fin.ext (by omega))

end Cert.Proof.RefOps

end
-- ==== Proof.RefRow.lean ====
/-
  ONE ROW OF THE REFERENCE'S STEP, over the extended reals: of finite scores with the items of rank below `t` masked, the
  softmax's sum, the item its argmax picks, and the logarithm of that item's probability.
-/
module

public import proofs.«01_k».proof.Proof.Score

@[expose] public section

noncomputable section

namespace Cert.Proof.RefRow

open Idealize.ShloMosaic
open Cert.Proof.Order Cert.Proof.Score

variable {n : ℕ} {v : Fin n → EReal}

/-- Every score is a real number. -/
def Finite (v : Fin n → EReal) : Prop := ∀ i, ⊥ < v i ∧ v i < ⊤

theorem Finite.real (hf : Finite v) (i : Fin n) : ∃ x : ℝ, v i = x := ⟨(v i).toReal, (EReal.coe_toReal (hf i).2.ne (hf i).1.ne').symm⟩

/-- A score of an item that is not taken before `i` is at most `i`'s. -/
theorem le_of_rank {i j : Fin n} (h : rank v i ≤ rank v j) : v j ≤ v i := by
  by_contra hc
  exact absurd (rank_lt_rank (v := v) (a := j) (b := i) (.inl (not_le.1 hc))) (not_lt.2 h)

/-- Of two items of equal score, the one of lower rank has the lower index. -/
theorem lt_of_rank {i j : Fin n} (h : rank v i < rank v j) (e : v j = v i) : i < j := by
  rcases (before_iff i j).2 h with h | ⟨_, h⟩
  · exact absurd e h.ne
  · exact h

/-- The relative exponential of item `j` when `i` is the greatest of those left. -/
def weight (v : Fin n → EReal) (i j : Fin n) : EReal := if rank v j < rank v i then 0 else Ideal.exp (v j - v i)

theorem exp_sub (hf : Finite v) (i j : Fin n) : ∃ x y : ℝ, v j = x ∧ v i = y ∧ Ideal.exp (v j - v i) = (Real.exp (x - y) : ℝ) := by
  obtain ⟨x, hx⟩ := hf.real j
  obtain ⟨y, hy⟩ := hf.real i
  refine ⟨x, y, hx, hy, ?_⟩
  rw [hx, hy, ← EReal.coe_sub]
  rfl

theorem weight_self (hf : Finite v) (i : Fin n) : weight v i i = 1 := by
  obtain ⟨x, y, hx, hy, h⟩ := exp_sub hf i i
  have e : x = y := EReal.coe_injective (hx.symm.trans hy)
  unfold weight
  rw [if_neg (lt_irrefl _), h, e, sub_self, Real.exp_zero]
  rfl

/-- Any other item's is at most one, and one only for an equal score at a greater index. -/
theorem weight_other (hf : Finite v) (i j : Fin n) (hne : j ≠ i) : weight v i j < 1 ∨ (weight v i j = 1 ∧ i < j) := by
  unfold weight
  by_cases h : rank v j < rank v i
  · rw [if_pos h]
    exact .inl zero_lt_one
  · rw [if_neg h]
    have hlt : rank v i < rank v j := lt_of_le_of_ne (not_lt.1 h) fun e => hne (rank_injective e).symm
    obtain ⟨x, y, hx, hy, e⟩ := exp_sub hf i j
    rw [e]
    have hle : v j ≤ v i := le_of_rank hlt.le
    rw [hx, hy, EReal.coe_le_coe_iff] at hle
    rcases lt_or_eq_of_le hle with hl | rfl
    · left
      rw [← EReal.coe_one, EReal.coe_lt_coe_iff, ← Real.exp_zero]
      exact Real.exp_lt_exp.2 (by linarith)
    · right
      refine ⟨by rw [sub_self, Real.exp_zero]; rfl, lt_of_rank hlt (hx.trans hy.symm)⟩

theorem weight_eq (i j : Fin n) (hf : Finite v) : weight v i j = (if j = i then 1 else 0) + (if Upto v j i then 0 else Ideal.exp (v j - v i)) := by
  by_cases h : j = i
  · subst h
    rw [weight_self hf, if_pos rfl, if_pos ((upto_iff j j).2 (.inr rfl)), add_zero]
  · rw [if_neg h, zero_add]
    unfold weight
    by_cases hr : rank v j < rank v i
    · rw [if_pos hr, if_pos ((upto_iff_rank j i).2 hr.le)]
    · rw [if_neg hr, if_neg fun hu => hr (lt_of_le_of_ne ((upto_iff_rank j i).1 hu) fun e => h (rank_injective e))]

/-- The softmax's sum. -/
theorem sum_weight (hf : Finite v) (i : Fin n) : ∑ j, weight v i j = 1 + tail v i := by
  rw [Finset.sum_congr rfl fun j _ => weight_eq i j hf, Finset.sum_add_distrib, Finset.sum_ite_eq' Finset.univ i, if_pos (Finset.mem_univ _)]
  rfl

/-- It is a real number, at least one. -/
theorem tail_real (hf : Finite v) (i : Fin n) : ∃ c : ℝ, 0 ≤ c ∧ tail v i = c := by
  unfold tail
  have key : ∀ S : Finset (Fin n), ∃ c : ℝ, 0 ≤ c ∧ (∑ j ∈ S, if Upto v j i then 0 else Ideal.exp (v j - v i)) = (c : EReal) := by
    intro S
    induction S using Finset.cons_induction with
    | empty => exact ⟨0, le_rfl, by simp⟩
    | cons a S ha ih =>
      obtain ⟨c, hc, e⟩ := ih
      rw [Finset.sum_cons, e]
      by_cases h : Upto v a i
      · exact ⟨c, hc, by rw [if_pos h, zero_add]⟩
      · obtain ⟨x, y, _, _, h'⟩ := exp_sub hf i a
        exact ⟨Real.exp (x - y) + c, add_nonneg (Real.exp_pos _).le hc, by rw [if_neg h, h', EReal.coe_add]⟩
  exact key Finset.univ

theorem div_lt_div (hf : Finite v) (i : Fin n) {a b : EReal} (h : a < b) : Ideal.div a (1 + tail v i) < Ideal.div b (1 + tail v i) := by
  obtain ⟨c, hc, e⟩ := tail_real hf i
  have e1 : (1 : EReal) + tail v i = ((1 + c : ℝ) : EReal) := by rw [e, EReal.coe_add]; rfl
  have h0 : ((1 + c : ℝ) : EReal) ≠ 0 := by
    rw [← EReal.coe_zero]
    exact fun q => absurd (EReal.coe_injective q) (by linarith)
  rw [e1]
  unfold Ideal.div
  rw [if_neg h0, if_neg h0]
  have hp : 0 < 1 + c := by linarith
  exact EReal.div_lt_div_right_of_pos (by exact_mod_cast hp) (EReal.coe_ne_top _) h

/-- The winner's probability is above `⊥`. -/
theorem bot_lt_win (hf : Finite v) (i : Fin n) : ⊥ < Ideal.div 1 (1 + tail v i) := by
  obtain ⟨c, hc, e⟩ := tail_real hf i
  have e1 : (1 : EReal) + tail v i = ((1 + c : ℝ) : EReal) := by rw [e, EReal.coe_add]; rfl
  have h0 : ((1 + c : ℝ) : EReal) ≠ 0 := by
    rw [← EReal.coe_zero]
    exact fun q => absurd (EReal.coe_injective q) (by linarith)
  rw [e1]
  unfold Ideal.div
  rw [if_neg h0, ← EReal.coe_inv, one_mul]
  exact EReal.bot_lt_coe _

/-- Its logarithm is what the kernel adds up. -/
theorem log_win (hf : Finite v) (i : Fin n) : Ideal.log (Ideal.div 1 (1 + tail v i)) = logp v i := by
  obtain ⟨c, hc, e⟩ := tail_real hf i
  have e1 : (1 : EReal) + tail v i = ((1 + c : ℝ) : EReal) := by rw [e, EReal.coe_add]; rfl
  have hp : 0 < 1 + c := by linarith
  have h0 : ((1 + c : ℝ) : EReal) ≠ 0 := by
    rw [← EReal.coe_zero]
    exact fun q => absurd (EReal.coe_injective q) hp.ne'
  unfold logp
  rw [e1]
  unfold Ideal.div
  rw [if_neg h0, ← EReal.coe_inv, one_mul]
  show (if (1 + c)⁻¹ ≤ 0 then ⊥ else ((Real.log (1 + c)⁻¹ : ℝ) : EReal)) = 0 - (if 1 + c ≤ 0 then ⊥ else ((Real.log (1 + c) : ℝ) : EReal))
  rw [if_neg (not_le.2 (inv_pos.2 hp)), if_neg (not_le.2 hp), Real.log_inv, zero_sub, EReal.coe_neg]

end Cert.Proof.RefRow

end
-- ==== Proof.RefValue.lean ====
/-
  THE REFERENCE'S RESULTS, over the extended reals: of finite scores, step `t` takes the item of rank `t`; after the 200 steps
  the two arrays are the greedy pass over the scores.
-/
module

public import proofs.«01_k».proof.Proof.RefStep
public import proofs.«01_k».proof.Proof.RefOps
public import proofs.«01_k».proof.Proof.RefRow

@[expose] public section

noncomputable section

namespace Cert.Proof.RefValue

open Idealize.ShloMosaic Cert.ReferenceIdeal Cert.ReferenceIdeal.Gen Cert.ReferenceIdeal.Step
open Cert.Proof.Order Cert.Proof.Score Cert.Proof.RefOps Cert.Proof.RefRow

theorem neg_inf : Ideal.ofBits .f32 0xFF800000#32 = ⊥ := by simp [Ideal.ofBits, Ideal.ieee]

theorem bcast_col {α : Type} (x : S1024.Idx → α) (r : Fin 1024) : broadcastInDim S1024x1 ![0] bcast_S1024_S1024x1_0 x (ix2 r 0) = x (ix1 r) :=
  broadcastInDim_apply _ _ _ _ _ fun a => by
    match a with
    | ⟨0, _⟩ => rfl

theorem bcast_wide {α : Type} (x : S1024x1.Idx → α) (r : Fin 1024) (j : Fin 200) :
    broadcastInDim S1024x200 ![0, 1] bcast_S1024x1_S1024x200_0_1 x (ix2 r j) = x (ix2 r 0) :=
  broadcastInDim_apply _ _ _ _ _ fun a => by
    match a with
    | ⟨0, _⟩ => rfl
    | ⟨1, _⟩ => rfl

theorem bcast_row {α : Type} (x : S1024.Idx → α) (r : Fin 1024) : broadcastInDim S1x1024 ![1] bcast_S1024_S1x1024_1 x (ix2 0 r) = x (ix1 r) :=
  broadcastInDim_apply _ _ _ _ _ fun a => by
    match a with
    | ⟨0, _⟩ => rfl

theorem cast_unit {α : Type} (x : S1024x1.Idx → α) (r : Fin 1024) : shapeCast S1024x1x1 x shapeCasts_S1024x1_S1024x1x1 (ix3 r 0 0) = x (ix2 r 0) :=
  shapeCast_apply _ _ _ _ (by
    rw [Shape.rowMajor_val_three, Shape.rowMajor_val_two]
    show r.val * 1 + 0 = (r.val * 1 + 0) * 1 + 0
    omega)

theorem cast_flat {α : Type} (x : S1024x1.Idx → α) (r : Fin 1024) : shapeCast S1024 x shapeCasts_S1024x1_S1024 (ix1 r) = x (ix2 r 0) :=
  shapeCast_apply _ _ _ _ (by
    rw [Shape.rowMajor_val_one, Shape.rowMajor_val_two]
    show r.val * 1 + 0 = r.val
    omega)

/-- Two columns side by side: the first, the second. -/
theorem pair_left {α : Type} (x y : S1024x1.Idx → α) (r : Fin 1024) :
    concatenate S1024x2 1 [⟨S1024x1, x⟩, ⟨S1024x1, y⟩] concatenates_S1024x1_S1024x1_S1024x2_d1 (ix2 r 0) = x (ix2 r 0) :=
  concatenate_pair_apply_left (s₁ := S1024x1) (s₂ := S1024x1) (t := S1024x2) 1 x y _ (ix2 r 0) rfl (ix2 r 0) fun a => by
    match a with
    | ⟨0, _⟩ => rfl
    | ⟨1, _⟩ => rfl

theorem pair_right {α : Type} (x y : S1024x1.Idx → α) (r : Fin 1024) :
    concatenate S1024x2 1 [⟨S1024x1, x⟩, ⟨S1024x1, y⟩] concatenates_S1024x1_S1024x1_S1024x2_d1 (ix2 r 1) = y (ix2 r 0) :=
  concatenate_pair_apply_right (s₁ := S1024x1) (s₂ := S1024x1) (t := S1024x2) 1 x y _ (ix2 r 1) rfl rfl (ix2 r 0) (fun a ha => by
    match a with
    | ⟨0, _⟩ => rfl
    | ⟨1, _⟩ => exact absurd rfl ha) rfl

theorem toInt_small (k : ℕ) (h : k < 2 ^ 31) : (BitVec.ofNat 32 k).toInt = (k : Int) := by
  rw [BitVec.toInt_eq_toNat_of_lt] <;> rw [BitVec.toNat_ofNat] <;> omega

/-- A word that is not negative, as jnp wraps it. -/
theorem wrap_small (k : ℕ) (h : k < 2 ^ 31) (a : BitVec 32) : Scalar.select (IntOp.cmpi .slt (BitVec.ofNat 32 k) 0#32) a (BitVec.ofNat 32 k) = BitVec.ofNat 32 k :=
  Routing.wrap_of_lt _ a (by rw [BitVec.toNat_ofNat]; omega)

section Step
variable (v : Fin 1024 → Fin 200 → EReal) (hf : ∀ r, Finite (v r)) (n : Fin 200) (s : State Ideal)
  (hmask : ∀ (r : Fin 1024) (j : Fin 200), s.main_v46_3 (ix2 r j) = BitVec.ofBool (decide (rank (v r) j < n.val)))
  (hbase : ∀ (r : Fin 1024) (j : Fin 200), s.main_v46_0 (ix2 r j) = v r j) (w : Fin 1024 → Fin 200) (hw : ∀ r, rank (v r) (w r) = n.val)
include hmask hbase hw hf

theorem b3_apply (r : Fin 1024) (j : Fin 200) : b3 n.val s (ix2 r j) = if rank (v r) j < rank (v r) (w r) then ⊥ else v r j := by
  have h : b3 n.val s (ix2 r j) = Scalar.select (s.main_v46_3 (ix2 r j)) (Ideal.ofBits .f32 0xFF800000#32) (s.main_v46_0 (ix2 r j)) := rfl
  rw [h, hmask, hbase, neg_inf, hw]
  by_cases c : rank (v r) j < n.val <;> simp [c, Scalar.select]

theorem b5_apply (r : Fin 1024) : b5 n.val s (ix1 r) = v r (w r) := by
  have e : b3 n.val s (ix2 r (w r)) = v r (w r) := (b3_apply v hf n s hmask hbase w hw r (w r)).trans (if_neg (lt_irrefl _))
  refine (row_max (b3 n.val s) (b4 n.val s) r (w r) ?_ fun j => ?_).trans e
  · have h : b4 n.val s (Shape.Idx.first h_S_) = Ideal.ofBits .f32 0xFF800000#32 := rfl
    rw [h, neg_inf]
    exact bot_le
  · rw [e, b3_apply v hf n s hmask hbase w hw r j]
    by_cases c : rank (v r) j < rank (v r) (w r)
    · rw [if_pos c]
      exact bot_le
    · rw [if_neg c]
      exact le_of_rank (not_lt.1 c)

theorem b10_apply (r : Fin 1024) (j : Fin 200) : b10 n.val s (ix2 r j) = v r (w r) := by
  refine (bcast_wide (b9 n.val s) r j).trans ((bcast_col (b8 n.val s) r).trans ?_)
  have h : b8 n.val s (ix1 r) = max (Ideal.ofBits .f32 0xFF800000#32) (b5 n.val s (ix1 r)) := rfl
  rw [h, b5_apply v hf n s hmask hbase w hw, neg_inf]
  exact max_eq_right bot_le

theorem b12_apply (r : Fin 1024) (j : Fin 200) : b12 n.val s (ix2 r j) = weight (v r) (w r) j := by
  have h : b12 n.val s (ix2 r j) = Ideal.exp (b3 n.val s (ix2 r j) - b10 n.val s (ix2 r j)) := rfl
  rw [h, b3_apply v hf n s hmask hbase w hw, b10_apply v hf n s hmask hbase w hw]
  unfold weight
  by_cases c : rank (v r) j < rank (v r) (w r)
  · rw [if_pos c, if_pos c]
    obtain ⟨x, hx⟩ := (hf r).real (w r)
    rw [hx]
    rfl
  · rw [if_neg c, if_neg c]

theorem b16_apply (r : Fin 1024) (j : Fin 200) : b16 n.val s (ix2 r j) = 1 + tail (v r) (w r) := by
  refine (bcast_wide (b15 n.val s) r j).trans ((bcast_col (b14 n.val s) r).trans ((row_sum (b12 n.val s) (b13 n.val s) r).trans ?_))
  have h : b13 n.val s (Shape.Idx.first h_S_) = Ideal.ofBits .f32 0x00000000#32 := rfl
  rw [h, Ideal.ofBits_zero_f32, zero_add, ← sum_weight (hf r) (w r)]
  exact Finset.sum_congr rfl fun j _ => b12_apply v hf n s hmask hbase w hw r j

theorem b17_apply (r : Fin 1024) (j : Fin 200) : b17 n.val s (ix2 r j) = Ideal.div (weight (v r) (w r) j) (1 + tail (v r) (w r)) := by
  have h : b17 n.val s (ix2 r j) = Ideal.div (b12 n.val s (ix2 r j)) (b16 n.val s (ix2 r j)) := rfl
  rw [h, b12_apply v hf n s hmask hbase w hw, b16_apply v hf n s hmask hbase w hw]

theorem b17_win (r : Fin 1024) : b17 n.val s (ix2 r (w r)) = Ideal.div 1 (1 + tail (v r) (w r)) := by
  rw [b17_apply v hf n s hmask hbase w hw, weight_self (hf r)]

/-- The argmax picks the item of rank `n`. -/
theorem b22_apply (r : Fin 1024) : b22 n.val s (ix1 r) = BitVec.ofNat 32 (w r).val := by
  have hb18 : ∀ j : Fin 200, b18 n.val s (ix2 r j) = BitVec.ofNat 32 j.val := fun _ => rfl
  have h : b22 n.val s (ix1 r) = b18 n.val s (ix2 r (w r)) := by
    refine congrArg Prod.snd (row_argmax (b17 n.val s) (b18 n.val s) (b19 n.val s) (b20 n.val s) r (w r) (.inl ?_) fun j hj => ?_)
    · have h : b19 n.val s (Shape.Idx.first h_S_) = Ideal.ofBits .f32 0xFF800000#32 := rfl
      show b19 n.val s (Shape.Idx.first h_S_) < b17 n.val s (ix2 r (w r))
      rw [h, neg_inf, b17_win v hf n s hmask hbase w hw]
      exact bot_lt_win (hf r) (w r)
    · unfold Beats
      dsimp only
      rw [b17_win v hf n s hmask hbase w hw, b17_apply v hf n s hmask hbase w hw, hb18, hb18]
      rcases weight_other (hf r) (w r) j hj with h | ⟨h, hlt⟩
      · exact .inl (div_lt_div (hf r) (w r) h)
      · right
        have h1 := (w r).isLt
        have h2 := j.isLt
        rw [h, toInt_small _ (by omega), toInt_small _ (by omega)]
        exact ⟨rfl, by exact_mod_cast hlt⟩
  exact h.trans (hb18 (w r))

theorem b30_apply (r : Fin 1024) : b30 n.val s (ix2 r 0) = BitVec.ofNat 32 (w r).val := by
  have h1 := (w r).isLt
  have e : b23 n.val s (ix2 r 0) = BitVec.ofNat 32 (w r).val := (bcast_col (b22 n.val s) r).trans (b22_apply v hf n s hmask hbase w hw r)
  have h : b30 n.val s (ix2 r 0) = Scalar.select (IntOp.cmpi .slt (b23 n.val s (ix2 r 0)) 0#32) (IntOp.addi (b23 n.val s (ix2 r 0)) 200#32) (b23 n.val s (ix2 r 0)) := rfl
  rw [h, e]
  exact wrap_small _ (by omega) _

theorem b31_apply (r : Fin 1024) : b31 n.val s (ix3 r 0 0) = BitVec.ofNat 32 (w r).val :=
  (cast_unit (b30 n.val s) r).trans (b30_apply v hf n s hmask hbase w hw r)

theorem b39_apply (r : Fin 1024) : b39 n.val s (ix3 r 0 0) = 1#1 := by
  have h1 := (w r).isLt
  have h : b39 n.val s (ix3 r 0 0) = IntOp.andi (IntOp.cmpi .sge (b31 n.val s (ix3 r 0 0)) 0#32) (IntOp.cmpi .sle (b31 n.val s (ix3 r 0 0)) 199#32) := rfl
  rw [h, b31_apply v hf n s hmask hbase w hw]
  have e : (BitVec.ofNat 32 (w r).val).toInt = ((w r).val : Int) := toInt_small _ (by omega)
  have e199 : (199#32).toInt = 199 := by decide
  have e0 : (0#32).toInt = 0 := by decide
  unfold IntOp.cmpi IntOp.andi
  simp only [BitVec.sle, e, e199, e0]
  have a1 : (0 : Int) ≤ ((w r).val : Int) := by omega
  have a2 : ((w r).val : Int) ≤ 199 := by omega
  simp [a1, a2]

theorem b47_apply (r : Fin 1024) : b47 n.val s (ix1 r) = logp (v r) (w r) := by
  have h1 := (w r).isLt
  have h41 : b41 n.val s (ix2 r 0) = 1#1 := all_and (b39 n.val s) (b40 n.val s) _ _ rfl fun i => by
    have e : i = ix3 (i 0) 0 0 := by
      funext a
      match a with
      | ⟨0, _⟩ => rfl
      | ⟨1, _⟩ => exact Subsingleton.elim (α := Fin 1) _ _
      | ⟨2, _⟩ => exact Subsingleton.elim (α := Fin 1) _ _
    exact (congrArg (b39 n.val s) e).trans (b39_apply v hf n s hmask hbase w hw (i 0))
  have h45 : b45 n.val s (ix2 r 0) = Ideal.div 1 (1 + tail (v r) (w r)) := by
    have h : b45 n.val s (ix2 r 0) = Scalar.select (b41 n.val s (ix2 r 0)) (b42 n.val s (ix2 r 0)) (b44 n.val s (ix2 r 0)) := rfl
    rw [h, h41]
    refine Eq.trans ?_ (b17_win v hf n s hmask hbase w hw r)
    exact row_gather (b17 n.val s) (b31 n.val s) r (w r)
      ((congrArg BitVec.toInt (b31_apply v hf n s hmask hbase w hw r)).trans (toInt_small _ (by omega)))
  have h : b47 n.val s (ix1 r) = Ideal.log (b46 n.val s (ix1 r)) := rfl
  rw [h, ← log_win (hf r) (w r), ← h45]
  exact congrArg Ideal.log (cast_flat (b45 n.val s) r)

theorem b64_zero (r : Fin 1024) : (b64 n.val s (ix2 r 0)).toInt = (r.val : Int) := by
  have hr := r.isLt
  have e : b62 n.val s (ix2 r 0) = BitVec.ofNat 32 r.val := (bcast_col (b54 n.val s) r).trans (wrap_small r.val (by omega) _)
  have h : b64 n.val s (ix2 r 0) = b62 n.val s (ix2 r 0) :=
    pair_left (b62 n.val s) (b63 n.val s) r
  rw [h, e]
  exact toInt_small _ (by omega)

theorem b64_one (r : Fin 1024) : (b64 n.val s (ix2 r 1)).toInt = ((w r).val : Int) := by
  have hr := (w r).isLt
  have e : b63 n.val s (ix2 r 0) = BitVec.ofNat 32 (w r).val := by
    refine (bcast_col (b61 n.val s) r).trans ?_
    have h : b61 n.val s (ix1 r) = Scalar.select (IntOp.cmpi .slt (b22 n.val s (ix1 r)) 0#32) (IntOp.addi (b22 n.val s (ix1 r)) 200#32) (b22 n.val s (ix1 r)) := rfl
    rw [h, b22_apply v hf n s hmask hbase w hw]
    exact wrap_small _ (by omega) _
  have h : b64 n.val s (ix2 r 1) = b63 n.val s (ix2 r 0) :=
    pair_right (b62 n.val s) (b63 n.val s) r
  rw [h, e]
  exact toInt_small _ (by omega)

/-- The mask after the step. -/
theorem b67_apply (r : Fin 1024) (j : Fin 200) : b67 n.val s (ix2 r j) = BitVec.ofBool (decide (rank (v r) j < n.val + 1)) := by
  refine (pair_scatter s.main_v46_3 (b64 n.val s) (b66 n.val s) w (b64_zero v hf n s hmask hbase w hw) (b64_one v hf n s hmask hbase w hw) r j).trans ?_
  by_cases c : j = w r
  · subst c
    rw [if_pos rfl, decide_eq_true (by rw [hw]; omega)]
    rfl
  · rw [if_neg c, hmask]
    have hne : rank (v r) j ≠ n.val := fun e => c (rank_injective (e.trans (hw r).symm))
    have : rank (v r) j < n.val ↔ rank (v r) j < n.val + 1 := by omega
    simp only [this]

theorem b70_apply (t : Fin 200) (r : Fin 1024) : b70 n.val s (ix2 t r) = if t = n then logp (v r) (w r) else s.main_v46_4 (ix2 t r) := by
  have hn := n.isLt
  refine (row_update s.main_v46_4 (b68 n.val s) _ n (toInt_small _ (by omega)) rfl t r).trans ?_
  exact congrArg (fun q => if t = n then q else s.main_v46_4 (ix2 t r)) ((bcast_row (b47 n.val s) r).trans (b47_apply v hf n s hmask hbase w hw r))

theorem b73_apply (t : Fin 200) (r : Fin 1024) : b73 n.val s (ix2 t r) = if t = n then BitVec.ofNat 32 (w r).val else s.main_v46_5 (ix2 t r) := by
  have hn := n.isLt
  refine (row_update s.main_v46_5 (b71 n.val s) _ n (toInt_small _ (by omega)) rfl t r).trans ?_
  exact congrArg (fun q => if t = n then q else s.main_v46_5 (ix2 t r)) ((bcast_row (b22 n.val s) r).trans (b22_apply v hf n s hmask hbase w hw r))

end Step

/-- What holds after `n` steps: the items of rank below `n` are masked, and the first `n` rows of the two results are theirs. -/
structure Inv (v : Fin 1024 → Fin 200 → EReal) (n : ℕ) (s : State Ideal) : Prop where
  mask : ∀ (r : Fin 1024) (j : Fin 200), s.main_v46_3 (ix2 r j) = BitVec.ofBool (decide (rank (v r) j < n))
  base : ∀ (r : Fin 1024) (j : Fin 200), s.main_v46_0 (ix2 r j) = v r j
  logps : ∀ (t : Fin 200) (r : Fin 1024) (i : Fin 200), rank (v r) i = t.val → t.val < n → s.main_v46_4 (ix2 t r) = logp (v r) i
  chosen : ∀ (t : Fin 200) (r : Fin 1024) (i : Fin 200), rank (v r) i = t.val → t.val < n → s.main_v46_5 (ix2 t r) = BitVec.ofNat 32 i.val

theorem Inv.init (x0 : FVec Ideal S1024x200x3 .f32) (x3 : FVec Ideal S10 .f32) (x4 : FVec Ideal S1 .f32) :
    Inv (fun r j => A_main_v41 (F := Ideal) x0 x3 x4 (ix2 r j)) 0 (init x0 x3 x4) where
  mask r j := by
    rw [init_main_v46_3, decide_eq_false (by omega)]
    rfl
  base r j := by rw [init_main_v46_0]
  logps t r i _ h := absurd h (by omega)
  chosen t r i _ h := absurd h (by omega)

theorem Inv.step {v : Fin 1024 → Fin 200 → EReal} (hf : ∀ r, Finite (v r)) (n : Fin 200) {s : State Ideal} (h : Inv v n.val s) :
    Inv v (n.val + 1) (step n.val s) := by
  choose w hw using fun r => exists_rank (v := v r) n
  refine ⟨fun r j => ?_, fun r j => ?_, fun t r i hi ht => ?_, fun t r i hi ht => ?_⟩
  · rw [step_main_v46_3]
    exact b67_apply v hf n s h.mask h.base w hw r j
  · rw [step_main_v46_0]
    exact h.base r j
  · rw [step_main_v46_4, b70_apply v hf n s h.mask h.base w hw]
    by_cases c : t = n
    · subst c
      rw [if_pos rfl, rank_injective ((hw r).trans hi.symm)]
    · rw [if_neg c]
      exact h.logps t r i hi (by have : t.val ≠ n.val := fun e => c (Fin.ext e); omega)
  · rw [step_main_v46_5, b73_apply v hf n s h.mask h.base w hw]
    by_cases c : t = n
    · subst c
      rw [if_pos rfl, rank_injective ((hw r).trans hi.symm)]
    · rw [if_neg c]
      exact h.chosen t r i hi (by have : t.val ≠ n.val := fun e => c (Fin.ext e); omega)

theorem Inv.iter {v : Fin 1024 → Fin 200 → EReal} (hf : ∀ r, Finite (v r)) (it : ℕ → State Ideal) (h0 : Inv v 0 (it 0))
    (hs : ∀ n, it (n + 1) = Step.step n (it n)) (n : ℕ) (hn : n ≤ 200) : Inv v n (it n) := by
  induction n with
  | zero => exact h0
  | succ n ih =>
    rw [hs]
    exact Inv.step hf ⟨n, by omega⟩ (ih (by omega))

/-- The two results after all the steps. -/
theorem Inv.decoded {v : Fin 1024 → Fin 200 → EReal} {s : State Ideal} (h : Inv v 200 s) : Decoded v (R_main_v47 s) (R_main_v48 s) := by
  intro r i
  have hi : rank (v r) i < 200 := rank_lt i
  constructor
  · exact (transpose_apply (s := S200x1024) (t := S1024x200) (α := EReal) [1, 0] s.main_v46_4 transposes_S200x1024_S1024x200_1_0 (ix2 r ⟨rank (v r) i, hi⟩) (ix2 ⟨rank (v r) i, hi⟩ r) fun a => by
      match a with
      | ⟨0, _⟩ => rfl
      | ⟨1, _⟩ => rfl).trans (h.logps ⟨rank (v r) i, hi⟩ r i rfl hi)
  · exact (transpose_apply (s := S200x1024) (t := S1024x200) (α := BitVec 32) [1, 0] s.main_v46_5 transposes_S200x1024_S1024x200_1_0 (ix2 r ⟨rank (v r) i, hi⟩) (ix2 ⟨rank (v r) i, hi⟩ r) fun a => by
      match a with
      | ⟨0, _⟩ => rfl
      | ⟨1, _⟩ => rfl).trans (h.chosen ⟨rank (v r) i, hi⟩ r i rfl hi)

end Cert.Proof.RefValue

end
-- ==== Proof.RefScore.lean ====
/-
  THE REFERENCE'S SCORES: its features, laid out over three axes and multiplied by the weights, are the score of each item.
-/
module

public import proofs.«01_k».proof.Proof.RefStep
public import proofs.«01_k».proof.Proof.RefOps

@[expose] public section

noncomputable section

namespace Cert.Proof.RefScore

open Idealize.ShloMosaic Cert.ReferenceIdeal Cert.ReferenceIdeal.Gen Cert.ReferenceIdeal.Step
open Cert.Proof.Score Cert.Proof.RefOps

/-- Column `k` of the three, sliced and flattened. -/
theorem column {α : Type} (k : Fin 3) (x : S1024x200x3.Idx → α) (h : S1024x200x3.Slices ![0, 0, k.val] S1024x200x1) (r : Fin 1024) (i : Fin 200) :
    shapeCast S1024x200 (extractStridedSlice S1024x200x1 ![0, 0, k.val] x h) shapeCasts_S1024x200x1_S1024x200 (ix2 r i) = x (ix3 r i k) := by
  refine (shapeCast_apply _ _ (ix2 r i) (ix3 r i 0) (by
    rw [Shape.rowMajor_val_three, Shape.rowMajor_val_two]
    show (r.val * 200 + i.val) * 1 + 0 = r.val * 200 + i.val
    omega)).trans ?_
  exact extractStridedSlice_apply _ x h _ (ix3 r i k) fun a => by
    match a with
    | ⟨0, _⟩ => exact (Nat.zero_add _).symm
    | ⟨1, _⟩ => exact (Nat.zero_add _).symm
    | ⟨2, _⟩ => rfl

theorem bcast_unit {α : Type} (x : S1024x200.Idx → α) (r : Fin 1024) (i : Fin 200) :
    broadcastInDim S1024x200x1 ![0, 1] bcast_S1024x200_S1024x200x1_0_1 x (ix3 r i 0) = x (ix2 r i) :=
  broadcastInDim_apply _ _ _ _ _ fun a => by
    match a with
    | ⟨0, _⟩ => rfl
    | ⟨1, _⟩ => rfl

theorem div_at {s : Shape} (a b : FVec Ideal s .f32) (j : s.Idx) : Host.divf a b j = Ideal.div (a j) (b j) := rfl
theorem sub_at {s : Shape} (a b : FVec Ideal s .f32) (j : s.Idx) : subf a b j = a j - b j := rfl
theorem log_at {s : Shape} (a : FVec Ideal s .f32) (j : s.Idx) : Host.log a j = Ideal.log (a j) := rfl

/-- Seven columns of one item each, side by side. -/
theorem seven {α : Type} (x0 x1 x2 x3 x4 x5 x6 : S1024x200x1.Idx → α) (r : Fin 1024) (i : Fin 200) (k : Fin 7) :
    concatenate S1024x200x7 2 [⟨S1024x200x1, x0⟩, ⟨S1024x200x1, x1⟩, ⟨S1024x200x1, x2⟩, ⟨S1024x200x1, x3⟩, ⟨S1024x200x1, x4⟩, ⟨S1024x200x1, x5⟩, ⟨S1024x200x1, x6⟩]
      concatenates_S1024x200x1_S1024x200x1_S1024x200x1_S1024x200x1_S1024x200x1_S1024x200x1_S1024x200x1_S1024x200x7_d2 (ix3 r i k)
      = (![x0, x1, x2, x3, x4, x5, x6] : Fin 7 → S1024x200x1.Idx → α) k (ix3 r i 0) := by
  have hx : ∀ h : k.val < [(⟨S1024x200x1, x0⟩ : (s : Shape) × (s.Idx → α)), ⟨S1024x200x1, x1⟩, ⟨S1024x200x1, x2⟩, ⟨S1024x200x1, x3⟩, ⟨S1024x200x1, x4⟩, ⟨S1024x200x1, x5⟩, ⟨S1024x200x1, x6⟩].length,
      [(⟨S1024x200x1, x0⟩ : (s : Shape) × (s.Idx → α)), ⟨S1024x200x1, x1⟩, ⟨S1024x200x1, x2⟩, ⟨S1024x200x1, x3⟩, ⟨S1024x200x1, x4⟩, ⟨S1024x200x1, x5⟩, ⟨S1024x200x1, x6⟩][k.val]
        = ⟨S1024x200x1, (![x0, x1, x2, x3, x4, x5, x6] : Fin 7 → S1024x200x1.Idx → α) k⟩ := by
    intro h
    fin_cases k <;> rfl
  refine concatenate_apply_piece (t := S1024x200x7) 2 [⟨S1024x200x1, x0⟩, ⟨S1024x200x1, x1⟩, ⟨S1024x200x1, x2⟩, ⟨S1024x200x1, x3⟩, ⟨S1024x200x1, x4⟩, ⟨S1024x200x1, x5⟩, ⟨S1024x200x1, x6⟩] _ (ix3 r i k) k.val k.isLt S1024x200x1 _ (hx _) rfl k.val ?_ (ix3 r i 0) (fun a ha => ?_) rfl
  · fin_cases k <;> rfl
  · match a with
    | ⟨0, _⟩ => rfl
    | ⟨1, _⟩ => rfl
    | ⟨2, _⟩ => exact absurd rfl ha

/-- Seven columns and three more. -/
theorem ten {α : Type} (x : S1024x200x7.Idx → α) (y : S1024x200x3.Idx → α) (r : Fin 1024) (i : Fin 200) :
    (∀ k : Fin 7, concatenate S1024x200x10 2 [⟨S1024x200x7, x⟩, ⟨S1024x200x3, y⟩] concatenates_S1024x200x7_S1024x200x3_S1024x200x10_d2 (ix3 r i (Fin.castAdd 3 k)) = x (ix3 r i k))
    ∧ ∀ k : Fin 3, concatenate S1024x200x10 2 [⟨S1024x200x7, x⟩, ⟨S1024x200x3, y⟩] concatenates_S1024x200x7_S1024x200x3_S1024x200x10_d2 (ix3 r i (Fin.natAdd 7 k)) = y (ix3 r i k) := by
  constructor
  · intro k
    exact concatenate_pair_apply_left (s₁ := S1024x200x7) (s₂ := S1024x200x3) (t := S1024x200x10) 2 x y _ (ix3 r i (Fin.castAdd 3 k)) rfl (ix3 r i k) fun a => by
      match a with
      | ⟨0, _⟩ => rfl
      | ⟨1, _⟩ => rfl
      | ⟨2, _⟩ => rfl
  · intro k
    exact concatenate_pair_apply_right (s₁ := S1024x200x7) (s₂ := S1024x200x3) (t := S1024x200x10) 2 x y _ (ix3 r i (Fin.natAdd 7 k)) rfl rfl (ix3 r i k) (fun a ha => by
      match a with
      | ⟨0, _⟩ => rfl
      | ⟨1, _⟩ => rfl
      | ⟨2, _⟩ => exact absurd rfl ha) (Nat.add_comm _ _)

/-- The product with the weights, as the sum over the ten features. -/
theorem weigh (x : FVec Ideal S1024x200x10 .f32) (w : FVec Ideal S10 .f32) (r : Fin 1024) (i : Fin 200) :
    Host.dotGeneral dot_S1024x200x10_S10_S1024x200_2_0_01_n_n_n none x w (ix2 r i) = ∑ k : Fin 10, x (ix3 r i k) * w (ix1 k) := by
  refine (Ideal.dotGeneral_apply dot_S1024x200x10_S10_S1024x200_2_0_01_n_n_n none _ x w (ix2 r i)).trans ?_
  rw [← Equiv.sum_comp (ValueIdx.contrEquiv1 dot_S1024x200x10_S10_S1024x200_2_0_01_n_n_n 10 rfl rfl).symm]
  refine Finset.sum_congr rfl fun k _ => ?_
  congr 1
  · refine congrArg x (funext fun a => Fin.ext ?_)
    match a with
    | ⟨0, _⟩ => rfl
    | ⟨1, _⟩ => rfl
    | ⟨2, _⟩ => rfl
  · refine congrArg w (funext fun a => Fin.ext ?_)
    match a with
    | ⟨0, _⟩ => rfl

section Args
variable (x0 : FVec Ideal S1024x200x3 .f32) (x3 : FVec Ideal S10 .f32) (x4 : FVec Ideal S1 .f32) (r : Fin 1024) (i : Fin 200)

theorem v3_apply (k : Fin 3) : A_main_v3 (F := Ideal) x0 x3 x4 (ix3 r i k) = if k = 2 then x0 (ix3 r i 0) else x0 (ix3 r i k) :=
  (column_scatter x0 (K_main_v2 (F := Ideal)) (A_main_v1 (F := Ideal) x0 x3 x4) 2 rfl r i k).trans
    (congrArg (fun q => if k = 2 then q else x0 (ix3 r i k)) (column 0 x0 slices_S1024x200x3_S1024x200x1_0_0_0 r i))

theorem v5_apply : A_main_v5 (F := Ideal) x0 x3 x4 (ix2 r i) = x0 (ix3 r i 0) :=
  (column 0 (A_main_v3 (F := Ideal) x0 x3 x4) slices_S1024x200x3_S1024x200x1_0_0_0 r i).trans (v3_apply x0 x3 x4 r i 0)
theorem v7_apply : A_main_v7 (F := Ideal) x0 x3 x4 (ix2 r i) = x0 (ix3 r i 1) :=
  (column 1 (A_main_v3 (F := Ideal) x0 x3 x4) slices_S1024x200x3_S1024x200x1_0_0_1 r i).trans (v3_apply x0 x3 x4 r i 1)
theorem v9_apply : A_main_v9 (F := Ideal) x0 x3 x4 (ix2 r i) = x0 (ix3 r i 0) :=
  (column 2 (A_main_v3 (F := Ideal) x0 x3 x4) slices_S1024x200x3_S1024x200x1_0_0_2 r i).trans (v3_apply x0 x3 x4 r i 2)

/-- The features, one by one. -/
theorem v37_apply (k : Fin 10) : A_main_v37 (F := Ideal) x0 x3 x4 (ix3 r i k) = feat (x0 (ix3 r i 0)) (x0 (ix3 r i 1)) k := by
  have e5 := v5_apply x0 x3 x4 r i
  have e7 := v7_apply x0 x3 x4 r i
  have e9 := v9_apply x0 x3 x4 r i
  have e12 : A_main_v12 (F := Ideal) x0 x3 x4 (ix2 r i) = A_main_v5 (F := Ideal) x0 x3 x4 (ix2 r i) - A_main_v7 (F := Ideal) x0 x3 x4 (ix2 r i) := sub_at (A_main_v5 (F := Ideal) x0 x3 x4) (A_main_v7 (F := Ideal) x0 x3 x4) (ix2 r i)
  have e15 : A_main_v15 (F := Ideal) x0 x3 x4 (ix2 r i) = A_main_v5 (F := Ideal) x0 x3 x4 (ix2 r i) - A_main_v9 (F := Ideal) x0 x3 x4 (ix2 r i) := sub_at (A_main_v5 (F := Ideal) x0 x3 x4) (A_main_v9 (F := Ideal) x0 x3 x4) (ix2 r i)
  have e18 : A_main_v18 (F := Ideal) x0 x3 x4 (ix2 r i) = Ideal.log (A_main_v5 (F := Ideal) x0 x3 x4 (ix2 r i)) := log_at (A_main_v5 (F := Ideal) x0 x3 x4) (ix2 r i)
  have e22 : A_main_v22 (F := Ideal) x0 x3 x4 (ix2 r i) = Ideal.div (A_main_v7 (F := Ideal) x0 x3 x4 (ix2 r i)) (K_main_v21 (F := Ideal) (ix2 r i)) := div_at (A_main_v7 (F := Ideal) x0 x3 x4) (K_main_v21 (F := Ideal)) (ix2 r i)
  have e25 : A_main_v25 (F := Ideal) x0 x3 x4 (ix2 r i) = Ideal.div (A_main_v9 (F := Ideal) x0 x3 x4 (ix2 r i)) (K_main_v24 (F := Ideal) (ix2 r i)) := div_at (A_main_v9 (F := Ideal) x0 x3 x4) (K_main_v24 (F := Ideal)) (ix2 r i)
  refine Fin.addCases (m := 7) (n := 3) (fun k => ?_) (fun k => ?_) k
  · refine ((ten (A_main_v34 (F := Ideal) x0 x3 x4) (A_main_v36 (F := Ideal) x0 x3 x4) r i).1 k).trans ((seven _ _ _ _ _ _ _ r i k).trans ?_)
    fin_cases k
    · refine (bcast_unit (A_main_v10 (F := Ideal) x0 x3 x4) r i).trans ((div_at (A_main_v7 (F := Ideal) x0 x3 x4) (A_main_v5 (F := Ideal) x0 x3 x4) (ix2 r i)).trans ?_)
      rw [e5, e7]; rfl
    · refine (bcast_unit (A_main_v11 (F := Ideal) x0 x3 x4) r i).trans ((div_at (A_main_v9 (F := Ideal) x0 x3 x4) (A_main_v5 (F := Ideal) x0 x3 x4) (ix2 r i)).trans ?_)
      rw [e5, e9]; rfl
    · refine (bcast_unit (A_main_v14 (F := Ideal) x0 x3 x4) r i).trans ((div_at (A_main_v12 (F := Ideal) x0 x3 x4) (K_main_v13 (F := Ideal)) (ix2 r i)).trans ?_)
      rw [e12, e5, e7]; rfl
    · refine (bcast_unit (A_main_v17 (F := Ideal) x0 x3 x4) r i).trans ((div_at (A_main_v15 (F := Ideal) x0 x3 x4) (K_main_v16 (F := Ideal)) (ix2 r i)).trans ?_)
      rw [e15, e5, e9]; rfl
    · refine (bcast_unit (A_main_v20 (F := Ideal) x0 x3 x4) r i).trans ((div_at (A_main_v18 (F := Ideal) x0 x3 x4) (K_main_v19 (F := Ideal)) (ix2 r i)).trans ?_)
      rw [e18, e5]; rfl
    · refine (bcast_unit (A_main_v23 (F := Ideal) x0 x3 x4) r i).trans ((log_at (A_main_v22 (F := Ideal) x0 x3 x4) (ix2 r i)).trans ?_)
      rw [e22, e7]; rfl
    · refine (bcast_unit (A_main_v26 (F := Ideal) x0 x3 x4) r i).trans ((log_at (A_main_v25 (F := Ideal) x0 x3 x4) (ix2 r i)).trans ?_)
      rw [e25, e9]; rfl
  · refine ((ten (A_main_v34 (F := Ideal) x0 x3 x4) (A_main_v36 (F := Ideal) x0 x3 x4) r i).2 k).trans ?_
    refine (div_at (A_main_v3 (F := Ideal) x0 x3 x4) (K_main_v35 (F := Ideal)) (ix3 r i k)).trans ?_
    rw [v3_apply]
    fin_cases k <;> rfl

/-- The reference's scores are the rows of scores. -/
theorem v41_apply : A_main_v41 (F := Ideal) x0 x3 x4 (ix2 r i) = rowScores x0 x3 x4 r i := by
  have h40 : A_main_v40 (F := Ideal) x0 x3 x4 (ix2 r i) = x4 (ix1 0) := by
    refine (ValueIdx.broadcastInDim_scalar_apply bcast_S_S1024x200 (A_main_v39 (F := Ideal) x0 x3 x4) (ix2 r i)).trans ?_
    exact congrArg x4 (funext fun a => match a with | ⟨0, _⟩ => Subsingleton.elim (α := Fin 1) _ _)
  have h38 : A_main_v38 (F := Ideal) x0 x3 x4 (ix2 r i) = ∑ k : Fin 10, feat (x0 (ix3 r i 0)) (x0 (ix3 r i 1)) k * x3 (ix1 k) :=
    (weigh (A_main_v37 (F := Ideal) x0 x3 x4) x3 r i).trans (Finset.sum_congr rfl fun k _ => congrArg (· * x3 (ix1 k)) (v37_apply x0 x3 x4 r i k))
  show A_main_v38 (F := Ideal) x0 x3 x4 (ix2 r i) + A_main_v40 (F := Ideal) x0 x3 x4 (ix2 r i) = _
  rw [h38, h40]
  rfl

end Args

end Cert.Proof.RefScore

end
-- ==== Proof.RefPre.lean ====
/-
  THE PRECONDITION, over the extended reals: its bit is set exactly when every score lies strictly between the infinities.
-/
module

public import proofs.«01_k».proof.Pre_scores_finite
public import proofs.«01_k».proof.Proof.Gen.Pre_scores_finite
public import proofs.«01_k».proof.Proof.RefScore
public import proofs.«01_k».proof.Proof.RefRow
public import Idealize.ShloMosaic.Lib.ReduceAll

@[expose] public section

noncomputable section

namespace Cert.Proof.RefPre

open Idealize.ShloMosaic Cert.Proof.Score Cert.Proof.RefRow Cert.ReferenceIdeal.Step

variable (x0 : FVec Ideal Pre_scores_finite.S1024x200x3 .f32) (x1 x2 : IVec Pre_scores_finite.S_ 32) (x3 : FVec Ideal Pre_scores_finite.S10 .f32) (x4 : FVec Ideal Pre_scores_finite.S1 .f32)

/-- The bit of one item: its score above the one infinity and below the other. -/
def bit (v : FVec Ideal Pre_scores_finite.S1024x200 .f32) : IVec Pre_scores_finite.S1024x200 1 :=
  fun j => IntOp.andi (Ideal.cmp .ogt (v j) (Ideal.ofBits .f32 0xFF800000#32)) (Ideal.cmp .olt (v j) (Ideal.ofBits .f32 0x7F800000#32))

theorem part2_eq (v38 v40 : FVec Ideal Pre_scores_finite.S1024x200 .f32) : Pre_scores_finite.fn_part2 (F := Ideal) v38 v40
    = Host.reduce IntOp.andi (bit (addf v38 v40)) (constantI Pre_scores_finite.S_ 1 1#1)
        Pre_scores_finite.Facts.reducesTo_S1024x200_S_d0_1 Pre_scores_finite.Facts.h_S_ := by
  unfold Pre_scores_finite.fn_part2
  rfl

theorem part1_eq : Pre_scores_finite.fn_part1 (F := Ideal) x3 x4 (A_main_v3 (F := Ideal) x0 x3 x4) (A_main_v7 (F := Ideal) x0 x3 x4) (A_main_v9 (F := Ideal) x0 x3 x4) (A_main_v10 (F := Ideal) x0 x3 x4) (A_main_v11 (F := Ideal) x0 x3 x4) (A_main_v14 (F := Ideal) x0 x3 x4) (A_main_v17 (F := Ideal) x0 x3 x4) (A_main_v18 (F := Ideal) x0 x3 x4) (K_main_v19 (F := Ideal))
    = Pre_scores_finite.fn_part2 (F := Ideal) (A_main_v38 (F := Ideal) x0 x3 x4) (A_main_v40 (F := Ideal) x0 x3 x4) := by
  unfold Pre_scores_finite.fn_part1
  rfl

theorem fn_part : Pre_scores_finite.fn (F := Ideal) x0 x1 x2 x3 x4 = Pre_scores_finite.fn_part1 (F := Ideal) x3 x4 (A_main_v3 (F := Ideal) x0 x3 x4) (A_main_v7 (F := Ideal) x0 x3 x4) (A_main_v9 (F := Ideal) x0 x3 x4) (A_main_v10 (F := Ideal) x0 x3 x4) (A_main_v11 (F := Ideal) x0 x3 x4) (A_main_v14 (F := Ideal) x0 x3 x4) (A_main_v17 (F := Ideal) x0 x3 x4) (A_main_v18 (F := Ideal) x0 x3 x4) (K_main_v19 (F := Ideal)) := by
  unfold Pre_scores_finite.fn
  rfl

/-- The predicate is the conjunction of the items' bits. -/
theorem fn_eq : Pre_scores_finite.fn (F := Ideal) x0 x1 x2 x3 x4
    = Host.reduce IntOp.andi (bit (A_main_v41 (F := Ideal) x0 x3 x4)) (constantI Pre_scores_finite.S_ 1 1#1)
        Pre_scores_finite.Facts.reducesTo_S1024x200_S_d0_1 Pre_scores_finite.Facts.h_S_ :=
  (fn_part x0 x1 x2 x3 x4).trans ((part1_eq x0 x3 x4).trans (part2_eq _ _))

theorem pos_inf : Ideal.ofBits .f32 0x7F800000#32 = ⊤ := by simp [Ideal.ofBits, Ideal.ieee]
theorem neg_inf : Ideal.ofBits .f32 0xFF800000#32 = ⊥ := by simp [Ideal.ofBits, Ideal.ieee]

/-- Under the predicate every score is finite. -/
theorem finite (h : Pre_scores_finite.fn (F := Ideal) x0 x1 x2 x3 x4 = fun _ => 1#1) (r : Fin 1024) : Finite (rowScores x0 x3 x4 r) := by
  intro i
  have hb := Host.reduce_andi_all _ _ _ _ ValueIdx.ix0 (congrFun ((fn_eq x0 x1 x2 x3 x4).symm.trans h) ValueIdx.ix0) (ix2 r i)
  rw [← RefScore.v41_apply x0 x3 x4 r i]
  unfold bit at hb
  rw [pos_inf, neg_inf] at hb
  generalize A_main_v41 (F := Ideal) x0 x3 x4 (ix2 r i) = s at hb ⊢
  simp only [Ideal.cmp, IntOp.andi] at hb
  by_cases h1 : ⊥ < s <;> by_cases h2 : s < ⊤
  · exact ⟨h1, h2⟩
  all_goals simp [h1, h2] at hb

end Cert.Proof.RefPre

end
-- ==== Proof.lean ====
/-
  THE CLAIMS of the certificate. The kernel's run ends with its arguments unchanged, every semaphore at zero, and in its two
  results the greedy pass over the scores (Proof/KernelEnd.lean). The reference's run ends with its arguments unchanged and, of
  finite scores, the same greedy pass (Proof/RefStepRun.lean, Proof/RefValue.lean). The pass is determined by the scores, and both
  programs score an item alike (Proof/RefScore.lean, Proof/Score.lean), so the results are equal.
-/
module

public import proofs.«01_k».proof.Defs
public import proofs.«01_k».proof.Proof.Gen.KernelIdeal
public import proofs.«01_k».proof.Proof.Gen.ReferenceIdeal
public import proofs.«01_k».proof.Proof.Gen.Reference
public import proofs.«01_k».proof.Proof.Gen.Pre_scores_finite
public import proofs.«01_k».proof.Proof.Gen.Decode
public import proofs.«01_k».proof.Proof.DecodeRun
public import proofs.«01_k».proof.Proof.Gen.DecodeIdeal
public import proofs.«01_k».proof.Proof.DecodeIdealRun
public import proofs.«01_k».proof.Proof.KernelEnd
public import proofs.«01_k».proof.Proof.RefStepRun
public import proofs.«01_k».proof.Proof.RefValue
public import proofs.«01_k».proof.Proof.RefPre

@[expose] public section

noncomputable section

namespace Cert.Proof

open Idealize.ShloMosaic Idealize.SL.Sem
open Cert.Proof.Score

/-! ### The reference's run -/

/-- The reference's state on each device after `n` steps. -/
def states (m : (ℓ : Loc Cert.ReferenceIdeal.nD Cert.ReferenceIdeal.τ Cert.ReferenceIdeal.sig) → Buf (Elt Ideal) ℓ) (c : Dev Cert.ReferenceIdeal.nD) :
    ℕ → Cert.ReferenceIdeal.Step.State Ideal
  | 0 => Cert.ReferenceIdeal.StepRun.initState m c
  | n + 1 => Cert.ReferenceIdeal.Step.step n (states m c n)

/-- Every device's arguments at the end of the reference's run. -/
abbrev RefArgsKept (m μ : (ℓ : Loc Cert.ReferenceIdeal.nD Cert.ReferenceIdeal.τ Cert.ReferenceIdeal.sig) → Buf (Elt Ideal) ℓ) (c : Dev Cert.ReferenceIdeal.nD) : Prop :=
  μ ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
  ∧ μ ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
  ∧ μ ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
  ∧ μ ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
  ∧ μ ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)

/-- The reference's scores, from the arguments. -/
def refScores (m : (ℓ : Loc Cert.ReferenceIdeal.nD Cert.ReferenceIdeal.τ Cert.ReferenceIdeal.sig) → Buf (Elt Ideal) ℓ) (c : Dev Cert.ReferenceIdeal.nD) : Fin 1024 → Fin 200 → EReal :=
  rowScores (m ((c.tc : Thread Cert.ReferenceIdeal.nD Cert.ReferenceIdeal.τ).loc Cert.ReferenceIdeal.main_arg0))
    (m ((c.tc : Thread Cert.ReferenceIdeal.nD Cert.ReferenceIdeal.τ).loc Cert.ReferenceIdeal.main_arg3))
    (m ((c.tc : Thread Cert.ReferenceIdeal.nD Cert.ReferenceIdeal.τ).loc Cert.ReferenceIdeal.main_arg4))

/-- Of finite scores, the reference's two results are the greedy pass over them. -/
theorem ref_decoded (m : (ℓ : Loc Cert.ReferenceIdeal.nD Cert.ReferenceIdeal.τ Cert.ReferenceIdeal.sig) → Buf (Elt Ideal) ℓ) (c : Dev Cert.ReferenceIdeal.nD)
    (hf : ∀ r, RefRow.Finite (refScores m c r)) :
    Decoded (refScores m c) (Cert.ReferenceIdeal.Step.R_main_v47 (states m c 200)) (Cert.ReferenceIdeal.Step.R_main_v48 (states m c 200)) := by
  have h0 : RefValue.Inv (refScores m c) 0 (states m c 0) := by
    have h := RefValue.Inv.init (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg3))
      (m ((c.tc : Thread Cert.ReferenceIdeal.nD Cert.ReferenceIdeal.τ).loc Cert.ReferenceIdeal.main_arg4))
    refine ⟨fun r j => (h.mask r j).trans ?_, fun r j => (h.base r j).trans (RefScore.v41_apply _ _ _ r j), fun _ _ _ _ ht => absurd ht (Nat.not_lt_zero _),
      fun _ _ _ _ ht => absurd ht (Nat.not_lt_zero _)⟩
    rw [decide_eq_false (Nat.not_lt_zero _), decide_eq_false (Nat.not_lt_zero _)]
  exact (RefValue.Inv.iter hf (states m c) h0 (fun _ => rfl) 200 le_rfl).decoded

theorem ref_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v47) = Cert.ReferenceIdeal.Step.R_main_v47 (states m c 200)
      ∧ r.2.mem ((c.tc : Thread Cert.ReferenceIdeal.nD Cert.ReferenceIdeal.τ).loc Cert.ReferenceIdeal.main_v48) = Cert.ReferenceIdeal.Step.R_main_v48 (states m c 200)
      ∧ RefArgsKept m r.2.mem c) :=
  Cert.ReferenceIdeal.StepRun.run_iter m g (states m) (fun _ => rfl) (fun _ _ => rfl)

/-! ### The claims -/

theorem frame_kernel : Cert.quiescent_KernelIdeal := fun m g _ => θ_run_mono (KernelIdeal.run_ends m g) fun _ h => ⟨fun c => (h.1 c).2.2, h.2⟩

theorem frame_kernel_pre : Cert.quiescent_KernelIdeal_pre_scores_finite := fun m g _ => θ_run_mono (KernelIdeal.run_ends m g) fun _ h => ⟨fun c => (h.1 c).2.2, h.2⟩

theorem frame_reference : Cert.quiescent_ReferenceIdeal := fun m g _ =>
  θ_run_mono (ref_run m g) fun r h => ⟨fun c => (h c).2.2, sem_eq_zero_of_no_sems (by decide) r.2⟩

theorem frame_reference_pre : Cert.quiescent_ReferenceIdeal_pre_scores_finite := fun m g _ =>
  θ_run_mono (ref_run m g) fun r h => ⟨fun c => (h c).2.2, sem_eq_zero_of_no_sems (by decide) r.2⟩

theorem equal_results : Cert.algebraic_KernelIdeal_ReferenceIdeal_pre_scores_finite := by
  intro m g m' g' hpre hargs
  have hf : ∀ (c : Dev Cert.KernelIdeal.nD) (r : Fin 1024), RefRow.Finite (KernelIdeal.argScores m c r) := fun c r => RefPre.finite _ _ _ _ _ (hpre c) r
  have hs : ∀ c : Dev Cert.KernelIdeal.nD, refScores m' c = KernelIdeal.argScores m c := by
    intro c
    unfold refScores
    rw [(hargs c).1, (hargs c).2.2.2.1, (hargs c).2.2.2.2]
  have hd : ∀ c : Dev Cert.KernelIdeal.nD, Decoded (KernelIdeal.argScores m c) (Cert.ReferenceIdeal.Step.R_main_v47 (states m' c 200)) (Cert.ReferenceIdeal.Step.R_main_v48 (states m' c 200)) := by
    intro c
    have h := ref_decoded m' c (by rw [hs]; exact hf c)
    rwa [hs] at h
  have hu := fun c : Dev Cert.KernelIdeal.nD => (hd c).unique (KernelIdeal.decoded m c fun r i => (hf c r i).1)
  refine ⟨fun c => KernelIdeal.V4 m c (Proc.devRef .tc Cert.KernelIdeal.main_v10), fun c => KernelIdeal.V4 m c (Proc.devRef .tc Cert.KernelIdeal.main_v11), ?_, ?_⟩
  · exact θ_run_mono (KernelIdeal.run_ends m g) fun _ h => h.1
  · exact θ_run_mono (ref_run m' g') fun _ h c => ⟨(h c).1.trans (hu c).1, (h c).2.1.trans (hu c).2, (h c).2.2⟩

theorem frame_decode : Cert.quiescent_Decode := fun m g _ => Decode.frame_run m g

theorem frame_decode_ideal : Cert.quiescent_DecodeIdeal := fun m g _ => DecodeIdeal.frame_run m g

theorem preserves_decode : Cert.preserves_Decode_DecodeIdeal := IdealRules.named_const.statement _ _ _ _ _ rfl

/-- The reference at float words: its text is `ReferenceIdeal`'s, whose run is proved at any reading of the floats. -/
theorem frame_reference_words : Cert.quiescent_Reference := fun m g _ =>
  θ_run_mono (Cert.ReferenceIdeal.Value.run (F := Bits) m g) fun r h => ⟨fun c => (h c).2.2, sem_eq_zero_of_no_sems (by decide) r.2⟩

theorem preserves_reference : Cert.preserves_Reference_ReferenceIdeal := trivial

theorem claim : Cert.Claim := ⟨Cert.KernelIdeal.Gen.facts, Cert.ReferenceIdeal.Gen.facts, Cert.Decode.Gen.facts, Cert.DecodeIdeal.Gen.facts,
  Cert.Reference.Gen.facts, Cert.Pre_scores_finite.Gen.facts,
  frame_kernel, frame_kernel_pre, frame_reference, frame_reference_pre, frame_decode, frame_decode_ideal, frame_reference_words,
  preserves_decode, preserves_reference, equal_results⟩

end Cert.Proof

end
